-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v114) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v54_0)) (v1 : (c : Dev Cert.Kernel16Ideal.nD) → Buf (Elt Ideal) ((c.tc : Thread Cert.Kernel16Ideal.nD Cert.Kernel16Ideal.τ).loc Cert.Kernel16Ideal.main_v54_1)) (v2 : (c : Dev Cert.Kernel16Ideal.nD) → Buf (Elt Ideal) ((c.tc : Thread Cert.Kernel16Ideal.nD Cert.Kernel16Ideal.τ).loc Cert.Kernel16Ideal.main_v54_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v54_0) = v0 c
          ∧ r.2.mem ((c.tc : Thread Cert.Kernel16Ideal.nD Cert.Kernel16Ideal.τ).loc Cert.Kernel16Ideal.main_v54_1) = v1 c
          ∧ r.2.mem ((c.tc : Thread Cert.Kernel16Ideal.nD Cert.Kernel16Ideal.τ).loc Cert.Kernel16Ideal.main_v54_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v74) = v0 c
          ∧ r.2.mem ((c.tc : Thread Cert.Reference16Ideal.nD Cert.Reference16Ideal.τ).loc Cert.Reference16Ideal.main_v84) = v1 c
          ∧ r.2.mem ((c.tc : Thread Cert.Reference16Ideal.nD Cert.Reference16Ideal.τ).loc Cert.Reference16Ideal.main_v94) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v54_0)) (v1 : (c : Dev Cert.Kernel17Ideal.nD) → Buf (Elt Ideal) ((c.tc : Thread Cert.Kernel17Ideal.nD Cert.Kernel17Ideal.τ).loc Cert.Kernel17Ideal.main_v54_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v54_0) = v0 c
          ∧ r.2.mem ((c.tc : Thread Cert.Kernel17Ideal.nD Cert.Kernel17Ideal.τ).loc Cert.Kernel17Ideal.main_v54_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v56) = v0 c
          ∧ r.2.mem ((c.tc : Thread Cert.Reference17Ideal.nD Cert.Reference17Ideal.τ).loc Cert.Reference17Ideal.main_v66) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)) (v3 : (c : Dev Cert.Kernel18Ideal.nD) → Buf (Elt Ideal) ((c.tc : Thread Cert.Kernel18Ideal.nD Cert.Kernel18Ideal.τ).loc Cert.Kernel18Ideal.main_v2_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_v2_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v8) = v2 c
          ∧ r.2.mem ((c.tc : Thread Cert.Reference18Ideal.nD Cert.Reference18Ideal.τ).loc Cert.Reference18Ideal.main_v14) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v17) = v0 c
          ∧ r.2.mem ((c.tc : Thread Cert.Reference19Ideal.nD Cert.Reference19Ideal.τ).loc Cert.Reference19Ideal.main_v13) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v31) = v0 c
          ∧ r.2.mem ((c.tc : Thread Cert.Reference23Ideal.nD Cert.Reference23Ideal.τ).loc Cert.Reference23Ideal.main_v38) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_v33) = v1 c
          ∧ r.2.mem ((c.tc : Thread Cert.Reference24Ideal.nD Cert.Reference24Ideal.τ).loc Cert.Reference24Ideal.main_v14) = v2 c
          ∧ r.2.mem ((c.tc : Thread Cert.Reference24Ideal.nD Cert.Reference24Ideal.τ).loc Cert.Reference24Ideal.main_v20) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v9) = v0 c
          ∧ r.2.mem ((c.tc : Thread Cert.Reference25Ideal.nD Cert.Reference25Ideal.τ).loc Cert.Reference25Ideal.main_v33) = v1 c
          ∧ r.2.mem ((c.tc : Thread Cert.Reference25Ideal.nD Cert.Reference25Ideal.τ).loc Cert.Reference25Ideal.main_v14) = v2 c
          ∧ r.2.mem ((c.tc : Thread Cert.Reference25Ideal.nD Cert.Reference25Ideal.τ).loc Cert.Reference25Ideal.main_v20) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_v36) = v1 c
          ∧ r.2.mem ((c.tc : Thread Cert.Reference26Ideal.nD Cert.Reference26Ideal.τ).loc Cert.Reference26Ideal.main_v17) = v2 c
          ∧ r.2.mem ((c.tc : Thread Cert.Reference26Ideal.nD Cert.Reference26Ideal.τ).loc Cert.Reference26Ideal.main_v23) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_v36) = v1 c
          ∧ r.2.mem ((c.tc : Thread Cert.Reference27Ideal.nD Cert.Reference27Ideal.τ).loc Cert.Reference27Ideal.main_v17) = v2 c
          ∧ r.2.mem ((c.tc : Thread Cert.Reference27Ideal.nD Cert.Reference27Ideal.τ).loc Cert.Reference27Ideal.main_v23) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S4096x12288 : Shape := ⟨2, ![4096, 12288]⟩
abbrev S4096x4096 : Shape := ⟨2, ![4096, 4096]⟩
abbrev S3x2048 : Shape := ⟨2, ![3, 2048]⟩
abbrev S1x2048 : Shape := ⟨2, ![1, 2048]⟩
abbrev S4096x2048 : Shape := ⟨2, ![4096, 2048]⟩
abbrev S4096x128 : Shape := ⟨2, ![4096, 128]⟩
abbrev S3x128 : Shape := ⟨2, ![3, 128]⟩
abbrev S1x128 : Shape := ⟨2, ![1, 128]⟩
abbrev S256x128 : Shape := ⟨2, ![256, 128]⟩
abbrev S8x128 : Shape := ⟨2, ![8, 128]⟩
abbrev S272x128 : Shape := ⟨2, ![272, 128]⟩
abbrev S272 : Shape := ⟨1, ![272]⟩
abbrev S272x1 : Shape := ⟨2, ![272, 1]⟩
abbrev S128 : Shape := ⟨1, ![128]⟩

abbrev nBuf : Space → Nat
  | .hbm => 9
  | .vmem => 22
  | .smem => 0
  | _ => 0

abbrev bufTy : (tb : Table) → Fin (tcTables nBuf tb) → BufTy
  | .hbm, ⟨0, _⟩ => ⟨S4096x12288, .f32⟩
  | .hbm, ⟨1, _⟩ => ⟨S4096x4096, .f32⟩
  | .hbm, ⟨2, _⟩ => ⟨S3x2048, .f32⟩
  | .hbm, ⟨3, _⟩ => ⟨S1x2048, .f32⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S3x2048, .f32⟩
  | .hbm, ⟨8, _⟩ => ⟨S1x2048, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S3x128, .f32⟩
  | .local _ .vmem, ⟨19, _⟩ => ⟨S3x128, .f32⟩
  | .local _ .vmem, ⟨20, _⟩ => ⟨S1x128, .f32⟩
  | .local _ .vmem, ⟨21, _⟩ => ⟨S1x128, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v9 : BitVec 32 := Scalar.muli arg12 c256_i32
  v9
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v9 : BitVec 32 := Scalar.muli arg12 c256_i32
  let v10 : BitVec 32 := v9
  let v11 : Index := Scalar.indexCast v10
  let c0_10 : Index := 0#32
  ![v11.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v9 : BitVec 32 := Scalar.muli arg12 c256_i32
  let v10 : BitVec 32 := v9
  let c8_i32 : BitVec 32 := 8#32
  let v13 : BitVec 32 := Scalar.subi v10 c8_i32
  let c0_i32_11 : BitVec 32 := 0#32
  let v14 : BitVec 32 := Scalar.maxsi v13 c0_i32_11
  v14
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v9 : BitVec 32 := Scalar.muli arg12 c256_i32
  let v10 : BitVec 32 := v9
  let c256_i32_12 : BitVec 32 := 256#32
  let v16 : BitVec 32 := Scalar.addi v10 c256_i32_12
  let c4088_i32 : BitVec 32 := 4088#32
  let v17 : BitVec 32 := Scalar.minsi v16 c4088_i32
  v17
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v9 : BitVec 32 := Scalar.muli arg12 c256_i32
  let v10 : BitVec 32 := v9
  let c8_i32 : BitVec 32 := 8#32
  let v13 : BitVec 32 := Scalar.subi v10 c8_i32
  let c0_i32_11 : BitVec 32 := 0#32
  let v14 : BitVec 32 := Scalar.maxsi v13 c0_i32_11
  let v15 : BitVec 32 := v14
  let v19 : Index := Scalar.indexCast v15
  let c0_13 : Index := 0#32
  ![v19.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v9 : BitVec 32 := Scalar.muli arg12 c256_i32
  let v10 : BitVec 32 := v9
  let c256_i32_12 : BitVec 32 := 256#32
  let v16 : BitVec 32 := Scalar.addi v10 c256_i32_12
  let c4088_i32 : BitVec 32 := 4088#32
  let v17 : BitVec 32 := Scalar.minsi v16 c4088_i32
  let v18 : BitVec 32 := v17
  let v26 : Index := Scalar.indexCast v18
  let c0_15 : Index := 0#32
  ![v26.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_16 : BitVec 32 := 256#32
  let v34 : BitVec 32 := Scalar.muli arg12 c256_i32_16
  v34
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_16 : BitVec 32 := 256#32
  let v34 : BitVec 32 := Scalar.muli arg12 c256_i32_16
  let v35 : BitVec 32 := v34
  let c8_i32_18 : BitVec 32 := 8#32
  let v38 : BitVec 32 := Scalar.subi v35 c8_i32_18
  let c0_i32_19 : BitVec 32 := 0#32
  let v39 : BitVec 32 := Scalar.maxsi v38 c0_i32_19
  v39
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_16 : BitVec 32 := 256#32
  let v34 : BitVec 32 := Scalar.muli arg12 c256_i32_16
  let v35 : BitVec 32 := v34
  let c256_i32_20 : BitVec 32 := 256#32
  let v41 : BitVec 32 := Scalar.addi v35 c256_i32_20
  let c4088_i32_21 : BitVec 32 := 4088#32
  let v42 : BitVec 32 := Scalar.minsi v41 c4088_i32_21
  v42
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_26 : BitVec 32 := 256#32
  let v59 : BitVec 32 := Scalar.muli arg12 c256_i32_26
  v59
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_26 : BitVec 32 := 256#32
  let v59 : BitVec 32 := Scalar.muli arg12 c256_i32_26
  let v60 : BitVec 32 := v59
  let c8_i32_28 : BitVec 32 := 8#32
  let v63 : BitVec 32 := Scalar.subi v60 c8_i32_28
  let c0_i32_29 : BitVec 32 := 0#32
  let v64 : BitVec 32 := Scalar.maxsi v63 c0_i32_29
  v64
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_26 : BitVec 32 := 256#32
  let v59 : BitVec 32 := Scalar.muli arg12 c256_i32_26
  let v60 : BitVec 32 := v59
  let c256_i32_30 : BitVec 32 := 256#32
  let v66 : BitVec 32 := Scalar.addi v60 c256_i32_30
  let c4088_i32_31 : BitVec 32 := 4088#32
  let v67 : BitVec 32 := Scalar.minsi v66 c4088_i32_31
  v67
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_36 : BitVec 32 := 256#32
  let v84 : BitVec 32 := Scalar.muli arg12 c256_i32_36
  v84
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_36 : BitVec 32 := 256#32
  let v84 : BitVec 32 := Scalar.muli arg12 c256_i32_36
  let v85 : BitVec 32 := v84
  let c8_i32_38 : BitVec 32 := 8#32
  let v88 : BitVec 32 := Scalar.subi v85 c8_i32_38
  let c0_i32_39 : BitVec 32 := 0#32
  let v89 : BitVec 32 := Scalar.maxsi v88 c0_i32_39
  v89
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_36 : BitVec 32 := 256#32
  let v84 : BitVec 32 := Scalar.muli arg12 c256_i32_36
  let v85 : BitVec 32 := v84
  let c256_i32_40 : BitVec 32 := 256#32
  let v91 : BitVec 32 := Scalar.addi v85 c256_i32_40
  let c4088_i32_41 : BitVec 32 := 4088#32
  let v92 : BitVec 32 := Scalar.minsi v91 c4088_i32_41
  v92
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_60 : BitVec 32 := 256#32
  let v186 : BitVec 32 := Scalar.muli arg12 c256_i32_60
  v186
def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x12288 : Shape := ⟨2, ![4096, 12288]⟩
abbrev S4096x4096 : Shape := ⟨2, ![4096, 4096]⟩
abbrev S3x2048 : Shape := ⟨2, ![3, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S4098x2048 : Shape := ⟨2, ![4098, 2048]⟩
abbrev S4096x16x128 : Shape := ⟨3, ![4096, 16, 128]⟩
abbrev S4096x16 : Shape := ⟨2, ![4096, 16]⟩
abbrev S4096x16x1 : Shape := ⟨3, ![4096, 16, 1]⟩

abbrev nBuf : Space → Nat
  | .hbm => 144
  | .vmem => 0
  | .smem => 0
  | _ => 0

abbrev hbmTy0_0 (i : Nat) : BufTy := match i % 128 with
  | 0 => ⟨S4096x12288, .f32⟩
  | 1 => ⟨S4096x4096, .f32⟩
  | 2 => ⟨S3x2048, .f32⟩
  | 3 => ⟨S1x2048, .f32⟩
  | 4 => ⟨S4096x2048, .f32⟩
  | 5 => ⟨S4096x2048, .f32⟩
  | 6 => ⟨S4096x2048, .f32⟩
  | 7 => ⟨S2048, .f32⟩
  | 8 => ⟨S4096x2048, .f32⟩
  | 9 => ⟨S_, .f32⟩
  | 10 => ⟨S1x2048, .f32⟩
  | 11 => ⟨S4098x2048, .f32⟩
  | 12 => ⟨S_, .f32⟩
  | 13 => ⟨S1x2048, .f32⟩
  | 14 => ⟨S_, .f32⟩
  | 15 => ⟨S1x2048, .f32⟩
  | 16 => ⟨S4096x2048, .f32⟩
  | 17 => ⟨S1x2048, .f32⟩
  | 18 => ⟨S2048, .f32⟩
  | 19 => ⟨S1x2048, .f32⟩
  | 20 => ⟨S4096x2048, .f32⟩
  | 21 => ⟨S4096x2048, .f32⟩
  | 22 => ⟨S_, .f32⟩
  | 23 => ⟨S4096x2048, .f32⟩
  | 24 => ⟨S4096x2048, .f32⟩
  | 25 => ⟨S4096x2048, .f32⟩
  | 26 => ⟨S1x2048, .f32⟩
  | 27 => ⟨S2048, .f32⟩
  | 28 => ⟨S1x2048, .f32⟩
  | 29 => ⟨S4096x2048, .f32⟩
  | 30 => ⟨S4096x2048, .f32⟩
  | 31 => ⟨S4096x2048, .f32⟩
  | 32 => ⟨S4096x2048, .f32⟩
  | 33 => ⟨S1x2048, .f32⟩
  | 34 => ⟨S2048, .f32⟩
  | 35 => ⟨S1x2048, .f32⟩
  | 36 => ⟨S4096x2048, .f32⟩
  | 37 => ⟨S4096x2048, .f32⟩
  | 38 => ⟨S4096x2048, .f32⟩
  | 39 => ⟨S4096x2048, .f32⟩
  | 40 => ⟨S4096x16x128, .f32⟩
  | 41 => ⟨S4096x16x128, .f32⟩
  | 42 => ⟨S_, .f32⟩
  | 43 => ⟨S4096x16, .f32⟩
  | 44 => ⟨S4096x16x1, .f32⟩
  | 45 => ⟨S_, .f32⟩
  | 46 => ⟨S4096x16x1, .f32⟩
  | 47 => ⟨S4096x16x1, .f32⟩
  | 48 => ⟨S_, .f32⟩
  | 49 => ⟨S4096x16x1, .f32⟩
  | 50 => ⟨S4096x16x1, .f32⟩
  | 51 => ⟨S4096x16x1, .f32⟩
  | 52 => ⟨S4096x16x1, .f32⟩
  | 53 => ⟨S_, .f32⟩
  | 54 => ⟨S4096x16x1, .f32⟩
  | 55 => ⟨S4096x16x1, .f32⟩
  | 56 => ⟨S4096x16x128, .f32⟩
  | 57 => ⟨S4096x16x128, .f32⟩
  | 58 => ⟨S4096x2048, .f32⟩
  | 59 => ⟨S1x2048, .f32⟩
  | 60 => ⟨S4096x2048, .f32⟩
  | 61 => ⟨S4096x2048, .f32⟩
  | 62 => ⟨S4096x2048, .f32⟩
  | 63 => ⟨S4096x2048, .f32⟩
  | 64 => ⟨S_, .f32⟩
  | 65 => ⟨S2048, .f32⟩
  | 66 => ⟨S1x2048, .f32⟩
  | 67 => ⟨S4096x2048, .f32⟩
  | 68 => ⟨S4096x2048, .f32⟩
  | 69 => ⟨S_, .f32⟩
  | 70 => ⟨S2048, .f32⟩
  | 71 => ⟨S4096x16x128, .f32⟩
  | 72 => ⟨S4096x16x128, .f32⟩
  | 73 => ⟨S_, .f32⟩
  | 74 => ⟨S4096x16, .f32⟩
  | 75 => ⟨S4096x16x1, .f32⟩
  | 76 => ⟨S4096x16x128, .f32⟩
  | 77 => ⟨S4096x16x128, .f32⟩
  | 78 => ⟨S4096x16x1, .f32⟩
  | 79 => ⟨S_, .f32⟩
  | 80 => ⟨S4096x16x1, .f32⟩
  | 81 => ⟨S4096x16x1, .f32⟩
  | 82 => ⟨S_, .f32⟩
  | 83 => ⟨S4096x16, .f32⟩
  | 84 => ⟨S4096x16x128, .f32⟩
  | 85 => ⟨S4096x16x128, .f32⟩
  | 86 => ⟨S4096x16x128, .f32⟩
  | 87 => ⟨S4096x16x128, .f32⟩
  | 88 => ⟨S4096x16x128, .f32⟩
  | 89 => ⟨S4096x2048, .f32⟩
  | 90 => ⟨S4096x2048, .f32⟩
  | 91 => ⟨S4096x2048, .f32⟩
  | 92 => ⟨S4096x2048, .f32⟩
  | 93 => ⟨S_, .f32⟩
  | 94 => ⟨S2048, .f32⟩
  | 95 => ⟨S1x2048, .f32⟩
  | 96 => ⟨S4096x2048, .f32⟩
  | 97 => ⟨S4096x2048, .f32⟩
  | 98 => ⟨S_, .f32⟩
  | 99 => ⟨S2048, .f32⟩
  | 100 => ⟨S1x2048, .f32⟩
  | 101 => ⟨S_, .f32⟩
  | 102 => ⟨S3x2048, .f32⟩
  | 103 => ⟨S_, .f32⟩
  | 104 => ⟨S4098x2048, .f32⟩
  | 105 => ⟨S4096x2048, .f32⟩
  | 106 => ⟨S_, .f32⟩
  | 107 => ⟨S2048, .f32⟩
  | 108 => ⟨S1x2048, .f32⟩
  | 109 => ⟨S4096x2048, .f32⟩
  | 110 => ⟨S4096x2048, .f32⟩
  | 111 => ⟨S_, .f32⟩
  | 112 => ⟨S2048, .f32⟩
  | 113 => ⟨S1x2048, .f32⟩
  | 114 => ⟨S_, .f32⟩
  | 115 => ⟨S3x2048, .f32⟩
  | 116 => ⟨S3x2048, .f32⟩
  | 117 => ⟨S_, .f32⟩
  | 118 => ⟨S4098x2048, .f32⟩
  | 119 => ⟨S4098x2048, .f32⟩
  | 120 => ⟨S4096x2048, .f32⟩
  | 121 => ⟨S_, .f32⟩
  | 122 => ⟨S2048, .f32⟩
  | 123 => ⟨S1x2048, .f32⟩
  | 124 => ⟨S4096x2048, .f32⟩
  | 125 => ⟨S4096x2048, .f32⟩
  | 126 => ⟨S_, .f32⟩
  | 127 => ⟨S2048, .f32⟩
  | _ => ⟨S4096x12288, .f32⟩

abbrev hbmTy0_1 (i : Nat) : BufTy := match i % 128 with
  | 0 => ⟨S1x2048, .f32⟩
  | 1 => ⟨S_, .f32⟩
  | 2 => ⟨S3x2048, .f32⟩
  | 3 => ⟨S3x2048, .f32⟩
  | 4 => ⟨S_, .f32⟩
  | 5 => ⟨S4098x2048, .f32⟩
  | 6 => ⟨S4098x2048, .f32⟩
  | 7 => ⟨S1x2048, .f32⟩
  | 8 => ⟨S4096x2048, .f32⟩
  | 9 => ⟨S1x2048, .f32⟩
  | 10 => ⟨S4096x2048, .f32⟩
  | 11 => ⟨S4096x2048, .f32⟩
  | 12 => ⟨S4096x2048, .bf16⟩
  | 13 => ⟨S4096x2048, .bf16⟩
  | 14 => ⟨S4096x2048, .bf16⟩
  | 15 => ⟨S1x2048, .f32⟩
  | _ => ⟨S4096x12288, .f32⟩

abbrev hbmTy (i : Nat) : BufTy := match i / 128 with
  | 0 => hbmTy0_0 i
  | 1 => hbmTy0_1 i
  | _ => ⟨S4096x12288, .f32⟩

abbrev bufTy : (tb : Table) → Fin (tcTables nBuf tb) → BufTy
  | .hbm, ⟨i, _⟩ => hbmTy i
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_13 : Ref sig .tc := ⟨.hbm, 98, rfl⟩
abbrev main_v80 : Ref sig .tc := ⟨.hbm, 99, rfl⟩
abbrev main_v81 : Ref sig .tc := ⟨.hbm, 100, rfl⟩
abbrev main_cst_14 : Ref sig .tc := ⟨.hbm, 101, rfl⟩
abbrev main_v82 : Ref sig .tc := ⟨.hbm, 102, rfl⟩
abbrev main_cst_15 : Ref sig .tc := ⟨.hbm, 103, rfl⟩
abbrev main_v83 : Ref sig .tc := ⟨.hbm, 104, rfl⟩
abbrev main_v84 : Ref sig .tc := ⟨.hbm, 105, rfl⟩
abbrev main_cst_16 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_17 : Ref sig .tc := ⟨.hbm, 111, rfl⟩
abbrev main_v89 : Ref sig .tc := ⟨.hbm, 112, rfl⟩
abbrev main_v90 : Ref sig .tc := ⟨.hbm, 113, rfl⟩
abbrev main_cst_18 : Ref sig .tc := ⟨.hbm, 114, rfl⟩
abbrev main_v91 : Ref sig .tc := ⟨.hbm, 115, rfl⟩
abbrev main_v92 : Ref sig .tc := ⟨.hbm, 116, rfl⟩
abbrev main_cst_19 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_20 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_21 : Ref sig .tc := ⟨.hbm, 126, rfl⟩
abbrev main_v100 : Ref sig .tc := ⟨.hbm, 127, rfl⟩
abbrev main_v101 : Ref sig .tc := ⟨.hbm, 128, rfl⟩
abbrev main_cst_22 : Ref sig .tc := ⟨.hbm, 129, rfl⟩
abbrev main_v102 : Ref sig .tc := ⟨.hbm, 130, rfl⟩
abbrev main_v103 : Ref sig .tc := ⟨.hbm, 131, rfl⟩
abbrev main_cst_23 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩

abbrev nD : Nat := 1
abbrev τ : Topo := Topo.v7x

variable {F : FTy → Type} [FloatOps F]
-- ==== Kernel2.lean ====
abbrev S4096x4096 : Shape := ⟨2, ![4096, 4096]⟩
abbrev S16384x4096 : Shape := ⟨2, ![16384, 4096]⟩
abbrev S4096x16384 : Shape := ⟨2, ![4096, 16384]⟩
abbrev S1024x4096 : Shape := ⟨2, ![1024, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .bf16⟩
  | .hbm, ⟨3, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S16384x4096 : Shape := ⟨2, ![16384, 4096]⟩
abbrev S4096x16384 : Shape := ⟨2, ![4096, 16384]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .bf16⟩
  | .hbm, ⟨3, _⟩ => ⟨S4096x16384, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .i1⟩
  | .hbm, ⟨10, _⟩ => ⟨S_, .f32⟩
  | .hbm, ⟨11, _⟩ => ⟨S4096x16384, .f32⟩
  | .hbm, ⟨12, _⟩ => ⟨S4096x16384, .f32⟩
  | .hbm, ⟨13, _⟩ => ⟨S_, .f32⟩
  | .hbm, ⟨14, _⟩ => ⟨S4096x16384, .f32⟩
  | .hbm, ⟨15, _⟩ => ⟨S4096x16384, .f32⟩
  | .hbm, ⟨16, _⟩ => ⟨S16384x4096, .f32⟩
  | .hbm, ⟨17, _⟩ => ⟨S4096x4096, .f32⟩
  | .hbm, ⟨18, _⟩ => ⟨S4096x4096, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S4096x16384, .f32⟩
  | .hbm, ⟨23, _⟩ => ⟨S4096x16384, .f32⟩
  | .hbm, ⟨24, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S4096x16384 : Shape := ⟨2, ![4096, 16384]⟩
abbrev S4096x4096 : Shape := ⟨2, ![4096, 4096]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x16384 : Shape := ⟨2, ![4096, 16384]⟩
abbrev S4096x4096 : Shape := ⟨2, ![4096, 4096]⟩
abbrev S_ : Shape := ⟨0, ![]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S_, .f32⟩
  | .hbm, ⟨3, _⟩ => ⟨S16384x4096, .f32⟩
  | .hbm, ⟨4, _⟩ => ⟨S4096x16384, .f32⟩
  | .hbm, ⟨5, _⟩ => ⟨S4096x4096, .f32⟩
  | .hbm, ⟨6, _⟩ => ⟨S4096x4096, .f32⟩
  | .hbm, ⟨7, _⟩ => ⟨S4096x16384, .f32⟩
  | .hbm, ⟨8, _⟩ => ⟨S16384x4096, .f32⟩
  | .hbm, ⟨9, _⟩ => ⟨S16384x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x16384 : Shape := ⟨2, ![4096, 16384]⟩
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x4096 : Shape := ⟨2, ![4096, 4096]⟩
abbrev S8x4096x2048 : Shape := ⟨3, ![8, 4096, 2048]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x16384, .bf16⟩
  | .hbm, ⟨3, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x4096 : Shape := ⟨2, ![4096, 4096]⟩
abbrev S8x4096x2048 : Shape := ⟨3, ![8, 4096, 2048]⟩
abbrev S4096x8x2048 : Shape := ⟨3, ![4096, 8, 2048]⟩
abbrev S4096x16384 : Shape := ⟨2, ![4096, 16384]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S8x4096x2048, .f32⟩
  | .hbm, ⟨3, _⟩ => ⟨S4096x8x2048, .f32⟩
  | .hbm, ⟨4, _⟩ => ⟨S4096x16384, .f32⟩
  | .hbm, ⟨5, _⟩ => ⟨S4096x4096, .f32⟩
  | .hbm, ⟨6, _⟩ => ⟨S4096x16384, .f32⟩
  | .hbm, ⟨7, _⟩ => ⟨S4096x16384, .bf16⟩
  | .hbm, ⟨8, _⟩ => ⟨S_, .f32⟩
  | .hbm, ⟨9, _⟩ => ⟨S4096x16384, .f32⟩
  | .hbm, ⟨10, _⟩ => ⟨S4096x16384, .f32⟩
  | .hbm, ⟨11, _⟩ => ⟨S4096x16384, .f32⟩
  | .hbm, ⟨12, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S4096x4096 : Shape := ⟨2, ![4096, 4096]⟩
abbrev S4096x16384 : Shape := ⟨2, ![4096, 16384]⟩
abbrev S8x4096x2048 : Shape := ⟨3, ![8, 4096, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩
abbrev S4096x8x2048 : Shape := ⟨3, ![4096, 8, 2048]⟩
abbrev S8x4096x2048 : Shape := ⟨3, ![8, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S_, .f32⟩
  | .hbm, ⟨3, _⟩ => ⟨S4096x16384, .f32⟩
  | .hbm, ⟨4, _⟩ => ⟨S4096x4096, .f32⟩
  | .hbm, ⟨5, _⟩ => ⟨S4096x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x16384, .bf16⟩
  | .hbm, ⟨10, _⟩ => ⟨S4096x8x2048, .bf16⟩
  | .hbm, ⟨11, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x16384 : Shape := ⟨2, ![4096, 16384]⟩
abbrev S8x4096x2048 : Shape := ⟨3, ![8, 4096, 2048]⟩
abbrev S4096x4096 : Shape := ⟨2, ![4096, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x16384 : Shape := ⟨2, ![4096, 16384]⟩
abbrev S8x4096x2048 : Shape := ⟨3, ![8, 4096, 2048]⟩
abbrev S4096x8x2048 : Shape := ⟨3, ![4096, 8, 2048]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S8x4096x2048, .f32⟩
  | .hbm, ⟨3, _⟩ => ⟨S4096x8x2048, .f32⟩
  | .hbm, ⟨4, _⟩ => ⟨S4096x16384, .f32⟩
  | .hbm, ⟨5, _⟩ => ⟨S_, .f32⟩
  | .hbm, ⟨6, _⟩ => ⟨S4096x4096, .f32⟩
  | .hbm, ⟨7, _⟩ => ⟨S4096x16384, .f32⟩
  | .hbm, ⟨8, _⟩ => ⟨S4096x16384, .f32⟩
  | .hbm, ⟨9, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x4096 : Shape := ⟨2, ![4096, 4096]⟩
abbrev S8x4096x1544 : Shape := ⟨3, ![8, 4096, 1544]⟩
abbrev S2048x1024 : Shape := ⟨2, ![2048, 1024]⟩
abbrev S1x2048x1544 : Shape := ⟨3, ![1, 2048, 1544]⟩
abbrev S1x1024x1544 : Shape := ⟨3, ![1, 1024, 1544]⟩
abbrev S1024x1544 : Shape := ⟨2, ![1024, 1544]⟩
abbrev S2048x1544 : Shape := ⟨2, ![2048, 1544]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x1544, .bf16⟩
  | .hbm, ⟨2, _⟩ => ⟨S8x4096x1544, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1544, .bf16⟩
  | .local _ .vmem, ⟨3, _⟩ => ⟨S1x2048x1544, .bf16⟩
  | .local _ .vmem, ⟨4, _⟩ => ⟨S1x1024x1544, .bf16⟩
  | .local _ .vmem, ⟨5, _⟩ => ⟨S1x1024x1544, .bf16⟩
  | .local _ .vmem, ⟨6, _⟩ => ⟨S1024x1544, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1544 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S8x4096x1544 : Shape := ⟨3, ![8, 4096, 1544]⟩
abbrev S_ : Shape := ⟨0, ![]⟩
abbrev S4096x12352 : Shape := ⟨2, ![4096, 12352]⟩
abbrev S4096x8x1544 : Shape := ⟨3, ![4096, 8, 1544]⟩
abbrev S12352x4096 : Shape := ⟨2, ![12352, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x1544, .bf16⟩
  | .hbm, ⟨2, _⟩ => ⟨S_, .f32⟩
  | .hbm, ⟨3, _⟩ => ⟨S4096x12352, .f32⟩
  | .hbm, ⟨4, _⟩ => ⟨S8x4096x1544, .f32⟩
  | .hbm, ⟨5, _⟩ => ⟨S4096x8x1544, .f32⟩
  | .hbm, ⟨6, _⟩ => ⟨S4096x12352, .f32⟩
  | .hbm, ⟨7, _⟩ => ⟨S4096x4096, .f32⟩
  | .hbm, ⟨8, _⟩ => ⟨S4096x12352, .f32⟩
  | .hbm, ⟨9, _⟩ => ⟨S12352x4096, .f32⟩
  | .hbm, ⟨10, _⟩ => ⟨S4096x12352, .f32⟩
  | .hbm, ⟨11, _⟩ => ⟨S4096x12352, .bf16⟩
  | .hbm, ⟨12, _⟩ => ⟨S4096x8x1544, .bf16⟩
  | .hbm, ⟨13, _⟩ => ⟨S8x4096x1544, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel10.lean ====
abbrev S8x4096x1544 : Shape := ⟨3, ![8, 4096, 1544]⟩
abbrev S4096x4096 : Shape := ⟨2, ![4096, 4096]⟩
abbrev S1x1024x1544 : Shape := ⟨3, ![1, 1024, 1544]⟩
abbrev S1024x1024 : Shape := ⟨2, ![1024, 1024]⟩
abbrev S1024x1544 : Shape := ⟨2, ![1024, 1544]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x1544, .bf16⟩
  | .hbm, ⟨1, _⟩ => ⟨S8x4096x1544, .bf16⟩
  | .hbm, ⟨2, _⟩ => ⟨S4096x4096, .f32⟩
  | .local _ .vmem, ⟨0, _⟩ => ⟨S1x1024x1544, .bf16⟩
  | .local _ .vmem, ⟨1, _⟩ => ⟨S1x1024x1544, .bf16⟩
  | .local _ .vmem, ⟨2, _⟩ => ⟨S1x1024x1544, .bf16⟩
  | .local _ .vmem, ⟨3, _⟩ => ⟨S1x1024x1544, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x4096x1544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8x4096x1544 : Shape := ⟨3, ![8, 4096, 1544]⟩
abbrev S4096x8x1544 : Shape := ⟨3, ![4096, 8, 1544]⟩
abbrev S4096x12352 : Shape := ⟨2, ![4096, 12352]⟩
abbrev S_ : Shape := ⟨0, ![]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1544, .bf16⟩
  | .hbm, ⟨1, _⟩ => ⟨S8x4096x1544, .bf16⟩
  | .hbm, ⟨2, _⟩ => ⟨S8x4096x1544, .f32⟩
  | .hbm, ⟨3, _⟩ => ⟨S4096x8x1544, .f32⟩
  | .hbm, ⟨4, _⟩ => ⟨S4096x12352, .f32⟩
  | .hbm, ⟨5, _⟩ => ⟨S8x4096x1544, .f32⟩
  | .hbm, ⟨6, _⟩ => ⟨S4096x8x1544, .f32⟩
  | .hbm, ⟨7, _⟩ => ⟨S4096x12352, .f32⟩
  | .hbm, ⟨8, _⟩ => ⟨S_, .f32⟩
  | .hbm, ⟨9, _⟩ => ⟨S4096x4096, .f32⟩
  | .hbm, ⟨10, _⟩ => ⟨S4096x12352, .f32⟩
  | .hbm, ⟨11, _⟩ => ⟨S4096x4096, .f32⟩
  | _, _ => ⟨S8x4096x1544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x4096 : Shape := ⟨2, ![4096, 4096]⟩
abbrev S2048x12288 : Shape := ⟨2, ![2048, 12288]⟩
abbrev S4096x12288 : Shape := ⟨2, ![4096, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2048x12288, .bf16⟩
  | .hbm, ⟨2, _⟩ => ⟨S4096x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4096 : Shape := ⟨2, ![4096, 4096]⟩
abbrev S2048x12288 : Shape := ⟨2, ![2048, 12288]⟩
abbrev S4096x2048 : Shape := ⟨2, ![4096, 2048]⟩
abbrev S4096x12288 : Shape := ⟨2, ![4096, 12288]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x12288, .bf16⟩
  | .hbm, ⟨2, _⟩ => ⟨S4096x2048, .bf16⟩
  | .hbm, ⟨3, _⟩ => ⟨S4096x2048, .f32⟩
  | .hbm, ⟨4, _⟩ => ⟨S2048x12288, .f32⟩
  | .hbm, ⟨5, _⟩ => ⟨S4096x12288, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x4096 : Shape := ⟨2, ![4096, 4096]⟩
abbrev S2048x12288 : Shape := ⟨2, ![2048, 12288]⟩
abbrev S4096x12288 : Shape := ⟨2, ![4096, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S2048x12288, .bf16⟩
  | .hbm, ⟨2, _⟩ => ⟨S4096x12288, .f32⟩
  | .hbm, ⟨3, _⟩ => ⟨S4096x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x4096 : Shape := ⟨2, ![4096, 4096]⟩
abbrev S2048x12288 : Shape := ⟨2, ![2048, 12288]⟩
abbrev S4096x12288 : Shape := ⟨2, ![4096, 12288]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x12288, .bf16⟩
  | .hbm, ⟨2, _⟩ => ⟨S4096x12288, .f32⟩
  | .hbm, ⟨3, _⟩ => ⟨S4096x2048, .bf16⟩
  | .hbm, ⟨4, _⟩ => ⟨S4096x2048, .f32⟩
  | .hbm, ⟨5, _⟩ => ⟨S2048x12288, .f32⟩
  | .hbm, ⟨6, _⟩ => ⟨S4096x12288, .f32⟩
  | .hbm, ⟨7, _⟩ => ⟨S4096x12288, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x4096 : Shape := ⟨2, ![4096, 4096]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x4096 : Shape := ⟨2, ![4096, 4096]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x4096, .f32⟩
  | .hbm, ⟨3, _⟩ => ⟨S4096x128, .f32⟩
  | .hbm, ⟨4, _⟩ => ⟨S4096x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x4096 : Shape := ⟨2, ![4096, 4096]⟩
abbrev S4096x32 : Shape := ⟨2, ![4096, 32]⟩
abbrev S32 : Shape := ⟨1, ![32]⟩
abbrev S2x32x8x128x256 : Shape := ⟨5, ![2, 32, 8, 128, 256]⟩
abbrev S4096x2048 : Shape := ⟨2, ![4096, 2048]⟩
abbrev S4096x32x64 : Shape := ⟨3, ![4096, 32, 64]⟩
abbrev S1x4096x2048 : Shape := ⟨3, ![1, 4096, 2048]⟩
abbrev S2x4096x2048 : Shape := ⟨3, ![2, 4096, 2048]⟩
abbrev S1x32 : Shape := ⟨2, ![1, 32]⟩
abbrev S32x128x32 : Shape := ⟨3, ![32, 128, 32]⟩
abbrev S_ : Shape := ⟨0, ![]⟩
abbrev S1x32x64 : Shape := ⟨3, ![1, 32, 64]⟩
abbrev S1x2048 : Shape := ⟨2, ![1, 2048]⟩
abbrev S1x1x2048 : Shape := ⟨3, ![1, 1, 2048]⟩
abbrev S2x1x2048 : Shape := ⟨3, ![2, 1, 2048]⟩
abbrev S128x128 : Shape := ⟨2, ![128, 128]⟩
abbrev S1x128x128 : Shape := ⟨3, ![1, 128, 128]⟩
abbrev S2x128x128 : Shape := ⟨3, ![2, 128, 128]⟩
abbrev S2x128x2048 : Shape := ⟨3, ![2, 128, 2048]⟩
abbrev S2x4096x1024 : Shape := ⟨3, ![2, 4096, 1024]⟩
abbrev S128x1024 : Shape := ⟨2, ![128, 1024]⟩
abbrev S128x512 : Shape := ⟨2, ![128, 512]⟩
abbrev S1x128x1024 : Shape := ⟨3, ![1, 128, 1024]⟩
abbrev S1x1x1024 : Shape := ⟨3, ![1, 1, 1024]⟩
abbrev S1x1x4x128x256 : Shape := ⟨5, ![1, 1, 4, 128, 256]⟩
abbrev S1x128x512 : Shape := ⟨3, ![1, 128, 512]⟩
abbrev S4x128x256 : Shape := ⟨3, ![4, 128, 256]⟩
abbrev S128x256 : Shape := ⟨2, ![128, 256]⟩
abbrev S1x128x256 : Shape := ⟨3, ![1, 128, 256]⟩
abbrev S1x1x256 : Shape := ⟨3, ![1, 1, 256]⟩
abbrev S1x256 : Shape := ⟨2, ![1, 256]⟩
abbrev S1x1x1x128x256 : Shape := ⟨5, ![1, 1, 1, 128, 256]⟩
abbrev S256 : Shape := ⟨1, ![256]⟩
abbrev S1x128 : Shape := ⟨2, ![1, 128]⟩
abbrev S1x1024 : Shape := ⟨2, ![1, 1024]⟩
abbrev S1024 : Shape := ⟨1, ![1024]⟩

abbrev nBuf : Space → Nat
  | .hbm => 89
  | .vmem => 31
  | .smem => 0
  | _ => 0

abbrev bufTy : (tb : Table) → Fin (tcTables nBuf tb) → BufTy
  | .hbm, ⟨0, _⟩ => ⟨S4096x4096, .f32⟩
  | .hbm, ⟨1, _⟩ => ⟨S4096x32, .f32⟩
  | .hbm, ⟨2, _⟩ => ⟨S4096x32, .f32⟩
  | .hbm, ⟨3, _⟩ => ⟨S32, .f32⟩
  | .hbm, ⟨4, _⟩ => ⟨S32, .f32⟩
  | .hbm, ⟨5, _⟩ => ⟨S2x32x8x128x256, .f32⟩
  | .hbm, ⟨6, _⟩ => ⟨S4096x2048, .f32⟩
  | .hbm, ⟨7, _⟩ => ⟨S4096x32x64, .f32⟩
  | .hbm, ⟨8, _⟩ => ⟨S4096x2048, .f32⟩
  | .hbm, ⟨9, _⟩ => ⟨S4096x32x64, .f32⟩
  | .hbm, ⟨10, _⟩ => ⟨S4096x2048, .f32⟩
  | .hbm, ⟨11, _⟩ => ⟨S1x4096x2048, .f32⟩
  | .hbm, ⟨12, _⟩ => ⟨S1x4096x2048, .f32⟩
  | .hbm, ⟨13, _⟩ => ⟨S2x4096x2048, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S32x128x32, .f32⟩
  | .hbm, ⟨18, _⟩ => ⟨S_, .f32⟩
  | .hbm, ⟨19, _⟩ => ⟨S_, .f32⟩
  | .hbm, ⟨20, _⟩ => ⟨S32x128x32, .f32⟩
  | .hbm, ⟨21, _⟩ => ⟨S4096x32, .f32⟩
  | .hbm, ⟨22, _⟩ => ⟨S4096x32x64, .f32⟩
  | .hbm, ⟨23, _⟩ => ⟨S4096x2048, .f32⟩
  | .hbm, ⟨24, _⟩ => ⟨S4096x32, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S32x128x32, .f32⟩
  | .hbm, ⟨29, _⟩ => ⟨S_, .f32⟩
  | .hbm, ⟨30, _⟩ => ⟨S_, .f32⟩
  | .hbm, ⟨31, _⟩ => ⟨S32x128x32, .f32⟩
  | .hbm, ⟨32, _⟩ => ⟨S4096x32, .f32⟩
  | .hbm, ⟨33, _⟩ => ⟨S4096x32, .f32⟩
  | .hbm, ⟨34, _⟩ => ⟨S4096x32x64, .f32⟩
  | .hbm, ⟨35, _⟩ => ⟨S4096x2048, .f32⟩
  | .hbm, ⟨36, _⟩ => ⟨S1x4096x2048, .f32⟩
  | .hbm, ⟨37, _⟩ => ⟨S1x4096x2048, .f32⟩
  | .hbm, ⟨38, _⟩ => ⟨S2x4096x2048, .f32⟩
  | .hbm, ⟨39, _⟩ => ⟨S1x32, .f32⟩
  | .hbm, ⟨40, _⟩ => ⟨S1x32x64, .f32⟩
  | .hbm, ⟨41, _⟩ => ⟨S1x2048, .f32⟩
  | .hbm, ⟨42, _⟩ => ⟨S1x32, .f32⟩
  | .hbm, ⟨43, _⟩ => ⟨S1x32x64, .f32⟩
  | .hbm, ⟨44, _⟩ => ⟨S1x2048, .f32⟩
  | .hbm, ⟨45, _⟩ => ⟨S1x1x2048, .f32⟩
  | .hbm, ⟨46, _⟩ => ⟨S1x1x2048, .f32⟩
  | .hbm, ⟨47, _⟩ => ⟨S2x1x2048, .f32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S128x128, .i1⟩
  | .hbm, ⟨52, _⟩ => ⟨S1x128x128, .i1⟩
  | .hbm, ⟨53, _⟩ => ⟨S1x128x128, .i1⟩
  | .hbm, ⟨54, _⟩ => ⟨S2x128x128, .i1⟩
  | .hbm, ⟨55, _⟩ => ⟨S2x128x128, .f32⟩
  | .hbm, ⟨56, _⟩ => ⟨S2x128x2048, .i32⟩
  | .hbm, ⟨57, _⟩ => ⟨S2x128x2048, .i32⟩
  | .hbm, ⟨58, _⟩ => ⟨S2x128x2048, .i32⟩
  | .hbm, ⟨59, _⟩ => ⟨S_, .i32⟩
  | .hbm, ⟨60, _⟩ => ⟨S2x128x2048, .i32⟩
  | .hbm, ⟨61, _⟩ => ⟨S2x128x2048, .i32⟩
  | .hbm, ⟨62, _⟩ => ⟨S_, .i32⟩
  | .hbm, ⟨63, _⟩ => ⟨S_, .i32⟩
  | .hbm, ⟨64, _⟩ => ⟨S2x128x2048, .i32⟩
  | .hbm, ⟨65, _⟩ => ⟨S2x128x2048, .i32⟩
  | .hbm, ⟨66, _⟩ => ⟨S2x128x2048, .i32⟩
  | .hbm, ⟨67, _⟩ => ⟨S_, .i32⟩
  | .hbm, ⟨68, _⟩ => ⟨S2x128x2048, .i32⟩
  | .hbm, ⟨69, _⟩ => ⟨S2x128x2048, .i1⟩
  | .hbm, ⟨70, _⟩ => ⟨S2x128x2048, .i32⟩
  | .hbm, ⟨71, _⟩ => ⟨S2x128x2048, .i32⟩
  | .hbm, ⟨72, _⟩ => ⟨S_, .i32⟩
  | .hbm, ⟨73, _⟩ => ⟨S2x128x2048, .i32⟩
  | .hbm, ⟨74, _⟩ => ⟨S2x128x2048, .i1⟩
  | .hbm, ⟨75, _⟩ => ⟨S2x128x2048, .i1⟩
  | .hbm, ⟨76, _⟩ => ⟨S_, .i32⟩
  | .hbm, ⟨77, _⟩ => ⟨S2x128x2048, .i32⟩
  | .hbm, ⟨78, _⟩ => ⟨S2x128x2048, .i32⟩
  | .hbm, ⟨79, _⟩ => ⟨S2x128x2048, .i32⟩
  | .hbm, ⟨80, _⟩ => ⟨S2x128x2048, .i32⟩
  | .hbm, ⟨81, _⟩ => ⟨S2x128x2048, .i1⟩
  | .hbm, ⟨82, _⟩ => ⟨S2x128x2048, .f32⟩
  | .hbm, ⟨83, _⟩ => ⟨S2x4096x2048, .f32⟩
  | .hbm, ⟨84, _⟩ => ⟨S2x4096x1024, .f32⟩
  | .hbm, ⟨85, _⟩ => ⟨S2x4096x1024, .f32⟩
  | .hbm, ⟨86, _⟩ => ⟨S2x4096x2048, .f32⟩
  | .hbm, ⟨87, _⟩ => ⟨S2x4096x2048, .f32⟩
  | .hbm, ⟨88, _⟩ => ⟨S2x1x2048, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x128x128, .f32⟩
  | .local _ .vmem, ⟨13, _⟩ => ⟨S1x128x128, .f32⟩
  | .local _ .vmem, ⟨14, _⟩ => ⟨S1x1x4x128x256, .f32⟩
  | .local _ .vmem, ⟨15, _⟩ => ⟨S1x1x4x128x256, .f32⟩
  | .local _ .vmem, ⟨16, _⟩ => ⟨S128x1024, .f32⟩
  | .local _ .vmem, ⟨17, _⟩ => ⟨S128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | .local _ .vmem, ⟨27, _⟩ => ⟨S1x128x1024, .f32⟩
  | .local _ .vmem, ⟨28, _⟩ => ⟨S1x1x1024, .f32⟩
  | .local _ .vmem, ⟨29, _⟩ => ⟨S1x1x1024, .f32⟩
  | .local _ .vmem, ⟨30, _⟩ => ⟨S4x128x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call2_call0_cst : Ref sig .tc := ⟨.hbm, 29, rfl⟩
abbrev main_call2_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.hbm, 59, rfl⟩
abbrev main_v48 : Ref sig .tc := ⟨.hbm, 60, rfl⟩
abbrev main_v49 : Ref sig .tc := ⟨.hbm, 61, rfl⟩
abbrev main_c_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_v5 : Ref sig .tc := ⟨.hbm, 68, rfl⟩
abbrev main_call4_v6 : Ref sig .tc := ⟨.hbm, 69, rfl⟩
abbrev main_call4_v7 : Ref sig .tc := ⟨.hbm, 70, rfl⟩
abbrev main_call4_v8 : Ref sig .tc := ⟨.hbm, 71, rfl⟩
abbrev main_call4_c : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_c_0 : Ref sig .tc := ⟨.hbm, 76, rfl⟩
abbrev main_call4_v12 : Ref sig .tc := ⟨.hbm, 77, rfl⟩
abbrev main_call4_v13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54_0 : Ref sig .tc := ⟨.hbm, 83, rfl⟩
abbrev main_v54_1 : Ref sig .tc := ⟨.hbm, 84, rfl⟩
abbrev main_v54_2 : Ref sig .tc := ⟨.hbm, 85, rfl⟩
abbrev main_v54_3 : Ref sig .tc := ⟨.hbm, 86, rfl⟩
abbrev main_v54_4 : Ref sig .tc := ⟨.hbm, 87, rfl⟩
abbrev main_v54_5 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![2, 2, 32], ![false, false, false]⟩

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v1304 : BitVec 32 := Scalar.extui v0
  let c0_i32_447 : BitVec 32 := 0#32
  let v1305 : BitVec 1 := Scalar.cmpi .ne v1304 c0_i32_447
  v1305

def k0_cond3 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v1306 : BitVec 1 := Scalar.xori v0 v_true
  let v1307 : BitVec 32 := Scalar.extui v1306
  let c0_i32_448 : BitVec 32 := 0#32
  let v1308 : BitVec 1 := Scalar.cmpi .ne v1307 c0_i32_448
  v1308

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c4_i32 : BitVec 32 := 4#32
  let v5 : BitVec 32 := Scalar.addi c4_i32 arg1
  let c0_i32 : BitVec 32 := 0#32
  ![v4.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c6_i32 : BitVec 32 := 6#32
  let v5 : BitVec 32 := Scalar.addi c6_i32 arg1
  let c0_i32 : BitVec 32 := 0#32
  ![v4.toNat, v5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![arg0.toNat, v4.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![arg0.toNat, v4.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  ![arg0.toNat, v4.toNat, arg1.toNat, c0_i32.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![v4.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![arg0.toNat, v4.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![arg0.toNat, v4.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![arg0.toNat, v4.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![arg0.toNat, v4.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.subi c31_i32 arg2
  let c2_i32 : BitVec 32 := 2#32
  let v1 : BitVec 32 := Scalar.muli c2_i32 arg2
  let c31_i32_0 : BitVec 32 := 31#32
  let v2 : BitVec 32 := Scalar.subi v1 c31_i32_0
  let v3 : BitVec 32 := Scalar.muli arg0 v2
  let v4 : BitVec 32 := Scalar.addi v0 v3
  let c0_i32 : BitVec 32 := 0#32
  ![arg0.toNat, v4.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== Reference16Ideal.lean ====
abbrev S4096x4096 : Shape := ⟨2, ![4096, 4096]⟩
abbrev S4096x32 : Shape := ⟨2, ![4096, 32]⟩
abbrev S32 : Shape := ⟨1, ![32]⟩
abbrev S2x32x8x128x256 : Shape := ⟨5, ![2, 32, 8, 128, 256]⟩
abbrev S4096x2048 : Shape := ⟨2, ![4096, 2048]⟩
abbrev S1x4096x2048 : Shape := ⟨3, ![1, 4096, 2048]⟩
abbrev S2x4096x2048 : Shape := ⟨3, ![2, 4096, 2048]⟩
abbrev S2x32x128x8x4x64 : Shape := ⟨6, ![2, 32, 128, 8, 4, 64]⟩
abbrev S4096x1024 : Shape := ⟨2, ![4096, 1024]⟩
abbrev S1x4096x1024 : Shape := ⟨3, ![1, 4096, 1024]⟩
abbrev S2x4096x1024 : Shape := ⟨3, ![2, 4096, 1024]⟩
abbrev S2x32x128x8x128 : Shape := ⟨5, ![2, 32, 128, 8, 128]⟩
abbrev S1x4096x32 : Shape := ⟨3, ![1, 4096, 32]⟩
abbrev S2x4096x32 : Shape := ⟨3, ![2, 4096, 32]⟩
abbrev S2x32x128x8x4 : Shape := ⟨5, ![2, 32, 128, 8, 4]⟩
abbrev S1x32 : Shape := ⟨2, ![1, 32]⟩
abbrev S32x128x32 : Shape := ⟨3, ![32, 128, 32]⟩
abbrev S_ : Shape := ⟨0, ![]⟩
abbrev S1x32x128x32 : Shape := ⟨4, ![1, 32, 128, 32]⟩
abbrev S2x32x128x32 : Shape := ⟨4, ![2, 32, 128, 32]⟩
abbrev S1x32x8x128x256 : Shape := ⟨5, ![1, 32, 8, 128, 256]⟩
abbrev S32x8x128x256 : Shape := ⟨4, ![32, 8, 128, 256]⟩
abbrev S2x32x8x128x4x64 : Shape := ⟨6, ![2, 32, 8, 128, 4, 64]⟩
abbrev S2x32x8x4x64x128 : Shape := ⟨6, ![2, 32, 8, 4, 64, 128]⟩
abbrev S2x8x4x64x128 : Shape := ⟨5, ![2, 8, 4, 64, 128]⟩
abbrev S32x2x128x8x4x64 : Shape := ⟨6, ![32, 2, 128, 8, 4, 64]⟩
abbrev S32x2x128x8x128 : Shape := ⟨5, ![32, 2, 128, 8, 128]⟩
abbrev S32x2x8x4x64x128 : Shape := ⟨6, ![32, 2, 8, 4, 64, 128]⟩
abbrev S32x2x128x8x4 : Shape := ⟨5, ![32, 2, 128, 8, 4]⟩
abbrev S1x2x128x8x4x64 : Shape := ⟨6, ![1, 2, 128, 8, 4, 64]⟩
abbrev S2x128x8x4x64 : Shape := ⟨5, ![2, 128, 8, 4, 64]⟩
abbrev S1x2x128x8x128 : Shape := ⟨5, ![1, 2, 128, 8, 128]⟩
abbrev S2x128x8x128 : Shape := ⟨4, ![2, 128, 8, 128]⟩
abbrev S1x2x8x4x64x128 : Shape := ⟨6, ![1, 2, 8, 4, 64, 128]⟩
abbrev S1x2x128x8x4 : Shape := ⟨5, ![1, 2, 128, 8, 4]⟩
abbrev S2x128x8x4 : Shape := ⟨4, ![2, 128, 8, 4]⟩
abbrev S2x128x8x4x1 : Shape := ⟨5, ![2, 128, 8, 4, 1]⟩
abbrev S128x128 : Shape := ⟨2, ![128, 128]⟩
abbrev S128x128x1x1 : Shape := ⟨4, ![128, 128, 1, 1]⟩
abbrev S2x128x1x8x4 : Shape := ⟨5, ![2, 128, 1, 8, 4]⟩
abbrev S2x1x128x8x4 : Shape := ⟨5, ![2, 1, 128, 8, 4]⟩
abbrev S2x128x128x8x4 : Shape := ⟨5, ![2, 128, 128, 8, 4]⟩
abbrev S2x8x128x128 : Shape := ⟨4, ![2, 8, 128, 128]⟩
abbrev S2x128x128x8 : Shape := ⟨4, ![2, 128, 128, 8]⟩
abbrev S2x128x128x8x1 : Shape := ⟨5, ![2, 128, 128, 8, 1]⟩
abbrev S2x1x8x4 : Shape := ⟨4, ![2, 1, 8, 4]⟩
abbrev S2x8x4 : Shape := ⟨3, ![2, 8, 4]⟩
abbrev S2x8x4x1x1 : Shape := ⟨5, ![2, 8, 4, 1, 1]⟩
abbrev S2x8x4x128x128 : Shape := ⟨5, ![2, 8, 4, 128, 128]⟩
abbrev S32x1x128x8x4x64 : Shape := ⟨6, ![32, 1, 128, 8, 4, 64]⟩
abbrev S32x128x8x4x64 : Shape := ⟨5, ![32, 128, 8, 4, 64]⟩
abbrev S32x1x128x8x128 : Shape := ⟨5, ![32, 1, 128, 8, 128]⟩
abbrev S32x128x8x128 : Shape := ⟨4, ![32, 128, 8, 128]⟩

abbrev nBuf : Space → Nat
  | .hbm => 285
  | .vmem => 0
  | .smem => 0
  | _ => 0

abbrev hbmTy0_0 (i : Nat) : BufTy := match i % 128 with
  | 0 => ⟨S4096x4096, .f32⟩
  | 1 => ⟨S4096x32, .f32⟩
  | 2 => ⟨S4096x32, .f32⟩
  | 3 => ⟨S32, .f32⟩
  | 4 => ⟨S32, .f32⟩
  | 5 => ⟨S2x32x8x128x256, .f32⟩
  | 6 => ⟨S4096x2048, .f32⟩
  | 7 => ⟨S4096x2048, .f32⟩
  | 8 => ⟨S4096x2048, .f32⟩
  | 9 => ⟨S1x4096x2048, .f32⟩
  | 10 => ⟨S1x4096x2048, .f32⟩
  | 11 => ⟨S2x4096x2048, .f32⟩
  | 12 => ⟨S2x32x128x8x4x64, .f32⟩
  | 13 => ⟨S4096x1024, .f32⟩
  | 14 => ⟨S4096x1024, .f32⟩
  | 15 => ⟨S1x4096x1024, .f32⟩
  | 16 => ⟨S1x4096x1024, .f32⟩
  | 17 => ⟨S2x4096x1024, .f32⟩
  | 18 => ⟨S2x32x128x8x128, .f32⟩
  | 19 => ⟨S4096x1024, .f32⟩
  | 20 => ⟨S4096x1024, .f32⟩
  | 21 => ⟨S1x4096x1024, .f32⟩
  | 22 => ⟨S1x4096x1024, .f32⟩
  | 23 => ⟨S2x4096x1024, .f32⟩
  | 24 => ⟨S2x32x128x8x128, .f32⟩
  | 25 => ⟨S4096x2048, .f32⟩
  | 26 => ⟨S1x4096x2048, .f32⟩
  | 27 => ⟨S1x4096x2048, .f32⟩
  | 28 => ⟨S2x4096x2048, .f32⟩
  | 29 => ⟨S2x32x128x8x4x64, .f32⟩
  | 30 => ⟨S4096x32, .f32⟩
  | 31 => ⟨S1x4096x32, .f32⟩
  | 32 => ⟨S1x4096x32, .f32⟩
  | 33 => ⟨S2x4096x32, .f32⟩
  | 34 => ⟨S2x32x128x8x4, .f32⟩
  | 35 => ⟨S1x32, .f32⟩
  | 36 => ⟨S4096x32, .f32⟩
  | 37 => ⟨S4096x32, .f32⟩
  | 38 => ⟨S32x128x32, .f32⟩
  | 39 => ⟨S_, .f32⟩
  | 40 => ⟨S_, .f32⟩
  | 41 => ⟨S32x128x32, .f32⟩
  | 42 => ⟨S4096x32, .f32⟩
  | 43 => ⟨S1x32, .f32⟩
  | 44 => ⟨S4096x32, .f32⟩
  | 45 => ⟨S4096x32, .f32⟩
  | 46 => ⟨S32x128x32, .f32⟩
  | 47 => ⟨S_, .f32⟩
  | 48 => ⟨S_, .f32⟩
  | 49 => ⟨S32x128x32, .f32⟩
  | 50 => ⟨S1x32x128x32, .f32⟩
  | 51 => ⟨S1x32x128x32, .f32⟩
  | 52 => ⟨S2x32x128x32, .f32⟩
  | 53 => ⟨S2x32x128x8x4, .f32⟩
  | 54 => ⟨S1x32x8x128x256, .f32⟩
  | 55 => ⟨S32x8x128x256, .f32⟩
  | 56 => ⟨S1x32x8x128x256, .f32⟩
  | 57 => ⟨S32x8x128x256, .f32⟩
  | 58 => ⟨S32x8x128x256, .f32⟩
  | 59 => ⟨S1x32x8x128x256, .f32⟩
  | 60 => ⟨S1x32x8x128x256, .f32⟩
  | 61 => ⟨S2x32x8x128x256, .f32⟩
  | 62 => ⟨S2x32x8x128x4x64, .f32⟩
  | 63 => ⟨S2x32x8x4x64x128, .f32⟩
  | 64 => ⟨S_, .f32⟩
  | 65 => ⟨S2x8x4x64x128, .f32⟩
  | 66 => ⟨S32x2x128x8x4x64, .f32⟩
  | 67 => ⟨S32x2x128x8x128, .f32⟩
  | 68 => ⟨S32x2x128x8x128, .f32⟩
  | 69 => ⟨S32x2x8x4x64x128, .f32⟩
  | 70 => ⟨S32x2x128x8x4, .f32⟩
  | 71 => ⟨S32x2x128x8x4, .f32⟩
  | 72 => ⟨S32x2x128x8x4x64, .f32⟩
  | 73 => ⟨S_, .f32⟩
  | 74 => ⟨S32x2x128x8x4x64, .f32⟩
  | 75 => ⟨S_, .f32⟩
  | 76 => ⟨S32x2x128x8x128, .f32⟩
  | 77 => ⟨S_, .f32⟩
  | 78 => ⟨S32x2x128x8x128, .f32⟩
  | 79 => ⟨S_, .i32⟩
  | 80 => ⟨S32x2x128x8x4x64, .f32⟩
  | 81 => ⟨S32x2x128x8x128, .f32⟩
  | 82 => ⟨S32x2x128x8x128, .f32⟩
  | 83 => ⟨S32x2x8x4x64x128, .f32⟩
  | 84 => ⟨S32x2x128x8x4, .f32⟩
  | 85 => ⟨S32x2x128x8x4, .f32⟩
  | 86 => ⟨S32x2x128x8x4x64, .f32⟩
  | 87 => ⟨S_, .i32⟩
  | 88 => ⟨S2x8x4x64x128, .f32⟩
  | 89 => ⟨S32x2x128x8x4x64, .f32⟩
  | 90 => ⟨S32x2x128x8x128, .f32⟩
  | 91 => ⟨S32x2x128x8x128, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S1x2x128x8x4x64, .f32⟩
  | 104 => ⟨S2x128x8x4x64, .f32⟩
  | 105 => ⟨S_, .i32⟩
  | 106 => ⟨S_, .i32⟩
  | 107 => ⟨S_, .i32⟩
  | 108 => ⟨S_, .i32⟩
  | 109 => ⟨S1x2x128x8x128, .f32⟩
  | 110 => ⟨S2x128x8x128, .f32⟩
  | 111 => ⟨S_, .i32⟩
  | 112 => ⟨S_, .i32⟩
  | 113 => ⟨S_, .i32⟩
  | 114 => ⟨S_, .i32⟩
  | 115 => ⟨S1x2x128x8x128, .f32⟩
  | 116 => ⟨S2x128x8x128, .f32⟩
  | 117 => ⟨S_, .i32⟩
  | 118 => ⟨S_, .i32⟩
  | 119 => ⟨S_, .i32⟩
  | 120 => ⟨S_, .i32⟩
  | 121 => ⟨S_, .i32⟩
  | 122 => ⟨S1x2x8x4x64x128, .f32⟩
  | 123 => ⟨S2x8x4x64x128, .f32⟩
  | 124 => ⟨S_, .i32⟩
  | 125 => ⟨S_, .i32⟩
  | 126 => ⟨S_, .i32⟩
  | 127 => ⟨S_, .i32⟩
  | _ => ⟨S4096x4096, .f32⟩

abbrev hbmTy0_1 (i : Nat) : BufTy := match i % 128 with
  | 0 => ⟨S1x2x128x8x4, .f32⟩
  | 1 => ⟨S2x128x8x4, .f32⟩
  | 2 => ⟨S_, .i32⟩
  | 3 => ⟨S_, .i32⟩
  | 4 => ⟨S_, .i32⟩
  | 5 => ⟨S_, .i32⟩
  | 6 => ⟨S1x2x128x8x4, .f32⟩
  | 7 => ⟨S2x128x8x4, .f32⟩
  | 8 => ⟨S_, .i32⟩
  | 9 => ⟨S_, .i32⟩
  | 10 => ⟨S_, .i32⟩
  | 11 => ⟨S_, .i32⟩
  | 12 => ⟨S_, .i32⟩
  | 13 => ⟨S1x2x128x8x4x64, .f32⟩
  | 14 => ⟨S2x128x8x4x64, .f32⟩
  | 15 => ⟨S2x128x8x4x1, .f32⟩
  | 16 => ⟨S2x128x8x4x64, .f32⟩
  | 17 => ⟨S2x128x8x4x64, .f32⟩
  | 18 => ⟨S_, .i1⟩
  | 19 => ⟨S128x128, .i1⟩
  | 20 => ⟨S128x128, .i32⟩
  | 21 => ⟨S_, .i32⟩
  | 22 => ⟨S128x128, .i32⟩
  | 23 => ⟨S128x128, .i32⟩
  | 24 => ⟨S128x128, .i32⟩
  | 25 => ⟨S128x128, .i1⟩
  | 26 => ⟨S_, .i1⟩
  | 27 => ⟨S128x128, .i1⟩
  | 28 => ⟨S128x128, .i1⟩
  | 29 => ⟨S128x128x1x1, .i1⟩
  | 30 => ⟨S2x128x1x8x4, .f32⟩
  | 31 => ⟨S2x1x128x8x4, .f32⟩
  | 32 => ⟨S2x128x128x8x4, .f32⟩
  | 33 => ⟨S2x128x128x8x4, .f32⟩
  | 34 => ⟨S2x128x128x8x4, .f32⟩
  | 35 => ⟨S_, .f32⟩
  | 36 => ⟨S_, .f32⟩
  | 37 => ⟨S2x128x128x8x4, .i1⟩
  | 38 => ⟨S2x128x128x8x4, .f32⟩
  | 39 => ⟨S2x128x128x8x4, .f32⟩
  | 40 => ⟨S2x128x128x8x4, .f32⟩
  | 41 => ⟨S2x8x128x128, .f32⟩
  | 42 => ⟨S2x128x128x8, .f32⟩
  | 43 => ⟨S2x128x128x8x1, .f32⟩
  | 44 => ⟨S2x128x128x8x4, .f32⟩
  | 45 => ⟨S2x128x128x8x4, .f32⟩
  | 46 => ⟨S2x8x4x64x128, .f32⟩
  | 47 => ⟨S2x128x8x4x64, .f32⟩
  | 48 => ⟨S2x1x8x4, .f32⟩
  | 49 => ⟨S2x128x8x4, .f32⟩
  | 50 => ⟨S2x128x8x4, .f32⟩
  | 51 => ⟨S2x128x8x4, .f32⟩
  | 52 => ⟨S2x128x8x4x1, .f32⟩
  | 53 => ⟨S2x128x8x4x64, .f32⟩
  | 54 => ⟨S2x128x8x4x64, .f32⟩
  | 55 => ⟨S2x8x4x64x128, .f32⟩
  | 56 => ⟨S2x8x4x64x128, .f32⟩
  | 57 => ⟨S2x128x8x4x64, .f32⟩
  | 58 => ⟨S2x128x8x4, .f32⟩
  | 59 => ⟨S2x128x8x4x1, .f32⟩
  | 60 => ⟨S2x128x8x4x64, .f32⟩
  | 61 => ⟨S2x128x8x4x64, .f32⟩
  | 62 => ⟨S2x128x8x4x64, .f32⟩
  | 63 => ⟨S2x1x8x4, .f32⟩
  | 64 => ⟨S2x8x4, .f32⟩
  | 65 => ⟨S2x8x4, .f32⟩
  | 66 => ⟨S2x8x4x1x1, .f32⟩
  | 67 => ⟨S2x8x4x64x128, .f32⟩
  | 68 => ⟨S2x8x4x64x128, .f32⟩
  | 69 => ⟨S2x8x4x64x128, .f32⟩
  | 70 => ⟨S2x8x4x64x128, .f32⟩
  | 71 => ⟨S2x8x4x64x128, .f32⟩
  | 72 => ⟨S2x128x8x4x64, .f32⟩
  | 73 => ⟨S2x128x8x4x64, .f32⟩
  | 74 => ⟨S2x8x4x64x128, .f32⟩
  | 75 => ⟨S2x8x128x128, .f32⟩
  | 76 => ⟨S2x128x8x128, .f32⟩
  | 77 => ⟨S2x8x4x64x128, .f32⟩
  | 78 => ⟨S2x8x4x64x128, .f32⟩
  | 79 => ⟨S2x8x128x128, .f32⟩
  | 80 => ⟨S2x128x8x128, .f32⟩
  | 81 => ⟨S2x8x4x64x128, .f32⟩
  | 82 => ⟨S2x128x8x4x64, .f32⟩
  | 83 => ⟨S2x128x8x4x64, .f32⟩
  | 84 => ⟨S2x128x8x4x64, .f32⟩
  | 85 => ⟨S2x8x4x64x128, .f32⟩
  | 86 => ⟨S2x8x4x128x128, .f32⟩
  | 87 => ⟨S2x128x128x8x4, .f32⟩
  | 88 => ⟨S2x8x4x64x128, .f32⟩
  | 89 => ⟨S2x128x8x4x64, .f32⟩
  | 90 => ⟨S2x128x8x4x64, .f32⟩
  | 91 => ⟨S2x128x128x8x4, .f32⟩
  | 92 => ⟨S_, .f32⟩
  | 93 => ⟨S2x128x128x8, .f32⟩
  | 94 => ⟨S2x128x128x8x1, .f32⟩
  | 95 => ⟨S_, .f32⟩
  | 96 => ⟨S2x128x128x8, .f32⟩
  | 97 => ⟨S2x8x128x128, .f32⟩
  | 98 => ⟨S2x8x128x128, .f32⟩
  | 99 => ⟨S2x128x8x128, .f32⟩
  | 100 => ⟨S2x128x8x128, .f32⟩
  | 101 => ⟨S2x8x128x128, .f32⟩
  | 102 => ⟨S2x128x8x128, .f32⟩
  | 103 => ⟨S2x128x8x128, .f32⟩
  | 104 => ⟨S2x128x8x4x64, .f32⟩
  | 105 => ⟨S2x128x8x4x64, .f32⟩
  | 106 => ⟨S1x2x128x8x4x64, .f32⟩
  | 107 => ⟨S_, .i32⟩
  | 108 => ⟨S_, .i32⟩
  | 109 => ⟨S_, .i32⟩
  | 110 => ⟨S_, .i32⟩
  | 111 => ⟨S_, .i32⟩
  | 112 => ⟨S32x2x128x8x4x64, .f32⟩
  | 113 => ⟨S1x2x128x8x128, .f32⟩
  | 114 => ⟨S_, .i32⟩
  | 115 => ⟨S_, .i32⟩
  | 116 => ⟨S_, .i32⟩
  | 117 => ⟨S_, .i32⟩
  | 118 => ⟨S32x2x128x8x128, .f32⟩
  | 119 => ⟨S1x2x128x8x128, .f32⟩
  | 120 => ⟨S_, .i32⟩
  | 121 => ⟨S_, .i32⟩
  | 122 => ⟨S_, .i32⟩
  | 123 => ⟨S_, .i32⟩
  | 124 => ⟨S32x2x128x8x128, .f32⟩
  | 125 => ⟨S_, .i32⟩
  | 126 => ⟨S_, .i32⟩
  | 127 => ⟨S32x1x128x8x4x64, .f32⟩
  | _ => ⟨S4096x4096, .f32⟩

abbrev hbmTy0_2 (i : Nat) : BufTy := match i % 128 with
  | 0 => ⟨S32x128x8x4x64, .f32⟩
  | 1 => ⟨S4096x2048, .f32⟩
  | 2 => ⟨S32x1x128x8x4x64, .f32⟩
  | 3 => ⟨S32x128x8x4x64, .f32⟩
  | 4 => ⟨S4096x2048, .f32⟩
  | 5 => ⟨S4096x2048, .f32⟩
  | 6 => ⟨S1x4096x2048, .f32⟩
  | 7 => ⟨S1x4096x2048, .f32⟩
  | 8 => ⟨S2x4096x2048, .f32⟩
  | 9 => ⟨S32x1x128x8x128, .f32⟩
  | 10 => ⟨S32x128x8x128, .f32⟩
  | 11 => ⟨S4096x1024, .f32⟩
  | 12 => ⟨S32x1x128x8x128, .f32⟩
  | 13 => ⟨S32x128x8x128, .f32⟩
  | 14 => ⟨S4096x1024, .f32⟩
  | 15 => ⟨S4096x1024, .f32⟩
  | 16 => ⟨S1x4096x1024, .f32⟩
  | 17 => ⟨S1x4096x1024, .f32⟩
  | 18 => ⟨S2x4096x1024, .f32⟩
  | 19 => ⟨S32x1x128x8x128, .f32⟩
  | 20 => ⟨S32x128x8x128, .f32⟩
  | 21 => ⟨S4096x1024, .f32⟩
  | 22 => ⟨S32x1x128x8x128, .f32⟩
  | 23 => ⟨S32x128x8x128, .f32⟩
  | 24 => ⟨S4096x1024, .f32⟩
  | 25 => ⟨S4096x1024, .f32⟩
  | 26 => ⟨S1x4096x1024, .f32⟩
  | 27 => ⟨S1x4096x1024, .f32⟩
  | 28 => ⟨S2x4096x1024, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call5_call0_cst : Ref sig .tc := ⟨.hbm, 39, rfl⟩
abbrev main_call5_call0_v0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call7_call0_cst : Ref sig .tc := ⟨.hbm, 47, rfl⟩
abbrev main_call7_call0_v0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_0 : Ref sig .tc := ⟨.hbm, 73, rfl⟩
abbrev main_v61 : Ref sig .tc := ⟨.hbm, 74, rfl⟩
abbrev main_cst_1 : Ref sig .tc := ⟨.hbm, 75, rfl⟩
abbrev main_v62 : Ref sig .tc := ⟨.hbm, 76, rfl⟩
abbrev main_cst_2 : Ref sig .tc := ⟨.hbm, 77, rfl⟩
abbrev main_v63 : Ref sig .tc := ⟨.hbm, 78, rfl⟩
abbrev main_c : Ref sig .tc := ⟨.hbm, 79, rfl⟩
abbrev main_v64_0 : Ref sig .tc := ⟨.hbm, 80, rfl⟩
abbrev main_v64_1 : Ref sig .tc := ⟨.hbm, 81, rfl⟩
abbrev main_v64_2 : Ref sig .tc := ⟨.hbm, 82, rfl⟩
abbrev main_v64_3 : Ref sig .tc := ⟨.hbm, 83, rfl⟩
abbrev main_v64_4 : Ref sig .tc := ⟨.hbm, 84, rfl⟩
abbrev main_v64_5 : Ref sig .tc := ⟨.hbm, 85, rfl⟩
abbrev main_v64_6 : Ref sig .tc := ⟨.hbm, 86, rfl⟩
abbrev main_v64_7 : Ref sig .tc := ⟨.hbm, 87, rfl⟩
abbrev main_v64_8 : Ref sig .tc := ⟨.hbm, 88, rfl⟩
abbrev main_v64_9 : Ref sig .tc := ⟨.hbm, 89, rfl⟩
abbrev main_v64_10 : Ref sig .tc := ⟨.hbm, 90, rfl⟩
abbrev main_v64_11 : Ref sig .tc := ⟨.hbm, 91, rfl⟩
abbrev main_while0c_c_14 : Ref sig .tc := ⟨.hbm, 92, rfl⟩
abbrev main_while0c_v95 : Ref sig .tc := ⟨.hbm, 93, rfl⟩
abbrev main_while0b_c_14 : Ref sig .tc := ⟨.hbm, 94, rfl⟩
abbrev main_while0b_v95 : Ref sig .tc := ⟨.hbm, 95, rfl⟩
abbrev main_while0b_c_15 : Ref sig .tc := ⟨.hbm, 96, rfl⟩
abbrev main_while0b_v96 : Ref sig .tc := ⟨.hbm, 97, rfl⟩
abbrev main_while0b_call9_c : Ref sig .tc := ⟨.hbm, 98, rfl⟩
abbrev main_while0b_call9_c_0 : Ref sig .tc := ⟨.hbm, 99, rfl⟩
abbrev main_while0b_call9_c_1 : Ref sig .tc := ⟨.hbm, 100, rfl⟩
abbrev main_while0b_call9_c_2 : Ref sig .tc := ⟨.hbm, 101, rfl⟩
abbrev main_while0b_call9_c_3 : Ref sig .tc := ⟨.hbm, 102, rfl⟩
abbrev main_while0b_call9_v0 : Ref sig .tc := ⟨.hbm, 103, rfl⟩
abbrev main_while0b_v97 : Ref sig .tc := ⟨.hbm, 104, rfl⟩
abbrev main_while0b_call10_c : Ref sig .tc := ⟨.hbm, 105, rfl⟩
abbrev main_while0b_call10_c_0 : Ref sig .tc := ⟨.hbm, 106, rfl⟩
abbrev main_while0b_call10_c_1 : Ref sig .tc := ⟨.hbm, 107, rfl⟩
abbrev main_while0b_call10_c_2 : Ref sig .tc := ⟨.hbm, 108, rfl⟩
abbrev main_while0b_call10_v0 : Ref sig .tc := ⟨.hbm, 109, rfl⟩
abbrev main_while0b_v98 : Ref sig .tc := ⟨.hbm, 110, rfl⟩
abbrev main_while0b_call11_c : Ref sig .tc := ⟨.hbm, 111, rfl⟩
abbrev main_while0b_call11_c_0 : Ref sig .tc := ⟨.hbm, 112, rfl⟩
abbrev main_while0b_call11_c_1 : Ref sig .tc := ⟨.hbm, 113, rfl⟩
abbrev main_while0b_call11_c_2 : Ref sig .tc := ⟨.hbm, 114, rfl⟩
abbrev main_while0b_call11_v0 : Ref sig .tc := ⟨.hbm, 115, rfl⟩
abbrev main_while0b_v99 : Ref sig .tc := ⟨.hbm, 116, rfl⟩
abbrev main_while0b_call12_c : Ref sig .tc := ⟨.hbm, 117, rfl⟩
abbrev main_while0b_call12_c_0 : Ref sig .tc := ⟨.hbm, 118, rfl⟩
abbrev main_while0b_call12_c_1 : Ref sig .tc := ⟨.hbm, 119, rfl⟩
abbrev main_while0b_call12_c_2 : Ref sig .tc := ⟨.hbm, 120, rfl⟩
abbrev main_while0b_call12_c_3 : Ref sig .tc := ⟨.hbm, 121, rfl⟩
abbrev main_while0b_call12_v0 : Ref sig .tc := ⟨.hbm, 122, rfl⟩
abbrev main_while0b_v100 : Ref sig .tc := ⟨.hbm, 123, rfl⟩
abbrev main_while0b_call13_c : Ref sig .tc := ⟨.hbm, 124, rfl⟩
abbrev main_while0b_call13_c_0 : Ref sig .tc := ⟨.hbm, 125, rfl⟩
abbrev main_while0b_call13_c_1 : Ref sig .tc := ⟨.hbm, 126, rfl⟩
abbrev main_while0b_call13_c_2 : Ref sig .tc := ⟨.hbm, 127, rfl⟩
abbrev main_while0b_call13_v0 : Ref sig .tc := ⟨.hbm, 128, rfl⟩
abbrev main_while0b_v101 : Ref sig .tc := ⟨.hbm, 129, rfl⟩
abbrev main_while0b_call14_c : Ref sig .tc := ⟨.hbm, 130, rfl⟩
abbrev main_while0b_call14_c_0 : Ref sig .tc := ⟨.hbm, 131, rfl⟩
abbrev main_while0b_call14_c_1 : Ref sig .tc := ⟨.hbm, 132, rfl⟩
abbrev main_while0b_call14_c_2 : Ref sig .tc := ⟨.hbm, 133, rfl⟩
abbrev main_while0b_call14_v0 : Ref sig .tc := ⟨.hbm, 134, rfl⟩
abbrev main_while0b_v102 : Ref sig .tc := ⟨.hbm, 135, rfl⟩
abbrev main_while0b_call15_c : Ref sig .tc := ⟨.hbm, 136, rfl⟩
abbrev main_while0b_call15_c_0 : Ref sig .tc := ⟨.hbm, 137, rfl⟩
abbrev main_while0b_call15_c_1 : Ref sig .tc := ⟨.hbm, 138, rfl⟩
abbrev main_while0b_call15_c_2 : Ref sig .tc := ⟨.hbm, 139, rfl⟩
abbrev main_while0b_call15_c_3 : Ref sig .tc := ⟨.hbm, 140, rfl⟩
abbrev main_while0b_call15_v0 : Ref sig .tc := ⟨.hbm, 141, rfl⟩
abbrev main_while0b_v103 : Ref sig .tc := ⟨.hbm, 142, rfl⟩
abbrev main_while0b_v104 : Ref sig .tc := ⟨.hbm, 143, rfl⟩
abbrev main_while0b_v105 : Ref sig .tc := ⟨.hbm, 144, rfl⟩
abbrev main_while0b_v106 : Ref sig .tc := ⟨.hbm, 145, rfl⟩
abbrev main_while0b_c_16 : Ref sig .tc := ⟨.hbm, 146, rfl⟩
abbrev main_while0b_v107 : Ref sig .tc := ⟨.hbm, 147, rfl⟩
abbrev main_while0b_call16_v0 : Ref sig .tc := ⟨.hbm, 148, rfl⟩
abbrev main_while0b_call16_c : Ref sig .tc := ⟨.hbm, 149, rfl⟩
abbrev main_while0b_call16_v1 : Ref sig .tc := ⟨.hbm, 150, rfl⟩
abbrev main_while0b_call16_v2 : Ref sig .tc := ⟨.hbm, 151, rfl⟩
abbrev main_while0b_call16_v3 : Ref sig .tc := ⟨.hbm, 152, rfl⟩
abbrev main_while0b_call16_v4 : Ref sig .tc := ⟨.hbm, 153, rfl⟩
abbrev main_while0b_call16_c_0 : Ref sig .tc := ⟨.hbm, 154, rfl⟩
abbrev main_while0b_call16_v5 : Ref sig .tc := ⟨.hbm, 155, rfl⟩
abbrev main_while0b_v108 : Ref sig .tc := ⟨.hbm, 156, rfl⟩
abbrev main_while0b_v109 : Ref sig .tc := ⟨.hbm, 157, rfl⟩
abbrev main_while0b_v110 : Ref sig .tc := ⟨.hbm, 158, rfl⟩
abbrev main_while0b_v111 : Ref sig .tc := ⟨.hbm, 159, rfl⟩
abbrev main_while0b_v112 : Ref sig .tc := ⟨.hbm, 160, rfl⟩
abbrev main_while0b_v113 : Ref sig .tc := ⟨.hbm, 161, rfl⟩
abbrev main_while0b_v114 : Ref sig .tc := ⟨.hbm, 162, rfl⟩
abbrev main_while0b_cst_17 : Ref sig .tc := ⟨.hbm, 163, rfl⟩
abbrev main_while0b_call17_v0 : Ref sig .tc := ⟨.hbm, 164, rfl⟩
abbrev main_while0b_call17_v1 : Ref sig .tc := ⟨.hbm, 165, rfl⟩
abbrev main_while0b_call17_v2 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_v122 : Ref sig .tc := ⟨.hbm, 174, rfl⟩
abbrev main_while0b_v123 : Ref sig .tc := ⟨.hbm, 175, rfl⟩
abbrev main_while0b_v124 : Ref sig .tc := ⟨.hbm, 176, rfl⟩
abbrev main_while0b_v125 : Ref sig .tc := ⟨.hbm, 177, rfl⟩
abbrev main_while0b_v126 : Ref sig .tc := ⟨.hbm, 178, rfl⟩
abbrev main_while0b_v127 : Ref sig .tc := ⟨.hbm, 179, rfl⟩
abbrev main_while0b_v128 : Ref sig .tc := ⟨.hbm, 180, rfl⟩
abbrev main_while0b_v129 : Ref sig .tc := ⟨.hbm, 181, rfl⟩
abbrev main_while0b_v130 : Ref sig .tc := ⟨.hbm, 182, rfl⟩
abbrev main_while0b_v131 : Ref sig .tc := ⟨.hbm, 183, rfl⟩
abbrev main_while0b_v132 : Ref sig .tc := ⟨.hbm, 184, rfl⟩
abbrev main_while0b_v133 : Ref sig .tc := ⟨.hbm, 185, rfl⟩
abbrev main_while0b_v134 : Ref sig .tc := ⟨.hbm, 186, rfl⟩
abbrev main_while0b_v135 : Ref sig .tc := ⟨.hbm, 187, rfl⟩
abbrev main_while0b_v136 : Ref sig .tc := ⟨.hbm, 188, rfl⟩
abbrev main_while0b_v137 : Ref sig .tc := ⟨.hbm, 189, rfl⟩
abbrev main_while0b_v138 : Ref sig .tc := ⟨.hbm, 190, rfl⟩
abbrev main_while0b_v139 : Ref sig .tc := ⟨.hbm, 191, rfl⟩
abbrev main_while0b_v140 : Ref sig .tc := ⟨.hbm, 192, rfl⟩
abbrev main_while0b_v141 : Ref sig .tc := ⟨.hbm, 193, rfl⟩
abbrev main_while0b_v142 : Ref sig .tc := ⟨.hbm, 194, rfl⟩
abbrev main_while0b_v143 : Ref sig .tc := ⟨.hbm, 195, rfl⟩
abbrev main_while0b_v144 : Ref sig .tc := ⟨.hbm, 196, rfl⟩
abbrev main_while0b_v145 : Ref sig .tc := ⟨.hbm, 197, rfl⟩
abbrev main_while0b_v146 : Ref sig .tc := ⟨.hbm, 198, rfl⟩
abbrev main_while0b_v147 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_v154 : Ref sig .tc := ⟨.hbm, 206, rfl⟩
abbrev main_while0b_v155 : Ref sig .tc := ⟨.hbm, 207, rfl⟩
abbrev main_while0b_v156 : Ref sig .tc := ⟨.hbm, 208, rfl⟩
abbrev main_while0b_v157 : Ref sig .tc := ⟨.hbm, 209, rfl⟩
abbrev main_while0b_v158 : Ref sig .tc := ⟨.hbm, 210, rfl⟩
abbrev main_while0b_v159 : Ref sig .tc := ⟨.hbm, 211, rfl⟩
abbrev main_while0b_v160 : Ref sig .tc := ⟨.hbm, 212, rfl⟩
abbrev main_while0b_v161 : Ref sig .tc := ⟨.hbm, 213, rfl⟩
abbrev main_while0b_v162 : Ref sig .tc := ⟨.hbm, 214, rfl⟩
abbrev main_while0b_v163 : Ref sig .tc := ⟨.hbm, 215, rfl⟩
abbrev main_while0b_v164 : Ref sig .tc := ⟨.hbm, 216, rfl⟩
abbrev main_while0b_v165 : Ref sig .tc := ⟨.hbm, 217, rfl⟩
abbrev main_while0b_v166 : Ref sig .tc := ⟨.hbm, 218, rfl⟩
abbrev main_while0b_v167 : Ref sig .tc := ⟨.hbm, 219, rfl⟩
abbrev main_while0b_cst_18 : Ref sig .tc := ⟨.hbm, 220, rfl⟩
abbrev main_while0b_v168 : Ref sig .tc := ⟨.hbm, 221, rfl⟩
abbrev main_while0b_v169 : Ref sig .tc := ⟨.hbm, 222, rfl⟩
abbrev main_while0b_cst_19 : Ref sig .tc := ⟨.hbm, 223, rfl⟩
abbrev main_while0b_v170 : Ref sig .tc := ⟨.hbm, 224, rfl⟩
abbrev main_while0b_v171 : Ref sig .tc := ⟨.hbm, 225, rfl⟩
abbrev main_while0b_v172 : Ref sig .tc := ⟨.hbm, 226, rfl⟩
abbrev main_while0b_v173 : Ref sig .tc := ⟨.hbm, 227, rfl⟩
abbrev main_while0b_v174 : Ref sig .tc := ⟨.hbm, 228, rfl⟩
abbrev main_while0b_v175 : Ref sig .tc := ⟨.hbm, 229, rfl⟩
abbrev main_while0b_v176 : Ref sig .tc := ⟨.hbm, 230, rfl⟩
abbrev main_while0b_v177 : Ref sig .tc := ⟨.hbm, 231, rfl⟩
abbrev main_while0b_v178 : Ref sig .tc := ⟨.hbm, 232, rfl⟩
abbrev main_while0b_v179 : Ref sig .tc := ⟨.hbm, 233, rfl⟩
abbrev main_while0b_call18_v0 : Ref sig .tc := ⟨.hbm, 234, rfl⟩
abbrev main_while0b_call18_c : Ref sig .tc := ⟨.hbm, 235, rfl⟩
abbrev main_while0b_call18_c_0 : Ref sig .tc := ⟨.hbm, 236, rfl⟩
abbrev main_while0b_call18_c_1 : Ref sig .tc := ⟨.hbm, 237, rfl⟩
abbrev main_while0b_call18_c_2 : Ref sig .tc := ⟨.hbm, 238, rfl⟩
abbrev main_while0b_call18_c_3 : Ref sig .tc := ⟨.hbm, 239, rfl⟩
abbrev main_while0b_v180 : Ref sig .tc := ⟨.hbm, 240, rfl⟩
abbrev main_while0b_call19_v0 : Ref sig .tc := ⟨.hbm, 241, rfl⟩
abbrev main_while0b_call19_c : Ref sig .tc := ⟨.hbm, 242, rfl⟩
abbrev main_while0b_call19_c_0 : Ref sig .tc := ⟨.hbm, 243, rfl⟩
abbrev main_while0b_call19_c_1 : Ref sig .tc := ⟨.hbm, 244, rfl⟩
abbrev main_while0b_call19_c_2 : Ref sig .tc := ⟨.hbm, 245, rfl⟩
abbrev main_while0b_v181 : Ref sig .tc := ⟨.hbm, 246, rfl⟩
abbrev main_while0b_call20_v0 : Ref sig .tc := ⟨.hbm, 247, rfl⟩
abbrev main_while0b_call20_c : Ref sig .tc := ⟨.hbm, 248, rfl⟩
abbrev main_while0b_call20_c_0 : Ref sig .tc := ⟨.hbm, 249, rfl⟩
abbrev main_while0b_call20_c_1 : Ref sig .tc := ⟨.hbm, 250, rfl⟩
abbrev main_while0b_call20_c_2 : Ref sig .tc := ⟨.hbm, 251, rfl⟩
abbrev main_while0b_v182 : Ref sig .tc := ⟨.hbm, 252, rfl⟩
abbrev main_while0b_c_20 : Ref sig .tc := ⟨.hbm, 253, rfl⟩
abbrev main_while0b_v183 : Ref sig .tc := ⟨.hbm, 254, rfl⟩
abbrev main_v65 : Ref sig .tc := ⟨.hbm, 255, rfl⟩
abbrev main_v66 : Ref sig .tc := ⟨.hbm, 256, rfl⟩
abbrev main_v67 : Ref sig .tc := ⟨.hbm, 257, rfl⟩
abbrev main_v68 : Ref sig .tc := ⟨.hbm, 258, rfl⟩
abbrev main_v69 : Ref sig .tc := ⟨.hbm, 259, rfl⟩
abbrev main_v70 : Ref sig .tc := ⟨.hbm, 260, rfl⟩
abbrev main_v71 : Ref sig .tc := ⟨.hbm, 261, rfl⟩
abbrev main_v72 : Ref sig .tc := ⟨.hbm, 262, rfl⟩
abbrev main_v73 : Ref sig .tc := ⟨.hbm, 263, rfl⟩
abbrev main_v74 : Ref sig .tc := ⟨.hbm, 264, rfl⟩
abbrev main_v75 : Ref sig .tc := ⟨.hbm, 265, rfl⟩
abbrev main_v76 : Ref sig .tc := ⟨.hbm, 266, rfl⟩
abbrev main_v77 : Ref sig .tc := ⟨.hbm, 267, rfl⟩
abbrev main_v78 : Ref sig .tc := ⟨.hbm, 268, rfl⟩
abbrev main_v79 : Ref sig .tc := ⟨.hbm, 269, rfl⟩
abbrev main_v80 : Ref sig .tc := ⟨.hbm, 270, rfl⟩
abbrev main_v81 : Ref sig .tc := ⟨.hbm, 271, rfl⟩
abbrev main_v82 : Ref sig .tc := ⟨.hbm, 272, rfl⟩
abbrev main_v83 : Ref sig .tc := ⟨.hbm, 273, rfl⟩
abbrev main_v84 : Ref sig .tc := ⟨.hbm, 274, rfl⟩
abbrev main_v85 : Ref sig .tc := ⟨.hbm, 275, rfl⟩
abbrev main_v86 : Ref sig .tc := ⟨.hbm, 276, rfl⟩
abbrev main_v87 : Ref sig .tc := ⟨.hbm, 277, rfl⟩
abbrev main_v88 : Ref sig .tc := ⟨.hbm, 278, rfl⟩
abbrev main_v89 : Ref sig .tc := ⟨.hbm, 279, rfl⟩
abbrev main_v90 : Ref sig .tc := ⟨.hbm, 280, rfl⟩
abbrev main_v91 : Ref sig .tc := ⟨.hbm, 281, rfl⟩
abbrev main_v92 : Ref sig .tc := ⟨.hbm, 282, rfl⟩
abbrev main_v93 : Ref sig .tc := ⟨.hbm, 283, rfl⟩
abbrev main_v94 : Ref sig .tc := ⟨.hbm, 284, rfl⟩

abbrev nD : Nat := 1
abbrev τ : Topo := Topo.v7x

variable {F : FTy → Type} [FloatOps F]

abbrev main_while0_count : Scf.Loop 32 := ⟨0#32, 32#32, 1#32⟩
-- ==== Kernel17.lean ====
abbrev S4096x4096 : Shape := ⟨2, ![4096, 4096]⟩
abbrev S4096x32 : Shape := ⟨2, ![4096, 32]⟩
abbrev S32 : Shape := ⟨1, ![32]⟩
abbrev S4096x32x64 : Shape := ⟨3, ![4096, 32, 64]⟩
abbrev S4096x2048 : Shape := ⟨2, ![4096, 2048]⟩
abbrev S1x4096x2048 : Shape := ⟨3, ![1, 4096, 2048]⟩
abbrev S2x4096x2048 : Shape := ⟨3, ![2, 4096, 2048]⟩
abbrev S1x32 : Shape := ⟨2, ![1, 32]⟩
abbrev S32x128x32 : Shape := ⟨3, ![32, 128, 32]⟩
abbrev S_ : Shape := ⟨0, ![]⟩
abbrev S1x32x64 : Shape := ⟨3, ![1, 32, 64]⟩
abbrev S1x2048 : Shape := ⟨2, ![1, 2048]⟩
abbrev S1x1x2048 : Shape := ⟨3, ![1, 1, 2048]⟩
abbrev S2x1x2048 : Shape := ⟨3, ![2, 1, 2048]⟩
abbrev S128x128 : Shape := ⟨2, ![128, 128]⟩
abbrev S1x128x128 : Shape := ⟨3, ![1, 128, 128]⟩
abbrev S2x128x128 : Shape := ⟨3, ![2, 128, 128]⟩
abbrev S2x128x2048 : Shape := ⟨3, ![2, 128, 2048]⟩
abbrev S2x32x8x128x256 : Shape := ⟨5, ![2, 32, 8, 128, 256]⟩
abbrev S128x1024 : Shape := ⟨2, ![128, 1024]⟩
abbrev S128x512 : Shape := ⟨2, ![128, 512]⟩
abbrev S1x128x1024 : Shape := ⟨3, ![1, 128, 1024]⟩
abbrev S1x1x1024 : Shape := ⟨3, ![1, 1, 1024]⟩
abbrev S1x1x4x128x256 : Shape := ⟨5, ![1, 1, 4, 128, 256]⟩
abbrev S4x128x256 : Shape := ⟨3, ![4, 128, 256]⟩
abbrev S1x128x256 : Shape := ⟨3, ![1, 128, 256]⟩
abbrev S128x256 : Shape := ⟨2, ![128, 256]⟩
abbrev S1x1x1x128x256 : Shape := ⟨5, ![1, 1, 1, 128, 256]⟩
abbrev S1x1x256 : Shape := ⟨3, ![1, 1, 256]⟩
abbrev S1x256 : Shape := ⟨2, ![1, 256]⟩
abbrev S256 : Shape := ⟨1, ![256]⟩
abbrev S1x128 : Shape := ⟨2, ![1, 128]⟩

abbrev nBuf : Space → Nat
  | .hbm => 83
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x32, .f32⟩
  | .hbm, ⟨2, _⟩ => ⟨S4096x32, .f32⟩
  | .hbm, ⟨3, _⟩ => ⟨S32, .f32⟩
  | .hbm, ⟨4, _⟩ => ⟨S32, .f32⟩
  | .hbm, ⟨5, _⟩ => ⟨S4096x32x64, .f32⟩
  | .hbm, ⟨6, _⟩ => ⟨S4096x2048, .f32⟩
  | .hbm, ⟨7, _⟩ => ⟨S4096x32x64, .f32⟩
  | .hbm, ⟨8, _⟩ => ⟨S4096x2048, .f32⟩
  | .hbm, ⟨9, _⟩ => ⟨S1x4096x2048, .f32⟩
  | .hbm, ⟨10, _⟩ => ⟨S1x4096x2048, .f32⟩
  | .hbm, ⟨11, _⟩ => ⟨S2x4096x2048, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S32x128x32, .f32⟩
  | .hbm, ⟨16, _⟩ => ⟨S_, .f32⟩
  | .hbm, ⟨17, _⟩ => ⟨S_, .f32⟩
  | .hbm, ⟨18, _⟩ => ⟨S32x128x32, .f32⟩
  | .hbm, ⟨19, _⟩ => ⟨S4096x32, .f32⟩
  | .hbm, ⟨20, _⟩ => ⟨S4096x32x64, .f32⟩
  | .hbm, ⟨21, _⟩ => ⟨S4096x2048, .f32⟩
  | .hbm, ⟨22, _⟩ => ⟨S4096x32, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S32x128x32, .f32⟩
  | .hbm, ⟨27, _⟩ => ⟨S_, .f32⟩
  | .hbm, ⟨28, _⟩ => ⟨S_, .f32⟩
  | .hbm, ⟨29, _⟩ => ⟨S32x128x32, .f32⟩
  | .hbm, ⟨30, _⟩ => ⟨S4096x32, .f32⟩
  | .hbm, ⟨31, _⟩ => ⟨S4096x32, .f32⟩
  | .hbm, ⟨32, _⟩ => ⟨S4096x32x64, .f32⟩
  | .hbm, ⟨33, _⟩ => ⟨S4096x2048, .f32⟩
  | .hbm, ⟨34, _⟩ => ⟨S1x4096x2048, .f32⟩
  | .hbm, ⟨35, _⟩ => ⟨S1x4096x2048, .f32⟩
  | .hbm, ⟨36, _⟩ => ⟨S2x4096x2048, .f32⟩
  | .hbm, ⟨37, _⟩ => ⟨S1x32, .f32⟩
  | .hbm, ⟨38, _⟩ => ⟨S1x32x64, .f32⟩
  | .hbm, ⟨39, _⟩ => ⟨S1x2048, .f32⟩
  | .hbm, ⟨40, _⟩ => ⟨S1x32, .f32⟩
  | .hbm, ⟨41, _⟩ => ⟨S1x32x64, .f32⟩
  | .hbm, ⟨42, _⟩ => ⟨S1x2048, .f32⟩
  | .hbm, ⟨43, _⟩ => ⟨S1x1x2048, .f32⟩
  | .hbm, ⟨44, _⟩ => ⟨S1x1x2048, .f32⟩
  | .hbm, ⟨45, _⟩ => ⟨S2x1x2048, .f32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S128x128, .i1⟩
  | .hbm, ⟨50, _⟩ => ⟨S1x128x128, .i1⟩
  | .hbm, ⟨51, _⟩ => ⟨S1x128x128, .i1⟩
  | .hbm, ⟨52, _⟩ => ⟨S2x128x128, .i1⟩
  | .hbm, ⟨53, _⟩ => ⟨S2x128x128, .f32⟩
  | .hbm, ⟨54, _⟩ => ⟨S2x128x2048, .i32⟩
  | .hbm, ⟨55, _⟩ => ⟨S2x128x2048, .i32⟩
  | .hbm, ⟨56, _⟩ => ⟨S2x128x2048, .i32⟩
  | .hbm, ⟨57, _⟩ => ⟨S_, .i32⟩
  | .hbm, ⟨58, _⟩ => ⟨S2x128x2048, .i32⟩
  | .hbm, ⟨59, _⟩ => ⟨S2x128x2048, .i32⟩
  | .hbm, ⟨60, _⟩ => ⟨S_, .i32⟩
  | .hbm, ⟨61, _⟩ => ⟨S_, .i32⟩
  | .hbm, ⟨62, _⟩ => ⟨S2x128x2048, .i32⟩
  | .hbm, ⟨63, _⟩ => ⟨S2x128x2048, .i32⟩
  | .hbm, ⟨64, _⟩ => ⟨S2x128x2048, .i32⟩
  | .hbm, ⟨65, _⟩ => ⟨S_, .i32⟩
  | .hbm, ⟨66, _⟩ => ⟨S2x128x2048, .i32⟩
  | .hbm, ⟨67, _⟩ => ⟨S2x128x2048, .i1⟩
  | .hbm, ⟨68, _⟩ => ⟨S2x128x2048, .i32⟩
  | .hbm, ⟨69, _⟩ => ⟨S2x128x2048, .i32⟩
  | .hbm, ⟨70, _⟩ => ⟨S_, .i32⟩
  | .hbm, ⟨71, _⟩ => ⟨S2x128x2048, .i32⟩
  | .hbm, ⟨72, _⟩ => ⟨S2x128x2048, .i1⟩
  | .hbm, ⟨73, _⟩ => ⟨S2x128x2048, .i1⟩
  | .hbm, ⟨74, _⟩ => ⟨S_, .i32⟩
  | .hbm, ⟨75, _⟩ => ⟨S2x128x2048, .i32⟩
  | .hbm, ⟨76, _⟩ => ⟨S2x128x2048, .i32⟩
  | .hbm, ⟨77, _⟩ => ⟨S2x128x2048, .i32⟩
  | .hbm, ⟨78, _⟩ => ⟨S2x128x2048, .i32⟩
  | .hbm, ⟨79, _⟩ => ⟨S2x128x2048, .i1⟩
  | .hbm, ⟨80, _⟩ => ⟨S2x128x2048, .f32⟩
  | .hbm, ⟨81, _⟩ => ⟨S2x4096x2048, .f32⟩
  | .hbm, ⟨82, _⟩ => ⟨S2x32x8x128x256, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x128x128, .f32⟩
  | .local _ .vmem, ⟨13, _⟩ => ⟨S1x128x128, .f32⟩
  | .local _ .vmem, ⟨14, _⟩ => ⟨S1x128x1024, .f32⟩
  | .local _ .vmem, ⟨15, _⟩ => ⟨S1x128x1024, .f32⟩
  | .local _ .vmem, ⟨16, _⟩ => ⟨S1x1x4x128x256, .f32⟩
  | .local _ .vmem, ⟨17, _⟩ => ⟨S1x1x4x128x256, .f32⟩
  | .local _ .vmem, ⟨18, _⟩ => ⟨S4x128x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call2_call0_cst : Ref sig .tc := ⟨.hbm, 27, rfl⟩
abbrev main_call2_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_c : Ref sig .tc := ⟨.hbm, 57, rfl⟩
abbrev main_v48 : Ref sig .tc := ⟨.hbm, 58, rfl⟩
abbrev main_v49 : Ref sig .tc := ⟨.hbm, 59, rfl⟩
abbrev main_c_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_c : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_c_0 : Ref sig .tc := ⟨.hbm, 74, rfl⟩
abbrev main_call4_v12 : Ref sig .tc := ⟨.hbm, 75, rfl⟩
abbrev main_call4_v13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c0_i32 : BitVec 32 := 0#32
  ![v3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c4_i32 : BitVec 32 := 4#32
  let v4 : BitVec 32 := Scalar.addi c4_i32 arg1
  let c0_i32 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c6_i32 : BitVec 32 := 6#32
  let v4 : BitVec 32 := Scalar.addi c6_i32 arg1
  let c0_i32 : BitVec 32 := 0#32
  ![v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c0_i32 : BitVec 32 := 0#32
  ![arg0.toNat, v3.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c0_i32 : BitVec 32 := 0#32
  ![arg0.toNat, v3.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c0_i32 : BitVec 32 := 0#32
  ![arg0.toNat, v3.toNat, arg1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c0_i32 : BitVec 32 := 0#32
  let c0_i32_0 : BitVec 32 := 0#32
  let c0_i32_1 : BitVec 32 := 0#32
  ![arg0.toNat, v3.toNat, arg1.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference17Ideal.lean ====
abbrev S4096x4096 : Shape := ⟨2, ![4096, 4096]⟩
abbrev S4096x32 : Shape := ⟨2, ![4096, 32]⟩
abbrev S32 : Shape := ⟨1, ![32]⟩
abbrev S4096x2048 : Shape := ⟨2, ![4096, 2048]⟩
abbrev S1x4096x2048 : Shape := ⟨3, ![1, 4096, 2048]⟩
abbrev S2x4096x2048 : Shape := ⟨3, ![2, 4096, 2048]⟩
abbrev S2x32x128x8x4x64 : Shape := ⟨6, ![2, 32, 128, 8, 4, 64]⟩
abbrev S4096x1024 : Shape := ⟨2, ![4096, 1024]⟩
abbrev S1x4096x1024 : Shape := ⟨3, ![1, 4096, 1024]⟩
abbrev S2x4096x1024 : Shape := ⟨3, ![2, 4096, 1024]⟩
abbrev S2x32x128x8x128 : Shape := ⟨5, ![2, 32, 128, 8, 128]⟩
abbrev S1x4096x32 : Shape := ⟨3, ![1, 4096, 32]⟩
abbrev S2x4096x32 : Shape := ⟨3, ![2, 4096, 32]⟩
abbrev S2x32x128x8x4 : Shape := ⟨5, ![2, 32, 128, 8, 4]⟩
abbrev S1x32 : Shape := ⟨2, ![1, 32]⟩
abbrev S32x128x32 : Shape := ⟨3, ![32, 128, 32]⟩
abbrev S_ : Shape := ⟨0, ![]⟩
abbrev S1x32x128x32 : Shape := ⟨4, ![1, 32, 128, 32]⟩
abbrev S2x32x128x32 : Shape := ⟨4, ![2, 32, 128, 32]⟩
abbrev S2x8x4x64x128 : Shape := ⟨5, ![2, 8, 4, 64, 128]⟩
abbrev S32x2x128x8x4x64 : Shape := ⟨6, ![32, 2, 128, 8, 4, 64]⟩
abbrev S32x2x128x8x128 : Shape := ⟨5, ![32, 2, 128, 8, 128]⟩
abbrev S32x2x128x8x4 : Shape := ⟨5, ![32, 2, 128, 8, 4]⟩
abbrev S32x2x8x4x64x128 : Shape := ⟨6, ![32, 2, 8, 4, 64, 128]⟩
abbrev S1x2x128x8x4x64 : Shape := ⟨6, ![1, 2, 128, 8, 4, 64]⟩
abbrev S2x128x8x4x64 : Shape := ⟨5, ![2, 128, 8, 4, 64]⟩
abbrev S1x2x128x8x128 : Shape := ⟨5, ![1, 2, 128, 8, 128]⟩
abbrev S2x128x8x128 : Shape := ⟨4, ![2, 128, 8, 128]⟩
abbrev S1x2x128x8x4 : Shape := ⟨5, ![1, 2, 128, 8, 4]⟩
abbrev S2x128x8x4 : Shape := ⟨4, ![2, 128, 8, 4]⟩
abbrev S2x128x8x4x1 : Shape := ⟨5, ![2, 128, 8, 4, 1]⟩
abbrev S128x128 : Shape := ⟨2, ![128, 128]⟩
abbrev S128x128x1x1 : Shape := ⟨4, ![128, 128, 1, 1]⟩
abbrev S2x128x1x8x4 : Shape := ⟨5, ![2, 128, 1, 8, 4]⟩
abbrev S2x1x128x8x4 : Shape := ⟨5, ![2, 1, 128, 8, 4]⟩
abbrev S2x128x128x8x4 : Shape := ⟨5, ![2, 128, 128, 8, 4]⟩
abbrev S2x8x128x128 : Shape := ⟨4, ![2, 8, 128, 128]⟩
abbrev S2x128x128x8 : Shape := ⟨4, ![2, 128, 128, 8]⟩
abbrev S2x128x128x8x1 : Shape := ⟨5, ![2, 128, 128, 8, 1]⟩
abbrev S2x1x8x4 : Shape := ⟨4, ![2, 1, 8, 4]⟩
abbrev S2x8x4 : Shape := ⟨3, ![2, 8, 4]⟩
abbrev S2x8x4x1x1 : Shape := ⟨5, ![2, 8, 4, 1, 1]⟩
abbrev S1x2x8x4x64x128 : Shape := ⟨6, ![1, 2, 8, 4, 64, 128]⟩
abbrev S32x1x128x8x4x64 : Shape := ⟨6, ![32, 1, 128, 8, 4, 64]⟩
abbrev S32x128x8x4x64 : Shape := ⟨5, ![32, 128, 8, 4, 64]⟩
abbrev S2x32x8x128x4x64 : Shape := ⟨6, ![2, 32, 8, 128, 4, 64]⟩
abbrev S2x32x8x128x256 : Shape := ⟨5, ![2, 32, 8, 128, 256]⟩
abbrev S1x32x8x128x256 : Shape := ⟨5, ![1, 32, 8, 128, 256]⟩
abbrev S32x8x128x256 : Shape := ⟨4, ![32, 8, 128, 256]⟩

abbrev nBuf : Space → Nat
  | .hbm => 192
  | .vmem => 0
  | .smem => 0
  | _ => 0

abbrev hbmTy0_0 (i : Nat) : BufTy := match i % 128 with
  | 0 => ⟨S4096x4096, .f32⟩
  | 1 => ⟨S4096x32, .f32⟩
  | 2 => ⟨S4096x32, .f32⟩
  | 3 => ⟨S32, .f32⟩
  | 4 => ⟨S32, .f32⟩
  | 5 => ⟨S4096x2048, .f32⟩
  | 6 => ⟨S4096x2048, .f32⟩
  | 7 => ⟨S1x4096x2048, .f32⟩
  | 8 => ⟨S1x4096x2048, .f32⟩
  | 9 => ⟨S2x4096x2048, .f32⟩
  | 10 => ⟨S2x32x128x8x4x64, .f32⟩
  | 11 => ⟨S4096x1024, .f32⟩
  | 12 => ⟨S4096x1024, .f32⟩
  | 13 => ⟨S1x4096x1024, .f32⟩
  | 14 => ⟨S1x4096x1024, .f32⟩
  | 15 => ⟨S2x4096x1024, .f32⟩
  | 16 => ⟨S2x32x128x8x128, .f32⟩
  | 17 => ⟨S4096x1024, .f32⟩
  | 18 => ⟨S4096x1024, .f32⟩
  | 19 => ⟨S1x4096x1024, .f32⟩
  | 20 => ⟨S1x4096x1024, .f32⟩
  | 21 => ⟨S2x4096x1024, .f32⟩
  | 22 => ⟨S2x32x128x8x128, .f32⟩
  | 23 => ⟨S4096x32, .f32⟩
  | 24 => ⟨S1x4096x32, .f32⟩
  | 25 => ⟨S1x4096x32, .f32⟩
  | 26 => ⟨S2x4096x32, .f32⟩
  | 27 => ⟨S2x32x128x8x4, .f32⟩
  | 28 => ⟨S1x32, .f32⟩
  | 29 => ⟨S4096x32, .f32⟩
  | 30 => ⟨S4096x32, .f32⟩
  | 31 => ⟨S32x128x32, .f32⟩
  | 32 => ⟨S_, .f32⟩
  | 33 => ⟨S_, .f32⟩
  | 34 => ⟨S32x128x32, .f32⟩
  | 35 => ⟨S4096x32, .f32⟩
  | 36 => ⟨S1x32, .f32⟩
  | 37 => ⟨S4096x32, .f32⟩
  | 38 => ⟨S4096x32, .f32⟩
  | 39 => ⟨S32x128x32, .f32⟩
  | 40 => ⟨S_, .f32⟩
  | 41 => ⟨S_, .f32⟩
  | 42 => ⟨S32x128x32, .f32⟩
  | 43 => ⟨S1x32x128x32, .f32⟩
  | 44 => ⟨S1x32x128x32, .f32⟩
  | 45 => ⟨S2x32x128x32, .f32⟩
  | 46 => ⟨S2x32x128x8x4, .f32⟩
  | 47 => ⟨S_, .f32⟩
  | 48 => ⟨S2x8x4x64x128, .f32⟩
  | 49 => ⟨S32x2x128x8x4x64, .f32⟩
  | 50 => ⟨S32x2x128x8x128, .f32⟩
  | 51 => ⟨S32x2x128x8x128, .f32⟩
  | 52 => ⟨S32x2x128x8x4, .f32⟩
  | 53 => ⟨S32x2x128x8x4, .f32⟩
  | 54 => ⟨S_, .f32⟩
  | 55 => ⟨S32x2x128x8x4x64, .f32⟩
  | 56 => ⟨S_, .f32⟩
  | 57 => ⟨S32x2x8x4x64x128, .f32⟩
  | 58 => ⟨S_, .i32⟩
  | 59 => ⟨S32x2x128x8x4x64, .f32⟩
  | 60 => ⟨S32x2x128x8x128, .f32⟩
  | 61 => ⟨S32x2x128x8x128, .f32⟩
  | 62 => ⟨S32x2x128x8x4, .f32⟩
  | 63 => ⟨S32x2x128x8x4, .f32⟩
  | 64 => ⟨S_, .i32⟩
  | 65 => ⟨S2x8x4x64x128, .f32⟩
  | 66 => ⟨S32x2x128x8x4x64, .f32⟩
  | 67 => ⟨S32x2x8x4x64x128, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S1x2x128x8x4x64, .f32⟩
  | 76 => ⟨S2x128x8x4x64, .f32⟩
  | 77 => ⟨S_, .i32⟩
  | 78 => ⟨S_, .i32⟩
  | 79 => ⟨S_, .i32⟩
  | 80 => ⟨S_, .i32⟩
  | 81 => ⟨S1x2x128x8x128, .f32⟩
  | 82 => ⟨S2x128x8x128, .f32⟩
  | 83 => ⟨S_, .i32⟩
  | 84 => ⟨S_, .i32⟩
  | 85 => ⟨S_, .i32⟩
  | 86 => ⟨S_, .i32⟩
  | 87 => ⟨S1x2x128x8x128, .f32⟩
  | 88 => ⟨S2x128x8x128, .f32⟩
  | 89 => ⟨S_, .i32⟩
  | 90 => ⟨S_, .i32⟩
  | 91 => ⟨S_, .i32⟩
  | 92 => ⟨S_, .i32⟩
  | 93 => ⟨S1x2x128x8x4, .f32⟩
  | 94 => ⟨S2x128x8x4, .f32⟩
  | 95 => ⟨S_, .i32⟩
  | 96 => ⟨S_, .i32⟩
  | 97 => ⟨S_, .i32⟩
  | 98 => ⟨S_, .i32⟩
  | 99 => ⟨S1x2x128x8x4, .f32⟩
  | 100 => ⟨S2x128x8x4, .f32⟩
  | 101 => ⟨S2x128x8x4x1, .f32⟩
  | 102 => ⟨S2x128x8x4x64, .f32⟩
  | 103 => ⟨S2x128x8x4x64, .f32⟩
  | 104 => ⟨S_, .i1⟩
  | 105 => ⟨S128x128, .i1⟩
  | 106 => ⟨S128x128, .i32⟩
  | 107 => ⟨S_, .i32⟩
  | 108 => ⟨S128x128, .i32⟩
  | 109 => ⟨S128x128, .i32⟩
  | 110 => ⟨S128x128, .i32⟩
  | 111 => ⟨S128x128, .i1⟩
  | 112 => ⟨S_, .i1⟩
  | 113 => ⟨S128x128, .i1⟩
  | 114 => ⟨S128x128, .i1⟩
  | 115 => ⟨S128x128x1x1, .i1⟩
  | 116 => ⟨S2x128x1x8x4, .f32⟩
  | 117 => ⟨S2x1x128x8x4, .f32⟩
  | 118 => ⟨S2x128x128x8x4, .f32⟩
  | 119 => ⟨S2x128x128x8x4, .f32⟩
  | 120 => ⟨S2x128x128x8x4, .f32⟩
  | 121 => ⟨S_, .f32⟩
  | 122 => ⟨S_, .f32⟩
  | 123 => ⟨S2x128x128x8x4, .i1⟩
  | 124 => ⟨S2x128x128x8x4, .f32⟩
  | 125 => ⟨S2x128x128x8x4, .f32⟩
  | 126 => ⟨S2x128x128x8x4, .f32⟩
  | 127 => ⟨S2x8x128x128, .f32⟩
  | _ => ⟨S4096x4096, .f32⟩

abbrev hbmTy0_1 (i : Nat) : BufTy := match i % 128 with
  | 0 => ⟨S2x128x128x8, .f32⟩
  | 1 => ⟨S2x128x128x8x1, .f32⟩
  | 2 => ⟨S2x128x128x8x4, .f32⟩
  | 3 => ⟨S2x128x128x8x4, .f32⟩
  | 4 => ⟨S2x8x4x64x128, .f32⟩
  | 5 => ⟨S2x128x8x4x64, .f32⟩
  | 6 => ⟨S2x1x8x4, .f32⟩
  | 7 => ⟨S2x128x8x4, .f32⟩
  | 8 => ⟨S2x128x8x4, .f32⟩
  | 9 => ⟨S2x128x8x4, .f32⟩
  | 10 => ⟨S2x128x8x4x1, .f32⟩
  | 11 => ⟨S2x128x8x4x64, .f32⟩
  | 12 => ⟨S2x128x8x4x64, .f32⟩
  | 13 => ⟨S2x8x4x64x128, .f32⟩
  | 14 => ⟨S2x8x4x64x128, .f32⟩
  | 15 => ⟨S2x128x8x4x64, .f32⟩
  | 16 => ⟨S2x128x8x4, .f32⟩
  | 17 => ⟨S2x128x8x4x1, .f32⟩
  | 18 => ⟨S2x128x8x4x64, .f32⟩
  | 19 => ⟨S2x128x8x4x64, .f32⟩
  | 20 => ⟨S2x1x8x4, .f32⟩
  | 21 => ⟨S2x8x4, .f32⟩
  | 22 => ⟨S2x8x4, .f32⟩
  | 23 => ⟨S2x8x4x1x1, .f32⟩
  | 24 => ⟨S2x8x4x64x128, .f32⟩
  | 25 => ⟨S2x8x4x64x128, .f32⟩
  | 26 => ⟨S2x8x4x64x128, .f32⟩
  | 27 => ⟨S2x128x8x4x64, .f32⟩
  | 28 => ⟨S1x2x128x8x4x64, .f32⟩
  | 29 => ⟨S_, .i32⟩
  | 30 => ⟨S_, .i32⟩
  | 31 => ⟨S_, .i32⟩
  | 32 => ⟨S_, .i32⟩
  | 33 => ⟨S_, .i32⟩
  | 34 => ⟨S32x2x128x8x4x64, .f32⟩
  | 35 => ⟨S1x2x8x4x64x128, .f32⟩
  | 36 => ⟨S_, .i32⟩
  | 37 => ⟨S_, .i32⟩
  | 38 => ⟨S_, .i32⟩
  | 39 => ⟨S_, .i32⟩
  | 40 => ⟨S_, .i32⟩
  | 41 => ⟨S32x2x8x4x64x128, .f32⟩
  | 42 => ⟨S_, .i32⟩
  | 43 => ⟨S_, .i32⟩
  | 44 => ⟨S32x1x128x8x4x64, .f32⟩
  | 45 => ⟨S32x128x8x4x64, .f32⟩
  | 46 => ⟨S4096x2048, .f32⟩
  | 47 => ⟨S32x1x128x8x4x64, .f32⟩
  | 48 => ⟨S32x128x8x4x64, .f32⟩
  | 49 => ⟨S4096x2048, .f32⟩
  | 50 => ⟨S4096x2048, .f32⟩
  | 51 => ⟨S1x4096x2048, .f32⟩
  | 52 => ⟨S1x4096x2048, .f32⟩
  | 53 => ⟨S2x4096x2048, .f32⟩
  | 54 => ⟨S2x32x8x128x4x64, .f32⟩
  | 55 => ⟨S2x32x8x128x256, .f32⟩
  | 56 => ⟨S1x32x8x128x256, .f32⟩
  | 57 => ⟨S32x8x128x256, .f32⟩
  | 58 => ⟨S1x32x8x128x256, .f32⟩
  | 59 => ⟨S32x8x128x256, .f32⟩
  | 60 => ⟨S32x8x128x256, .f32⟩
  | 61 => ⟨S1x32x8x128x256, .f32⟩
  | 62 => ⟨S1x32x8x128x256, .f32⟩
  | 63 => ⟨S2x32x8x128x256, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call4_call0_cst : Ref sig .tc := ⟨.hbm, 32, rfl⟩
abbrev main_call4_call0_v0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call6_call0_cst : Ref sig .tc := ⟨.hbm, 40, rfl⟩
abbrev main_call6_call0_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_0 : Ref sig .tc := ⟨.hbm, 54, rfl⟩
abbrev main_v44 : Ref sig .tc := ⟨.hbm, 55, rfl⟩
abbrev main_cst_1 : Ref sig .tc := ⟨.hbm, 56, rfl⟩
abbrev main_v45 : Ref sig .tc := ⟨.hbm, 57, rfl⟩
abbrev main_c : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v46_3 : Ref sig .tc := ⟨.hbm, 62, rfl⟩
abbrev main_v46_4 : Ref sig .tc := ⟨.hbm, 63, rfl⟩
abbrev main_v46_5 : Ref sig .tc := ⟨.hbm, 64, rfl⟩
abbrev main_v46_6 : Ref sig .tc := ⟨.hbm, 65, rfl⟩
abbrev main_v46_7 : Ref sig .tc := ⟨.hbm, 66, rfl⟩
abbrev main_v46_8 : Ref sig .tc := ⟨.hbm, 67, rfl⟩
abbrev main_while0c_c_10 : Ref sig .tc := ⟨.hbm, 68, rfl⟩
abbrev main_while0c_v67 : Ref sig .tc := ⟨.hbm, 69, rfl⟩
abbrev main_while0b_call7_c : Ref sig .tc := ⟨.hbm, 70, rfl⟩
abbrev main_while0b_call7_c_0 : Ref sig .tc := ⟨.hbm, 71, rfl⟩
abbrev main_while0b_call7_c_1 : Ref sig .tc := ⟨.hbm, 72, rfl⟩
abbrev main_while0b_call7_c_2 : Ref sig .tc := ⟨.hbm, 73, rfl⟩
abbrev main_while0b_call7_c_3 : Ref sig .tc := ⟨.hbm, 74, rfl⟩
abbrev main_while0b_call7_v0 : Ref sig .tc := ⟨.hbm, 75, rfl⟩
abbrev main_while0b_v67 : Ref sig .tc := ⟨.hbm, 76, rfl⟩
abbrev main_while0b_call8_c : Ref sig .tc := ⟨.hbm, 77, rfl⟩
abbrev main_while0b_call8_c_0 : Ref sig .tc := ⟨.hbm, 78, rfl⟩
abbrev main_while0b_call8_c_1 : Ref sig .tc := ⟨.hbm, 79, rfl⟩
abbrev main_while0b_call8_c_2 : Ref sig .tc := ⟨.hbm, 80, rfl⟩
abbrev main_while0b_call8_v0 : Ref sig .tc := ⟨.hbm, 81, rfl⟩
abbrev main_while0b_v68 : Ref sig .tc := ⟨.hbm, 82, rfl⟩
abbrev main_while0b_call9_c : Ref sig .tc := ⟨.hbm, 83, rfl⟩
abbrev main_while0b_call9_c_0 : Ref sig .tc := ⟨.hbm, 84, rfl⟩
abbrev main_while0b_call9_c_1 : Ref sig .tc := ⟨.hbm, 85, rfl⟩
abbrev main_while0b_call9_c_2 : Ref sig .tc := ⟨.hbm, 86, rfl⟩
abbrev main_while0b_call9_v0 : Ref sig .tc := ⟨.hbm, 87, rfl⟩
abbrev main_while0b_v69 : Ref sig .tc := ⟨.hbm, 88, rfl⟩
abbrev main_while0b_call10_c : Ref sig .tc := ⟨.hbm, 89, rfl⟩
abbrev main_while0b_call10_c_0 : Ref sig .tc := ⟨.hbm, 90, rfl⟩
abbrev main_while0b_call10_c_1 : Ref sig .tc := ⟨.hbm, 91, rfl⟩
abbrev main_while0b_call10_c_2 : Ref sig .tc := ⟨.hbm, 92, rfl⟩
abbrev main_while0b_call10_v0 : Ref sig .tc := ⟨.hbm, 93, rfl⟩
abbrev main_while0b_v70 : Ref sig .tc := ⟨.hbm, 94, rfl⟩
abbrev main_while0b_call11_c : Ref sig .tc := ⟨.hbm, 95, rfl⟩
abbrev main_while0b_call11_c_0 : Ref sig .tc := ⟨.hbm, 96, rfl⟩
abbrev main_while0b_call11_c_1 : Ref sig .tc := ⟨.hbm, 97, rfl⟩
abbrev main_while0b_call11_c_2 : Ref sig .tc := ⟨.hbm, 98, rfl⟩
abbrev main_while0b_call11_v0 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_c_10 : Ref sig .tc := ⟨.hbm, 104, rfl⟩
abbrev main_while0b_v75 : Ref sig .tc := ⟨.hbm, 105, rfl⟩
abbrev main_while0b_call12_v0 : Ref sig .tc := ⟨.hbm, 106, rfl⟩
abbrev main_while0b_call12_c : Ref sig .tc := ⟨.hbm, 107, rfl⟩
abbrev main_while0b_call12_v1 : Ref sig .tc := ⟨.hbm, 108, rfl⟩
abbrev main_while0b_call12_v2 : Ref sig .tc := ⟨.hbm, 109, rfl⟩
abbrev main_while0b_call12_v3 : Ref sig .tc := ⟨.hbm, 110, rfl⟩
abbrev main_while0b_call12_v4 : Ref sig .tc := ⟨.hbm, 111, rfl⟩
abbrev main_while0b_call12_c_0 : Ref sig .tc := ⟨.hbm, 112, rfl⟩
abbrev main_while0b_call12_v5 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_cst_11 : Ref sig .tc := ⟨.hbm, 121, rfl⟩
abbrev main_while0b_call13_v0 : Ref sig .tc := ⟨.hbm, 122, rfl⟩
abbrev main_while0b_call13_v1 : Ref sig .tc := ⟨.hbm, 123, rfl⟩
abbrev main_while0b_call13_v2 : Ref sig .tc := ⟨.hbm, 124, rfl⟩
abbrev main_while0b_v83 : Ref sig .tc := ⟨.hbm, 125, rfl⟩
abbrev main_while0b_v84 : Ref sig .tc := ⟨.hbm, 126, rfl⟩
abbrev main_while0b_v85 : Ref sig .tc := ⟨.hbm, 127, rfl⟩
abbrev main_while0b_v86 : Ref sig .tc := ⟨.hbm, 128, rfl⟩
abbrev main_while0b_v87 : Ref sig .tc := ⟨.hbm, 129, rfl⟩
abbrev main_while0b_v88 : Ref sig .tc := ⟨.hbm, 130, rfl⟩
abbrev main_while0b_v89 : Ref sig .tc := ⟨.hbm, 131, rfl⟩
abbrev main_while0b_v90 : Ref sig .tc := ⟨.hbm, 132, rfl⟩
abbrev main_while0b_v91 : Ref sig .tc := ⟨.hbm, 133, rfl⟩
abbrev main_while0b_v92 : Ref sig .tc := ⟨.hbm, 134, rfl⟩
abbrev main_while0b_v93 : Ref sig .tc := ⟨.hbm, 135, rfl⟩
abbrev main_while0b_v94 : Ref sig .tc := ⟨.hbm, 136, rfl⟩
abbrev main_while0b_v95 : Ref sig .tc := ⟨.hbm, 137, rfl⟩
abbrev main_while0b_v96 : Ref sig .tc := ⟨.hbm, 138, rfl⟩
abbrev main_while0b_v97 : Ref sig .tc := ⟨.hbm, 139, rfl⟩
abbrev main_while0b_v98 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_v106 : Ref sig .tc := ⟨.hbm, 148, rfl⟩
abbrev main_while0b_v107 : Ref sig .tc := ⟨.hbm, 149, rfl⟩
abbrev main_while0b_v108 : Ref sig .tc := ⟨.hbm, 150, rfl⟩
abbrev main_while0b_v109 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_v113 : Ref sig .tc := ⟨.hbm, 155, rfl⟩
abbrev main_while0b_call14_v0 : Ref sig .tc := ⟨.hbm, 156, rfl⟩
abbrev main_while0b_call14_c : Ref sig .tc := ⟨.hbm, 157, rfl⟩
abbrev main_while0b_call14_c_0 : Ref sig .tc := ⟨.hbm, 158, rfl⟩
abbrev main_while0b_call14_c_1 : Ref sig .tc := ⟨.hbm, 159, rfl⟩
abbrev main_while0b_call14_c_2 : Ref sig .tc := ⟨.hbm, 160, rfl⟩
abbrev main_while0b_call14_c_3 : Ref sig .tc := ⟨.hbm, 161, rfl⟩
abbrev main_while0b_v114 : Ref sig .tc := ⟨.hbm, 162, rfl⟩
abbrev main_while0b_call15_v0 : Ref sig .tc := ⟨.hbm, 163, rfl⟩
abbrev main_while0b_call15_c : Ref sig .tc := ⟨.hbm, 164, rfl⟩
abbrev main_while0b_call15_c_0 : Ref sig .tc := ⟨.hbm, 165, rfl⟩
abbrev main_while0b_call15_c_1 : Ref sig .tc := ⟨.hbm, 166, rfl⟩
abbrev main_while0b_call15_c_2 : Ref sig .tc := ⟨.hbm, 167, rfl⟩
abbrev main_while0b_call15_c_3 : Ref sig .tc := ⟨.hbm, 168, rfl⟩
abbrev main_while0b_v115 : Ref sig .tc := ⟨.hbm, 169, rfl⟩
abbrev main_while0b_c_12 : Ref sig .tc := ⟨.hbm, 170, rfl⟩
abbrev main_while0b_v116 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩

abbrev nD : Nat := 1
abbrev τ : Topo := Topo.v7x

variable {F : FTy → Type} [FloatOps F]

abbrev main_while0_count : Scf.Loop 32 := ⟨0#32, 32#32, 1#32⟩
-- ==== Kernel18.lean ====
abbrev S8x4096 : Shape := ⟨2, ![8, 4096]⟩
abbrev S8x3072 : Shape := ⟨2, ![8, 3072]⟩
abbrev S4096x3072 : Shape := ⟨2, ![4096, 3072]⟩
abbrev S_ : Shape := ⟨0, ![]⟩
abbrev S16x4096 : Shape := ⟨2, ![16, 4096]⟩
abbrev S16x3072 : Shape := ⟨2, ![16, 3072]⟩
abbrev S16x256 : Shape := ⟨2, ![16, 256]⟩
abbrev S256x3072 : Shape := ⟨2, ![256, 3072]⟩

abbrev nBuf : Space → Nat
  | .hbm => 15
  | .vmem => 17
  | .smem => 0
  | _ => 0

abbrev bufTy : (tb : Table) → Fin (tcTables nBuf tb) → BufTy
  | .hbm, ⟨0, _⟩ => ⟨S8x4096, .f32⟩
  | .hbm, ⟨1, _⟩ => ⟨S8x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S_, .i32⟩
  | .hbm, ⟨6, _⟩ => ⟨S_, .f32⟩
  | .hbm, ⟨7, _⟩ => ⟨S16x4096, .f32⟩
  | .hbm, ⟨8, _⟩ => ⟨S_, .i32⟩
  | .hbm, ⟨9, _⟩ => ⟨S_, .f32⟩
  | .hbm, ⟨10, _⟩ => ⟨S16x3072, .f32⟩
  | .hbm, ⟨11, _⟩ => ⟨S4096x3072, .f32⟩
  | .hbm, ⟨12, _⟩ => ⟨S4096x3072, .f32⟩
  | .hbm, ⟨13, _⟩ => ⟨S4096x3072, .f32⟩
  | .hbm, ⟨14, _⟩ => ⟨S4096x3072, .f32⟩
  | .local _ .vmem, ⟨0, _⟩ => ⟨S16x256, .f32⟩
  | .local _ .vmem, ⟨1, _⟩ => ⟨S16x256, .f32⟩
  | .local _ .vmem, ⟨2, _⟩ => ⟨S16x3072, .f32⟩
  | .local _ .vmem, ⟨3, _⟩ => ⟨S256x3072, .f32⟩
  | .local _ .vmem, ⟨4, _⟩ => ⟨S256x3072, .f32⟩
  | .local _ .vmem, ⟨5, _⟩ => ⟨S256x3072, .f32⟩
  | .local _ .vmem, ⟨6, _⟩ => ⟨S256x3072, .f32⟩
  | .local _ .vmem, ⟨7, _⟩ => ⟨S256x3072, .f32⟩
  | .local _ .vmem, ⟨8, _⟩ => ⟨S256x3072, .f32⟩
  | .local _ .vmem, ⟨9, _⟩ => ⟨S256x3072, .f32⟩
  | .local _ .vmem, ⟨10, _⟩ => ⟨S256x3072, .f32⟩
  | .local _ .vmem, ⟨11, _⟩ => ⟨S256x3072, .f32⟩
  | .local _ .vmem, ⟨12, _⟩ => ⟨S256x3072, .f32⟩
  | .local _ .vmem, ⟨13, _⟩ => ⟨S256x3072, .f32⟩
  | .local _ .vmem, ⟨14, _⟩ => ⟨S256x3072, .f32⟩
  | .local _ .vmem, ⟨15, _⟩ => ⟨S256x3072, .f32⟩
  | .local _ .vmem, ⟨16, _⟩ => ⟨S256x3072, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x4096 : Shape := ⟨2, ![8, 4096]⟩
abbrev S8x3072 : Shape := ⟨2, ![8, 3072]⟩
abbrev S4096x3072 : Shape := ⟨2, ![4096, 3072]⟩
abbrev S_ : Shape := ⟨0, ![]⟩
abbrev S3072x4096 : Shape := ⟨2, ![3072, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S8x3072, .f32⟩
  | .hbm, ⟨15, _⟩ => ⟨S3072x4096, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel19.lean ====
abbrev S4096x4096 : Shape := ⟨2, ![4096, 4096]⟩
abbrev S6x4096 : Shape := ⟨2, ![6, 4096]⟩
abbrev S1x4096 : Shape := ⟨2, ![1, 4096]⟩
abbrev S256x4096 : Shape := ⟨2, ![256, 4096]⟩
abbrev S4096 : Shape := ⟨1, ![4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S6x4096, .f32⟩
  | .hbm, ⟨4, _⟩ => ⟨S4096x4096, .f32⟩
  | .hbm, ⟨5, _⟩ => ⟨S1x4096, .f32⟩
  | .hbm, ⟨6, _⟩ => ⟨S1x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S6x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | .local _ .vmem, ⟨10, _⟩ => ⟨S1x4096, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v15 : BitVec 32 := Scalar.extui v0
  let c0_i32_9 : BitVec 32 := 0#32
  let v16 : BitVec 1 := Scalar.cmpi .ne v15 c0_i32_9
  v16

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v17 : BitVec 1 := Scalar.xori v0 v_true
  let v18 : BitVec 32 := Scalar.extui v17
  let c0_i32_10 : BitVec 32 := 0#32
  let v19 : BitVec 1 := Scalar.cmpi .ne v18 c0_i32_10
  v19

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v22 : BitVec 32 := Scalar.extui v0
  let c0_i32_12 : BitVec 32 := 0#32
  let v23 : BitVec 1 := Scalar.cmpi .ne v22 c0_i32_12
  v23

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_13 : BitVec 1 := 1#1
  let v24 : BitVec 1 := Scalar.xori v0 true_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S4096x4096 : Shape := ⟨2, ![4096, 4096]⟩
abbrev S6x4096 : Shape := ⟨2, ![6, 4096]⟩
abbrev S1x4096 : Shape := ⟨2, ![1, 4096]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S6x4096, .f32⟩
  | .hbm, ⟨4, _⟩ => ⟨S1x4096, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S1x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel20.lean ====
abbrev S8x81920 : Shape := ⟨2, ![8, 81920]⟩
abbrev S1x81920 : Shape := ⟨2, ![1, 81920]⟩
abbrev S8x8192 : Shape := ⟨2, ![8, 8192]⟩
abbrev S1x8192 : Shape := ⟨2, ![1, 8192]⟩

abbrev nBuf : Space → Nat
  | .hbm => 8
  | .vmem => 16
  | .smem => 0
  | _ => 0

abbrev bufTy : (tb : Table) → Fin (tcTables nBuf tb) → BufTy
  | .hbm, ⟨0, _⟩ => ⟨S8x81920, .f32⟩
  | .hbm, ⟨1, _⟩ => ⟨S1x81920, .f32⟩
  | .hbm, ⟨2, _⟩ => ⟨S1x81920, .f32⟩
  | .hbm, ⟨3, _⟩ => ⟨S1x81920, .f32⟩
  | .hbm, ⟨4, _⟩ => ⟨S1x81920, .f32⟩
  | .hbm, ⟨5, _⟩ => ⟨S1x81920, .f32⟩
  | .hbm, ⟨6, _⟩ => ⟨S1x81920, .f32⟩
  | .hbm, ⟨7, _⟩ => ⟨S1x81920, .f32⟩
  | .local _ .vmem, ⟨0, _⟩ => ⟨S8x8192, .f32⟩
  | .local _ .vmem, ⟨1, _⟩ => ⟨S8x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S1x8192, .f32⟩
  | .local _ .vmem, ⟨10, _⟩ => ⟨S1x8192, .f32⟩
  | .local _ .vmem, ⟨11, _⟩ => ⟨S1x8192, .f32⟩
  | .local _ .vmem, ⟨12, _⟩ => ⟨S1x8192, .f32⟩
  | .local _ .vmem, ⟨13, _⟩ => ⟨S1x8192, .f32⟩
  | .local _ .vmem, ⟨14, _⟩ => ⟨S1x8192, .f32⟩
  | .local _ .vmem, ⟨15, _⟩ => ⟨S1x8192, .f32⟩
  | _, _ => ⟨S8x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x81920 : Shape := ⟨2, ![8, 81920]⟩
abbrev S1x81920 : Shape := ⟨2, ![1, 81920]⟩
abbrev S_ : Shape := ⟨0, ![]⟩
abbrev S81920 : Shape := ⟨1, ![81920]⟩

abbrev nBuf : Space → Nat
  | .hbm => 40
  | .vmem => 0
  | .smem => 0
  | _ => 0

abbrev bufTy : (tb : Table) → Fin (tcTables nBuf tb) → BufTy
  | .hbm, ⟨0, _⟩ => ⟨S8x81920, .f32⟩
  | .hbm, ⟨1, _⟩ => ⟨S1x81920, .f32⟩
  | .hbm, ⟨2, _⟩ => ⟨S1x81920, .f32⟩
  | .hbm, ⟨3, _⟩ => ⟨S1x81920, .f32⟩
  | .hbm, ⟨4, _⟩ => ⟨S_, .f32⟩
  | .hbm, ⟨5, _⟩ => ⟨S81920, .f32⟩
  | .hbm, ⟨6, _⟩ => ⟨S1x81920, .f32⟩
  | .hbm, ⟨7, _⟩ => ⟨S_, .f32⟩
  | .hbm, ⟨8, _⟩ => ⟨S1x81920, .f32⟩
  | .hbm, ⟨9, _⟩ => ⟨S1x81920, .f32⟩
  | .hbm, ⟨10, _⟩ => ⟨S_, .f32⟩
  | .hbm, ⟨11, _⟩ => ⟨S1x81920, .f32⟩
  | .hbm, ⟨12, _⟩ => ⟨S1x81920, .f32⟩
  | .hbm, ⟨13, _⟩ => ⟨S1x81920, .f32⟩
  | .hbm, ⟨14, _⟩ => ⟨S_, .f32⟩
  | .hbm, ⟨15, _⟩ => ⟨S1x81920, .f32⟩
  | .hbm, ⟨16, _⟩ => ⟨S1x81920, .f32⟩
  | .hbm, ⟨17, _⟩ => ⟨S1x81920, .f32⟩
  | .hbm, ⟨18, _⟩ => ⟨S_, .f32⟩
  | .hbm, ⟨19, _⟩ => ⟨S1x81920, .f32⟩
  | .hbm, ⟨20, _⟩ => ⟨S1x81920, .f32⟩
  | .hbm, ⟨21, _⟩ => ⟨S1x81920, .f32⟩
  | .hbm, ⟨22, _⟩ => ⟨S_, .f32⟩
  | .hbm, ⟨23, _⟩ => ⟨S1x81920, .f32⟩
  | .hbm, ⟨24, _⟩ => ⟨S1x81920, .f32⟩
  | .hbm, ⟨25, _⟩ => ⟨S_, .f32⟩
  | .hbm, ⟨26, _⟩ => ⟨S1x81920, .f32⟩
  | .hbm, ⟨27, _⟩ => ⟨S1x81920, .f32⟩
  | .hbm, ⟨28, _⟩ => ⟨S1x81920, .f32⟩
  | .hbm, ⟨29, _⟩ => ⟨S_, .f32⟩
  | .hbm, ⟨30, _⟩ => ⟨S1x81920, .f32⟩
  | .hbm, ⟨31, _⟩ => ⟨S1x81920, .f32⟩
  | .hbm, ⟨32, _⟩ => ⟨S1x81920, .f32⟩
  | .hbm, ⟨33, _⟩ => ⟨S_, .f32⟩
  | .hbm, ⟨34, _⟩ => ⟨S1x81920, .f32⟩
  | .hbm, ⟨35, _⟩ => ⟨S1x81920, .f32⟩
  | .hbm, ⟨36, _⟩ => ⟨S1x81920, .f32⟩
  | .hbm, ⟨37, _⟩ => ⟨S_, .f32⟩
  | .hbm, ⟨38, _⟩ => ⟨S1x81920, .f32⟩
  | .hbm, ⟨39, _⟩ => ⟨S1x81920, .f32⟩
  | _, _ => ⟨S8x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S4096x4096 : Shape := ⟨2, ![4096, 4096]⟩
abbrev S6x4096 : Shape := ⟨2, ![6, 4096]⟩
abbrev S256x4096 : Shape := ⟨2, ![256, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S6x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S6x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S4096x4096 : Shape := ⟨2, ![4096, 4096]⟩
abbrev S6x4096 : Shape := ⟨2, ![6, 4096]⟩
abbrev S1x4096 : Shape := ⟨2, ![1, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S6x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel22.lean ====
abbrev S16x4096 : Shape := ⟨2, ![16, 4096]⟩
abbrev S4096x3072 : Shape := ⟨2, ![4096, 3072]⟩
abbrev S16x3072 : Shape := ⟨2, ![16, 3072]⟩
abbrev S4096x512 : Shape := ⟨2, ![4096, 512]⟩
abbrev S16x512 : Shape := ⟨2, ![16, 512]⟩

abbrev nBuf : Space → Nat
  | .hbm => 3
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S4096x3072, .f32⟩
  | .hbm, ⟨2, _⟩ => ⟨S16x3072, .f32⟩
  | .local _ .vmem, ⟨0, _⟩ => ⟨S16x4096, .f32⟩
  | .local _ .vmem, ⟨1, _⟩ => ⟨S4096x512, .f32⟩
  | .local _ .vmem, ⟨2, _⟩ => ⟨S4096x512, .f32⟩
  | .local _ .vmem, ⟨3, _⟩ => ⟨S16x512, .f32⟩
  | .local _ .vmem, ⟨4, _⟩ => ⟨S16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S16x4096 : Shape := ⟨2, ![16, 4096]⟩
abbrev S4096x3072 : Shape := ⟨2, ![4096, 3072]⟩
abbrev S_ : Shape := ⟨0, ![]⟩
abbrev S16x3072 : Shape := ⟨2, ![16, 3072]⟩

abbrev nBuf : Space → Nat
  | .hbm => 12
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x3072, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S16x4096, .f32⟩
  | .hbm, ⟨9, _⟩ => ⟨S16x4096, .f32⟩
  | .hbm, ⟨10, _⟩ => ⟨S16x4096, .f32⟩
  | .hbm, ⟨11, _⟩ => ⟨S16x3072, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Kernel23.lean ====
abbrev S4096x4096 : Shape := ⟨2, ![4096, 4096]⟩
abbrev S6x4096 : Shape := ⟨2, ![6, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S6x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S6x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S4096x4096 : Shape := ⟨2, ![4096, 4096]⟩
abbrev S6x4096 : Shape := ⟨2, ![6, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S6x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel24.lean ====
abbrev S8x4096x1544 : Shape := ⟨3, ![8, 4096, 1544]⟩
abbrev S4x4096x1544 : Shape := ⟨3, ![4, 4096, 1544]⟩
abbrev S3x4096x1544 : Shape := ⟨3, ![3, 4096, 1544]⟩
abbrev S4096x1544 : Shape := ⟨2, ![4096, 1544]⟩
abbrev S1x256x1544 : Shape := ⟨3, ![1, 256, 1544]⟩
abbrev S256x1544 : Shape := ⟨2, ![256, 1544]⟩

abbrev nBuf : Space → Nat
  | .hbm => 10
  | .vmem => 24
  | .smem => 0
  | _ => 0

abbrev bufTy : (tb : Table) → Fin (tcTables nBuf tb) → BufTy
  | .hbm, ⟨0, _⟩ => ⟨S8x4096x1544, .bf16⟩
  | .hbm, ⟨1, _⟩ => ⟨S4x4096x1544, .bf16⟩
  | .hbm, ⟨2, _⟩ => ⟨S3x4096x1544, .bf16⟩
  | .hbm, ⟨3, _⟩ => ⟨S4096x1544, .f32⟩
  | .hbm, ⟨4, _⟩ => ⟨S4096x1544, .f32⟩
  | .hbm, ⟨5, _⟩ => ⟨S4096x1544, .f32⟩
  | .hbm, ⟨6, _⟩ => ⟨S4096x1544, .f32⟩
  | .hbm, ⟨7, _⟩ => ⟨S4096x1544, .f32⟩
  | .hbm, ⟨8, _⟩ => ⟨S4096x1544, .f32⟩
  | .hbm, ⟨9, _⟩ => ⟨S4096x1544, .f32⟩
  | .local _ .vmem, ⟨0, _⟩ => ⟨S1x256x1544, .bf16⟩
  | .local _ .vmem, ⟨1, _⟩ => ⟨S1x256x1544, .bf16⟩
  | .local _ .vmem, ⟨2, _⟩ => ⟨S1x256x1544, .bf16⟩
  | .local _ .vmem, ⟨3, _⟩ => ⟨S1x256x1544, .bf16⟩
  | .local _ .vmem, ⟨4, _⟩ => ⟨S1x256x1544, .bf16⟩
  | .local _ .vmem, ⟨5, _⟩ => ⟨S1x256x1544, .bf16⟩
  | .local _ .vmem, ⟨6, _⟩ => ⟨S1x256x1544, .bf16⟩
  | .local _ .vmem, ⟨7, _⟩ => ⟨S1x256x1544, .bf16⟩
  | .local _ .vmem, ⟨8, _⟩ => ⟨S1x256x1544, .bf16⟩
  | .local _ .vmem, ⟨9, _⟩ => ⟨S1x256x1544, .bf16⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | .local _ .vmem, ⟨14, _⟩ => ⟨S256x1544, .f32⟩
  | .local _ .vmem, ⟨15, _⟩ => ⟨S256x1544, .f32⟩
  | .local _ .vmem, ⟨16, _⟩ => ⟨S256x1544, .f32⟩
  | .local _ .vmem, ⟨17, _⟩ => ⟨S256x1544, .f32⟩
  | .local _ .vmem, ⟨18, _⟩ => ⟨S256x1544, .f32⟩
  | .local _ .vmem, ⟨19, _⟩ => ⟨S256x1544, .f32⟩
  | .local _ .vmem, ⟨20, _⟩ => ⟨S256x1544, .f32⟩
  | .local _ .vmem, ⟨21, _⟩ => ⟨S256x1544, .f32⟩
  | .local _ .vmem, ⟨22, _⟩ => ⟨S256x1544, .f32⟩
  | .local _ .vmem, ⟨23, _⟩ => ⟨S256x1544, .f32⟩
  | _, _ => ⟨S8x4096x1544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1544 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1544 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1544 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1544 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1544 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1544 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1544 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1544 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference24Ideal.lean ====
abbrev S8x4096x1544 : Shape := ⟨3, ![8, 4096, 1544]⟩
abbrev S4x4096x1544 : Shape := ⟨3, ![4, 4096, 1544]⟩
abbrev S3x4096x1544 : Shape := ⟨3, ![3, 4096, 1544]⟩
abbrev S4096x1544 : Shape := ⟨2, ![4096, 1544]⟩
abbrev S1x4096x1544 : Shape := ⟨3, ![1, 4096, 1544]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1544, .bf16⟩
  | .hbm, ⟨1, _⟩ => ⟨S4x4096x1544, .bf16⟩
  | .hbm, ⟨2, _⟩ => ⟨S3x4096x1544, .bf16⟩
  | .hbm, ⟨3, _⟩ => ⟨S4096x1544, .f32⟩
  | .hbm, ⟨4, _⟩ => ⟨S4096x1544, .f32⟩
  | .hbm, ⟨5, _⟩ => ⟨S4096x1544, .f32⟩
  | .hbm, ⟨6, _⟩ => ⟨S1x4096x1544, .bf16⟩
  | .hbm, ⟨7, _⟩ => ⟨S4096x1544, .bf16⟩
  | .hbm, ⟨8, _⟩ => ⟨S4096x1544, .f32⟩
  | .hbm, ⟨9, _⟩ => ⟨S1x4096x1544, .bf16⟩
  | .hbm, ⟨10, _⟩ => ⟨S4096x1544, .bf16⟩
  | .hbm, ⟨11, _⟩ => ⟨S4096x1544, .f32⟩
  | .hbm, ⟨12, _⟩ => ⟨S4096x1544, .f32⟩
  | .hbm, ⟨13, _⟩ => ⟨S3x4096x1544, .f32⟩
  | .hbm, ⟨14, _⟩ => ⟨S_, .f32⟩
  | .hbm, ⟨15, _⟩ => ⟨S4096x1544, .f32⟩
  | .hbm, ⟨16, _⟩ => ⟨S4096x1544, .f32⟩
  | .hbm, ⟨17, _⟩ => ⟨S_, .f32⟩
  | .hbm, ⟨18, _⟩ => ⟨S4096x1544, .f32⟩
  | .hbm, ⟨19, _⟩ => ⟨S4096x1544, .f32⟩
  | .hbm, ⟨20, _⟩ => ⟨S_, .f32⟩
  | .hbm, ⟨21, _⟩ => ⟨S4096x1544, .f32⟩
  | .hbm, ⟨22, _⟩ => ⟨S4096x1544, .f32⟩
  | .hbm, ⟨23, _⟩ => ⟨S4096x1544, .f32⟩
  | .hbm, ⟨24, _⟩ => ⟨S_, .f32⟩
  | .hbm, ⟨25, _⟩ => ⟨S4096x1544, .f32⟩
  | .hbm, ⟨26, _⟩ => ⟨S4096x1544, .f32⟩
  | .hbm, ⟨27, _⟩ => ⟨S4096x1544, .f32⟩
  | .hbm, ⟨28, _⟩ => ⟨S_, .f32⟩
  | .hbm, ⟨29, _⟩ => ⟨S4096x1544, .f32⟩
  | .hbm, ⟨30, _⟩ => ⟨S4096x1544, .f32⟩
  | .hbm, ⟨31, _⟩ => ⟨S4096x1544, .f32⟩
  | .hbm, ⟨32, _⟩ => ⟨S_, .f32⟩
  | .hbm, ⟨33, _⟩ => ⟨S4096x1544, .f32⟩
  | .hbm, ⟨34, _⟩ => ⟨S4096x1544, .f32⟩
  | .hbm, ⟨35, _⟩ => ⟨S_, .f32⟩
  | .hbm, ⟨36, _⟩ => ⟨S4096x1544, .f32⟩
  | .hbm, ⟨37, _⟩ => ⟨S4096x1544, .f32⟩
  | .hbm, ⟨38, _⟩ => ⟨S4096x1544, .f32⟩
  | .hbm, ⟨39, _⟩ => ⟨S_, .f32⟩
  | .hbm, ⟨40, _⟩ => ⟨S4096x1544, .f32⟩
  | .hbm, ⟨41, _⟩ => ⟨S4096x1544, .f32⟩
  | .hbm, ⟨42, _⟩ => ⟨S4096x1544, .f32⟩
  | .hbm, ⟨43, _⟩ => ⟨S_, .f32⟩
  | .hbm, ⟨44, _⟩ => ⟨S4096x1544, .f32⟩
  | .hbm, ⟨45, _⟩ => ⟨S4096x1544, .f32⟩
  | .hbm, ⟨46, _⟩ => ⟨S4096x1544, .f32⟩
  | .hbm, ⟨47, _⟩ => ⟨S_, .f32⟩
  | .hbm, ⟨48, _⟩ => ⟨S4096x1544, .f32⟩
  | .hbm, ⟨49, _⟩ => ⟨S4096x1544, .f32⟩
  | _, _ => ⟨S8x4096x1544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel25.lean ====
abbrev S8x512x4096 : Shape := ⟨3, ![8, 512, 4096]⟩
abbrev S4x512x4096 : Shape := ⟨3, ![4, 512, 4096]⟩
abbrev S3x512x4096 : Shape := ⟨3, ![3, 512, 4096]⟩
abbrev S512x4096 : Shape := ⟨2, ![512, 4096]⟩
abbrev S1x128x4096 : Shape := ⟨3, ![1, 128, 4096]⟩
abbrev S128x4096 : Shape := ⟨2, ![128, 4096]⟩

abbrev nBuf : Space → Nat
  | .hbm => 10
  | .vmem => 24
  | .smem => 0
  | _ => 0

abbrev bufTy : (tb : Table) → Fin (tcTables nBuf tb) → BufTy
  | .hbm, ⟨0, _⟩ => ⟨S8x512x4096, .bf16⟩
  | .hbm, ⟨1, _⟩ => ⟨S4x512x4096, .bf16⟩
  | .hbm, ⟨2, _⟩ => ⟨S3x512x4096, .bf16⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x4096, .f32⟩
  | .local _ .vmem, ⟨0, _⟩ => ⟨S1x128x4096, .bf16⟩
  | .local _ .vmem, ⟨1, _⟩ => ⟨S1x128x4096, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x128x4096, .bf16⟩
  | .local _ .vmem, ⟨7, _⟩ => ⟨S1x128x4096, .bf16⟩
  | .local _ .vmem, ⟨8, _⟩ => ⟨S1x128x4096, .bf16⟩
  | .local _ .vmem, ⟨9, _⟩ => ⟨S1x128x4096, .bf16⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x4096, .f32⟩
  | .local _ .vmem, ⟨20, _⟩ => ⟨S128x4096, .f32⟩
  | .local _ .vmem, ⟨21, _⟩ => ⟨S128x4096, .f32⟩
  | .local _ .vmem, ⟨22, _⟩ => ⟨S128x4096, .f32⟩
  | .local _ .vmem, ⟨23, _⟩ => ⟨S128x4096, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference25Ideal.lean ====
abbrev S8x512x4096 : Shape := ⟨3, ![8, 512, 4096]⟩
abbrev S4x512x4096 : Shape := ⟨3, ![4, 512, 4096]⟩
abbrev S3x512x4096 : Shape := ⟨3, ![3, 512, 4096]⟩
abbrev S512x4096 : Shape := ⟨2, ![512, 4096]⟩
abbrev S1x512x4096 : Shape := ⟨3, ![1, 512, 4096]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S4x512x4096, .bf16⟩
  | .hbm, ⟨2, _⟩ => ⟨S3x512x4096, .bf16⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S1x512x4096, .bf16⟩
  | .hbm, ⟨7, _⟩ => ⟨S512x4096, .bf16⟩
  | .hbm, ⟨8, _⟩ => ⟨S512x4096, .f32⟩
  | .hbm, ⟨9, _⟩ => ⟨S1x512x4096, .bf16⟩
  | .hbm, ⟨10, _⟩ => ⟨S512x4096, .bf16⟩
  | .hbm, ⟨11, _⟩ => ⟨S512x4096, .f32⟩
  | .hbm, ⟨12, _⟩ => ⟨S512x4096, .f32⟩
  | .hbm, ⟨13, _⟩ => ⟨S3x512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S_, .f32⟩
  | .hbm, ⟨21, _⟩ => ⟨S512x4096, .f32⟩
  | .hbm, ⟨22, _⟩ => ⟨S512x4096, .f32⟩
  | .hbm, ⟨23, _⟩ => ⟨S512x4096, .f32⟩
  | .hbm, ⟨24, _⟩ => ⟨S_, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S512x4096, .f32⟩
  | .hbm, ⟨30, _⟩ => ⟨S512x4096, .f32⟩
  | .hbm, ⟨31, _⟩ => ⟨S512x4096, .f32⟩
  | .hbm, ⟨32, _⟩ => ⟨S_, .f32⟩
  | .hbm, ⟨33, _⟩ => ⟨S512x4096, .f32⟩
  | .hbm, ⟨34, _⟩ => ⟨S512x4096, .f32⟩
  | .hbm, ⟨35, _⟩ => ⟨S_, .f32⟩
  | .hbm, ⟨36, _⟩ => ⟨S512x4096, .f32⟩
  | .hbm, ⟨37, _⟩ => ⟨S512x4096, .f32⟩
  | .hbm, ⟨38, _⟩ => ⟨S512x4096, .f32⟩
  | .hbm, ⟨39, _⟩ => ⟨S_, .f32⟩
  | .hbm, ⟨40, _⟩ => ⟨S512x4096, .f32⟩
  | .hbm, ⟨41, _⟩ => ⟨S512x4096, .f32⟩
  | .hbm, ⟨42, _⟩ => ⟨S512x4096, .f32⟩
  | .hbm, ⟨43, _⟩ => ⟨S_, .f32⟩
  | .hbm, ⟨44, _⟩ => ⟨S512x4096, .f32⟩
  | .hbm, ⟨45, _⟩ => ⟨S512x4096, .f32⟩
  | .hbm, ⟨46, _⟩ => ⟨S512x4096, .f32⟩
  | .hbm, ⟨47, _⟩ => ⟨S_, .f32⟩
  | .hbm, ⟨48, _⟩ => ⟨S512x4096, .f32⟩
  | .hbm, ⟨49, _⟩ => ⟨S512x4096, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel26.lean ====
abbrev S8x4096x2048 : Shape := ⟨3, ![8, 4096, 2048]⟩
abbrev S4x4096x2048 : Shape := ⟨3, ![4, 4096, 2048]⟩
abbrev S2x4096x2048 : Shape := ⟨3, ![2, 4096, 2048]⟩
abbrev S4096x2048 : Shape := ⟨2, ![4096, 2048]⟩
abbrev S1x256x2048 : Shape := ⟨3, ![1, 256, 2048]⟩
abbrev S256x2048 : Shape := ⟨2, ![256, 2048]⟩

abbrev nBuf : Space → Nat
  | .hbm => 11
  | .vmem => 22
  | .smem => 0
  | _ => 0

abbrev bufTy : (tb : Table) → Fin (tcTables nBuf tb) → BufTy
  | .hbm, ⟨0, _⟩ => ⟨S8x4096x2048, .bf16⟩
  | .hbm, ⟨1, _⟩ => ⟨S4x4096x2048, .bf16⟩
  | .hbm, ⟨2, _⟩ => ⟨S2x4096x2048, .bf16⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference26Ideal.lean ====
abbrev S8x4096x2048 : Shape := ⟨3, ![8, 4096, 2048]⟩
abbrev S4x4096x2048 : Shape := ⟨3, ![4, 4096, 2048]⟩
abbrev S2x4096x2048 : Shape := ⟨3, ![2, 4096, 2048]⟩
abbrev S4096x2048 : Shape := ⟨2, ![4096, 2048]⟩
abbrev S1x4096x2048 : Shape := ⟨3, ![1, 4096, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S4x4096x2048, .bf16⟩
  | .hbm, ⟨2, _⟩ => ⟨S2x4096x2048, .bf16⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x4096x2048, .bf16⟩
  | .hbm, ⟨8, _⟩ => ⟨S4096x2048, .bf16⟩
  | .hbm, ⟨9, _⟩ => ⟨S4096x2048, .f32⟩
  | .hbm, ⟨10, _⟩ => ⟨S1x4096x2048, .bf16⟩
  | .hbm, ⟨11, _⟩ => ⟨S4096x2048, .bf16⟩
  | .hbm, ⟨12, _⟩ => ⟨S4096x2048, .f32⟩
  | .hbm, ⟨13, _⟩ => ⟨S4096x2048, .f32⟩
  | .hbm, ⟨14, _⟩ => ⟨S1x4096x2048, .bf16⟩
  | .hbm, ⟨15, _⟩ => ⟨S4096x2048, .bf16⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Kernel27.lean ====
abbrev S8x2048x4096 : Shape := ⟨3, ![8, 2048, 4096]⟩
abbrev S4x2048x4096 : Shape := ⟨3, ![4, 2048, 4096]⟩
abbrev S2x2048x4096 : Shape := ⟨3, ![2, 2048, 4096]⟩
abbrev S2048x4096 : Shape := ⟨2, ![2048, 4096]⟩
abbrev S1x128x4096 : Shape := ⟨3, ![1, 128, 4096]⟩
abbrev S128x4096 : Shape := ⟨2, ![128, 4096]⟩

abbrev nBuf : Space → Nat
  | .hbm => 11
  | .vmem => 22
  | .smem => 0
  | _ => 0

abbrev bufTy : (tb : Table) → Fin (tcTables nBuf tb) → BufTy
  | .hbm, ⟨0, _⟩ => ⟨S8x2048x4096, .bf16⟩
  | .hbm, ⟨1, _⟩ => ⟨S4x2048x4096, .bf16⟩
  | .hbm, ⟨2, _⟩ => ⟨S2x2048x4096, .bf16⟩
  | .hbm, ⟨3, _⟩ => ⟨S2048x4096, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .local _ .vmem, ⟨0, _⟩ => ⟨S1x128x4096, .bf16⟩
  | .local _ .vmem, ⟨1, _⟩ => ⟨S1x128x4096, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x4096, .f32⟩
  | .local _ .vmem, ⟨20, _⟩ => ⟨S128x4096, .f32⟩
  | .local _ .vmem, ⟨21, _⟩ => ⟨S128x4096, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference27Ideal.lean ====
abbrev S8x2048x4096 : Shape := ⟨3, ![8, 2048, 4096]⟩
abbrev S4x2048x4096 : Shape := ⟨3, ![4, 2048, 4096]⟩
abbrev S2x2048x4096 : Shape := ⟨3, ![2, 2048, 4096]⟩
abbrev S2048x4096 : Shape := ⟨2, ![2048, 4096]⟩
abbrev S1x2048x4096 : Shape := ⟨3, ![1, 2048, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S4x2048x4096, .bf16⟩
  | .hbm, ⟨2, _⟩ => ⟨S2x2048x4096, .bf16⟩
  | .hbm, ⟨3, _⟩ => ⟨S2048x4096, .bf16⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S1x2048x4096, .bf16⟩
  | .hbm, ⟨8, _⟩ => ⟨S2048x4096, .bf16⟩
  | .hbm, ⟨9, _⟩ => ⟨S2048x4096, .f32⟩
  | .hbm, ⟨10, _⟩ => ⟨S1x2048x4096, .bf16⟩
  | .hbm, ⟨11, _⟩ => ⟨S2048x4096, .bf16⟩
  | .hbm, ⟨12, _⟩ => ⟨S2048x4096, .f32⟩
  | .hbm, ⟨13, _⟩ => ⟨S2048x4096, .f32⟩
  | .hbm, ⟨14, _⟩ => ⟨S1x2048x4096, .bf16⟩
  | .hbm, ⟨15, _⟩ => ⟨S2048x4096, .bf16⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S_, .f32⟩
  | .hbm, ⟨28, _⟩ => ⟨S2048x4096, .f32⟩
  | .hbm, ⟨29, _⟩ => ⟨S2048x4096, .f32⟩
  | .hbm, ⟨30, _⟩ => ⟨S2048x4096, .f32⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S2048x4096, .f32⟩
  | .hbm, ⟨37, _⟩ => ⟨S2048x4096, .f32⟩
  | .hbm, ⟨38, _⟩ => ⟨S_, .f32⟩
  | .hbm, ⟨39, _⟩ => ⟨S2048x4096, .f32⟩
  | .hbm, ⟨40, _⟩ => ⟨S2048x4096, .f32⟩
  | .hbm, ⟨41, _⟩ => ⟨S2048x4096, .f32⟩
  | .hbm, ⟨42, _⟩ => ⟨S_, .f32⟩
  | .hbm, ⟨43, _⟩ => ⟨S2048x4096, .f32⟩
  | .hbm, ⟨44, _⟩ => ⟨S2048x4096, .f32⟩
  | .hbm, ⟨45, _⟩ => ⟨S2048x4096, .f32⟩
  | .hbm, ⟨46, _⟩ => ⟨S_, .f32⟩
  | .hbm, ⟨47, _⟩ => ⟨S2048x4096, .f32⟩
  | .hbm, ⟨48, _⟩ => ⟨S2048x4096, .f32⟩
  | .hbm, ⟨49, _⟩ => ⟨S2048x4096, .f32⟩
  | .hbm, ⟨50, _⟩ => ⟨S_, .f32⟩
  | .hbm, ⟨51, _⟩ => ⟨S2048x4096, .f32⟩
  | .hbm, ⟨52, _⟩ => ⟨S2048x4096, .f32⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.ScMath.lean ====
/- The mathematics of the short-convolution mixer's gradient, over the extended reals: one column block of 128
   channels (one group of the group RMS norm), its rows numbered from 8 so that the rows before the first and after
   the last can be spoken of (they hold zeros). -/
module

public import Idealize.ShloMosaic.PureOps.Ideal.Laws
public import Idealize.ShloMosaic.Lib.Pointwise

@[expose] public section

noncomputable section

namespace Cert.ScMath

open Idealize.ShloMosaic

/-- The words of 128, of the norm's small constant, and of -1/2. -/
abbrev c128 : EReal := Ideal.ofBits .f32 0x43000000#32
abbrev eps : EReal := Ideal.ofBits .f32 0x3727C5AC#32
abbrev mhalf : EReal := Ideal.ofBits .f32 0xBF000000#32

theorem c128_eq : c128 = ((128 : ℝ) : EReal) := by
  simp [c128, Ideal.ofBits, Ideal.ieee]
  rw [← EReal.coe_mul]
  norm_num

theorem mhalf_eq : mhalf = ((-(1 / 2) : ℝ) : EReal) := by
  simp [mhalf, Ideal.ofBits, Ideal.ieee]
  rw [← EReal.coe_mul]
  norm_num

theorem eps_pos : ∃ e : ℝ, 0 < e ∧ eps = (e : EReal) := by
  simp [eps, Ideal.ofBits, Ideal.ieee]
  exact ⟨10995116 * (2 ^ 40)⁻¹, by positivity, by push_cast; rfl⟩

/-- A real multiple of an extended real, twice. -/
theorem mul_coe_add_self (S : EReal) (a : ℝ) : S * (a : EReal) + S * (a : EReal) = S * ((a + a : ℝ) : EReal) := by
  rcases le_total 0 a with h | h
  · rw [EReal.coe_add, EReal.left_distrib_of_nonneg (by exact_mod_cast h) (by exact_mod_cast h)]
  · have h' : (0 : EReal) ≤ ((-a : ℝ) : EReal) := by exact_mod_cast neg_nonneg.mpr h
    have e := EReal.left_distrib_of_nonneg (c := -S) h' h'
    have e2 : ∀ b : ℝ, S * (b : EReal) = -S * ((-b : ℝ) : EReal) := fun b => by
      rw [EReal.coe_neg, neg_mul_neg]
    rw [e2 a, ← e, ← EReal.coe_add, e2 (a + a)]
    congr 2; ring

/-- A sum of squares is infinite, or every term's root is a real number. -/
theorem sq_sum_cases {n : ℕ} (y : Fin n → EReal) :
    (∑ l, y l * y l = ⊤) ∨ ∃ T : ℝ, 0 ≤ T ∧ (∑ l, y l * y l = (T : EReal)) ∧ ∀ l, ∃ v : ℝ, y l = (v : EReal) := by
  have hn : ∀ l, 0 ≤ y l * y l := fun l => by
    induction h : y l with
    | bot => simp
    | top => simp
    | coe v => exact_mod_cast mul_self_nonneg v
  have h0 : 0 ≤ ∑ l, y l * y l := Finset.sum_nonneg fun l _ => hn l
  induction h : ∑ l, y l * y l with
  | bot => rw [h] at h0; simp at h0
  | top => exact .inl rfl
  | coe T =>
    right
    refine ⟨T, by rw [h] at h0; exact_mod_cast h0, rfl, fun l => ?_⟩
    have hl : y l * y l ≤ (T : EReal) := h ▸ Finset.single_le_sum (f := fun l => y l * y l) (fun l _ => hn l) (Finset.mem_univ l)
    induction h' : y l with
    | bot => rw [h'] at hl; simp at hl
    | top => rw [h'] at hl; simp at hl
    | coe v => exact ⟨v, rfl⟩

/-- THE NORM'S GRADIENT: the form with the cube of the reciprocal root, and the form that differentiates the
    reciprocal root and adds its share once per factor of the square, agree. -/
theorem norm_grad {n : ℕ} (y : Fin n → EReal) (l : Fin n) (A S : EReal) :
    Ideal.rsqrt (Ideal.div (∑ l, y l * y l) c128 + eps) * A
        - y l * (Ideal.rsqrt (Ideal.div (∑ l, y l * y l) c128 + eps) * Ideal.rsqrt (Ideal.div (∑ l, y l * y l) c128 + eps)
          * Ideal.rsqrt (Ideal.div (∑ l, y l * y l) c128 + eps)) * Ideal.div S c128
      = (A * Ideal.rsqrt (Ideal.div (∑ l, y l * y l) c128 + eps)
          + y l * Ideal.div (S * (mhalf * Ideal.div (Ideal.rsqrt (Ideal.div (∑ l, y l * y l) c128 + eps))
              (Ideal.div (∑ l, y l * y l) c128 + eps))) c128)
        + Ideal.div (S * (mhalf * Ideal.div (Ideal.rsqrt (Ideal.div (∑ l, y l * y l) c128 + eps))
              (Ideal.div (∑ l, y l * y l) c128 + eps))) c128 * y l := by
  obtain ⟨e, he, hee⟩ := eps_pos
  have h128 : (128 : ℝ) ≠ 0 := by norm_num
  rw [hee, c128_eq, mhalf_eq]
  rcases sq_sum_cases y with hT | ⟨T, hT0, hT, hy⟩
  · have h : Ideal.div (⊤ : EReal) ((128 : ℝ) : EReal) = ⊤ := by
      rw [Ideal.div_coe h128]; exact EReal.top_mul_coe_of_pos (by norm_num)
    rw [hT, h, EReal.top_add_coe, Ideal.rsqrt_top]
    simp [Ideal.div, Ideal.div_coe h128]
  · obtain ⟨v, hv⟩ := hy l
    rw [hT, hv]
    set q : ℝ := T * (1 / 128) + e with hq
    have hqp : 0 < q := by positivity
    have hms : Ideal.div (T : EReal) ((128 : ℝ) : EReal) + (e : EReal) = (q : EReal) := by
      rw [Ideal.div_coe h128, hq]; push_cast; rfl
    have hs : 0 < Real.sqrt q := Real.sqrt_pos.mpr hqp
    rw [hms, Ideal.rsqrt_coe, if_neg (not_lt.mpr hqp.le), if_neg hqp.ne', Ideal.div_coe hqp.ne', Ideal.div_coe h128, Ideal.div_coe h128]
    set r : ℝ := (Real.sqrt q)⁻¹ with hr
    have hrq : r * r * q = 1 := by
      rw [hr, ← mul_inv, Real.mul_self_sqrt hqp.le, inv_mul_cancel₀ hqp.ne']
    have hrq' : r * r = 1 / q := by field_simp; linarith
    have e1 : (v : EReal) * ((r : EReal) * r * r) * (S * ((1 / 128 : ℝ) : EReal)) = S * ((v * (r * r * r) * (1 / 128) : ℝ) : EReal) := by
      push_cast; ac_rfl
    have e2 : (v : EReal) * (S * (((-(1 / 2) : ℝ) : EReal) * ((r : EReal) * ((1 / q : ℝ) : EReal))) * ((1 / 128 : ℝ) : EReal))
        = S * ((v * (-(1 / 2) * (r * (1 / q)) * (1 / 128)) : ℝ) : EReal) := by
      push_cast; ac_rfl
    rw [mul_comm _ (v : EReal), e1, e2, mul_comm (r : EReal) A, add_assoc, mul_coe_add_self, sub_eq_add_neg, ← mul_neg, ← EReal.coe_neg]
    congr 3
    rw [← hrq']; ring

/-! ## Rows numbered from 8 -/

/-- A block's rows numbered from 8; zero before the first and after the last. -/
def ext (f : Fin 4096 → Fin 128 → EReal) (q : ℕ) (l : Fin 128) : EReal :=
  if h : 8 ≤ q ∧ q < 4104 then f ⟨q - 8, by omega⟩ l else 0

theorem ext_row (f : Fin 4096 → Fin 128 → EReal) (n : Fin 4096) (q : ℕ) (hq : q = n.val + 8) (l : Fin 128) :
    ext f q l = f n l := by
  have hn := n.isLt
  rw [ext, dif_pos (by omega)]
  congr 1
  exact Fin.ext (by show q - 8 = n.val; omega)

theorem ext_out (f : Fin 4096 → Fin 128 → EReal) (q : ℕ) (hq : q < 8 ∨ 4104 ≤ q) (l : Fin 128) : ext f q l = 0 :=
  dif_neg (by omega)

/-! ## One column block: `q` numbers the rows from 8, `l` the block's 128 channels -/

variable (H B C D : ℕ → Fin 128 → EReal) (W : Fin 3 → Fin 128 → EReal) (nw : Fin 128 → EReal)

/-- The gated input of the convolution. -/
def P (q : ℕ) (l : Fin 128) : EReal := C q l * H q l
/-- The convolution, three taps. -/
def CV (q : ℕ) (l : Fin 128) : EReal := P H C (q - 1) l * W 0 l + P H C q l * W 1 l + P H C (q + 1) l * W 2 l
/-- The mixer before its norm. -/
def Y (q : ℕ) (l : Fin 128) : EReal := B q l * CV H C W q l
/-- The norm's mean of squares, with its constant. -/
def MS (q : ℕ) : EReal := Ideal.div (∑ l, Y H B C W q l * Y H B C W q l) c128 + eps
/-- The norm's reciprocal root. -/
def RR (q : ℕ) : EReal := Ideal.rsqrt (MS H B C W q)
/-- The sum over the group of the gradient times the mixer. -/
def SS (q : ℕ) : EReal := ∑ l, D q l * nw l * Y H B C W q l
/-- The gradient of the mixer before its norm. -/
def DY (q : ℕ) (l : Fin 128) : EReal :=
  RR H B C W q * (D q l * nw l) - Y H B C W q l * (RR H B C W q * RR H B C W q * RR H B C W q) * Ideal.div (SS H B C D W nw q) c128
/-- The gradient of the convolution. -/
def DCV (q : ℕ) (l : Fin 128) : EReal := DY H B C D W nw q l * B q l
/-- The gradient of the convolution's input. -/
def DP (q : ℕ) (l : Fin 128) : EReal :=
  DCV H B C D W nw (q + 1) l * W 0 l + DCV H B C D W nw q l * W 1 l + DCV H B C D W nw (q - 1) l * W 2 l

/-- The norm's gradient as the derivative of the reciprocal root writes it. -/
theorem DY_eq (q : ℕ) (l : Fin 128) :
    DY H B C D W nw q l = (D q l * nw l * RR H B C W q
          + Y H B C W q l * Ideal.div (SS H B C D W nw q * (mhalf * Ideal.div (RR H B C W q) (MS H B C W q))) c128)
        + Ideal.div (SS H B C D W nw q * (mhalf * Ideal.div (RR H B C W q) (MS H B C W q))) c128 * Y H B C W q l :=
  norm_grad _ l _ _

/-- Where the gate and the incoming gradient are zero, so is the convolution's gradient. -/
theorem DCV_zero (q : ℕ) (l : Fin 128) (hB : ∀ l, B q l = 0) : DCV H B C D W nw q l = 0 := by
  rw [DCV, hB, mul_zero]

end Cert.ScMath
-- ==== Proof.ScTrip.lean ====
/- The short-convolution mixer's gradient, one trip of the kernel's loop: the windows of 272 rows (8 before, 256, 8
   after, the ones outside the sequence multiplied by zero) and the values computed from them, read at a row. -/
module

public import proofs.«01_k».proof.Proof.Gen.KernelIdeal.Value
public import proofs.«01_k».proof.Proof.ScMath
public import Idealize.ShloMosaic.Lib.Pipeline.ValueKit
public import Idealize.ShloMosaic.Lib.Pointwise

@[expose] public section

set_option maxRecDepth 16384

noncomputable section

namespace Cert.KernelIdeal.Sc

open Cert.KernelIdeal Cert.KernelIdeal.Gen Idealize.ShloMosaic Idealize.ShloMosaic.TcCoe Idealize.SL.Sem
open Idealize.ShloMosaic.Pipeline (Dat)
open Cert.ScMath

theorem trips_eq : k0_t1_loop.trips = 16 := by decide +kernel

theorem before_mask : ∀ k : Fin k0_t1_loop.trips, Scalar.cmpi .sgt (Scf.iv 0#32 1#32 k) 0#32 = if k.val = 0 then 0#1 else 1#1 := by
  decide +kernel

theorem after_mask : ∀ k : Fin k0_t1_loop.trips, Scalar.cmpi .slt (Scf.iv 0#32 1#32 k) 15#32 = if k.val = 15 then 0#1 else 1#1 := by
  decide +kernel

theorem mask0 : (((Scalar.extui (0#1 : BitVec 1) : BitVec 32).toInt : ℝ) : EReal) = 0 := by
  rw [show (Scalar.extui (0#1 : BitVec 1) : BitVec 32).toInt = 0 from by decide +kernel]; simp

theorem mask1 : (((Scalar.extui (1#1 : BitVec 1) : BitVec 32).toInt : ℝ) : EReal) = 1 := by
  rw [show (Scalar.extui (1#1 : BitVec 1) : BitVec 32).toInt = 1 from by decide +kernel]; simp

/-- A WINDOW: the rows `256 k - 8 …` of a column block, numbered from 8. -/
theorem window (f : Fin 4096 → Fin 128 → EReal) (k : Fin k0_t1_loop.trips) (b0 : FVec Ideal S256x128 .f32) (b1 b2 : FVec Ideal S8x128 .f32)
    (h0 : ∀ (r : Fin 256) (l : Fin 128) (h : 256 * k.val + r.val < 4096), b0 (ix2 r l) = f ⟨256 * k.val + r.val, h⟩ l)
    (h1 : ∀ (r : Fin 8) (l : Fin 128) (h : 256 * k.val - 8 + r.val < 4096), b1 (ix2 r l) = f ⟨256 * k.val - 8 + r.val, h⟩ l)
    (h2 : ∀ (r : Fin 8) (l : Fin 128) (h : min (256 * k.val + 256) 4088 + r.val < 4096), b2 (ix2 r l) = f ⟨min (256 * k.val + 256) 4088 + r.val, h⟩ l)
    (r : Fin 272) (l : Fin 128) :
    k0_pay4 (F := Ideal) 0#32 1#32 k b0 b1 b2 (ix2 r l) = ext f (256 * k.val + r.val) l := by
  have hk : k.val < 16 := Nat.lt_of_lt_of_le k.isLt trips_eq.le
  have hr := r.isLt
  pointwise [k0_pay4]
  rw [before_mask, after_mask]
  split
  next h =>
    by_cases h0' : k.val = 0
    · rw [if_pos h0', mask0, mul_zero, ext_out f _ (Or.inl (by omega))]
    · rw [if_neg h0', mask1, mul_one, h1 _ _ (by show _ + r.val < _; omega)]
      exact (ext_row f _ _ (by show _ = 256 * k.val - 8 + r.val + 8; omega) l).symm
  next h =>
    split
    next h' =>
      rw [h0 _ _ (by show _ + (r.val - 8) < _; omega)]
      exact (ext_row f _ _ (by show _ = 256 * k.val + (r.val - 8) + 8; omega) l).symm
    next h' =>
      by_cases h0' : k.val = 15
      · rw [if_pos h0', mask0, mul_zero, ext_out f _ (Or.inr (by omega))]
      · rw [if_neg h0', mask1, mul_one, h2 _ _ (by show _ + (r.val - 8 - 256) < _; omega)]
        exact (ext_row f _ _ (by show _ = min (256 * k.val + 256) 4088 + (r.val - 8 - 256) + 8; omega) l).symm

/-- The other three windows are the same text. -/
theorem pay6_eq (k : Fin k0_t1_loop.trips) (b0 : FVec Ideal S256x128 .f32) (b1 b2 : FVec Ideal S8x128 .f32) :
    k0_pay6 (F := Ideal) (Scf.iv 0#32 1#32 k) b0 b1 (k0_pay5 0#32 1#32 k) b2 = k0_pay4 0#32 1#32 k b0 b1 b2 := rfl
theorem pay7_eq (k : Fin k0_t1_loop.trips) (b0 : FVec Ideal S256x128 .f32) (b1 b2 : FVec Ideal S8x128 .f32) :
    k0_pay7 (F := Ideal) (Scf.iv 0#32 1#32 k) b0 b1 b2 = k0_pay4 0#32 1#32 k b0 b1 b2 := rfl
theorem pay8_eq (k : Fin k0_t1_loop.trips) (b0 : FVec Ideal S256x128 .f32) (b1 b2 : FVec Ideal S8x128 .f32) :
    k0_pay8 (F := Ideal) (Scf.iv 0#32 1#32 k) b0 b1 b2 = k0_pay4 0#32 1#32 k b0 b1 b2 := rfl

/-- THE PAYLOADS, read at a row of the window that has both neighbours in it. A vector of 272 rows holds a function of
    the numbered rows from `b` on. -/
def Win (b : ℕ) (f : ℕ → Fin 128 → EReal) (v : FVec Ideal S272x128 .f32) : Prop := ∀ (r : Fin 272) (l : Fin 128), v (ix2 r l) = f (b + r.val) l

section
variable {b : ℕ} {H B C D : ℕ → Fin 128 → EReal} {W : Fin 3 → Fin 128 → EReal} {nw : Fin 128 → EReal}
  {v0 : FVec Ideal S3x128 .f32} {v1 : FVec Ideal S1x128 .f32} {v33 v58 v83 : FVec Ideal S272x128 .f32}
  {iv : BitVec 32} {v87 : FVec Ideal S256x128 .f32} {v95 v102 : FVec Ideal S8x128 .f32}

theorem Win.at {f : ℕ → Fin 128 → EReal} {v : FVec Ideal S272x128 .f32} (h : Win b f v) (n : ℕ) (hn : n < 272) (q : ℕ) (hq : q = b + n) (l : Fin 128) :
    v (ix2 ⟨n, hn⟩ l) = f q l := hq ▸ h ⟨n, hn⟩ l

theorem pay9_win (h33 : Win b H v33) (h83 : Win b C v83) : Win b (P H C) (k0_pay9 (F := Ideal) v33 v83) := fun r l => by
  pointwise [k0_pay9]
  rw [h33, h83]; rfl

theorem pay10_at (h0 : ∀ k l, v0 (ix2 k l) = W k l) (h33 : Win b H v33) (h83 : Win b C v83) (n : ℕ) (hn : 1 ≤ n) (hn' : n < 271) (l : Fin 128) :
    k0_pay10 (F := Ideal) v0 v33 v83 (ix2 ⟨n, by omega⟩ l) = CV H C W (b + n) l := by
  have h9 := pay9_win h33 h83
  generalize hv : k0_pay9 (F := Ideal) v33 v83 = v at h9
  pointwise [k0_pay10]
  simp only [hv, h0]
  rw [h9.at _ _ (b + n - 1) (by omega), h9.at _ _ (b + n) (by omega), h9.at _ _ (b + n + 1) (by omega)]
  rfl

theorem pay11_at (h0 : ∀ k l, v0 (ix2 k l) = W k l) (h33 : Win b H v33) (h58 : Win b B v58) (h83 : Win b C v83) (n : ℕ) (hn : 1 ≤ n) (hn' : n < 271)
    (l : Fin 128) : k0_pay11 (F := Ideal) v0 v33 v58 v83 (ix2 ⟨n, by omega⟩ l) = Y H B C W (b + n) l := by
  have h10 := pay10_at h0 h33 h83 n hn hn' l
  pointwise [k0_pay11]
  rw [h10, h58.at _ _ (b + n) rfl]
  rfl

theorem pay12_at (h0 : ∀ k l, v0 (ix2 k l) = W k l) (h33 : Win b H v33) (h58 : Win b B v58) (h83 : Win b C v83) (n : ℕ) (hn : 1 ≤ n) (hn' : n < 271) :
    k0_pay12 (F := Ideal) v0 v33 v58 v83 (ix2 ⟨n, by omega⟩ 0) = RR H B C W (b + n) := by
  have h11 := pay11_at h0 h33 h58 h83 n hn hn'
  pointwise [k0_pay12]
  have e : ∀ a b : EReal, a = b → Ideal.rsqrt (Ideal.div a c128 + eps) = Ideal.rsqrt (Ideal.div b c128 + eps) := fun _ _ h => by rw [h]
  exact e _ _ (Finset.sum_congr rfl fun l _ => congrArg₂ (· * ·) (h11 l) (h11 l))

theorem pay13_at (h1 : ∀ l, v1 (ix2 0 l) = nw l) (h108 : Win b D (k0_pay8 (F := Ideal) iv v87 v95 v102)) (n : ℕ) (hn' : n < 272) (l : Fin 128) :
    k0_pay13 (F := Ideal) v1 iv v87 v95 v102 (ix2 ⟨n, hn'⟩ l) = D (b + n) l * nw l := by
  generalize hv : k0_pay8 (F := Ideal) iv v87 v95 v102 = v at h108
  pointwise [k0_pay13]
  rw [hv, h1, h108.at _ _ (b + n) rfl]

theorem pay17_at (h0 : ∀ k l, v0 (ix2 k l) = W k l) (h1 : ∀ l, v1 (ix2 0 l) = nw l) (h33 : Win b H v33) (h58 : Win b B v58) (h83 : Win b C v83)
    (h108 : Win b D (k0_pay8 (F := Ideal) iv v87 v95 v102)) (n : ℕ) (hn : 1 ≤ n) (hn' : n < 271) (l : Fin 128) :
    k0_pay17 (F := Ideal) (k0_pay14 v0 v1 iv v33 v58 v83 v87 v95 v102) (k0_pay15 v0 v33 v58 v83) (k0_pay16 v0 v1 iv v33 v58 v83 v87 v95 v102)
      (ix2 ⟨n, by omega⟩ l) = DY H B C D W nw (b + n) l := by
  have h11 := pay11_at h0 h33 h58 h83 n hn hn'
  have h12 := pay12_at h0 h33 h58 h83 n hn hn'
  have h13 := pay13_at h1 h108 n (by omega)
  generalize hv : k0_pay11 (F := Ideal) v0 v33 v58 v83 = v at h11
  generalize hv2 : k0_pay12 (F := Ideal) v0 v33 v58 v83 = v2 at h12
  generalize hv3 : k0_pay13 (F := Ideal) v1 iv v87 v95 v102 = v3 at h13
  pointwise [k0_pay17, k0_pay14, k0_pay15, k0_pay16]
  simp only [hv, hv2, hv3, h11, h12, h13]
  rfl

end

section
variable {b : ℕ} {H B C D : ℕ → Fin 128 → EReal} {W : Fin 3 → Fin 128 → EReal} {nw : Fin 128 → EReal}
  {v0 : FVec Ideal S3x128 .f32} {v33 v58 v83 v108 v109 v122 v123 v135 v139 : FVec Ideal S272x128 .f32} {v131 : FVec Ideal S272x1 .f32} {v141 : FVec Ideal S272 .f32}
  (h17 : ∀ (n : ℕ) (hn : 1 ≤ n) (hn' : n < 271) (l : Fin 128), k0_pay17 (F := Ideal) v135 v139 v141 (ix2 ⟨n, by omega⟩ l) = DY H B C D W nw (b + n) l)
include h17

theorem pay18_at (h58 : Win b B v58) (n : ℕ) (hn : 1 ≤ n) (hn' : n < 271) (l : Fin 128) (q : ℕ) (hq : q = b + n) :
    k0_pay18 (F := Ideal) v58 v135 v139 v141 (ix2 ⟨n, by omega⟩ l) = DCV H B C D W nw q l := by
  subst hq
  have h := h17 n hn hn' l
  generalize hv : k0_pay17 (F := Ideal) v135 v139 v141 = v at h
  pointwise [k0_pay18]
  rw [hv, h, h58.at _ _ (b + n) rfl]; rfl

theorem pay21_at (h0 : ∀ k l, v0 (ix2 k l) = W k l) (h58 : Win b B v58) (n : ℕ) (hn : 2 ≤ n) (hn' : n < 270) (l : Fin 128) :
    k0_pay21 (F := Ideal) v0 v58 v135 v139 v141 (ix2 ⟨n, by omega⟩ l) = DP H B C D W nw (b + n) l := by
  have h := pay18_at h17 h58
  generalize hv : k0_pay18 (F := Ideal) v58 v135 v139 v141 = v at h
  pointwise [k0_pay21]
  simp only [hv, h0]
  rw [h _ (by omega) (by omega) l (b + n + 1) (by omega), h _ (by omega) (by omega) l (b + n) (by omega), h _ (by omega) (by omega) l (b + n - 1) (by omega)]
  rfl

/-- The three stores. -/
theorem store6_at (h0 : ∀ k l, v0 (ix2 k l) = W k l) (h58 : Win b B v58) (h83 : Win b C v83) (r : Fin 256) (l : Fin 128) :
    k0_pay24 (F := Ideal) v0 v58 v83 v135 v139 v141 (ix2 r l) = DP H B C D W nw (b + r.val + 8) l * C (b + r.val + 8) l := by
  have h := pay21_at h17 h0 h58
  generalize hv : k0_pay21 (F := Ideal) v0 v58 v135 v139 v141 = v at h
  have hr := r.isLt
  pointwise [k0_pay24]
  rw [hv, h _ (by omega) (by omega) l, h83.at _ _ (b + r.val + 8) (by omega), show b + (8 + r.val) = b + r.val + 8 by omega]

theorem store8_at (h0 : ∀ k l, v0 (ix2 k l) = W k l) (h33 : Win b H v33) (h58 : Win b B v58) (r : Fin 256) (l : Fin 128) :
    k0_pay2 (F := Ideal) v33 (k0_pay21 v0 v58 v135 v139 v141) (ix2 r l) = DP H B C D W nw (b + r.val + 8) l * H (b + r.val + 8) l := by
  have h := pay21_at h17 h0 h58
  generalize k0_pay21 (F := Ideal) v0 v58 v135 v139 v141 = v at h ⊢
  have hr := r.isLt
  pointwise [k0_pay2]
  rw [h _ (by omega) (by omega) l, h33.at _ _ (b + r.val + 8) (by omega), show b + (8 + r.val) = b + r.val + 8 by omega]

theorem store7_at (h0 : ∀ k l, v0 (ix2 k l) = W k l) (h33 : Win b H v33) (h83 : Win b C v83) (r : Fin 256) (l : Fin 128) :
    k0_pay3 (F := Ideal) (k0_pay10 v0 v33 v83) (k0_pay17 v135 v139 v141) (ix2 r l) = DY H B C D W nw (b + r.val + 8) l * CV H C W (b + r.val + 8) l := by
  have h10 := pay10_at h0 h33 h83
  generalize k0_pay10 (F := Ideal) v0 v33 v83 = v at h10 ⊢
  generalize k0_pay17 (F := Ideal) v135 v139 v141 = v' at h17 ⊢
  have hr := r.isLt
  pointwise [k0_pay3]
  rw [h10 _ (by omega) (by omega) l, h17 _ (by omega) (by omega) l, show b + (8 + r.val) = b + r.val + 8 by omega]

/-- The three running sums of the taps' gradient. -/
theorem sum0_at (a : FVec Ideal S1x128 .f32) (h58 : Win b B v58) (h109 : Win b (P H C) v109) (l : Fin 128) :
    k0_pay19 (F := Ideal) a v58 v109 v135 v139 v141 (ix2 0 l)
      = a (ix2 0 l) + ∑ r : Fin 256, P H C (b + r.val + 7) l * DCV H B C D W nw (b + r.val + 8) l := by
  have h := pay18_at h17 h58
  generalize hv : k0_pay18 (F := Ideal) v58 v135 v139 v141 = v at h
  pointwise [k0_pay19]
  congr 1
  refine Finset.sum_congr rfl fun r _ => ?_
  have hr := r.isLt
  rw [hv, h _ (by omega) (by omega) l _ rfl, h109.at _ _ (b + r.val + 7) (by omega), show b + (8 + r.val) = b + r.val + 8 by omega]

theorem sum1_at (a : FVec Ideal S1x128 .f32) (h58 : Win b B v58) (h109 : Win b (P H C) v109) (l : Fin 128) :
    k0_pay20 (F := Ideal) a v58 v109 v135 v139 v141 (ix2 0 l)
      = a (ix2 0 l) + ∑ r : Fin 256, P H C (b + r.val + 8) l * DCV H B C D W nw (b + r.val + 8) l := by
  have h := pay18_at h17 h58
  generalize hv : k0_pay18 (F := Ideal) v58 v135 v139 v141 = v at h
  pointwise [k0_pay20]
  congr 1
  refine Finset.sum_congr rfl fun r _ => ?_
  have hr := r.isLt
  rw [hv, h _ (by omega) (by omega) l _ rfl, h109.at _ _ (b + r.val + 8) (by omega), show b + (8 + r.val) = b + r.val + 8 by omega]

theorem sum2_at (a : FVec Ideal S1x128 .f32) (h58 : Win b B v58) (h109 : Win b (P H C) v109) (l : Fin 128) :
    k0_pay22 (F := Ideal) a v58 v109 v135 v139 v141 (ix2 0 l)
      = a (ix2 0 l) + ∑ r : Fin 256, P H C (b + r.val + 9) l * DCV H B C D W nw (b + r.val + 8) l := by
  have h := pay18_at h17 h58
  generalize hv : k0_pay18 (F := Ideal) v58 v135 v139 v141 = v at h
  pointwise [k0_pay22]
  congr 1
  refine Finset.sum_congr rfl fun r _ => ?_
  have hr := r.isLt
  rw [hv, h _ (by omega) (by omega) l _ rfl, h109.at _ _ (b + r.val + 9) (by omega), show b + (8 + r.val) = b + r.val + 8 by omega]

omit h17 in
/-- The running sum of the norm weight's gradient. -/
theorem sum3_at (a : FVec Ideal S1x128 .f32) (h108 : Win b D v108)
    (h123 : ∀ (n : ℕ) (hn : 1 ≤ n) (hn' : n < 271) (l : Fin 128), v123 (ix2 ⟨n, by omega⟩ l) = Y H B C W (b + n) l)
    (h131 : ∀ (n : ℕ) (hn : 1 ≤ n) (hn' : n < 271), v131 (ix2 ⟨n, by omega⟩ 0) = RR H B C W (b + n)) (l : Fin 128) :
    k0_pay23 (F := Ideal) a v108 v123 v131 (ix2 0 l)
      = a (ix2 0 l) + ∑ r : Fin 256, D (b + r.val + 8) l * Y H B C W (b + r.val + 8) l * RR H B C W (b + r.val + 8) := by
  pointwise [k0_pay23]
  congr 1
  refine Finset.sum_congr rfl fun r _ => ?_
  have hr := r.isLt
  rw [h123 _ (by omega) (by omega) l, h131 _ (by omega) (by omega), h108.at _ _ (b + r.val + 8) (by omega), show b + (8 + r.val) = b + r.val + 8 by omega]

end

end Cert.KernelIdeal.Sc
-- ==== Proof.ScKernel.lean ====
/- The short-convolution mixer's gradient, the kernel's loop: what each trip stores and adds is the closed form at the
   trip's 256 rows, so the loop's three arrays are the closed form and its four sums are sums over all rows. -/
module

public import proofs.«01_k».proof.Proof.Gen.KernelIdeal.Value
public import proofs.«01_k».proof.Proof.ScTrip
public import Idealize.ShloMosaic.Lib.Pipeline.ValueKit
public import Idealize.ShloMosaic.Lib.Pointwise

@[expose] public section

set_option maxRecDepth 16384

noncomputable section

namespace Cert.KernelIdeal.Sc

open Cert.KernelIdeal Cert.KernelIdeal.Gen Idealize.ShloMosaic Idealize.ShloMosaic.TcCoe Idealize.SL.Sem
open Idealize.ShloMosaic.Pipeline (Dat)
open Cert.ScMath

/-- A column block with its rows numbered from 8. -/
abbrev rows (x : FVec Ideal S4096x128 .f32) : ℕ → Fin 128 → EReal := ext fun n l => x (ix2 n l)

theorem off1 : ∀ k : Fin k0_t1_loop.trips, BitVec.toNat (Scalar.indexCast (Scalar.muli (Scf.iv 0#32 1#32 ↑k) 256#32)) = 256 * k.val := by
  decide +kernel
theorem off2 : ∀ k : Fin k0_t1_loop.trips,
    BitVec.toNat (Scalar.indexCast (Scalar.maxsi (Scalar.subi (Scalar.muli (Scf.iv 0#32 1#32 ↑k) 256#32) 8#32) 0#32)) = 256 * k.val - 8 := by decide +kernel
theorem off3 : ∀ k : Fin k0_t1_loop.trips,
    BitVec.toNat (Scalar.indexCast (Scalar.minsi (Scalar.addi (Scalar.muli (Scf.iv 0#32 1#32 ↑k) 256#32) 256#32) 4088#32)) = min (256 * k.val + 256) 4088 := by
  decide +kernel

/-- An array at the row `256 k + r`. -/
theorem at_row (A : S4096x128.Idx → EReal) (b r : ℕ) (l : Fin 128) (y : S4096x128.Idx) (e0 : (y 0).val = b + r) (e1 : y 1 = l) (h : b + r < 4096) :
    A (ix2 ⟨b + r, h⟩ l) = A y := by
  congr 1
  rw [eq_ix2 (n0 := 4096) (n1 := 128) y]
  exact (ix2_inj ..).2 ⟨Fin.ext e0.symm, e1.symm⟩

/-- What the three arrays hold, and the terms of the four sums. -/
def A6 (x0 x1 x2 x3 : FVec Ideal S4096x128 .f32) (W : Fin 3 → Fin 128 → EReal) (nw : Fin 128 → EReal) (y : S4096x128.Idx) : EReal :=
  DP (rows x0) (rows x1) (rows x2) (rows x3) W nw ((y 0).val + 8) (y 1) * rows x2 ((y 0).val + 8) (y 1)
def A7 (x0 x1 x2 x3 : FVec Ideal S4096x128 .f32) (W : Fin 3 → Fin 128 → EReal) (nw : Fin 128 → EReal) (y : S4096x128.Idx) : EReal :=
  DY (rows x0) (rows x1) (rows x2) (rows x3) W nw ((y 0).val + 8) (y 1) * CV (rows x0) (rows x2) W ((y 0).val + 8) (y 1)
def A8 (x0 x1 x2 x3 : FVec Ideal S4096x128 .f32) (W : Fin 3 → Fin 128 → EReal) (nw : Fin 128 → EReal) (y : S4096x128.Idx) : EReal :=
  DP (rows x0) (rows x1) (rows x2) (rows x3) W nw ((y 0).val + 8) (y 1) * rows x0 ((y 0).val + 8) (y 1)

section
variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S3x128 .f32) (harg10 : arg10.IsWhole) (arg11 : Memref sig .tc .vmem S1x128 .f32) (harg11 : arg11.IsWhole) (v0 : Vec Ideal S3x128 .f32) (v1 : Vec Ideal S1x128 .f32)
  {x0 x1 x2 x3 : FVec Ideal S4096x128 .f32} {W : Fin 3 → Fin 128 → EReal} {nw : Fin 128 → EReal}
  (h0 : ∀ k l, v0 (ix2 k l) = W k l) (h1 : ∀ l, v1 (ix2 0 l) = nw l)
include h0 h1

theorem trip_sum0 (k : Fin k0_t1_loop.trips) (acc : FVec Ideal S1x128 .f32 × FVec Ideal S1x128 .f32 × FVec Ideal S1x128 .f32 × FVec Ideal S1x128 .f32) (l : Fin 128) :
    (tripR_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) k acc).1 (ix2 0 l)
      = acc.1 (ix2 0 l) + ∑ r : Fin 256, P (rows x0) (rows x2) (256 * k.val + r.val + 7) l * DCV (rows x0) (rows x1) (rows x2) (rows x3) W nw (256 * k.val + r.val + 8) l := by
  unfold tripR_k0_t1 trip_k0_t1
  dsimp only
  sl_unfold_words
  simp only [View.readAt_eq_ld, harg1.read_unread, harg2.read_unread, harg3.read_unread, harg4.read_unread]
  refine sum0_at (pay17_at h0 h1 ?_ ?_ ?_ ?_) acc.1 ?_ (pay9_win ?_ ?_) l
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  · rw [pay8_eq]
    refine window (fun n l => x3 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · refine window (fun n l => x0 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]

theorem trip_sum1 (k : Fin k0_t1_loop.trips) (acc : FVec Ideal S1x128 .f32 × FVec Ideal S1x128 .f32 × FVec Ideal S1x128 .f32 × FVec Ideal S1x128 .f32) (l : Fin 128) :
    (tripR_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) k acc).2.1 (ix2 0 l)
      = acc.2.1 (ix2 0 l) + ∑ r : Fin 256, P (rows x0) (rows x2) (256 * k.val + r.val + 8) l * DCV (rows x0) (rows x1) (rows x2) (rows x3) W nw (256 * k.val + r.val + 8) l := by
  unfold tripR_k0_t1 trip_k0_t1
  dsimp only
  sl_unfold_words
  simp only [View.readAt_eq_ld, harg1.read_unread, harg2.read_unread, harg3.read_unread, harg4.read_unread]
  refine sum1_at (pay17_at h0 h1 ?_ ?_ ?_ ?_) acc.2.1 ?_ (pay9_win ?_ ?_) l
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  · rw [pay8_eq]
    refine window (fun n l => x3 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · refine window (fun n l => x0 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]

theorem trip_sum2 (k : Fin k0_t1_loop.trips) (acc : FVec Ideal S1x128 .f32 × FVec Ideal S1x128 .f32 × FVec Ideal S1x128 .f32 × FVec Ideal S1x128 .f32) (l : Fin 128) :
    (tripR_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) k acc).2.2.1 (ix2 0 l)
      = acc.2.2.1 (ix2 0 l) + ∑ r : Fin 256, P (rows x0) (rows x2) (256 * k.val + r.val + 9) l * DCV (rows x0) (rows x1) (rows x2) (rows x3) W nw (256 * k.val + r.val + 8) l := by
  unfold tripR_k0_t1 trip_k0_t1
  dsimp only
  sl_unfold_words
  simp only [View.readAt_eq_ld, harg1.read_unread, harg2.read_unread, harg3.read_unread, harg4.read_unread]
  refine sum2_at (pay17_at h0 h1 ?_ ?_ ?_ ?_) acc.2.2.1 ?_ (pay9_win ?_ ?_) l
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  · rw [pay8_eq]
    refine window (fun n l => x3 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · refine window (fun n l => x0 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]

omit h1 in
theorem trip_sum3 (k : Fin k0_t1_loop.trips) (acc : FVec Ideal S1x128 .f32 × FVec Ideal S1x128 .f32 × FVec Ideal S1x128 .f32 × FVec Ideal S1x128 .f32) (l : Fin 128) :
    (tripR_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) k acc).2.2.2 (ix2 0 l)
      = acc.2.2.2 (ix2 0 l) + ∑ r : Fin 256, rows x3 (256 * k.val + r.val + 8) l * Y (rows x0) (rows x1) (rows x2) W (256 * k.val + r.val + 8) l
          * RR (rows x0) (rows x1) (rows x2) W (256 * k.val + r.val + 8) := by
  unfold tripR_k0_t1 trip_k0_t1
  dsimp only
  sl_unfold_words
  simp only [View.readAt_eq_ld, harg1.read_unread, harg2.read_unread, harg3.read_unread, harg4.read_unread]
  refine sum3_at acc.2.2.2 ?_ (pay11_at h0 ?_ ?_ ?_) (pay12_at h0 ?_ ?_ ?_) l
  · rw [pay8_eq]
    refine window (fun n l => x3 (ix2 n l)) k _ _ _ ?_ ?_ ?_ <;> intro r l h <;> pointwise <;> simp only [off1, off2, off3]
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]

theorem trip_pieces6 (k : Fin k0_t1_loop.trips) (acc : FVec Ideal S1x128 .f32 × FVec Ideal S1x128 .f32 × FVec Ideal S1x128 .f32 × FVec Ideal S1x128 .f32) :
    ∀ pc ∈ (tripL_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) k acc).1, ∀ y : pc.1.shape.Idx,
      pc.2 y = A6 x0 x1 x2 x3 W nw (pc.1.emb y) := by
  unfold tripL_k0_t1 trip_k0_t1
  dsimp only
  sl_unfold_words
  simp only [View.readAt_eq_ld, harg1.read_unread, harg2.read_unread, harg3.read_unread, harg4.read_unread]
  intro pc hpc
  simp only [List.mem_singleton] at hpc
  subst hpc
  intro y
  obtain ⟨r, l, rfl⟩ : ∃ (r : Fin 256) (l : Fin 128), y = ix2 r l := ⟨y 0, y 1, eq_ix2 y⟩
  refine (store6_at (b := 256 * k.val) (H := rows x0) (B := rows x1) (C := rows x2) (D := rows x3) (W := W) (nw := nw) (pay17_at h0 h1 ?_ ?_ ?_ ?_) h0 ?_ ?_ r l).trans ?_
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  · rw [pay8_eq]
    refine window (fun n l => x3 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  refine (show A6 x0 x1 x2 x3 W nw (ix2 ⟨256 * k.val + r.val, by have := k.isLt; have := trips_eq; omega⟩ l) = _ from ?_)
  refine at_row (A6 x0 x1 x2 x3 W nw) (256 * k.val) r.val l _ ?_ ?_ (h := by have := k.isLt; have := trips_eq; omega)
  · exact (ValueKit.rect_emb_unit_val _ _ (k0_off1_inb k) _ 0).trans (congrArg (· + r.val) (off1 k))
  · exact Fin.ext ((ValueKit.rect_emb_unit_val _ _ (k0_off1_inb k) _ 1).trans (Nat.zero_add _))

theorem trip_pieces7 (k : Fin k0_t1_loop.trips) (acc : FVec Ideal S1x128 .f32 × FVec Ideal S1x128 .f32 × FVec Ideal S1x128 .f32 × FVec Ideal S1x128 .f32) :
    ∀ pc ∈ (tripL_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) k acc).2.1, ∀ y : pc.1.shape.Idx,
      pc.2 y = A7 x0 x1 x2 x3 W nw (pc.1.emb y) := by
  unfold tripL_k0_t1 trip_k0_t1
  dsimp only
  sl_unfold_words
  simp only [View.readAt_eq_ld, harg1.read_unread, harg2.read_unread, harg3.read_unread, harg4.read_unread]
  intro pc hpc
  simp only [List.mem_singleton] at hpc
  subst hpc
  intro y
  obtain ⟨r, l, rfl⟩ : ∃ (r : Fin 256) (l : Fin 128), y = ix2 r l := ⟨y 0, y 1, eq_ix2 y⟩
  refine (store7_at (b := 256 * k.val) (H := rows x0) (B := rows x1) (C := rows x2) (D := rows x3) (W := W) (nw := nw) (pay17_at h0 h1 ?_ ?_ ?_ ?_) h0 ?_ ?_ r l).trans ?_
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  · rw [pay8_eq]
    refine window (fun n l => x3 (ix2 n l)) k _ _ _ ?_ ?_ ?_ <;> intro r l h <;> pointwise <;> simp only [off1, off2, off3]
  · refine window (fun n l => x0 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  refine (show A7 x0 x1 x2 x3 W nw (ix2 ⟨256 * k.val + r.val, by have := k.isLt; have := trips_eq; omega⟩ l) = _ from ?_)
  refine at_row (A7 x0 x1 x2 x3 W nw) (256 * k.val) r.val l _ ?_ ?_ (h := by have := k.isLt; have := trips_eq; omega)
  · exact (ValueKit.rect_emb_unit_val _ _ (k0_off1_inb k) _ 0).trans (congrArg (· + r.val) (off1 k))
  · exact Fin.ext ((ValueKit.rect_emb_unit_val _ _ (k0_off1_inb k) _ 1).trans (Nat.zero_add _))

theorem trip_pieces8 (k : Fin k0_t1_loop.trips) (acc : FVec Ideal S1x128 .f32 × FVec Ideal S1x128 .f32 × FVec Ideal S1x128 .f32 × FVec Ideal S1x128 .f32) :
    ∀ pc ∈ (tripL_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) k acc).2.2, ∀ y : pc.1.shape.Idx,
      pc.2 y = A8 x0 x1 x2 x3 W nw (pc.1.emb y) := by
  unfold tripL_k0_t1 trip_k0_t1
  dsimp only
  sl_unfold_words
  simp only [View.readAt_eq_ld, harg1.read_unread, harg2.read_unread, harg3.read_unread, harg4.read_unread]
  intro pc hpc
  simp only [List.mem_singleton] at hpc
  subst hpc
  intro y
  obtain ⟨r, l, rfl⟩ : ∃ (r : Fin 256) (l : Fin 128), y = ix2 r l := ⟨y 0, y 1, eq_ix2 y⟩
  refine (store8_at (b := 256 * k.val) (H := rows x0) (B := rows x1) (C := rows x2) (D := rows x3) (W := W) (nw := nw) (pay17_at h0 h1 ?_ ?_ ?_ ?_) h0 ?_ ?_ r l).trans ?_
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  · rw [pay7_eq]
    refine window (fun n l => x2 (ix2 n l)) k _ _ _ ?_ ?_ ?_ <;> intro r l h <;> pointwise <;> simp only [off1, off2, off3]
  · rw [pay8_eq]
    refine window (fun n l => x3 (ix2 n l)) k _ _ _ ?_ ?_ ?_ <;> intro r l h <;> pointwise <;> simp only [off1, off2, off3]
  · refine window (fun n l => x0 (ix2 n l)) k _ _ _ ?_ ?_ ?_ <;> intro r l h <;> pointwise <;> simp only [off1, off2, off3]
  · rw [pay6_eq]
    refine window (fun n l => x1 (ix2 n l)) k _ _ _ ?_ ?_ ?_ <;> intro r l h <;> pointwise <;> simp only [off1, off2, off3]
  refine (show A8 x0 x1 x2 x3 W nw (ix2 ⟨256 * k.val + r.val, by have := k.isLt; have := trips_eq; omega⟩ l) = _ from ?_)
  refine at_row (A8 x0 x1 x2 x3 W nw) (256 * k.val) r.val l _ ?_ ?_ (h := by have := k.isLt; have := trips_eq; omega)
  · exact (ValueKit.rect_emb_unit_val _ _ (k0_off1_inb k) _ 0).trans (congrArg (· + r.val) (off1 k))
  · exact Fin.ext ((ValueKit.rect_emb_unit_val _ _ (k0_off1_inb k) _ 1).trans (Nat.zero_add _))

/-- THE LOOP after `n` trips. -/
theorem loop_pieces6 (init : FVec Ideal S1x128 .f32 × FVec Ideal S1x128 .f32 × FVec Ideal S1x128 .f32 × FVec Ideal S1x128 .f32) (n : ℕ) (hn : n ≤ 16) :
    ∀ pc ∈ (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).2.1, ∀ y : pc.1.shape.Idx, pc.2 y = A6 x0 x1 x2 x3 W nw (pc.1.emb y) := by
  induction n with
  | zero => intro pc hpc; exact absurd hpc (by simp [st_k0_t1])
  | succ n ih =>
    rw [show n + 1 = (⟨n, by rw [trips_eq]; omega⟩ : Fin k0_t1_loop.trips).val + 1 from rfl, st_k0_t1_succ]
    intro pc hpc
    rcases List.mem_append.mp hpc with h | h
    · exact trip_pieces6 𝒱 c bd i arg1 harg1 arg2 harg2 arg3 harg3 arg4 harg4 arg5 harg5 arg6 harg6 arg7 harg7 arg8 harg8 arg9 harg9 arg10 harg10 arg11 harg11 v0 v1 h0 h1 _ _ pc h
    · exact ih (by omega) pc h

theorem loop_pieces7 (init : FVec Ideal S1x128 .f32 × FVec Ideal S1x128 .f32 × FVec Ideal S1x128 .f32 × FVec Ideal S1x128 .f32) (n : ℕ) (hn : n ≤ 16) :
    ∀ pc ∈ (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).2.2.1, ∀ y : pc.1.shape.Idx, pc.2 y = A7 x0 x1 x2 x3 W nw (pc.1.emb y) := by
  induction n with
  | zero => intro pc hpc; exact absurd hpc (by simp [st_k0_t1])
  | succ n ih =>
    rw [show n + 1 = (⟨n, by rw [trips_eq]; omega⟩ : Fin k0_t1_loop.trips).val + 1 from rfl, st_k0_t1_succ]
    intro pc hpc
    rcases List.mem_append.mp hpc with h | h
    · exact trip_pieces7 𝒱 c bd i arg1 harg1 arg2 harg2 arg3 harg3 arg4 harg4 arg5 harg5 arg6 harg6 arg7 harg7 arg8 harg8 arg9 harg9 arg10 harg10 arg11 harg11 v0 v1 h0 h1 _ _ pc h
    · exact ih (by omega) pc h

theorem loop_pieces8 (init : FVec Ideal S1x128 .f32 × FVec Ideal S1x128 .f32 × FVec Ideal S1x128 .f32 × FVec Ideal S1x128 .f32) (n : ℕ) (hn : n ≤ 16) :
    ∀ pc ∈ (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).2.2.2, ∀ y : pc.1.shape.Idx, pc.2 y = A8 x0 x1 x2 x3 W nw (pc.1.emb y) := by
  induction n with
  | zero => intro pc hpc; exact absurd hpc (by simp [st_k0_t1])
  | succ n ih =>
    rw [show n + 1 = (⟨n, by rw [trips_eq]; omega⟩ : Fin k0_t1_loop.trips).val + 1 from rfl, st_k0_t1_succ]
    intro pc hpc
    rcases List.mem_append.mp hpc with h | h
    · exact trip_pieces8 𝒱 c bd i arg1 harg1 arg2 harg2 arg3 harg3 arg4 harg4 arg5 harg5 arg6 harg6 arg7 harg7 arg8 harg8 arg9 harg9 arg10 harg10 arg11 harg11 v0 v1 h0 h1 _ _ pc h
    · exact ih (by omega) pc h

theorem loop_sum0 (init : FVec Ideal S1x128 .f32 × FVec Ideal S1x128 .f32 × FVec Ideal S1x128 .f32 × FVec Ideal S1x128 .f32) (n : ℕ) (hn : n = 16) (l : Fin 128) (h : init.1 (ix2 0 l) = 0) :
    (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).1.1 (ix2 0 l) = ∑ n : Fin 4096, P (rows x0) (rows x2) (n.val + 7) l * DCV (rows x0) (rows x1) (rows x2) (rows x3) W nw (n.val + 8) l := by
  subst hn
  have key : ∀ n, n ≤ 16 → (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).1.1 (ix2 0 l)
      = ∑ k ∈ Finset.range n, ∑ r : Fin 256, P (rows x0) (rows x2) (k * 256 + r.val + 7) l * DCV (rows x0) (rows x1) (rows x2) (rows x3) W nw (k * 256 + r.val + 8) l := by
    intro n
    induction n with
    | zero => intro _; rw [Finset.sum_range_zero]; exact h
    | succ n ih =>
      intro hn
      rw [show n + 1 = (⟨n, by rw [trips_eq]; omega⟩ : Fin k0_t1_loop.trips).val + 1 from rfl, st_k0_t1_succ]
      refine (trip_sum0 𝒱 c bd i arg1 harg1 arg2 harg2 arg3 harg3 arg4 harg4 arg5 harg5 arg6 harg6 arg7 harg7 arg8 harg8 arg9 harg9 arg10 harg10 arg11 harg11 v0 v1 h0 h1 _ _ l).trans ?_
      rw [Finset.sum_range_succ, ih (by omega)]
      simp only [Nat.mul_comm 256]
  rw [key 16 le_rfl, Finset.sum_range]
  exact (Fin.sum_univ_tiles 16 256 rfl (fun n : Fin 4096 => P (rows x0) (rows x2) (n.val + 7) l * DCV (rows x0) (rows x1) (rows x2) (rows x3) W nw (n.val + 8) l)).symm

theorem loop_sum1 (init : FVec Ideal S1x128 .f32 × FVec Ideal S1x128 .f32 × FVec Ideal S1x128 .f32 × FVec Ideal S1x128 .f32) (n : ℕ) (hn : n = 16) (l : Fin 128) (h : init.2.1 (ix2 0 l) = 0) :
    (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).1.2.1 (ix2 0 l) = ∑ n : Fin 4096, P (rows x0) (rows x2) (n.val + 8) l * DCV (rows x0) (rows x1) (rows x2) (rows x3) W nw (n.val + 8) l := by
  subst hn
  have key : ∀ n, n ≤ 16 → (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).1.2.1 (ix2 0 l)
      = ∑ k ∈ Finset.range n, ∑ r : Fin 256, P (rows x0) (rows x2) (k * 256 + r.val + 8) l * DCV (rows x0) (rows x1) (rows x2) (rows x3) W nw (k * 256 + r.val + 8) l := by
    intro n
    induction n with
    | zero => intro _; rw [Finset.sum_range_zero]; exact h
    | succ n ih =>
      intro hn
      rw [show n + 1 = (⟨n, by rw [trips_eq]; omega⟩ : Fin k0_t1_loop.trips).val + 1 from rfl, st_k0_t1_succ]
      refine (trip_sum1 𝒱 c bd i arg1 harg1 arg2 harg2 arg3 harg3 arg4 harg4 arg5 harg5 arg6 harg6 arg7 harg7 arg8 harg8 arg9 harg9 arg10 harg10 arg11 harg11 v0 v1 h0 h1 _ _ l).trans ?_
      rw [Finset.sum_range_succ, ih (by omega)]
      simp only [Nat.mul_comm 256]
  rw [key 16 le_rfl, Finset.sum_range]
  exact (Fin.sum_univ_tiles 16 256 rfl (fun n : Fin 4096 => P (rows x0) (rows x2) (n.val + 8) l * DCV (rows x0) (rows x1) (rows x2) (rows x3) W nw (n.val + 8) l)).symm

theorem loop_sum2 (init : FVec Ideal S1x128 .f32 × FVec Ideal S1x128 .f32 × FVec Ideal S1x128 .f32 × FVec Ideal S1x128 .f32) (n : ℕ) (hn : n = 16) (l : Fin 128) (h : init.2.2.1 (ix2 0 l) = 0) :
    (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).1.2.2.1 (ix2 0 l) = ∑ n : Fin 4096, P (rows x0) (rows x2) (n.val + 9) l * DCV (rows x0) (rows x1) (rows x2) (rows x3) W nw (n.val + 8) l := by
  subst hn
  have key : ∀ n, n ≤ 16 → (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).1.2.2.1 (ix2 0 l)
      = ∑ k ∈ Finset.range n, ∑ r : Fin 256, P (rows x0) (rows x2) (k * 256 + r.val + 9) l * DCV (rows x0) (rows x1) (rows x2) (rows x3) W nw (k * 256 + r.val + 8) l := by
    intro n
    induction n with
    | zero => intro _; rw [Finset.sum_range_zero]; exact h
    | succ n ih =>
      intro hn
      rw [show n + 1 = (⟨n, by rw [trips_eq]; omega⟩ : Fin k0_t1_loop.trips).val + 1 from rfl, st_k0_t1_succ]
      refine (trip_sum2 𝒱 c bd i arg1 harg1 arg2 harg2 arg3 harg3 arg4 harg4 arg5 harg5 arg6 harg6 arg7 harg7 arg8 harg8 arg9 harg9 arg10 harg10 arg11 harg11 v0 v1 h0 h1 _ _ l).trans ?_
      rw [Finset.sum_range_succ, ih (by omega)]
      simp only [Nat.mul_comm 256]
  rw [key 16 le_rfl, Finset.sum_range]
  exact (Fin.sum_univ_tiles 16 256 rfl (fun n : Fin 4096 => P (rows x0) (rows x2) (n.val + 9) l * DCV (rows x0) (rows x1) (rows x2) (rows x3) W nw (n.val + 8) l)).symm

omit h1 in
theorem loop_sum3 (init : FVec Ideal S1x128 .f32 × FVec Ideal S1x128 .f32 × FVec Ideal S1x128 .f32 × FVec Ideal S1x128 .f32) (n : ℕ) (hn : n = 16) (l : Fin 128) (h : init.2.2.2 (ix2 0 l) = 0) :
    (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).1.2.2.2 (ix2 0 l) = ∑ n : Fin 4096, rows x3 (n.val + 8) l * Y (rows x0) (rows x1) (rows x2) W (n.val + 8) l * RR (rows x0) (rows x1) (rows x2) W (n.val + 8) := by
  subst hn
  have key : ∀ n, n ≤ 16 → (st_k0_t1 (F := Ideal) 𝒱 c bd i arg1 harg1 arg2 harg2 arg3 harg3 arg4 harg4 arg5 harg5 arg6 harg6 arg7 harg7 arg8 harg8 arg9 harg9 arg10 harg10 arg11 harg11 v0 v1 (harg1.unread x0) (harg2.unread x1) (harg3.unread x2) (harg4.unread x3) init n).1.2.2.2 (ix2 0 l)
      = ∑ k ∈ Finset.range n, ∑ r : Fin 256, rows x3 (k * 256 + r.val + 8) l * Y (rows x0) (rows x1) (rows x2) W (k * 256 + r.val + 8) l * RR (rows x0) (rows x1) (rows x2) W (k * 256 + r.val + 8) := by
    intro n
    induction n with
    | zero => intro _; rw [Finset.sum_range_zero]; exact h
    | succ n ih =>
      intro hn
      rw [show n + 1 = (⟨n, by rw [trips_eq]; omega⟩ : Fin k0_t1_loop.trips).val + 1 from rfl, st_k0_t1_succ]
      refine (trip_sum3 𝒱 c bd i arg1 harg1 arg2 harg2 arg3 harg3 arg4 harg4 arg5 harg5 arg6 harg6 arg7 harg7 arg8 harg8 arg9 harg9 arg10 harg10 arg11 harg11 v0 v1 h0 _ _ l).trans ?_
      rw [Finset.sum_range_succ, ih (by omega)]
      simp only [Nat.mul_comm 256]
  rw [key 16 le_rfl, Finset.sum_range]
  exact (Fin.sum_univ_tiles 16 256 rfl (fun n : Fin 4096 => rows x3 (n.val + 8) l * Y (rows x0) (rows x1) (rows x2) W (n.val + 8) l * RR (rows x0) (rows x1) (rows x2) W (n.val + 8))).symm

end

/-- One grid point's five blocks, from its six input blocks. -/
def A9 (x0 x1 x2 x3 : FVec Ideal S4096x128 .f32) (W : Fin 3 → Fin 128 → EReal) (nw : Fin 128 → EReal) (y : S3x128.Idx) : EReal :=
  ∑ n : Fin 4096, P (rows x0) (rows x2) (n.val + (7 + (y 0).val)) (y 1) * DCV (rows x0) (rows x1) (rows x2) (rows x3) W nw (n.val + 8) (y 1)
def A10 (x0 x1 x2 x3 : FVec Ideal S4096x128 .f32) (W : Fin 3 → Fin 128 → EReal) (y : S1x128.Idx) : EReal :=
  ∑ n : Fin 4096, rows x3 (n.val + 8) (y 1) * Y (rows x0) (rows x1) (rows x2) W (n.val + 8) (y 1) * RR (rows x0) (rows x1) (rows x2) W (n.val + 8)

theorem A9_at {x0 x1 x2 x3 : FVec Ideal S4096x128 .f32} {W : Fin 3 → Fin 128 → EReal} {nw : Fin 128 → EReal} (k : ℕ) (l : Fin 128) (y : S3x128.Idx) (e0 : (y 0).val = k) (e1 : y 1 = l) :
    ∑ n : Fin 4096, P (rows x0) (rows x2) (n.val + (7 + k)) l * DCV (rows x0) (rows x1) (rows x2) (rows x3) W nw (n.val + 8) l = A9 x0 x1 x2 x3 W nw y := by
  subst e0 e1; rfl
theorem A10_at {x0 x1 x2 x3 : FVec Ideal S4096x128 .f32} {W : Fin 3 → Fin 128 → EReal} (l : Fin 128) (y : S1x128.Idx) (e1 : y 1 = l) :
    ∑ n : Fin 4096, rows x3 (n.val + 8) l * Y (rows x0) (rows x1) (rows x2) W (n.val + 8) l * RR (rows x0) (rows x1) (rows x2) W (n.val + 8)
      = A10 x0 x1 x2 x3 W y := by
  subst e1; rfl

theorem pay1_zero (l : Fin 128) : k0_pay1 (F := Ideal) (ix2 0 l) = 0 := by
  pointwise [k0_pay1]

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S3x128 .f32) (harg5 : arg5.IsWhole) (arg6 : Memref sig .tc .vmem S1x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S3x128 .f32) (harg10 : arg10.IsWhole) (arg11 : Memref sig .tc .vmem S1x128 .f32) (harg11 : arg11.IsWhole)
    (x0 : Vec Ideal S4096x128 .f32) (x1 : Vec Ideal S4096x128 .f32) (x2 : Vec Ideal S4096x128 .f32) (x3 : Vec Ideal S4096x128 .f32) (x4 : Vec Ideal S3x128 .f32) (x5 : Vec Ideal S1x128 .f32)

theorem out6_eq (y : S4096x128.Idx) : out0_A_6 (F := Ideal) c i arg1 harg1 arg2 harg2 arg3 harg3 arg4 harg4 arg5 harg5 arg6 harg6 arg7 harg7 arg8 harg8 arg9 harg9 arg10 harg10 arg11 harg11 x0 x1 x2 x3 x4 x5 y = A6 x0 x1 x2 x3 (fun k l => x4 (ix2 k l)) (fun l => x5 (ix2 0 l)) y := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4 x5)]
  refine View.canon_apply_of_pieces (A6 x0 x1 x2 x3 (fun k l => x4 (ix2 k l)) (fun l => x5 (ix2 0 l))) _ ?_ y (cover0_A_6 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  refine loop_pieces6 _ _ _ _ _ _ _ _ _ _ _ _ _ _ _ _ _ _ _ _ _ _ _ _ _ _ _ _ ?_ ?_ _ _ (by decide +kernel)
  · intro k l; rw [View.readAt_eq_ld, harg5.read_unread]; pointwise
  · intro l; rw [View.readAt_eq_ld, harg6.read_unread]; pointwise

theorem out7_eq (y : S4096x128.Idx) : out0_A_7 (F := Ideal) c i arg1 harg1 arg2 harg2 arg3 harg3 arg4 harg4 arg5 harg5 arg6 harg6 arg7 harg7 arg8 harg8 arg9 harg9 arg10 harg10 arg11 harg11 x0 x1 x2 x3 x4 x5 y = A7 x0 x1 x2 x3 (fun k l => x4 (ix2 k l)) (fun l => x5 (ix2 0 l)) y := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5)]
  refine View.canon_apply_of_pieces (A7 x0 x1 x2 x3 (fun k l => x4 (ix2 k l)) (fun l => x5 (ix2 0 l))) _ ?_ y (cover0_A_7 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  refine loop_pieces7 _ _ _ _ _ _ _ _ _ _ _ _ _ _ _ _ _ _ _ _ _ _ _ _ _ _ _ _ ?_ ?_ _ _ (by decide +kernel)
  · intro k l; rw [View.readAt_eq_ld, harg5.read_unread]; pointwise
  · intro l; rw [View.readAt_eq_ld, harg6.read_unread]; pointwise

theorem out8_eq (y : S4096x128.Idx) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 y = A8 x0 x1 x2 x3 (fun k l => x4 (ix2 k l)) (fun l => x5 (ix2 0 l)) y := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5)]
  refine View.canon_apply_of_pieces (A8 x0 x1 x2 x3 (fun k l => x4 (ix2 k l)) (fun l => x5 (ix2 0 l))) _ ?_ y (cover0_A_8 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  refine loop_pieces8 _ _ _ _ _ _ _ _ _ _ _ _ _ _ _ _ _ _ _ _ _ _ _ _ _ _ _ _ ?_ ?_ _ _ (by decide +kernel)
  · intro k l; rw [View.readAt_eq_ld, harg5.read_unread]; pointwise
  · intro l; rw [View.readAt_eq_ld, harg6.read_unread]; pointwise

theorem out9_eq (y : S3x128.Idx) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 y = A9 x0 x1 x2 x3 (fun k l => x4 (ix2 k l)) (fun l => x5 (ix2 0 l)) y := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5)]
  refine View.canon_apply_of_pieces (A9 x0 x1 x2 x3 (fun k l => x4 (ix2 k l)) (fun l => x5 (ix2 0 l))) _ ?_ y (cover0_A_9 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  intro pc hpc
  simp only [List.mem_cons, List.not_mem_nil, or_false] at hpc
  rcases hpc with rfl | rfl | rfl
  · intro y
    obtain ⟨r, l, rfl⟩ : ∃ (r : Fin 1) (l : Fin 128), y = ix2 r l := ⟨y 0, y 1, eq_ix2 y⟩
    obtain rfl : r = 0 := Subsingleton.elim _ _
    refine (loop_sum2 (W := (fun k l => x4 (ix2 k l))) (nw := (fun l => x5 (ix2 0 l))) _ _ _ _ _ _ _ _ _ _ _ _ _ _ _ _ _ _ _ _ _ _ _ _ _ _ _ _ ?_ ?_ _ _ (by decide +kernel) l (pay1_zero l)).trans ?_
    · intro k l; rw [View.readAt_eq_ld, harg5.read_unread]; pointwise
    · intro l; rw [View.readAt_eq_ld, harg6.read_unread]; pointwise
    exact A9_at 2 l _ ((ValueKit.rect_emb_unit_val _ _ inb_S3x128_S1x128_2_0 _ 0).trans rfl) (Fin.ext ((ValueKit.rect_emb_unit_val _ _ inb_S3x128_S1x128_2_0 _ 1).trans (Nat.zero_add _)))
  · intro y
    obtain ⟨r, l, rfl⟩ : ∃ (r : Fin 1) (l : Fin 128), y = ix2 r l := ⟨y 0, y 1, eq_ix2 y⟩
    obtain rfl : r = 0 := Subsingleton.elim _ _
    refine (loop_sum1 (W := (fun k l => x4 (ix2 k l))) (nw := (fun l => x5 (ix2 0 l))) _ _ _ _ _ _ _ _ _ _ _ _ _ _ _ _ _ _ _ _ _ _ _ _ _ _ _ _ ?_ ?_ _ _ (by decide +kernel) l (pay1_zero l)).trans ?_
    · intro k l; rw [View.readAt_eq_ld, harg5.read_unread]; pointwise
    · intro l; rw [View.readAt_eq_ld, harg6.read_unread]; pointwise
    exact A9_at 1 l _ ((ValueKit.rect_emb_unit_val _ _ inb_S3x128_S1x128_1_0 _ 0).trans rfl) (Fin.ext ((ValueKit.rect_emb_unit_val _ _ inb_S3x128_S1x128_1_0 _ 1).trans (Nat.zero_add _)))
  · intro y
    obtain ⟨r, l, rfl⟩ : ∃ (r : Fin 1) (l : Fin 128), y = ix2 r l := ⟨y 0, y 1, eq_ix2 y⟩
    obtain rfl : r = 0 := Subsingleton.elim _ _
    refine (loop_sum0 (W := (fun k l => x4 (ix2 k l))) (nw := (fun l => x5 (ix2 0 l))) _ _ _ _ _ _ _ _ _ _ _ _ _ _ _ _ _ _ _ _ _ _ _ _ _ _ _ _ ?_ ?_ _ _ (by decide +kernel) l (pay1_zero l)).trans ?_
    · intro k l; rw [View.readAt_eq_ld, harg5.read_unread]; pointwise
    · intro l; rw [View.readAt_eq_ld, harg6.read_unread]; pointwise
    exact A9_at 0 l _ ((ValueKit.rect_emb_unit_val _ _ inb_S3x128_S1x128_0_0 _ 0).trans rfl) (Fin.ext ((ValueKit.rect_emb_unit_val _ _ inb_S3x128_S1x128_0_0 _ 1).trans (Nat.zero_add _)))

theorem out10_eq (y : S1x128.Idx) : out0_A_10 (F := Ideal) c i arg1 harg1 arg2 harg2 arg3 harg3 arg4 harg4 arg5 harg5 arg6 harg6 arg7 harg7 arg8 harg8 arg9 harg9 arg10 harg10 arg11 harg11 x0 x1 x2 x3 x4 x5 y = A10 x0 x1 x2 x3 (fun k l => x4 (ix2 k l)) y := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5)]
  refine View.canon_apply_of_pieces (A10 x0 x1 x2 x3 (fun k l => x4 (ix2 k l))) _ ?_ y (cover0_A_10 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  intro pc hpc
  simp only [List.mem_singleton] at hpc
  subst hpc
  intro y
  obtain ⟨r, l, rfl⟩ : ∃ (r : Fin 1) (l : Fin 128), y = ix2 r l := ⟨y 0, y 1, eq_ix2 y⟩
  obtain rfl : r = 0 := Subsingleton.elim _ _
  refine (loop_sum3 (W := (fun k l => x4 (ix2 k l))) _ _ _ _ _ _ _ _ _ _ _ _ _ _ _ _ _ _ _ _ _ _ _ _ _ _ _ _ ?_ _ _ (by decide +kernel) l (pay1_zero l)).trans ?_
  · intro k l; rw [View.readAt_eq_ld, harg5.read_unread]; pointwise
  exact A10_at l _ (Fin.ext ((ValueKit.rect_emb_unit_val _ _ inb_S1x128_S1x128_0_0 _ 1).trans (Nat.zero_add _)))

end

end Cert.KernelIdeal.Sc
-- ==== Proof.ScRef.lean ====
/- The reference of the short-convolution mixer's gradient, one stage at a time: each of its arrays at row `n` and
   column `128 j + l` is the closed form of `ScMath` over the columns of group `j`. -/
module

public import proofs.«01_k».proof.Proof.Gen.ReferenceIdeal.Read
public import proofs.«01_k».proof.Proof.ScMath
public import Idealize.ShloMosaic.Lib.Pointwise

@[expose] public section

set_option maxRecDepth 16384

noncomputable section

namespace Cert.ReferenceIdeal.Sc

open Cert.ReferenceIdeal Cert.ReferenceIdeal.Gen Cert.ReferenceIdeal.Read Cert.ScMath
open Idealize.ShloMosaic Idealize.ShloMosaic.TcCoe Idealize.SL.Sem

/-- Column `128 j + l` of 2048. -/
def cc (j : Fin 16) (l : Fin 128) : Fin 2048 := ⟨j.val * 128 + l.val, by have := j.isLt; have := l.isLt; omega⟩

variable (X : FVec Ideal S4096x12288 .f32) (G : FVec Ideal S4096x4096 .f32) (Wt : FVec Ideal S3x2048 .f32)
  (Nw : FVec Ideal S1x2048 .f32) (j : Fin 16)

/-- The columns of group `j` in each argument. -/
def uh : ℕ → Fin 128 → EReal := ext fun n l => X (ix2 n ⟨6144 + (cc j l).val, by have := (cc j l).isLt; omega⟩)
def ub : ℕ → Fin 128 → EReal := ext fun n l => X (ix2 n ⟨8192 + (cc j l).val, by have := (cc j l).isLt; omega⟩)
def uc : ℕ → Fin 128 → EReal := ext fun n l => X (ix2 n ⟨10240 + (cc j l).val, by have := (cc j l).isLt; omega⟩)
def dy : ℕ → Fin 128 → EReal := ext fun n l => G (ix2 n ⟨2048 + (cc j l).val, by have := (cc j l).isLt; omega⟩)
def wt (k : Fin 3) (l : Fin 128) : EReal := Wt (ix2 k (cc j l))
def nwt (l : Fin 128) : EReal := Nw (ix2 0 (cc j l))

theorem s4 (n : Fin 4096) (l : Fin 128) : val_main_v4 (F := Ideal) X (ix2 n (cc j l)) = P (uh X j) (uc X j) (n.val + 8) l := by
  rw [P, uh, uc, ext_row _ n _ rfl, ext_row _ n _ rfl]
  pointwise [val_main_v4, val_main_v2, val_main_v0]

/-- The padded input of the convolution: a zero row, the rows, a zero row. -/
theorem s6 (q : Fin 4098) (l : Fin 128) : val_main_v6 (F := Ideal) X (ix2 q (cc j l)) = P (uh X j) (uc X j) (q.val + 7) l := by
  have hq := q.isLt
  pointwise [val_main_v6]
  by_cases h0 : (q : ℕ) < 1
  · rw [dif_pos h0, P, uh, uc, ext_out _ _ (by omega), zero_mul]
    pointwise [val_main_v5, val_main_cst]
  · rw [dif_neg h0]
    by_cases h1 : (q : ℕ) - 1 < 4096
    · rw [dif_pos h1, s4]
      congr 1; show (q : ℕ) - 1 + 8 = q + 7; omega
    · rw [dif_neg h1, P, uh, uc, ext_out _ _ (by omega), zero_mul]
      pointwise [val_main_v5, val_main_cst]

theorem s30 (n : Fin 4096) (l : Fin 128) :
    val_main_v30 (F := Ideal) X Wt (ix2 n (cc j l)) = CV (uh X j) (uc X j) (wt Wt j) (n.val + 8) l := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_2]
  rw [s6, s6, s6, CV]
  simp only [show (n : ℕ) + 8 - 1 = n + 7 by omega, show 1 + (n : ℕ) + 7 = n + 8 by omega, show 2 + (n : ℕ) + 7 = n + 8 + 1 by omega]
  rfl

theorem s31 (n : Fin 4096) (l : Fin 128) :
    val_main_v31 (F := Ideal) X Wt (ix2 n (cc j l)) = Y (uh X j) (ub X j) (uc X j) (wt Wt j) (n.val + 8) l := by
  rw [Y, ← s30, ub, ext_row _ n _ rfl]
  pointwise [val_main_v31, val_main_v1]

theorem s32 (n : Fin 4096) (l : Fin 128) :
    val_main_v32 (F := Ideal) X Wt (ix3 n j l) = Y (uh X j) (ub X j) (uc X j) (wt Wt j) (n.val + 8) l := by
  rw [← s31]
  pointwise [val_main_v32]
  rfl

theorem s39 (n : Fin 4096) :
    val_main_v39 (F := Ideal) X Wt (ix3 n j 0) = MS (uh X j) (ub X j) (uc X j) (wt Wt j) (n.val + 8) := by
  rw [MS]
  simp only [← s32]
  pointwise [val_main_v39, val_main_v38, val_main_v37, val_main_v36, val_main_v35, val_main_v34, val_main_v33, val_main_cst_3, val_main_cst_4, val_main_cst_5]

theorem s40 (n : Fin 4096) :
    val_main_v40 (F := Ideal) X Wt (ix3 n j 0) = RR (uh X j) (ub X j) (uc X j) (wt Wt j) (n.val + 8) := by
  rw [RR, ← s39]
  pointwise [val_main_v40]

/-- The normed mixer. -/
theorem s46 (n : Fin 4096) (l : Fin 128) :
    val_main_v46 (F := Ideal) X Wt (ix2 n (cc j l))
      = Y (uh X j) (ub X j) (uc X j) (wt Wt j) (n.val + 8) l * RR (uh X j) (ub X j) (uc X j) (wt Wt j) (n.val + 8) := by
  have hl := l.isLt
  rw [← s32, ← s40]
  pointwise [val_main_v46, val_main_v45, val_main_v44]
  have h : (⟨(cc j l).val / 128, by have := (cc j l).isLt; omega⟩ : Fin 16) = j := Fin.ext (by show (j.val * 128 + l.val) / 128 = j.val; omega)
  have h' : (⟨(cc j l).val % 128, by omega⟩ : Fin 128) = l := Fin.ext (by show (j.val * 128 + l.val) % 128 = l.val; omega)
  rw [h, h']

theorem s57 (n : Fin 4096) (l : Fin 128) :
    val_main_v57 (F := Ideal) G Nw (ix3 n j l) = dy G j (n.val + 8) l * nwt Nw j l := by
  rw [dy, ext_row _ n _ rfl, nwt]
  pointwise [val_main_v57, val_main_v55, val_main_v54, val_main_v50, val_main_v47, val_main_v3]
  rfl

theorem s60 (n : Fin 4096) :
    val_main_v60 (F := Ideal) X G Wt Nw (ix3 n j 0) = SS (uh X j) (ub X j) (uc X j) (dy G j) (wt Wt j) (nwt Nw j) (n.val + 8) := by
  rw [SS]
  simp only [← s32, ← s57]
  pointwise [val_main_v60, val_main_v59, val_main_v58, val_main_cst_9]
  exact Finset.sum_congr rfl fun k _ => mul_comm _ _

theorem s71 (n : Fin 4096) (l : Fin 128) :
    val_main_v71 (F := Ideal) X G Wt Nw (ix3 n j l) = DY (uh X j) (ub X j) (uc X j) (dy G j) (wt Wt j) (nwt Nw j) (n.val + 8) l := by
  rw [DY_eq, ← s32, ← s57, ← s60, ← s40, ← s39]
  pointwise [val_main_v71, val_main_v70, val_main_v69, val_main_v68, val_main_v67, val_main_v66, val_main_v65, val_main_v64, val_main_v63, val_main_v62, val_main_v61, val_main_v43, val_main_v42, val_main_v41, val_main_cst_6, val_main_cst_10, val_main_cst_11]
  simp only [Fin.sum_univ_one]

theorem s72 (n : Fin 4096) (l : Fin 128) :
    val_main_v72 (F := Ideal) X G Wt Nw (ix2 n (cc j l)) = DY (uh X j) (ub X j) (uc X j) (dy G j) (wt Wt j) (nwt Nw j) (n.val + 8) l := by
  rw [← s71]
  pointwise [val_main_v72]
  have h : (⟨(cc j l).val / 128, by have := (cc j l).isLt; omega⟩ : Fin 16) = j := Fin.ext (by show (j.val * 128 + l.val) / 128 = j.val; omega)
  have h' : (⟨(cc j l).val % 128, by omega⟩ : Fin 128) = l := Fin.ext (by show (j.val * 128 + l.val) % 128 = l.val; omega)
  rw [h, h']

theorem s73 (n : Fin 4096) (l : Fin 128) :
    val_main_v73 (F := Ideal) X G Wt Nw (ix2 n (cc j l)) = DCV (uh X j) (ub X j) (uc X j) (dy G j) (wt Wt j) (nwt Nw j) (n.val + 8) l := by
  rw [DCV, ← s72, ub, ext_row _ n _ rfl]
  pointwise [val_main_v73, val_main_v1]
  exact mul_comm _ _

/-- Of the gradient of the convolution's padded input, its row `n + 1`: the gradient of row `n`. -/
theorem s107 (n : Fin 4096) (l : Fin 128) :
    val_main_v107 (F := Ideal) X G Wt Nw (ix2 n (cc j l)) = DP (uh X j) (ub X j) (uc X j) (dy G j) (wt Wt j) (nwt Nw j) (n.val + 8) l := by
  have hn := n.isLt
  have hub : ∀ q : ℕ, (q < 8 ∨ 4104 ≤ q) → ∀ l, ub X j q l = 0 := fun q hq l => ext_out _ q hq l
  pointwise [val_main_v107, val_main_v105, val_main_v104, val_main_v94, val_main_v93, val_main_v83, val_main_v79, val_main_v88, val_main_v99, val_main_v78, val_main_v87, val_main_v98, val_main_v27, val_main_v26, val_main_v25, val_main_v20, val_main_v19, val_main_v18, val_main_v12, val_main_v11, val_main_v10, val_main_cst_15, val_main_cst_19, val_main_cst_23]
  rw [DP]
  have e2 : (if h : 2 ≤ 1 + (n : ℕ) ∧ 1 + (n : ℕ) - 2 < 4096 then
        val_main_v73 (F := Ideal) X G Wt Nw (ix2 ⟨1 + (n : ℕ) - 2, h.2⟩ (cc j l)) * Wt (ix2 2 (cc j l)) else (0 : EReal))
      = DCV (uh X j) (ub X j) (uc X j) (dy G j) (wt Wt j) (nwt Nw j) (n.val + 8 - 1) l * wt Wt j 2 l := by
    split_ifs with h
    · rw [s73]
      simp only [show 1 + (n : ℕ) - 2 + 8 = n + 8 - 1 by omega]; rfl
    · rw [DCV_zero _ _ _ _ _ _ _ _ (hub _ (by omega)), zero_mul]
  have e1 : val_main_v73 (F := Ideal) X G Wt Nw (ix2 n (cc j l)) * Wt (ix2 1 (cc j l))
      = DCV (uh X j) (ub X j) (uc X j) (dy G j) (wt Wt j) (nwt Nw j) (n.val + 8) l * wt Wt j 1 l := by
    rw [s73]; rfl
  have e0 : (if h : 1 + (n : ℕ) < 4096 then
        val_main_v73 (F := Ideal) X G Wt Nw (ix2 ⟨1 + (n : ℕ), h⟩ (cc j l)) * Wt (ix2 0 (cc j l)) else (0 : EReal))
      = DCV (uh X j) (ub X j) (uc X j) (dy G j) (wt Wt j) (nwt Nw j) (n.val + 8 + 1) l * wt Wt j 0 l := by
    split_ifs with h
    · rw [s73]
      simp only [show 1 + (n : ℕ) + 8 = n + 8 + 1 by omega]; rfl
    · rw [DCV_zero _ _ _ _ _ _ _ _ (hub _ (by omega)), zero_mul]
  refine (congrArg₂ (· + ·) (congrArg₂ (· + ·) e2 e1) e0).trans ?_
  ac_rfl

/-- The input gradients and the gate's. -/
theorem r111 (n : Fin 4096) (l : Fin 128) :
    val_main_v111 (F := Ideal) X G Wt Nw (ix2 n (cc j l))
      = DP (uh X j) (ub X j) (uc X j) (dy G j) (wt Wt j) (nwt Nw j) (n.val + 8) l * uc X j (n.val + 8) l := by
  rw [← s107, uc, ext_row _ n _ rfl]
  pointwise [val_main_v111, val_main_v109, val_main_v2]
  exact mul_comm _ _

theorem r113 (n : Fin 4096) (l : Fin 128) :
    val_main_v113 (F := Ideal) X G Wt Nw (ix2 n (cc j l))
      = DP (uh X j) (ub X j) (uc X j) (dy G j) (wt Wt j) (nwt Nw j) (n.val + 8) l * uh X j (n.val + 8) l := by
  rw [← s107, uh, ext_row _ n _ rfl]
  pointwise [val_main_v113, val_main_v110, val_main_v0]

theorem r112 (n : Fin 4096) (l : Fin 128) :
    val_main_v112 (F := Ideal) X G Wt Nw (ix2 n (cc j l))
      = DY (uh X j) (ub X j) (uc X j) (dy G j) (wt Wt j) (nwt Nw j) (n.val + 8) l * CV (uh X j) (uc X j) (wt Wt j) (n.val + 8) l := by
  rw [← s72, ← s30]
  pointwise [val_main_v112, val_main_v74]

/-- The gradient of the convolution's weights. -/
theorem r103 (k : Fin 3) (l : Fin 128) :
    val_main_v103 (F := Ideal) X G Wt Nw (ix2 k (cc j l))
      = ∑ n : Fin 4096, P (uh X j) (uc X j) (n.val + 7 + k.val) l * DCV (uh X j) (ub X j) (uc X j) (dy G j) (wt Wt j) (nwt Nw j) (n.val + 8) l := by
  have hk := k.isLt
  pointwise [val_main_v103, val_main_v102, val_main_v92, val_main_v82, val_main_v91, val_main_v101, val_main_v90, val_main_v81, val_main_v100, val_main_v89, val_main_v80, val_main_v97, val_main_v86, val_main_v77, val_main_v96, val_main_v85, val_main_v76, val_main_v95, val_main_v84, val_main_v75, val_main_cst_12, val_main_cst_13, val_main_cst_14, val_main_cst_16, val_main_cst_17, val_main_cst_18, val_main_cst_20, val_main_cst_21, val_main_cst_22, val_main_v24, val_main_v17, val_main_v9]
  simp only [s73, s6, Fin.sum_univ_one]
  fin_vals k with hk'
  all_goals simp [hk']
  all_goals (refine Finset.sum_congr rfl fun n _ => ?_; congr 2; omega)

/-- The gradient of the norm's weights. -/
theorem r114 (l : Fin 128) :
    val_main_v114 (F := Ideal) X G Wt (ix2 0 (cc j l))
      = ∑ n : Fin 4096, dy G j (n.val + 8) l * Y (uh X j) (ub X j) (uc X j) (wt Wt j) (n.val + 8) l * RR (uh X j) (ub X j) (uc X j) (wt Wt j) (n.val + 8) := by
  pointwise [val_main_v114, val_main_v56, val_main_v53, val_main_v52, val_main_v51, val_main_v50, val_main_cst_7, val_main_cst_8]
  simp only [s46, Fin.sum_univ_one]
  refine Finset.sum_congr rfl fun n _ => ?_
  rw [dy, ext_row _ n _ rfl]
  exact (mul_comm _ _).trans (mul_assoc _ _ _).symm

end Cert.ReferenceIdeal.Sc
-- ==== Proof.ScArr.lean ====
/- The short-convolution mixer's gradient: each of the kernel's five result arrays is the reference's, column block by
   column block. -/
module

public import proofs.«01_k».proof.Proof.ScKernel
public import proofs.«01_k».proof.Proof.ScRef

@[expose] public section

set_option maxRecDepth 16384

noncomputable section

namespace Cert.KernelIdeal.Sc

open Cert.KernelIdeal Cert.KernelIdeal.Gen Idealize.ShloMosaic Idealize.ShloMosaic.TcCoe Idealize.SL.Sem
open Idealize.ShloMosaic.Pipeline (Dat)
open Cert.ScMath Cert.ReferenceIdeal.Sc

variable (m : (ℓ : Loc nD τ sig) → Buf (Elt Ideal) ℓ)

theorem idx : ∀ t : Fin cfg0.N, win0_0.index t = ![0, 48 + t.val] ∧ win0_1.index t = ![0, 64 + t.val] ∧ win0_2.index t = ![0, 80 + t.val]
    ∧ win0_3.index t = ![0, 16 + t.val] ∧ win0_4.index t = ![0, t.val] ∧ win0_5.index t = ![0, t.val] ∧ win0_6.index t = ![0, t.val]
    ∧ win0_7.index t = ![0, t.val] ∧ win0_8.index t = ![0, t.val] ∧ win0_9.index t = ![0, t.val] ∧ win0_10.index t = ![0, t.val] :=
  (by decide +kernel : ∀ t : Fin grid0.N, _)

/-- The column block of a grid point. -/
abbrev cb (t : Fin cfg0.N) : Fin 16 := ⟨t.val, t.isLt⟩

variable (c : Dev nD) (t : Fin cfg0.N)

/-- The input blocks of a grid point are the reference's columns. -/
theorem rows0 : rows (iblk m c 0 t) = uh (V m c main_arg0) (cb t) := by
  refine congrArg ext (funext fun n => funext fun l => ?_)
  have hl := l.isLt
  blk_ext [iblk, V, idx t, cc]

theorem rows1 : rows (iblk m c 1 t) = ub (V m c main_arg0) (cb t) := by
  refine congrArg ext (funext fun n => funext fun l => ?_)
  have hl := l.isLt
  blk_ext [iblk, V, idx t, cc]

theorem rows2 : rows (iblk m c 2 t) = uc (V m c main_arg0) (cb t) := by
  refine congrArg ext (funext fun n => funext fun l => ?_)
  have hl := l.isLt
  blk_ext [iblk, V, idx t, cc]

theorem rows3 : rows (iblk m c 3 t) = dy (V m c main_arg1) (cb t) := by
  refine congrArg ext (funext fun n => funext fun l => ?_)
  have hl := l.isLt
  blk_ext [iblk, V, idx t, cc]

theorem rows4 : (fun (k : Fin 3) (l : Fin 128) => (show FVec Ideal S3x128 .f32 from iblk m c 4 t) (ix2 k l)) = wt (V m c main_arg2) (cb t) := by
  funext k l
  have hl := l.isLt
  blk_ext [iblk, V, idx t, cc, wt]

theorem rows5 : (fun (l : Fin 128) => (show FVec Ideal S1x128 .f32 from iblk m c 5 t) (ix2 0 l)) = nwt (V m c main_arg3) (cb t) := by
  funext l
  have hl := l.isLt
  blk_ext [iblk, V, idx t, cc, nwt]

/-- The five result arrays. -/
theorem arr6 :
    (dats m 0 c).arrAt 6 cfg0.N = Cert.ReferenceIdeal.Read.val_main_v111 (F := Ideal) (V m c main_arg0) (V m c main_arg1) (V m c main_arg2) (V m c main_arg3) := by
  refine (dats m 0 c).arrAt_eq_of_covers 6 _ (by decide +kernel) fun t _ y => ?_
  blk_simp
  rw [after0_6]
  unfold outsAt0
  dsimp only
  obtain ⟨n, l, rfl⟩ : ∃ (n : Fin 4096) (l : Fin 128), y = ix2 n l := ⟨y 0, y 1, eq_ix2 y⟩
  have e : (win0_6.blk t).view.emb (ix2 n l) = ix2 n (cc (cb t) l) := by
    have hl := l.isLt
    blk_ext [idx t, cc]
  rw [e]
  refine (out6_eq _ _ _ _ _ _ _ _ _ _ _ _ _ _ _ _ _ _ _ _ _ _ _ _ _ _ _ _ _ _ (ix2 n l)).trans ?_
  have h := r111 (V m c main_arg0) (V m c main_arg1) (V m c main_arg2) (V m c main_arg3) (cb t) n l
  rw [← rows0 m c t, ← rows1 m c t, ← rows2 m c t, ← rows3 m c t, ← rows4 m c t, ← rows5 m c t] at h
  exact h.symm

theorem arr7 :
    (dats m 0 c).arrAt 7 cfg0.N = Cert.ReferenceIdeal.Read.val_main_v112 (F := Ideal) (V m c main_arg0) (V m c main_arg1) (V m c main_arg2) (V m c main_arg3) := by
  refine (dats m 0 c).arrAt_eq_of_covers 7 _ (by decide +kernel) fun t _ y => ?_
  blk_simp
  rw [after0_7]
  unfold outsAt0
  dsimp only
  obtain ⟨n, l, rfl⟩ : ∃ (n : Fin 4096) (l : Fin 128), y = ix2 n l := ⟨y 0, y 1, eq_ix2 y⟩
  have e : (win0_7.blk t).view.emb (ix2 n l) = ix2 n (cc (cb t) l) := by
    have hl := l.isLt
    blk_ext [idx t, cc]
  rw [e]
  refine (out7_eq _ _ _ _ _ _ _ _ _ _ _ _ _ _ _ _ _ _ _ _ _ _ _ _ _ _ _ _ _ _ (ix2 n l)).trans ?_
  have h := r112 (V m c main_arg0) (V m c main_arg1) (V m c main_arg2) (V m c main_arg3) (cb t) n l
  rw [← rows0 m c t, ← rows1 m c t, ← rows2 m c t, ← rows3 m c t, ← rows4 m c t, ← rows5 m c t] at h
  exact h.symm

theorem arr8 :
    (dats m 0 c).arrAt 8 cfg0.N = Cert.ReferenceIdeal.Read.val_main_v113 (F := Ideal) (V m c main_arg0) (V m c main_arg1) (V m c main_arg2) (V m c main_arg3) := by
  refine (dats m 0 c).arrAt_eq_of_covers 8 _ (by decide +kernel) fun t _ y => ?_
  blk_simp
  rw [after0_8]
  unfold outsAt0
  dsimp only
  obtain ⟨n, l, rfl⟩ : ∃ (n : Fin 4096) (l : Fin 128), y = ix2 n l := ⟨y 0, y 1, eq_ix2 y⟩
  have e : (win0_8.blk t).view.emb (ix2 n l) = ix2 n (cc (cb t) l) := by
    have hl := l.isLt
    blk_ext [idx t, cc]
  rw [e]
  refine (out8_eq _ _ _ _ _ _ _ _ _ _ _ _ _ _ _ _ _ _ _ _ _ _ _ _ _ _ _ _ _ _ (ix2 n l)).trans ?_
  have h := r113 (V m c main_arg0) (V m c main_arg1) (V m c main_arg2) (V m c main_arg3) (cb t) n l
  rw [← rows0 m c t, ← rows1 m c t, ← rows2 m c t, ← rows3 m c t, ← rows4 m c t, ← rows5 m c t] at h
  exact h.symm

theorem arr9 :
    (dats m 0 c).arrAt 9 cfg0.N = Cert.ReferenceIdeal.Read.val_main_v103 (F := Ideal) (V m c main_arg0) (V m c main_arg1) (V m c main_arg2) (V m c main_arg3) := by
  refine (dats m 0 c).arrAt_eq_of_covers 9 _ (by decide +kernel) fun t _ y => ?_
  blk_simp
  rw [after0_9]
  unfold outsAt0
  dsimp only
  obtain ⟨n, l, rfl⟩ : ∃ (n : Fin 3) (l : Fin 128), y = ix2 n l := ⟨y 0, y 1, eq_ix2 y⟩
  have e : (win0_9.blk t).view.emb (ix2 n l) = ix2 n (cc (cb t) l) := by
    have hl := l.isLt
    blk_ext [idx t, cc]
  rw [e]
  refine (out9_eq _ _ _ _ _ _ _ _ _ _ _ _ _ _ _ _ _ _ _ _ _ _ _ _ _ _ _ _ _ _ (ix2 n l)).trans ?_
  have h := r103 (V m c main_arg0) (V m c main_arg1) (V m c main_arg2) (V m c main_arg3) (cb t) n l
  rw [← rows0 m c t, ← rows1 m c t, ← rows2 m c t, ← rows3 m c t, ← rows4 m c t, ← rows5 m c t] at h
  simp only [Nat.add_assoc] at h
  exact h.symm

theorem arr10 :
    (dats m 0 c).arrAt 10 cfg0.N = Cert.ReferenceIdeal.Read.val_main_v114 (F := Ideal) (V m c main_arg0) (V m c main_arg1) (V m c main_arg2) := by
  refine (dats m 0 c).arrAt_eq_of_covers 10 _ (by decide +kernel) fun t _ y => ?_
  blk_simp
  rw [after0_10]
  unfold outsAt0
  dsimp only
  obtain ⟨n, l, rfl⟩ : ∃ (n : Fin 1) (l : Fin 128), y = ix2 n l := ⟨y 0, y 1, eq_ix2 y⟩
  have e : (win0_10.blk t).view.emb (ix2 n l) = ix2 n (cc (cb t) l) := by
    have hl := l.isLt
    blk_ext [idx t, cc]
  rw [e]
  refine (out10_eq _ _ _ _ _ _ _ _ _ _ _ _ _ _ _ _ _ _ _ _ _ _ _ _ _ _ _ _ _ _ (ix2 n l)).trans ?_
  obtain rfl : n = 0 := Subsingleton.elim _ _
  have h := r114 (V m c main_arg0) (V m c main_arg1) (V m c main_arg2)  (cb t) l
  rw [← rows0 m c t, ← rows1 m c t, ← rows2 m c t, ← rows3 m c t, ← rows4 m c t] at h
  exact h.symm

end Cert.KernelIdeal.Sc
-- ==== Proof.ScClaim.lean ====
/- The claims about the short-convolution mixer's gradient. -/
module

public import proofs.«01_k».proof.Defs
public import proofs.«01_k».proof.Proof.ScArr
public import proofs.«01_k».proof.Proof.Gen.Kernel.Frame
public import proofs.«01_k».proof.Proof.Gen.ReferenceIdeal.Run
public import Idealize.ShloMosaic.Lib.Claim

@[expose] public section

noncomputable section

namespace Cert.Proof.Sc

open Idealize.ShloMosaic Idealize.SL.Sem

theorem frame_ref : Cert.quiescent_ReferenceIdeal (hReferenceIdeal := Cert.ReferenceIdeal.Gen.facts) := by
  intro m g _
  exact (θ_run _ _ _).mono (fun r h => ⟨fun c => (h c).2.2.2.2.2, sem_eq_zero_of_no_sems (by decide) _⟩) (Cert.ReferenceIdeal.Value.run m g)

theorem congrArg₄' {α β γ δ ε : Type} (f : α → β → γ → δ → ε) {a a' : α} {b b' : β} {c c' : γ} {d d' : δ} (ha : a = a') (hb : b = b') (hc : c = c') (hd : d = d') :
    f a b c d = f a' b' c' d' := by subst ha hb hc hd; rfl
theorem congrArg₃' {α β γ ε : Type} (f : α → β → γ → ε) {a a' : α} {b b' : β} {c c' : γ} (ha : a = a') (hb : b = b') (hc : c = c') :
    f a b c = f a' b' c' := by subst ha hb hc; rfl

/-- On the same arguments the kernel's five result arrays are the reference's. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · skip
    have a0 : ∀ c, StableHlo.launchContents m' c (Proc.devRef .tc Cert.ReferenceIdeal.main_arg0) = Cert.KernelIdeal.Gen.V m c Cert.KernelIdeal.main_arg0 := fun c =>
      (StableHlo.launchContents_devRef ..).trans (hagree c).1
    have a1 : ∀ c, StableHlo.launchContents m' c (Proc.devRef .tc Cert.ReferenceIdeal.main_arg1) = Cert.KernelIdeal.Gen.V m c Cert.KernelIdeal.main_arg1 := fun c =>
      (StableHlo.launchContents_devRef ..).trans (hagree c).2.1
    have a2 : ∀ c, StableHlo.launchContents m' c (Proc.devRef .tc Cert.ReferenceIdeal.main_arg2) = Cert.KernelIdeal.Gen.V m c Cert.KernelIdeal.main_arg2 := fun c =>
      (StableHlo.launchContents_devRef ..).trans (hagree c).2.2.1
    have a3 : ∀ c, StableHlo.launchContents m' c (Proc.devRef .tc Cert.ReferenceIdeal.main_arg3) = Cert.KernelIdeal.Gen.V m c Cert.KernelIdeal.main_arg3 := fun c =>
      (StableHlo.launchContents_devRef ..).trans (hagree c).2.2.2
    run_from Cert.ReferenceIdeal.Value.run m' g'
    · exact (Cert.ReferenceIdeal.Read.val_main_v111_eq _).trans ((congrArg₄' (Cert.ReferenceIdeal.Read.val_main_v111 (F := Ideal)) (a0 c) (a1 c) (a2 c) (a3 c)).trans (Cert.KernelIdeal.Sc.arr6 m c).symm)
    · exact (Cert.ReferenceIdeal.Read.val_main_v112_eq _).trans ((congrArg₄' (Cert.ReferenceIdeal.Read.val_main_v112 (F := Ideal)) (a0 c) (a1 c) (a2 c) (a3 c)).trans (Cert.KernelIdeal.Sc.arr7 m c).symm)
    · exact (Cert.ReferenceIdeal.Read.val_main_v113_eq _).trans ((congrArg₄' (Cert.ReferenceIdeal.Read.val_main_v113 (F := Ideal)) (a0 c) (a1 c) (a2 c) (a3 c)).trans (Cert.KernelIdeal.Sc.arr8 m c).symm)
    · exact (Cert.ReferenceIdeal.Read.val_main_v103_eq _).trans ((congrArg₄' (Cert.ReferenceIdeal.Read.val_main_v103 (F := Ideal)) (a0 c) (a1 c) (a2 c) (a3 c)).trans (Cert.KernelIdeal.Sc.arr9 m c).symm)
    · exact (Cert.ReferenceIdeal.Read.val_main_v114_eq _).trans ((congrArg₃' (Cert.ReferenceIdeal.Read.val_main_v114 (F := Ideal)) (a0 c) (a1 c) (a2 c)).trans (Cert.KernelIdeal.Sc.arr10 m c).symm)

end Cert.Proof.Sc
-- ==== Proof.P2.lean ====
/- The gradient through the squared ReLU and the second product of the mixer: the kernel's product with its epilogue is
   the reference's. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P2

open Cert.Kernel2Ideal Cert.Kernel2Ideal.Gen Idealize.ShloMosaic Idealize.ShloMosaic.TcCoe Idealize.SL.Sem
open Idealize.ShloMosaic.Pipeline (Dat)

/-- The blocks' places: row block `t / 16` and column block `t % 16`. -/
theorem idx : ∀ t : Fin cfg0.N, win0_0.index t = ![t.val / 16, 0] ∧ win0_1.index t = ![t.val % 16, 0]
    ∧ win0_2.index t = ![t.val / 16, t.val % 16] ∧ win0_3.index t = ![t.val / 16, t.val % 16] :=
  (by decide +kernel : ∀ t : Fin grid0.N, _)

/-- A multiple of the positive part vanishes where `u` is not positive, so choosing zero there changes nothing. -/
theorem relu (p u d : EReal) : p * (d * max u 0) = if 0 < u then p * (d * max u 0) else 0 := by
  split
  · rfl
  · rename_i h
    rw [max_eq_right (not_lt.mp h), mul_zero, mul_zero]

/-- What a point stores. -/
theorem pay (a b : FVec Ideal S1024x4096 .bf16) (u : FVec Ideal S1024x1024 .bf16) (r : Fin 1024) (l : Fin 1024) :
    k0_pay1 (F := Ideal) a b u (ix2 r l) = (∑ k : Fin 4096, a (ix2 r k) * b (ix2 l k)) * (Ideal.ofBits .f32 0x40000000#32 * max (u (ix2 r l)) 0) := by
  pointwise [k0_pay1]

/-- The reference at one place. -/
theorem ref (x0 : FVec Ideal Cert.Reference2Ideal.S4096x4096 .bf16) (x1 : FVec Ideal Cert.Reference2Ideal.S16384x4096 .bf16)
    (x2 : FVec Ideal Cert.Reference2Ideal.S4096x16384 .bf16) (r : Fin 4096) (l : Fin 16384) :
    Cert.Reference2Ideal.Read.val_main_v15 (F := Ideal) x0 x1 x2 (ix2 r l)
      = (∑ k : Fin 4096, x0 (ix2 r k) * x1 (ix2 l k)) * (Ideal.ofBits .f32 0x40000000#32 * max (x2 (ix2 r l)) 0) := by
  rw [relu]
  pointwise [Cert.Reference2Ideal.Read.val_main_v0, Cert.Reference2Ideal.Read.val_main_call0_cst, Cert.Reference2Ideal.Read.val_main_call0_v0, Cert.Reference2Ideal.Read.val_main_v1, Cert.Reference2Ideal.Read.val_main_cst, Cert.Reference2Ideal.Read.val_main_v2, Cert.Reference2Ideal.Read.val_main_v3, Cert.Reference2Ideal.Read.val_main_cst_0, Cert.Reference2Ideal.Read.val_main_v4, Cert.Reference2Ideal.Read.val_main_v5, Cert.Reference2Ideal.Read.val_main_cst_1, Cert.Reference2Ideal.Read.val_main_v6, Cert.Reference2Ideal.Read.val_main_v7, Cert.Reference2Ideal.Read.val_main_v8, Cert.Reference2Ideal.Read.val_main_v9, Cert.Reference2Ideal.Read.val_main_v10, Cert.Reference2Ideal.Read.val_main_v11, Cert.Reference2Ideal.Read.val_main_v12, Cert.Reference2Ideal.Read.val_main_cst_2, Cert.Reference2Ideal.Read.val_main_v13, Cert.Reference2Ideal.Read.val_main_v14, Cert.Reference2Ideal.Read.val_main_v15]

variable (m : (ℓ : Loc nD τ sig) → Buf (Elt Ideal) ℓ) (c : Dev nD)

/-- The kernel's result array is the reference's. -/
theorem arr : (dats m 0 c).arrAt 3 cfg0.N
    = Cert.Reference2Ideal.Read.val_main_v15 (F := Ideal) (V m c main_arg0) (V m c main_arg1) (V m c main_arg2) := by
  refine (dats m 0 c).arrAt_eq_of_covers 3 _ (by decide +kernel) fun t _ y => ?_
  have ht : t.val < 64 := lt_of_lt_of_eq t.isLt N_0
  obtain ⟨r, l, rfl⟩ : ∃ (r : Fin 1024) (l : Fin 1024), y = ix2 r l := ⟨y 0, y 1, eq_ix2 y⟩
  have hr := r.isLt
  have hl := l.isLt
  blk_simp
  rw [after0_3]
  have e : (win0_3.blk t).view.emb (ix2 r l)
      = ix2 (⟨t.val / 16 * 1024 + r.val, by omega⟩ : Fin 4096) (⟨t.val % 16 * 1024 + l.val, by omega⟩ : Fin 16384) := by
    blk_ext [idx t]
  rw [e, ref]
  frame_out
  rw [pay]
  refine congrArg₂ (· * ·) (Fin.sum_fin_congr fun k => ?_) (congrArg (fun u : EReal => Ideal.ofBits .f32 0x40000000#32 * max u 0) ?_)
  · blk_point [iblk, V, idx t]
  · blk_point [iblk, V, idx t]

theorem frame_ref : Cert.quiescent_Reference2Ideal (hReference2Ideal := Cert.Reference2Ideal.Gen.facts) := by
  intro m g _
  exact (θ_run _ _ _).mono (fun r h => ⟨fun c => (h c).2, sem_eq_zero_of_no_sems (by decide) _⟩)
    (Cert.Reference2Ideal.Value.run m g)

/-- On the same arguments the kernel and the reference end with the same results. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · skip
    run_from Cert.Reference2Ideal.Value.run m' g'
    · exact (arr m c).symm

end Cert.Proof.P2

end
-- ==== Proof.P3.lean ====
/- The gradient of the squared-ReLU mixer's second weight: the kernel's product, accumulated over two slices of the rows, is
   the reference's. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P3

open Cert.Kernel3Ideal Cert.Kernel3Ideal.Gen Idealize.ShloMosaic Idealize.ShloMosaic.TcCoe Idealize.SL.Sem
open Idealize.ShloMosaic.Pipeline (Dat)
open Cert.Reference3Ideal.Read

/-- The blocks' places: row block `t / 8`, column block `t / 2 % 4`, slice `t % 2` of the contraction. -/
theorem idx : ∀ t : Fin cfg0.N, win0_0.index t = ![t.val % 2, t.val / 8]
    ∧ win0_1.index t = ![t.val % 2, t.val / 2 % 4]
    ∧ win0_2.index t = ![t.val / 8, t.val / 2 % 4] :=
  (by decide +kernel : ∀ t : Fin grid0.N, _)

/-- One slice's part of the product. -/
def prod (a : FVec Ideal S2048x1024 .bf16) (b : FVec Ideal S2048x1024 .bf16) (y : S1024x1024.Idx) : EReal := ∑ k : Fin 2048, a (ix2 k (y 0)) * b (ix2 k (y 1))

/-- The first slice's store: that slice's part of the product. -/
theorem pay2 (a : FVec Ideal S2048x1024 .bf16) (b : FVec Ideal S2048x1024 .bf16) (y : S1024x1024.Idx) : k0_pay2 (F := Ideal) a b y = prod a b y := by
  obtain ⟨r, l, rfl⟩ : ∃ (r : Fin 1024) (l : Fin 1024), y = ix2 r l := ⟨y 0, y 1, eq_ix2 y⟩
  pointwise [k0_pay2, k0_pay1, prod]

/-- A later slice's store: what was there and the slice's part. -/
theorem pay3 (a : FVec Ideal S2048x1024 .bf16) (b : FVec Ideal S2048x1024 .bf16) (acc : FVec Ideal S1024x1024 .f32) (y : S1024x1024.Idx) :
    k0_pay3 (F := Ideal) a b acc y = acc y + prod a b y := by
  obtain ⟨r, l, rfl⟩ : ∃ (r : Fin 1024) (l : Fin 1024), y = ix2 r l := ⟨y 0, y 1, eq_ix2 y⟩
  pointwise [k0_pay3, k0_pay1, prod]

/-- The reference: one sum over the whole contraction. -/
theorem ref (x0 : FVec Ideal Cert.Reference3Ideal.S4096x16384 .bf16) (x1 : FVec Ideal Cert.Reference3Ideal.S4096x4096 .bf16) (r : Fin 16384) (l : Fin 4096) :
    val_main_v6 (F := Ideal) x0 x1 (ix2 r l) = ∑ k : Fin 4096, x0 (ix2 k r) * x1 (ix2 k l) := by
  pointwise [val_main_cst, val_main_v0, val_main_v1, val_main_v2, val_main_v3, val_main_v4, val_main_v5, val_main_v6]
  exact Fin.sum_fin_congr fun k => mul_comm _ _

variable (m : (ℓ : Loc nD τ sig) → Buf (Elt Ideal) ℓ) (c : Dev nD)

/-- At the last slice the accumulator holds the parts' sum. -/
theorem acc (t : Fin cfg0.N) (ht : t.val % 2 = 2 - 1) (y : S1024x1024.Idx) : (outsAt0 m c t.val t.isLt).2 y
    = ∑ s : Fin 2, prod (iblk m c 0 ⟨2 * (t.val / 2) + s.val, Pipeline.run_point_lt_of_flush t ht s⟩) (iblk m c 1 ⟨2 * (t.val / 2) + s.val, Pipeline.run_point_lt_of_flush t ht s⟩) y := by
  refine (Pipeline.eq_sum_fin_of_reset_step_apply_of_flush (M := EReal) (fun n h => (outsAt0 m c n h).2) 2 (fun _ => 0)
    (fun t => prod (iblk m c 0 t) (iblk m c 1 t)) (fun t h y => ?_) (fun t h y => ?_) t ht y).trans (zero_add _)
  · rw [outsAt0_A m c t h (by omega) (by omega)]
    frame_out
    rw [pay2, zero_add]
  · rw [outsAt0_B m c t h (by omega) (by omega)]
    frame_out
    rw [pay3, read_unread_whole]

/-- What the last slice writes back is the accumulator. -/
theorem out (t : Fin cfg0.N) (h : t.val % 2 = 2 - 1) (r : Fin 1024) (l : Fin 1024) :
    (outsAt0 m c t.val t.isLt).1 (ix2 r l) = (outsAt0 m c t.val t.isLt).2 (ix2 r l) := by
  rw [outsAt0_B m c t (by omega) (by omega) h]
  frame_out
  pointwise [k0_pay4]

/-- The kernel's result array is the reference's. -/
theorem arr : (dats m 0 c).arrAt 2 cfg0.N = val_main_v6 (F := Ideal) (V m c main_arg0) (V m c main_arg1) := by
  refine (dats m 0 c).arrAt_eq_of_covers 2 _ (by decide +kernel) fun t hf y => ?_
  have ht : t.val < 128 := lt_of_lt_of_eq t.isLt N_0
  have h1 : t.val % 2 = 2 - 1 := (flush0_2 t).mp hf
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 8 * 1024 + r.val, by omega⟩ : Fin 16384) (⟨t.val / 2 % 4 * 1024 + l.val, by omega⟩ : Fin 4096) := by
    blk_ext [idx t]
  rw [e, ref, out m c t h1, acc m c t h1]
  refine Fin.sum_mul_add_congr fun s k hk => ?_
  blk_point [iblk, V, idx ⟨_, Pipeline.run_point_lt_of_flush t h1 s⟩]

theorem frame_ref : Cert.quiescent_Reference3Ideal (hReference3Ideal := Cert.Reference3Ideal.Gen.facts) := by
  intro m g _
  exact (θ_run _ _ _).mono (fun r h => ⟨fun c => (h c).2, sem_eq_zero_of_no_sems (by decide) _⟩)
    (Cert.Reference3Ideal.Value.run m g)

/-- On the same arguments the kernel and the reference end with the same results. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · skip
    run_from Cert.Reference3Ideal.Value.run m' g'
    · exact (arr m c).symm

end Cert.Proof.P3

end
-- ==== Proof.P4.lean ====
/- The second product of the squared-ReLU mixer: the kernel's product, accumulated over four slices of the contraction,
   is the reference's. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P4

open Cert.Kernel4Ideal Cert.Kernel4Ideal.Gen Idealize.ShloMosaic Idealize.ShloMosaic.TcCoe Idealize.SL.Sem
open Idealize.ShloMosaic.Pipeline (Dat)
open Cert.Reference4Ideal.Read

/-- The blocks' places: row block `t / 16`, column block `t / 4 % 4`, slice `t % 4` of the contraction. -/
theorem idx : ∀ t : Fin cfg0.N, win0_0.index t = ![t.val / 16, t.val % 4]
    ∧ win0_1.index t = ![t.val % 4, t.val / 4 % 4]
    ∧ win0_2.index t = ![t.val / 16, t.val / 4 % 4] :=
  (by decide +kernel : ∀ t : Fin grid0.N, _)

/-- One slice's part of the product. -/
def prod (a : FVec Ideal S1024x4096 .bf16) (b : FVec Ideal S4096x1024 .bf16) (y : S1024x1024.Idx) : EReal := ∑ k : Fin 4096, a (ix2 (y 0) k) * b (ix2 k (y 1))

/-- The first slice's store: that slice's part of the product. -/
theorem pay2 (a : FVec Ideal S1024x4096 .bf16) (b : FVec Ideal S4096x1024 .bf16) (y : S1024x1024.Idx) : k0_pay2 (F := Ideal) a b y = prod a b y := by
  obtain ⟨r, l, rfl⟩ : ∃ (r : Fin 1024) (l : Fin 1024), y = ix2 r l := ⟨y 0, y 1, eq_ix2 y⟩
  pointwise [k0_pay2, k0_pay1, prod]

/-- A later slice's store: what was there and the slice's part. -/
theorem pay3 (a : FVec Ideal S1024x4096 .bf16) (b : FVec Ideal S4096x1024 .bf16) (acc : FVec Ideal S1024x1024 .f32) (y : S1024x1024.Idx) :
    k0_pay3 (F := Ideal) a b acc y = acc y + prod a b y := by
  obtain ⟨r, l, rfl⟩ : ∃ (r : Fin 1024) (l : Fin 1024), y = ix2 r l := ⟨y 0, y 1, eq_ix2 y⟩
  pointwise [k0_pay3, k0_pay1, prod]

/-- The reference: one sum over the whole contraction. -/
theorem ref (x0 : FVec Ideal Cert.Reference4Ideal.S4096x16384 .bf16) (x1 : FVec Ideal Cert.Reference4Ideal.S16384x4096 .bf16) (r l : Fin 4096) :
    val_main_v2 (F := Ideal) x0 x1 (ix2 r l) = ∑ k : Fin 16384, x0 (ix2 r k) * x1 (ix2 k l) := by
  pointwise [val_main_v0, val_main_v1, val_main_v2]

variable (m : (ℓ : Loc nD τ sig) → Buf (Elt Ideal) ℓ) (c : Dev nD)

/-- At the last slice the accumulator holds the parts' sum. -/
theorem acc (t : Fin cfg0.N) (ht : t.val % 4 = 4 - 1) (y : S1024x1024.Idx) : (outsAt0 m c t.val t.isLt).2 y
    = ∑ s : Fin 4, prod (iblk m c 0 ⟨4 * (t.val / 4) + s.val, Pipeline.run_point_lt_of_flush t ht s⟩) (iblk m c 1 ⟨4 * (t.val / 4) + s.val, Pipeline.run_point_lt_of_flush t ht s⟩) y := by
  refine (Pipeline.eq_sum_fin_of_reset_step_apply_of_flush (M := EReal) (fun n h => (outsAt0 m c n h).2) 4 (fun _ => 0)
    (fun t => prod (iblk m c 0 t) (iblk m c 1 t)) (fun t h y => ?_) (fun t h y => ?_) t ht y).trans (zero_add _)
  · rw [outsAt0_A m c t h (by omega) (by omega)]
    frame_out
    rw [pay2, zero_add]
  · by_cases hl : t.val % 4 = 4 - 1
    · rw [outsAt0_C m c t h (by omega) hl]
      frame_out
      rw [pay3, read_unread_whole]
    · rw [outsAt0_B m c t h (by omega) hl]
      frame_out
      rw [pay3, read_unread_whole]

/-- What the last slice writes back is the accumulator. -/
theorem out (t : Fin cfg0.N) (h : t.val % 4 = 4 - 1) (r : Fin 1024) (l : Fin 1024) :
    (outsAt0 m c t.val t.isLt).1 (ix2 r l) = (outsAt0 m c t.val t.isLt).2 (ix2 r l) := by
  rw [outsAt0_C m c t (by omega) (by omega) h]
  frame_out

/-- The kernel's result array is the reference's. -/
theorem arr : (dats m 0 c).arrAt 2 cfg0.N = val_main_v2 (F := Ideal) (V m c main_arg0) (V m c main_arg1) := by
  refine (dats m 0 c).arrAt_eq_of_covers 2 _ (by decide +kernel) fun t hf y => ?_
  have ht : t.val < 64 := lt_of_lt_of_eq t.isLt N_0
  have h1 : t.val % 4 = 4 - 1 := (flush0_2 t).mp hf
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 16 * 1024 + r.val, by omega⟩ : Fin 4096) (⟨t.val / 4 % 4 * 1024 + l.val, by omega⟩ : Fin 4096) := by
    blk_ext [idx t]
  rw [e, ref, out m c t h1, acc m c t h1]
  refine Fin.sum_mul_add_congr fun s k hk => ?_
  blk_point [iblk, V, idx ⟨_, Pipeline.run_point_lt_of_flush t h1 s⟩]

theorem frame_ref : Cert.quiescent_Reference4Ideal (hReference4Ideal := Cert.Reference4Ideal.Gen.facts) := by
  intro m g _
  exact (θ_run _ _ _).mono (fun r h => ⟨fun c => (h c).2, sem_eq_zero_of_no_sems (by decide) _⟩)
    (Cert.Reference4Ideal.Value.run m g)

/-- On the same arguments the kernel and the reference end with the same results. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · skip
    run_from Cert.Reference4Ideal.Value.run m' g'
    · exact (arr m c).symm

end Cert.Proof.P4

end
-- ==== Proof.P5.lean ====
/- The gradient of the mixers' outputs: the kernel's blocked product `dmix · w_outᵀ` is the reference's derivative. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Proof.P5

open Cert.Kernel5Ideal Cert.Kernel5Ideal.Gen Idealize.ShloMosaic Idealize.ShloMosaic.TcCoe Idealize.SL.Sem
open Idealize.ShloMosaic.Pipeline (Dat)

/-- The blocks' places: row block `t / 4`, column block `t % 4`, the contraction whole. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- One block of the kernel: a sum over the contraction. -/
theorem pay (a b : FVec Ideal S1024x4096 .bf16) (r : Fin 1024) (l : Fin 1024) :
    k0_pay1 (F := Ideal) a b (ix2 r l) = ∑ k : Fin 4096, a (ix2 r k) * b (ix2 l k) := by
  pointwise [k0_pay1]

/-- The reference: the same sum over whole rows. -/
theorem ref (x0 x1 : FVec Ideal Cert.Reference5Ideal.S4096x4096 .bf16) (r l : Fin 4096) :
    Cert.Reference5Ideal.Read.val_main_v4 (F := Ideal) x0 x1 (ix2 r l) = ∑ k : Fin 4096, x0 (ix2 r k) * x1 (ix2 l k) := by
  pointwise [Cert.Reference5Ideal.Read.val_main_v4, Cert.Reference5Ideal.Read.val_main_v3, Cert.Reference5Ideal.Read.val_main_v1]

variable (m : (ℓ : Loc nD τ sig) → Buf (Elt Ideal) ℓ) (c : Dev nD)

/-- The kernel's result array is the reference's. -/
theorem arr : (dats m 0 c).arrAt 2 cfg0.N
    = Cert.Reference5Ideal.Read.val_main_v4 (F := Ideal) (V m c main_arg0) (V m c main_arg1) := by
  refine (dats m 0 c).arrAt_eq_of_covers 2 _ (by decide +kernel) fun t _ y => ?_
  have ht : t.val < 16 := lt_of_lt_of_eq t.isLt N_0
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 4 * 1024 + r.val, by omega⟩ : Fin 4096) (⟨t.val % 4 * 1024 + l.val, by omega⟩ : Fin 4096) := by
    blk_ext [idx t]
  rw [e, ref]
  frame_out
  rw [pay]
  refine Fin.sum_fin_congr fun k => ?_
  blk_point [iblk, V, idx t]

theorem frame_ref : Cert.quiescent_Reference5Ideal (hReference5Ideal := Cert.Reference5Ideal.Gen.facts) := by
  intro m g _
  exact (θ_run _ _ _).mono (fun r h => ⟨fun c => (h c).2, sem_eq_zero_of_no_sems (by decide) _⟩)
    (Cert.Reference5Ideal.Value.run m g)

theorem algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · skip
    run_from Cert.Reference5Ideal.Value.run m' g'
    · exact (arr m c).symm

end Cert.Proof.P5

end
-- ==== Proof.P6.lean ====
/- The first product of the squared-ReLU mixer, whose weight lies in eight shards: the kernel's two results, the product and
   its squared positive part, are the reference's. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P6

open Cert.Kernel6Ideal Cert.Kernel6Ideal.Gen Idealize.ShloMosaic Idealize.ShloMosaic.TcCoe Idealize.SL.Sem
open Idealize.ShloMosaic.Pipeline (Dat)
open Cert.Reference6Ideal.Read

/-- The blocks' places: row block `t / 16`, column block `t % 16`, which is half of shard `t % 16 / 2`. -/
theorem idx : ∀ t : Fin cfg0.N, win0_0.index t = ![t.val / 16, 0]
    ∧ win0_1.index t = ![t.val % 16 / 2, 0, t.val % 16 % 2]
    ∧ win0_2.index t = ![t.val / 16, t.val % 16]
    ∧ win0_3.index t = ![t.val / 16, t.val % 16] :=
  (by decide +kernel : ∀ t : Fin grid0.N, _)

/-- What a point stores of the product. -/
theorem k0_pay2_at (a : FVec Ideal S1024x4096 .bf16) (b : FVec Ideal S1x4096x1024 .bf16) (r : Fin 1024) (l : Fin 1024) :
    k0_pay2 (F := Ideal) a b (ix2 r l) = ∑ k : Fin 4096, a (ix2 r k) * b (ix3 0 k l) := by
  pointwise [k0_pay2, k0_pay1]

/-- The reference's product at one place. -/
theorem val_main_v5_at (x0 : FVec Ideal Cert.Reference6Ideal.S4096x4096 .bf16) (x1 : FVec Ideal Cert.Reference6Ideal.S8x4096x2048 .bf16) (r : Fin 4096) (l : Fin 16384) :
    val_main_v5 (F := Ideal) x0 x1 (ix2 r l) = ∑ k : Fin 4096, x0 (ix2 r k) * x1 (ix3 ⟨l.val / 2048, by omega⟩ k ⟨l.val % 2048, by omega⟩) := by
  pointwise [val_main_v0, val_main_v1, val_main_v2, val_main_v3, val_main_v4, val_main_v5, val_main_call0_cst, val_main_call0_v0, val_main_v6, val_main_v7, val_main_v8]

/-- What a point stores of the squared positive part. -/
theorem k0_pay3_at (a : FVec Ideal S1024x4096 .bf16) (b : FVec Ideal S1x4096x1024 .bf16) (r : Fin 1024) (l : Fin 1024) :
    k0_pay3 (F := Ideal) a b (ix2 r l) = max (∑ k : Fin 4096, a (ix2 r k) * b (ix3 0 k l)) 0 * max (∑ k : Fin 4096, a (ix2 r k) * b (ix3 0 k l)) 0 := by
  pointwise [k0_pay3, k0_pay1]

/-- The reference's squared positive part at one place. -/
theorem val_main_v8_at (x0 : FVec Ideal Cert.Reference6Ideal.S4096x4096 .bf16) (x1 : FVec Ideal Cert.Reference6Ideal.S8x4096x2048 .bf16) (r : Fin 4096) (l : Fin 16384) :
    val_main_v8 (F := Ideal) x0 x1 (ix2 r l) = max (∑ k : Fin 4096, x0 (ix2 r k) * x1 (ix3 ⟨l.val / 2048, by omega⟩ k ⟨l.val % 2048, by omega⟩)) 0 * max (∑ k : Fin 4096, x0 (ix2 r k) * x1 (ix3 ⟨l.val / 2048, by omega⟩ k ⟨l.val % 2048, by omega⟩)) 0 := by
  pointwise [val_main_v0, val_main_v1, val_main_v2, val_main_v3, val_main_v4, val_main_v5, val_main_call0_cst, val_main_call0_v0, val_main_v6, val_main_v7, val_main_v8]

variable (m : (ℓ : Loc nD τ sig) → Buf (Elt Ideal) ℓ) (c : Dev nD)

/-- The kernel's first result is the reference's. -/
theorem arr_u : (dats m 0 c).arrAt 2 cfg0.N
    = val_main_v5 (F := Ideal) (V m c main_arg0) (V m c main_arg1) := by
  refine (dats m 0 c).arrAt_eq_of_covers 2 _ (by decide +kernel) fun t _ y => ?_
  have ht : t.val < 64 := lt_of_lt_of_eq t.isLt N_0
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 16 * 1024 + r.val, by omega⟩ : Fin 4096) (⟨t.val % 16 * 1024 + l.val, by omega⟩ : Fin 16384) := by
    blk_ext [idx t]
  rw [e, val_main_v5_at]
  frame_out
  rw [k0_pay2_at]
  refine Fin.sum_fin_congr fun k => ?_
  blk_point [iblk, V, idx t]
/-- The kernel's second result is the reference's. -/
theorem arr_ff : (dats m 0 c).arrAt 3 cfg0.N
    = val_main_v8 (F := Ideal) (V m c main_arg0) (V m c main_arg1) := by
  refine (dats m 0 c).arrAt_eq_of_covers 3 _ (by decide +kernel) fun t _ y => ?_
  have ht : t.val < 64 := lt_of_lt_of_eq t.isLt N_0
  obtain ⟨r, l, rfl⟩ : ∃ (r : Fin 1024) (l : Fin 1024), y = ix2 r l := ⟨y 0, y 1, eq_ix2 y⟩
  have hr := r.isLt
  have hl := l.isLt
  blk_simp
  rw [after0_3]
  have e : (win0_3.blk t).view.emb (ix2 r l)
      = ix2 (⟨t.val / 16 * 1024 + r.val, by omega⟩ : Fin 4096) (⟨t.val % 16 * 1024 + l.val, by omega⟩ : Fin 16384) := by
    blk_ext [idx t]
  rw [e, val_main_v8_at]
  frame_out
  rw [k0_pay3_at]
  refine congrArg (fun u : EReal => max u 0 * max u 0) (Fin.sum_fin_congr fun k => ?_)
  blk_point [iblk, V, idx t]

theorem frame_ref : Cert.quiescent_Reference6Ideal (hReference6Ideal := Cert.Reference6Ideal.Gen.facts) := by
  intro m g _
  exact (θ_run _ _ _).mono (fun r h => ⟨fun c => (h c).2.2, sem_eq_zero_of_no_sems (by decide) _⟩)
    (Cert.Reference6Ideal.Value.run m g)

/-- On the same arguments the kernel and the reference end with the same results. -/
theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · skip
    run_from Cert.Reference6Ideal.Value.run m' g'
    · exact (arr_u m c).symm
    · exact (arr_ff m c).symm

end Cert.Proof.P6

end
-- ==== Proof.P7.lean ====
/- The gradient of the squared-ReLU mixer's first weight, laid out in eight shards: the kernel's product, accumulated over two
   slices of the rows, is the reference's. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P7

open Cert.Kernel7Ideal Cert.Kernel7Ideal.Gen Idealize.ShloMosaic Idealize.ShloMosaic.TcCoe Idealize.SL.Sem
open Idealize.ShloMosaic.Pipeline (Dat)
open Cert.Reference7Ideal.Read

/-- The blocks' places: row block `t / 32`, column block `t / 2 % 16`, which is half of shard `t / 2 % 16 / 2`; slice `t % 2` of the
    contraction. -/
theorem idx : ∀ t : Fin cfg0.N, win0_0.index t = ![t.val % 2, t.val / 32]
    ∧ win0_1.index t = ![t.val % 2, t.val / 2 % 16]
    ∧ win0_2.index t = ![t.val / 2 % 16 / 2, t.val / 32, t.val / 2 % 16 % 2] :=
  (by decide +kernel : ∀ t : Fin grid0.N, _)

/-- One slice's part of the product. -/
def prod (a : FVec Ideal S2048x1024 .bf16) (b : FVec Ideal S2048x1024 .bf16) (y : S1024x1024.Idx) : EReal := ∑ k : Fin 2048, a (ix2 k (y 0)) * b (ix2 k (y 1))

/-- The first slice's store: that slice's part of the product. -/
theorem pay2 (a : FVec Ideal S2048x1024 .bf16) (b : FVec Ideal S2048x1024 .bf16) (y : S1024x1024.Idx) : k0_pay2 (F := Ideal) a b y = prod a b y := by
  obtain ⟨r, l, rfl⟩ : ∃ (r : Fin 1024) (l : Fin 1024), y = ix2 r l := ⟨y 0, y 1, eq_ix2 y⟩
  pointwise [k0_pay2, k0_pay1, prod]

/-- A later slice's store: what was there and the slice's part. -/
theorem pay3 (a : FVec Ideal S2048x1024 .bf16) (b : FVec Ideal S2048x1024 .bf16) (acc : FVec Ideal S1024x1024 .f32) (y : S1024x1024.Idx) :
    k0_pay3 (F := Ideal) a b acc y = acc y + prod a b y := by
  obtain ⟨r, l, rfl⟩ : ∃ (r : Fin 1024) (l : Fin 1024), y = ix2 r l := ⟨y 0, y 1, eq_ix2 y⟩
  pointwise [k0_pay3, k0_pay1, prod]

/-- The reference: one sum over the whole contraction. -/
theorem ref (x0 : FVec Ideal Cert.Reference7Ideal.S4096x4096 .bf16) (x1 : FVec Ideal Cert.Reference7Ideal.S4096x16384 .bf16) (q : Fin 8) (r : Fin 4096) (l : Fin 2048) :
    val_main_v8 (F := Ideal) x0 x1 (ix3 q r l) = ∑ k : Fin 4096, x0 (ix2 k r) * x1 (ix2 k ⟨q.val * 2048 + l.val, by omega⟩) := by
  pointwise [val_main_cst, val_main_v0, val_main_v1, val_main_v2, val_main_v3, val_main_v4, val_main_v5, val_main_v6, val_main_v7, val_main_v8]
  exact Fin.sum_fin_congr fun k => mul_comm _ _

variable (m : (ℓ : Loc nD τ sig) → Buf (Elt Ideal) ℓ) (c : Dev nD)

/-- At the last slice the accumulator holds the parts' sum. -/
theorem acc (t : Fin cfg0.N) (ht : t.val % 2 = 2 - 1) (y : S1024x1024.Idx) : (outsAt0 m c t.val t.isLt).2 y
    = ∑ s : Fin 2, prod (iblk m c 0 ⟨2 * (t.val / 2) + s.val, Pipeline.run_point_lt_of_flush t ht s⟩) (iblk m c 1 ⟨2 * (t.val / 2) + s.val, Pipeline.run_point_lt_of_flush t ht s⟩) y := by
  refine (Pipeline.eq_sum_fin_of_reset_step_apply_of_flush (M := EReal) (fun n h => (outsAt0 m c n h).2) 2 (fun _ => 0)
    (fun t => prod (iblk m c 0 t) (iblk m c 1 t)) (fun t h y => ?_) (fun t h y => ?_) t ht y).trans (zero_add _)
  · rw [outsAt0_A m c t h (by omega) (by omega)]
    frame_out
    rw [pay2, zero_add]
  · rw [outsAt0_B m c t h (by omega) (by omega)]
    frame_out
    rw [pay3, read_unread_whole]

/-- What the last slice writes back is the accumulator. -/
theorem out (t : Fin cfg0.N) (h : t.val % 2 = 2 - 1) (r : Fin 1024) (l : Fin 1024) :
    (outsAt0 m c t.val t.isLt).1 (ix3 0 r l) = (outsAt0 m c t.val t.isLt).2 (ix2 r l) := by
  rw [outsAt0_B m c t (by omega) (by omega) h]
  frame_out
  pointwise [k0_pay4]

/-- The kernel's result array is the reference's. -/
theorem arr : (dats m 0 c).arrAt 2 cfg0.N = val_main_v8 (F := Ideal) (V m c main_arg0) (V m c main_arg1) := by
  refine (dats m 0 c).arrAt_eq_of_covers 2 _ (by decide +kernel) fun t hf y => ?_
  have ht : t.val < 128 := lt_of_lt_of_eq t.isLt N_0
  have h1 : t.val % 2 = 2 - 1 := (flush0_2 t).mp hf
  obtain ⟨r, l, rfl⟩ : ∃ (r : Fin 1024) (l : Fin 1024), y = ix3 0 r l := ⟨y 1, y 2, (eq_ix3 y).trans (congrArg (fun z : Fin 1 => ix3 z (y 1) (y 2)) (Fin.eq_zero _))⟩
  have hr := r.isLt
  have hl := l.isLt
  blk_simp
  rw [after0_2]
  have e : (win0_2.blk t).view.emb (ix3 0 r l)
      = ix3 (⟨t.val / 2 % 16 / 2, by omega⟩ : Fin 8) (⟨t.val / 32 * 1024 + r.val, by omega⟩ : Fin 4096) (⟨t.val / 2 % 16 % 2 * 1024 + l.val, by omega⟩ : Fin 2048) := by
    blk_ext [idx t]
  rw [e, ref, out m c t h1, acc m c t h1]
  refine Fin.sum_mul_add_congr fun s k hk => ?_
  blk_point [iblk, V, idx ⟨_, Pipeline.run_point_lt_of_flush t h1 s⟩]

theorem frame_ref : Cert.quiescent_Reference7Ideal (hReference7Ideal := Cert.Reference7Ideal.Gen.facts) := by
  intro m g _
  exact (θ_run _ _ _).mono (fun r h => ⟨fun c => (h c).2, sem_eq_zero_of_no_sems (by decide) _⟩)
    (Cert.Reference7Ideal.Value.run m g)

/-- On the same arguments the kernel and the reference end with the same results. -/
theorem algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · skip
    run_from Cert.Reference7Ideal.Value.run m' g'
    · exact (arr m c).symm

end Cert.Proof.P7

end
-- ==== Proof.P8.lean ====
/- The gradient through the squared-ReLU mixer's first product, whose weight lies in eight shards: the kernel's product,
   accumulated shard by shard, is the reference's. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P8

open Cert.Kernel8Ideal Cert.Kernel8Ideal.Gen Idealize.ShloMosaic Idealize.ShloMosaic.TcCoe Idealize.SL.Sem
open Idealize.ShloMosaic.Pipeline (Dat)
open Cert.Reference8Ideal.Read

/-- The blocks' places: row block `t / 32`, column block `t / 8 % 4`, shard `t % 8` of the contraction. -/
theorem idx : ∀ t : Fin cfg0.N, win0_0.index t = ![t.val / 32, t.val % 8]
    ∧ win0_1.index t = ![t.val % 8, t.val / 8 % 4, 0]
    ∧ win0_2.index t = ![t.val / 32, t.val / 8 % 4] :=
  (by decide +kernel : ∀ t : Fin grid0.N, _)

/-- One slice's part of the product. -/
def prod (a : FVec Ideal S1024x2048 .bf16) (b : FVec Ideal S1x1024x2048 .bf16) (y : S1024x1024.Idx) : EReal := ∑ k : Fin 2048, a (ix2 (y 0) k) * b (ix3 0 (y 1) k)

/-- The first slice's store: that slice's part of the product. -/
theorem pay2 (a : FVec Ideal S1024x2048 .bf16) (b : FVec Ideal S1x1024x2048 .bf16) (y : S1024x1024.Idx) : k0_pay2 (F := Ideal) a b y = prod a b y := by
  obtain ⟨r, l, rfl⟩ : ∃ (r : Fin 1024) (l : Fin 1024), y = ix2 r l := ⟨y 0, y 1, eq_ix2 y⟩
  pointwise [k0_pay2, k0_pay1, prod]

/-- A later slice's store: what was there and the slice's part. -/
theorem pay3 (a : FVec Ideal S1024x2048 .bf16) (b : FVec Ideal S1x1024x2048 .bf16) (acc : FVec Ideal S1024x1024 .f32) (y : S1024x1024.Idx) :
    k0_pay3 (F := Ideal) a b acc y = acc y + prod a b y := by
  obtain ⟨r, l, rfl⟩ : ∃ (r : Fin 1024) (l : Fin 1024), y = ix2 r l := ⟨y 0, y 1, eq_ix2 y⟩
  pointwise [k0_pay3, k0_pay1, prod]

/-- The reference: one sum over the whole contraction. -/
theorem ref (x0 : FVec Ideal Cert.Reference8Ideal.S4096x16384 .bf16) (x1 : FVec Ideal Cert.Reference8Ideal.S8x4096x2048 .bf16) (r l : Fin 4096) :
    val_main_v6 (F := Ideal) x0 x1 (ix2 r l) = ∑ k : Fin 16384, x0 (ix2 r k) * x1 (ix3 ⟨k.val / 2048, by omega⟩ l ⟨k.val % 2048, by omega⟩) := by
  pointwise [val_main_v0, val_main_v1, val_main_v2, val_main_cst, val_main_v3, val_main_v4, val_main_v5, val_main_v6]

variable (m : (ℓ : Loc nD τ sig) → Buf (Elt Ideal) ℓ) (c : Dev nD)

/-- At the last slice the accumulator holds the parts' sum. -/
theorem acc (t : Fin cfg0.N) (ht : t.val % 8 = 8 - 1) (y : S1024x1024.Idx) : (outsAt0 m c t.val t.isLt).2 y
    = ∑ s : Fin 8, prod (iblk m c 0 ⟨8 * (t.val / 8) + s.val, Pipeline.run_point_lt_of_flush t ht s⟩) (iblk m c 1 ⟨8 * (t.val / 8) + s.val, Pipeline.run_point_lt_of_flush t ht s⟩) y := by
  refine (Pipeline.eq_sum_fin_of_reset_step_apply_of_flush (M := EReal) (fun n h => (outsAt0 m c n h).2) 8 (fun _ => 0)
    (fun t => prod (iblk m c 0 t) (iblk m c 1 t)) (fun t h y => ?_) (fun t h y => ?_) t ht y).trans (zero_add _)
  · rw [outsAt0_A m c t h (by omega) (by omega)]
    frame_out
    rw [pay2, zero_add]
  · by_cases hl : t.val % 8 = 8 - 1
    · rw [outsAt0_C m c t h (by omega) hl]
      frame_out
      rw [pay3, read_unread_whole]
    · rw [outsAt0_B m c t h (by omega) hl]
      frame_out
      rw [pay3, read_unread_whole]

/-- What the last slice writes back is the accumulator. -/
theorem out (t : Fin cfg0.N) (h : t.val % 8 = 8 - 1) (r : Fin 1024) (l : Fin 1024) :
    (outsAt0 m c t.val t.isLt).1 (ix2 r l) = (outsAt0 m c t.val t.isLt).2 (ix2 r l) := by
  rw [outsAt0_C m c t (by omega) (by omega) h]
  frame_out

/-- The kernel's result array is the reference's. -/
theorem arr : (dats m 0 c).arrAt 2 cfg0.N = val_main_v6 (F := Ideal) (V m c main_arg0) (V m c main_arg1) := by
  refine (dats m 0 c).arrAt_eq_of_covers 2 _ (by decide +kernel) fun t hf y => ?_
  have ht : t.val < 128 := lt_of_lt_of_eq t.isLt N_0
  have h1 : t.val % 8 = 8 - 1 := (flush0_2 t).mp hf
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 32 * 1024 + r.val, by omega⟩ : Fin 4096) (⟨t.val / 8 % 4 * 1024 + l.val, by omega⟩ : Fin 4096) := by
    blk_ext [idx t]
  rw [e, ref, out m c t h1, acc m c t h1]
  refine Fin.sum_mul_add_congr fun s k hk => ?_
  blk_point [iblk, V, idx ⟨_, Pipeline.run_point_lt_of_flush t h1 s⟩]

theorem frame_ref : Cert.quiescent_Reference8Ideal (hReference8Ideal := Cert.Reference8Ideal.Gen.facts) := by
  intro m g _
  exact (θ_run _ _ _).mono (fun r h => ⟨fun c => (h c).2, sem_eq_zero_of_no_sems (by decide) _⟩)
    (Cert.Reference8Ideal.Value.run m g)

/-- On the same arguments the kernel and the reference end with the same results. -/
theorem algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · skip
    run_from Cert.Reference8Ideal.Value.run m' g'
    · exact (arr m c).symm

end Cert.Proof.P8

end
-- ==== Proof.P9.lean ====
/- The gradient of the input projection's weight, laid out in eight shards: the kernel's product, accumulated over two slices of
   the rows, is the reference's. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P9

open Cert.Kernel9Ideal Cert.Kernel9Ideal.Gen Idealize.ShloMosaic Idealize.ShloMosaic.TcCoe Idealize.SL.Sem
open Idealize.ShloMosaic.Pipeline (Dat)
open Cert.Reference9Ideal.Read

/-- The blocks' places: shard `t / 8`, row block `t / 2 % 4`, slice `t % 2` of the contraction. -/
theorem idx : ∀ t : Fin cfg0.N, win0_0.index t = ![t.val % 2, t.val / 2 % 4]
    ∧ win0_1.index t = ![t.val / 8, t.val % 2, 0]
    ∧ win0_2.index t = ![t.val / 8, t.val / 2 % 4, 0] :=
  (by decide +kernel : ∀ t : Fin grid0.N, _)

/-- One slice's part of the product. -/
def prod (a : FVec Ideal S2048x1024 .bf16) (b : FVec Ideal S1x2048x1544 .bf16) (y : S1024x1544.Idx) : EReal := ∑ k : Fin 2048, a (ix2 k (y 0)) * b (ix3 0 k (y 1))

/-- The first slice's store: that slice's part of the product. -/
theorem pay2 (a : FVec Ideal S2048x1024 .bf16) (b : FVec Ideal S1x2048x1544 .bf16) (y : S1024x1544.Idx) : k0_pay2 (F := Ideal) a b y = prod a b y := by
  obtain ⟨r, l, rfl⟩ : ∃ (r : Fin 1024) (l : Fin 1544), y = ix2 r l := ⟨y 0, y 1, eq_ix2 y⟩
  pointwise [k0_pay2, k0_pay1, prod]

/-- A later slice's store: what was there and the slice's part. -/
theorem pay3 (a : FVec Ideal S2048x1024 .bf16) (b : FVec Ideal S1x2048x1544 .bf16) (acc : FVec Ideal S1024x1544 .f32) (y : S1024x1544.Idx) :
    k0_pay3 (F := Ideal) a b acc y = acc y + prod a b y := by
  obtain ⟨r, l, rfl⟩ : ∃ (r : Fin 1024) (l : Fin 1544), y = ix2 r l := ⟨y 0, y 1, eq_ix2 y⟩
  pointwise [k0_pay3, k0_pay1, prod]

/-- The reference: one sum over the whole contraction. -/
theorem ref (x0 : FVec Ideal Cert.Reference9Ideal.S4096x4096 .bf16) (x1 : FVec Ideal Cert.Reference9Ideal.S8x4096x1544 .bf16) (q : Fin 8) (r : Fin 4096) (l : Fin 1544) :
    val_main_v10 (F := Ideal) x0 x1 (ix3 q r l) = ∑ k : Fin 4096, x0 (ix2 k r) * x1 (ix3 q k l) := by
  pointwise [val_main_cst, val_main_v0, val_main_v1, val_main_v2, val_main_v3, val_main_v4, val_main_v5, val_main_v6, val_main_v7, val_main_v8, val_main_v9, val_main_v10]
  exact Fin.sum_fin_congr fun k => mul_comm _ _

variable (m : (ℓ : Loc nD τ sig) → Buf (Elt Ideal) ℓ) (c : Dev nD)

/-- At the last slice the accumulator holds the parts' sum. -/
theorem acc (t : Fin cfg0.N) (ht : t.val % 2 = 2 - 1) (y : S1024x1544.Idx) : (outsAt0 m c t.val t.isLt).2 y
    = ∑ s : Fin 2, prod (iblk m c 0 ⟨2 * (t.val / 2) + s.val, Pipeline.run_point_lt_of_flush t ht s⟩) (iblk m c 1 ⟨2 * (t.val / 2) + s.val, Pipeline.run_point_lt_of_flush t ht s⟩) y := by
  refine (Pipeline.eq_sum_fin_of_reset_step_apply_of_flush (M := EReal) (fun n h => (outsAt0 m c n h).2) 2 (fun _ => 0)
    (fun t => prod (iblk m c 0 t) (iblk m c 1 t)) (fun t h y => ?_) (fun t h y => ?_) t ht y).trans (zero_add _)
  · rw [outsAt0_A m c t h (by omega) (by omega)]
    frame_out
    rw [pay2, zero_add]
  · rw [outsAt0_B m c t h (by omega) (by omega)]
    frame_out
    rw [pay3, read_unread_whole]

/-- What the last slice writes back is the accumulator. -/
theorem out (t : Fin cfg0.N) (h : t.val % 2 = 2 - 1) (r : Fin 1024) (l : Fin 1544) :
    (outsAt0 m c t.val t.isLt).1 (ix3 0 r l) = (outsAt0 m c t.val t.isLt).2 (ix2 r l) := by
  rw [outsAt0_B m c t (by omega) (by omega) h]
  frame_out
  pointwise [k0_pay4]

/-- The kernel's result array is the reference's. -/
theorem arr : (dats m 0 c).arrAt 2 cfg0.N = val_main_v10 (F := Ideal) (V m c main_arg0) (V m c main_arg1) := by
  refine (dats m 0 c).arrAt_eq_of_covers 2 _ (by decide +kernel) fun t hf y => ?_
  have ht : t.val < 64 := lt_of_lt_of_eq t.isLt N_0
  have h1 : t.val % 2 = 2 - 1 := (flush0_2 t).mp hf
  obtain ⟨r, l, rfl⟩ : ∃ (r : Fin 1024) (l : Fin 1544), y = ix3 0 r l := ⟨y 1, y 2, (eq_ix3 y).trans (congrArg (fun z : Fin 1 => ix3 z (y 1) (y 2)) (Fin.eq_zero _))⟩
  have hr := r.isLt
  have hl := l.isLt
  blk_simp
  rw [after0_2]
  have e : (win0_2.blk t).view.emb (ix3 0 r l)
      = ix3 (⟨t.val / 8, by omega⟩ : Fin 8) (⟨t.val / 2 % 4 * 1024 + r.val, by omega⟩ : Fin 4096) l := by
    blk_ext [idx t]
  rw [e, ref, out m c t h1, acc m c t h1]
  refine Fin.sum_mul_add_congr fun s k hk => ?_
  blk_point [iblk, V, idx ⟨_, Pipeline.run_point_lt_of_flush t h1 s⟩]

theorem frame_ref : Cert.quiescent_Reference9Ideal (hReference9Ideal := Cert.Reference9Ideal.Gen.facts) := by
  intro m g _
  exact (θ_run _ _ _).mono (fun r h => ⟨fun c => (h c).2, sem_eq_zero_of_no_sems (by decide) _⟩)
    (Cert.Reference9Ideal.Value.run m g)

/-- On the same arguments the kernel and the reference end with the same results. -/
theorem algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · skip
    run_from Cert.Reference9Ideal.Value.run m' g'
    · exact (arr m c).symm

end Cert.Proof.P9

end
-- ==== Proof.P10.lean ====
/- The gradient through the input projection, whose operands lie in eight shards: the kernel's product, accumulated shard by
   shard, is the reference's. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P10

open Cert.Kernel10Ideal Cert.Kernel10Ideal.Gen Idealize.ShloMosaic Idealize.ShloMosaic.TcCoe Idealize.SL.Sem
open Idealize.ShloMosaic.Pipeline (Dat)
open Cert.Reference10Ideal.Read

/-- The blocks' places: row block `t / 32`, column block `t / 8 % 4`, shard `t % 8` of the contraction. -/
theorem idx : ∀ t : Fin cfg0.N, win0_0.index t = ![t.val % 8, t.val / 32, 0]
    ∧ win0_1.index t = ![t.val % 8, t.val / 8 % 4, 0]
    ∧ win0_2.index t = ![t.val / 32, t.val / 8 % 4] :=
  (by decide +kernel : ∀ t : Fin grid0.N, _)

/-- One slice's part of the product. -/
def prod (a : FVec Ideal S1x1024x1544 .bf16) (b : FVec Ideal S1x1024x1544 .bf16) (y : S1024x1024.Idx) : EReal := ∑ k : Fin 1544, a (ix3 0 (y 0) k) * b (ix3 0 (y 1) k)

/-- The first slice's store: that slice's part of the product. -/
theorem pay2 (a : FVec Ideal S1x1024x1544 .bf16) (b : FVec Ideal S1x1024x1544 .bf16) (y : S1024x1024.Idx) : k0_pay2 (F := Ideal) a b y = prod a b y := by
  obtain ⟨r, l, rfl⟩ : ∃ (r : Fin 1024) (l : Fin 1024), y = ix2 r l := ⟨y 0, y 1, eq_ix2 y⟩
  pointwise [k0_pay2, k0_pay1, prod]

/-- A later slice's store: what was there and the slice's part. -/
theorem pay3 (a : FVec Ideal S1x1024x1544 .bf16) (b : FVec Ideal S1x1024x1544 .bf16) (acc : FVec Ideal S1024x1024 .f32) (y : S1024x1024.Idx) :
    k0_pay3 (F := Ideal) a b acc y = acc y + prod a b y := by
  obtain ⟨r, l, rfl⟩ : ∃ (r : Fin 1024) (l : Fin 1024), y = ix2 r l := ⟨y 0, y 1, eq_ix2 y⟩
  pointwise [k0_pay3, k0_pay1, prod]

/-- The reference: one sum over the whole contraction. -/
theorem ref (x0 : FVec Ideal Cert.Reference10Ideal.S8x4096x1544 .bf16) (x1 : FVec Ideal Cert.Reference10Ideal.S8x4096x1544 .bf16) (r l : Fin 4096) :
    val_main_v8 (F := Ideal) x0 x1 (ix2 r l) = ∑ k : Fin 12352, x0 (ix3 ⟨k.val / 1544, by omega⟩ r ⟨k.val % 1544, by omega⟩) * x1 (ix3 ⟨k.val / 1544, by omega⟩ l ⟨k.val % 1544, by omega⟩) := by
  pointwise [val_main_v0, val_main_v1, val_main_v2, val_main_v3, val_main_v4, val_main_v5, val_main_cst, val_main_v6, val_main_v7, val_main_v8]

variable (m : (ℓ : Loc nD τ sig) → Buf (Elt Ideal) ℓ) (c : Dev nD)

/-- At the last slice the accumulator holds the parts' sum. -/
theorem acc (t : Fin cfg0.N) (ht : t.val % 8 = 8 - 1) (y : S1024x1024.Idx) : (outsAt0 m c t.val t.isLt).2 y
    = ∑ s : Fin 8, prod (iblk m c 0 ⟨8 * (t.val / 8) + s.val, Pipeline.run_point_lt_of_flush t ht s⟩) (iblk m c 1 ⟨8 * (t.val / 8) + s.val, Pipeline.run_point_lt_of_flush t ht s⟩) y := by
  refine (Pipeline.eq_sum_fin_of_reset_step_apply_of_flush (M := EReal) (fun n h => (outsAt0 m c n h).2) 8 (fun _ => 0)
    (fun t => prod (iblk m c 0 t) (iblk m c 1 t)) (fun t h y => ?_) (fun t h y => ?_) t ht y).trans (zero_add _)
  · rw [outsAt0_A m c t h (by omega) (by omega)]
    frame_out
    rw [pay2, zero_add]
  · by_cases hl : t.val % 8 = 8 - 1
    · rw [outsAt0_C m c t h (by omega) hl]
      frame_out
      rw [pay3, read_unread_whole]
    · rw [outsAt0_B m c t h (by omega) hl]
      frame_out
      rw [pay3, read_unread_whole]

/-- What the last slice writes back is the accumulator. -/
theorem out (t : Fin cfg0.N) (h : t.val % 8 = 8 - 1) (r : Fin 1024) (l : Fin 1024) :
    (outsAt0 m c t.val t.isLt).1 (ix2 r l) = (outsAt0 m c t.val t.isLt).2 (ix2 r l) := by
  rw [outsAt0_C m c t (by omega) (by omega) h]
  frame_out

/-- The kernel's result array is the reference's. -/
theorem arr : (dats m 0 c).arrAt 2 cfg0.N = val_main_v8 (F := Ideal) (V m c main_arg0) (V m c main_arg1) := by
  refine (dats m 0 c).arrAt_eq_of_covers 2 _ (by decide +kernel) fun t hf y => ?_
  have ht : t.val < 128 := lt_of_lt_of_eq t.isLt N_0
  have h1 : t.val % 8 = 8 - 1 := (flush0_2 t).mp hf
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 32 * 1024 + r.val, by omega⟩ : Fin 4096) (⟨t.val / 8 % 4 * 1024 + l.val, by omega⟩ : Fin 4096) := by
    blk_ext [idx t]
  rw [e, ref, out m c t h1, acc m c t h1]
  refine Fin.sum_mul_add_congr fun s k hk => ?_
  blk_point [iblk, V, idx ⟨_, Pipeline.run_point_lt_of_flush t h1 s⟩]

theorem frame_ref : Cert.quiescent_Reference10Ideal (hReference10Ideal := Cert.Reference10Ideal.Gen.facts) := by
  intro m g _
  exact (θ_run _ _ _).mono (fun r h => ⟨fun c => (h c).2, sem_eq_zero_of_no_sems (by decide) _⟩)
    (Cert.Reference10Ideal.Value.run m g)

/-- On the same arguments the kernel and the reference end with the same results. -/
theorem algebraic : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · skip
    run_from Cert.Reference10Ideal.Value.run m' g'
    · exact (arr m c).symm

end Cert.Proof.P10

end
-- ==== Proof.P11.lean ====
/- The first half of the input projection: the product of the first 2048 columns is the reference's. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P11

open Cert.Kernel11Ideal Cert.Kernel11Ideal.Gen Idealize.ShloMosaic Idealize.ShloMosaic.TcCoe Idealize.SL.Sem
open Idealize.ShloMosaic.Pipeline (Dat)
open Cert.Reference11Ideal.Read

/-- The blocks' places: row block `t / 12`, column block `t % 12`, of the first half of the columns of the first operand. -/
theorem idx : ∀ t : Fin cfg0.N, win0_0.index t = ![t.val / 12, 0]
    ∧ win0_1.index t = ![0, t.val % 12]
    ∧ win0_2.index t = ![t.val / 12, t.val % 12] :=
  (by decide +kernel : ∀ t : Fin grid0.N, _)

/-- What a point stores. -/
theorem k0_pay1_at (a : FVec Ideal S1024x2048 .bf16) (b : FVec Ideal S2048x1024 .bf16) (r : Fin 1024) (l : Fin 1024) :
    k0_pay1 (F := Ideal) a b (ix2 r l) = ∑ k : Fin 2048, a (ix2 r k) * b (ix2 k l) := by
  pointwise [k0_pay1]

/-- The reference at one place. -/
theorem val_main_v3_at (x0 : FVec Ideal Cert.Reference11Ideal.S4096x4096 .bf16) (x1 : FVec Ideal Cert.Reference11Ideal.S2048x12288 .bf16) (r : Fin 4096) (l : Fin 12288) :
    val_main_v3 (F := Ideal) x0 x1 (ix2 r l) = ∑ k : Fin 2048, x0 (ix2 r ⟨k.val, by omega⟩) * x1 (ix2 k l) := by
  pointwise [val_main_v0, val_main_v1, val_main_v2, val_main_v3]

variable (m : (ℓ : Loc nD τ sig) → Buf (Elt Ideal) ℓ) (c : Dev nD)

/-- The kernel's result array is the reference's. -/
theorem arr : (dats m 0 c).arrAt 2 cfg0.N
    = val_main_v3 (F := Ideal) (V m c main_arg0) (V m c main_arg1) := by
  refine (dats m 0 c).arrAt_eq_of_covers 2 _ (by decide +kernel) fun t _ y => ?_
  have ht : t.val < 48 := lt_of_lt_of_eq t.isLt N_0
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 12 * 1024 + r.val, by omega⟩ : Fin 4096) (⟨t.val % 12 * 1024 + l.val, by omega⟩ : Fin 12288) := by
    blk_ext [idx t]
  rw [e, val_main_v3_at]
  frame_out
  rw [k0_pay1_at]
  refine Fin.sum_fin_congr fun k => ?_
  blk_point [iblk, V, idx t]

theorem frame_ref : Cert.quiescent_Reference11Ideal (hReference11Ideal := Cert.Reference11Ideal.Gen.facts) := by
  intro m g _
  exact (θ_run _ _ _).mono (fun r h => ⟨fun c => (h c).2, sem_eq_zero_of_no_sems (by decide) _⟩)
    (Cert.Reference11Ideal.Value.run m g)

/-- On the same arguments the kernel and the reference end with the same results. -/
theorem algebraic : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · skip
    run_from Cert.Reference11Ideal.Value.run m' g'
    · exact (arr m c).symm

end Cert.Proof.P11

end
-- ==== Proof.P12.lean ====
/- The second half of the input projection: the product of the last 2048 columns, added to what the first half gave, is the
   reference's. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P12

open Cert.Kernel12Ideal Cert.Kernel12Ideal.Gen Idealize.ShloMosaic Idealize.ShloMosaic.TcCoe Idealize.SL.Sem
open Idealize.ShloMosaic.Pipeline (Dat)
open Cert.Reference12Ideal.Read

/-- The blocks' places: row block `t / 12`, column block `t % 12`, of the second half of the columns of the first operand. -/
theorem idx : ∀ t : Fin cfg0.N, win0_0.index t = ![t.val / 12, 1]
    ∧ win0_1.index t = ![0, t.val % 12]
    ∧ win0_2.index t = ![t.val / 12, t.val % 12]
    ∧ win0_3.index t = ![t.val / 12, t.val % 12] :=
  (by decide +kernel : ∀ t : Fin grid0.N, _)

/-- What a point stores. -/
theorem k0_pay1_at (a : FVec Ideal S1024x2048 .bf16) (b : FVec Ideal S2048x1024 .bf16) (p : FVec Ideal S1024x1024 .f32) (r : Fin 1024) (l : Fin 1024) :
    k0_pay1 (F := Ideal) a b p (ix2 r l) = (∑ k : Fin 2048, a (ix2 r k) * b (ix2 k l)) + p (ix2 r l) := by
  pointwise [k0_pay1]

/-- The reference at one place. -/
theorem val_main_v4_at (x0 : FVec Ideal Cert.Reference12Ideal.S4096x4096 .bf16) (x1 : FVec Ideal Cert.Reference12Ideal.S2048x12288 .bf16) (x2 : FVec Ideal Cert.Reference12Ideal.S4096x12288 .f32) (r : Fin 4096) (l : Fin 12288) :
    val_main_v4 (F := Ideal) x0 x1 x2 (ix2 r l) = x2 (ix2 r l) + ∑ k : Fin 2048, x0 (ix2 r ⟨2048 + k.val, by omega⟩) * x1 (ix2 k l) := by
  pointwise [val_main_v0, val_main_v1, val_main_v2, val_main_v3, val_main_v4]

variable (m : (ℓ : Loc nD τ sig) → Buf (Elt Ideal) ℓ) (c : Dev nD)

/-- The kernel's result array is the reference's. -/
theorem arr : (dats m 0 c).arrAt 3 cfg0.N
    = val_main_v4 (F := Ideal) (V m c main_arg0) (V m c main_arg1) (V m c main_arg2) := by
  refine (dats m 0 c).arrAt_eq_of_covers 3 _ (by decide +kernel) fun t _ y => ?_
  have ht : t.val < 48 := lt_of_lt_of_eq t.isLt N_0
  obtain ⟨r, l, rfl⟩ : ∃ (r : Fin 1024) (l : Fin 1024), y = ix2 r l := ⟨y 0, y 1, eq_ix2 y⟩
  have hr := r.isLt
  have hl := l.isLt
  blk_simp
  rw [after0_3]
  have e : (win0_3.blk t).view.emb (ix2 r l)
      = ix2 (⟨t.val / 12 * 1024 + r.val, by omega⟩ : Fin 4096) (⟨t.val % 12 * 1024 + l.val, by omega⟩ : Fin 12288) := by
    blk_ext [idx t]
  rw [e, val_main_v4_at]
  frame_out
  rw [k0_pay1_at]
  rw [add_comm]
  refine congrArg₂ (· + ·) ?_ (Fin.sum_fin_congr fun k => ?_)
  · blk_point [iblk, V, idx t]
  · blk_point [iblk, V, idx t]

theorem frame_ref : Cert.quiescent_Reference12Ideal (hReference12Ideal := Cert.Reference12Ideal.Gen.facts) := by
  intro m g _
  exact (θ_run _ _ _).mono (fun r h => ⟨fun c => (h c).2, sem_eq_zero_of_no_sems (by decide) _⟩)
    (Cert.Reference12Ideal.Value.run m g)

/-- On the same arguments the kernel and the reference end with the same results. -/
theorem algebraic : Cert.algebraic_Kernel12Ideal_Reference12Ideal (hKernel12Ideal := Cert.Kernel12Ideal.Gen.facts)
    (hReference12Ideal := Cert.Reference12Ideal.Gen.facts) := by
  pair_intro
  · run_from Cert.Kernel12Ideal.Value.run_blocks m g
  · skip
    run_from Cert.Reference12Ideal.Value.run m' g'
    · exact (arr m c).symm

end Cert.Proof.P12

end
-- ==== Proof.P13.lean ====
/- The output projection of the mixers: the kernel's product is the reference's. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P13

open Cert.Kernel13Ideal Cert.Kernel13Ideal.Gen Idealize.ShloMosaic Idealize.ShloMosaic.TcCoe Idealize.SL.Sem
open Idealize.ShloMosaic.Pipeline (Dat)
open Cert.Reference13Ideal.Read

/-- The blocks' places: row block `t / 4`, column block `t % 4`. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- What a point stores. -/
theorem k0_pay1_at (a : FVec Ideal S1024x4096 .bf16) (b : FVec Ideal S4096x1024 .bf16) (r : Fin 1024) (l : Fin 1024) :
    k0_pay1 (F := Ideal) a b (ix2 r l) = ∑ k : Fin 4096, a (ix2 r k) * b (ix2 k l) := by
  pointwise [k0_pay1]

/-- The reference at one place. -/
theorem val_main_v2_at (x0 : FVec Ideal Cert.Reference13Ideal.S4096x4096 .bf16) (x1 : FVec Ideal Cert.Reference13Ideal.S4096x4096 .bf16) (r : Fin 4096) (l : Fin 4096) :
    val_main_v2 (F := Ideal) x0 x1 (ix2 r l) = ∑ k : Fin 4096, x0 (ix2 r k) * x1 (ix2 k l) := by
  pointwise [val_main_v0, val_main_v1, val_main_v2]

variable (m : (ℓ : Loc nD τ sig) → Buf (Elt Ideal) ℓ) (c : Dev nD)

/-- The kernel's result array is the reference's. -/
theorem arr : (dats m 0 c).arrAt 2 cfg0.N
    = val_main_v2 (F := Ideal) (V m c main_arg0) (V m c main_arg1) := by
  refine (dats m 0 c).arrAt_eq_of_covers 2 _ (by decide +kernel) fun t _ y => ?_
  have ht : t.val < 16 := lt_of_lt_of_eq t.isLt N_0
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 4 * 1024 + r.val, by omega⟩ : Fin 4096) (⟨t.val % 4 * 1024 + l.val, by omega⟩ : Fin 4096) := by
    blk_ext [idx t]
  rw [e, val_main_v2_at]
  frame_out
  rw [k0_pay1_at]
  refine Fin.sum_fin_congr fun k => ?_
  blk_point [iblk, V, idx t]

theorem frame_ref : Cert.quiescent_Reference13Ideal (hReference13Ideal := Cert.Reference13Ideal.Gen.facts) := by
  intro m g _
  exact (θ_run _ _ _).mono (fun r h => ⟨fun c => (h c).2, sem_eq_zero_of_no_sems (by decide) _⟩)
    (Cert.Reference13Ideal.Value.run m g)

/-- On the same arguments the kernel and the reference end with the same results. -/
theorem algebraic : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · skip
    run_from Cert.Reference13Ideal.Value.run m' g'
    · exact (arr m c).symm

end Cert.Proof.P13

end
-- ==== Proof.P14.lean ====
/- The gradient of the output projection's weight: the kernel's product, accumulated over two slices of the rows, is the
   reference's. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P14

open Cert.Kernel14Ideal Cert.Kernel14Ideal.Gen Idealize.ShloMosaic Idealize.ShloMosaic.TcCoe Idealize.SL.Sem
open Idealize.ShloMosaic.Pipeline (Dat)
open Cert.Reference14Ideal.Read

/-- The blocks' places: row block `t / 8`, column block `t / 2 % 4`, slice `t % 2` of the contraction. -/
theorem idx : ∀ t : Fin cfg0.N, win0_0.index t = ![t.val % 2, t.val / 8]
    ∧ win0_1.index t = ![t.val % 2, t.val / 2 % 4]
    ∧ win0_2.index t = ![t.val / 8, t.val / 2 % 4] :=
  (by decide +kernel : ∀ t : Fin grid0.N, _)

/-- One slice's part of the product. -/
def prod (a : FVec Ideal S2048x1024 .bf16) (b : FVec Ideal S2048x1024 .bf16) (y : S1024x1024.Idx) : EReal := ∑ k : Fin 2048, a (ix2 k (y 0)) * b (ix2 k (y 1))

/-- The first slice's store: that slice's part of the product. -/
theorem pay2 (a : FVec Ideal S2048x1024 .bf16) (b : FVec Ideal S2048x1024 .bf16) (y : S1024x1024.Idx) : k0_pay2 (F := Ideal) a b y = prod a b y := by
  obtain ⟨r, l, rfl⟩ : ∃ (r : Fin 1024) (l : Fin 1024), y = ix2 r l := ⟨y 0, y 1, eq_ix2 y⟩
  pointwise [k0_pay2, k0_pay1, prod]

/-- A later slice's store: what was there and the slice's part. -/
theorem pay3 (a : FVec Ideal S2048x1024 .bf16) (b : FVec Ideal S2048x1024 .bf16) (acc : FVec Ideal S1024x1024 .f32) (y : S1024x1024.Idx) :
    k0_pay3 (F := Ideal) a b acc y = acc y + prod a b y := by
  obtain ⟨r, l, rfl⟩ : ∃ (r : Fin 1024) (l : Fin 1024), y = ix2 r l := ⟨y 0, y 1, eq_ix2 y⟩
  pointwise [k0_pay3, k0_pay1, prod]

/-- The reference: one sum over the whole contraction. -/
theorem ref (x0 : FVec Ideal Cert.Reference14Ideal.S4096x4096 .bf16) (x1 : FVec Ideal Cert.Reference14Ideal.S4096x4096 .bf16) (r l : Fin 4096) :
    val_main_v6 (F := Ideal) x0 x1 (ix2 r l) = ∑ k : Fin 4096, x0 (ix2 k r) * x1 (ix2 k l) := by
  pointwise [val_main_cst, val_main_v0, val_main_v1, val_main_v2, val_main_v3, val_main_v4, val_main_v5, val_main_v6]
  exact Fin.sum_fin_congr fun k => mul_comm _ _

variable (m : (ℓ : Loc nD τ sig) → Buf (Elt Ideal) ℓ) (c : Dev nD)

/-- At the last slice the accumulator holds the parts' sum. -/
theorem acc (t : Fin cfg0.N) (ht : t.val % 2 = 2 - 1) (y : S1024x1024.Idx) : (outsAt0 m c t.val t.isLt).2 y
    = ∑ s : Fin 2, prod (iblk m c 0 ⟨2 * (t.val / 2) + s.val, Pipeline.run_point_lt_of_flush t ht s⟩) (iblk m c 1 ⟨2 * (t.val / 2) + s.val, Pipeline.run_point_lt_of_flush t ht s⟩) y := by
  refine (Pipeline.eq_sum_fin_of_reset_step_apply_of_flush (M := EReal) (fun n h => (outsAt0 m c n h).2) 2 (fun _ => 0)
    (fun t => prod (iblk m c 0 t) (iblk m c 1 t)) (fun t h y => ?_) (fun t h y => ?_) t ht y).trans (zero_add _)
  · rw [outsAt0_A m c t h (by omega) (by omega)]
    frame_out
    rw [pay2, zero_add]
  · rw [outsAt0_B m c t h (by omega) (by omega)]
    frame_out
    rw [pay3, read_unread_whole]

/-- What the last slice writes back is the accumulator. -/
theorem out (t : Fin cfg0.N) (h : t.val % 2 = 2 - 1) (r : Fin 1024) (l : Fin 1024) :
    (outsAt0 m c t.val t.isLt).1 (ix2 r l) = (outsAt0 m c t.val t.isLt).2 (ix2 r l) := by
  rw [outsAt0_B m c t (by omega) (by omega) h]
  frame_out
  pointwise [k0_pay4]

/-- The kernel's result array is the reference's. -/
theorem arr : (dats m 0 c).arrAt 2 cfg0.N = val_main_v6 (F := Ideal) (V m c main_arg0) (V m c main_arg1) := by
  refine (dats m 0 c).arrAt_eq_of_covers 2 _ (by decide +kernel) fun t hf y => ?_
  have ht : t.val < 32 := lt_of_lt_of_eq t.isLt N_0
  have h1 : t.val % 2 = 2 - 1 := (flush0_2 t).mp hf
  obtain ⟨r, l, rfl⟩ : ∃ (r : Fin 1024) (l : Fin 1024), y = ix2 r l := ⟨y 0, y 1, eq_ix2 y⟩
  have hr := r.isLt
  have hl := l.isLt
  blk_simp
  rw [after0_2]
  have e : (win0_2.blk t).view.emb (ix2 r l)
      = ix2 (⟨t.val / 8 * 1024 + r.val, by omega⟩ : Fin 4096) (⟨t.val / 2 % 4 * 1024 + l.val, by omega⟩ : Fin 4096) := by
    blk_ext [idx t]
  rw [e, ref, out m c t h1, acc m c t h1]
  refine Fin.sum_mul_add_congr fun s k hk => ?_
  blk_point [iblk, V, idx ⟨_, Pipeline.run_point_lt_of_flush t h1 s⟩]

theorem frame_ref : Cert.quiescent_Reference14Ideal (hReference14Ideal := Cert.Reference14Ideal.Gen.facts) := by
  intro m g _
  exact (θ_run _ _ _).mono (fun r h => ⟨fun c => (h c).2, sem_eq_zero_of_no_sems (by decide) _⟩)
    (Cert.Reference14Ideal.Value.run m g)

/-- On the same arguments the kernel and the reference end with the same results. -/
theorem algebraic : Cert.algebraic_Kernel14Ideal_Reference14Ideal (hKernel14Ideal := Cert.Kernel14Ideal.Gen.facts)
    (hReference14Ideal := Cert.Reference14Ideal.Gen.facts) := by
  pair_intro
  · run_from Cert.Kernel14Ideal.Value.run_blocks m g
  · skip
    run_from Cert.Reference14Ideal.Value.run m' g'
    · exact (arr m c).symm

end Cert.Proof.P14

end
-- ==== Proof.P15.lean ====
/- The input projection's columns for the step sizes: the kernel's product is the reference's. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P15

open Cert.Kernel15Ideal Cert.Kernel15Ideal.Gen Idealize.ShloMosaic Idealize.ShloMosaic.TcCoe Idealize.SL.Sem
open Idealize.ShloMosaic.Pipeline (Dat)
open Cert.Reference15Ideal.Read

/-- The blocks' places: row block `t`, the whole second operand. -/
theorem idx : ∀ t : Fin cfg0.N, win0_0.index t = ![t.val, 0]
    ∧ win0_1.index t = ![0, 0]
    ∧ win0_2.index t = ![t.val, 0] :=
  (by decide +kernel : ∀ t : Fin grid0.N, _)

/-- What a point stores. -/
theorem k0_pay1_at (a : FVec Ideal S1024x4096 .bf16) (b : FVec Ideal S4096x128 .bf16) (r : Fin 1024) (l : Fin 128) :
    k0_pay1 (F := Ideal) a b (ix2 r l) = ∑ k : Fin 4096, a (ix2 r k) * b (ix2 k l) := by
  pointwise [k0_pay1]

/-- The reference at one place. -/
theorem val_main_v2_at (x0 : FVec Ideal Cert.Reference15Ideal.S4096x4096 .bf16) (x1 : FVec Ideal Cert.Reference15Ideal.S4096x128 .bf16) (r : Fin 4096) (l : Fin 128) :
    val_main_v2 (F := Ideal) x0 x1 (ix2 r l) = ∑ k : Fin 4096, x0 (ix2 r k) * x1 (ix2 k l) := by
  pointwise [val_main_v0, val_main_v1, val_main_v2]

variable (m : (ℓ : Loc nD τ sig) → Buf (Elt Ideal) ℓ) (c : Dev nD)

/-- The kernel's result array is the reference's. -/
theorem arr : (dats m 0 c).arrAt 2 cfg0.N
    = val_main_v2 (F := Ideal) (V m c main_arg0) (V m c main_arg1) := by
  refine (dats m 0 c).arrAt_eq_of_covers 2 _ (by decide +kernel) fun t _ y => ?_
  have ht : t.val < 4 := lt_of_lt_of_eq t.isLt N_0
  obtain ⟨r, l, rfl⟩ : ∃ (r : Fin 1024) (l : Fin 128), y = ix2 r l := ⟨y 0, y 1, eq_ix2 y⟩
  have hr := r.isLt
  have hl := l.isLt
  blk_simp
  rw [after0_2]
  have e : (win0_2.blk t).view.emb (ix2 r l)
      = ix2 (⟨t.val * 1024 + r.val, by omega⟩ : Fin 4096) (⟨0 + l.val, by omega⟩ : Fin 128) := by
    blk_ext [idx t]
  rw [e, val_main_v2_at]
  frame_out
  rw [k0_pay1_at]
  refine Fin.sum_fin_congr fun k => ?_
  blk_point [iblk, V, idx t]

theorem frame_ref : Cert.quiescent_Reference15Ideal (hReference15Ideal := Cert.Reference15Ideal.Gen.facts) := by
  intro m g _
  exact (θ_run _ _ _).mono (fun r h => ⟨fun c => (h c).2, sem_eq_zero_of_no_sems (by decide) _⟩)
    (Cert.Reference15Ideal.Value.run m g)

/-- On the same arguments the kernel and the reference end with the same results. -/
theorem algebraic : Cert.algebraic_Kernel15Ideal_Reference15Ideal (hKernel15Ideal := Cert.Kernel15Ideal.Gen.facts)
    (hReference15Ideal := Cert.Reference15Ideal.Gen.facts) := by
  pair_intro
  · run_from Cert.Kernel15Ideal.Value.run_blocks m g
  · skip
    run_from Cert.Reference15Ideal.Value.run m' g'
    · exact (arr m c).symm

end Cert.Proof.P15

end
-- ==== Proof.SsdMath.lean ====
/- The mathematics of the scan's gradient over the extended reals, for one direction, one group of four heads and one
   chunk of 128 rows: every array is a function of a row (128) or a state (128) and a lane (256 = four heads of 64
   lanes each).  A is the decay exponents' running sum, T its total, G the gradient of the chunk's outgoing state, P
   the state entering the chunk, M i j says that row j may feed row i.  Nothing here asks for distributivity: sums are
   only reordered. -/
module

public import Idealize.ShloMosaic.PureOps.Ideal.Laws
public import Idealize.ShloMosaic.Lib.Pointwise
public import Idealize.ShloMosaic.Lib.Pipeline.ValueKit

@[expose] public section

noncomputable section

namespace Cert.SsdMath

open Idealize.ShloMosaic

/-- A matrix of rows (or states) by lanes, and a square one. -/
abbrev Mat := Fin 128 → Fin 256 → EReal
abbrev Sq := Fin 128 → Fin 128 → EReal

/-- The first lane of a head. -/
def lane0 (h : Fin 4) : Fin 256 := ⟨64 * h.val, by omega⟩

/-- Lane `p` of head `h`. -/
def lane (h : Fin 4) (p : Fin 64) : Fin 256 := ⟨64 * h.val + p.val, by omega⟩

/-- The head a lane belongs to. -/
def headOf (l : Fin 256) : Fin 4 := ⟨l.val / 64, by omega⟩

/-- How much of row `j` reaches row `i`, in head `h`. -/
def decay (M : Fin 128 → Fin 128 → Prop) [∀ i j, Decidable (M i j)] (A : Mat) (h : Fin 4) (i j : Fin 128) : EReal :=
  if M i j then Ideal.exp (A i (lane0 h) - A j (lane0 h)) else 0

/-- The score of rows `i` and `j`. -/
def score (B C : Sq) (i j : Fin 128) : EReal := ∑ n : Fin 128, C i n * B j n

/-- The gradient with respect to the scores. -/
def dscore (M : Fin 128 → Fin 128 → Prop) [∀ i j, Decidable (M i j)] (X D A DY : Mat) (i j : Fin 128) : EReal :=
  ∑ h : Fin 4, (∑ p : Fin 64, DY i (lane h p) * (X j (lane h p) * D j (lane h p))) * decay M A h i j

/-- The gradient with respect to the inputs. -/
def gx (M : Fin 128 → Fin 128 → Prop) [∀ i j, Decidable (M i j)] (D A DY : Mat) (B C : Sq) (G : Mat) (T : Fin 256 → EReal)
    (j : Fin 128) (l : Fin 256) : EReal :=
  ((∑ n : Fin 128, B j n * G n l) * Ideal.exp (T l - A j l)
    + ∑ i : Fin 128, score B C i j * decay M A (headOf l) i j * DY i l) * D j l

/-- The gradient with respect to B. -/
def gb (M : Fin 128 → Fin 128 → Prop) [∀ i j, Decidable (M i j)] (X D A DY : Mat) (C : Sq) (G : Mat) (T : Fin 256 → EReal)
    (j n : Fin 128) : EReal :=
  (∑ l : Fin 256, X j l * D j l * Ideal.exp (T l - A j l) * G n l) + ∑ i : Fin 128, dscore M X D A DY i j * C i n

/-- The gradient with respect to C. -/
def gc (M : Fin 128 → Fin 128 → Prop) [∀ i j, Decidable (M i j)] (X D A DY : Mat) (B : Sq) (P : Mat) (i n : Fin 128) : EReal :=
  (∑ l : Fin 256, DY i l * Ideal.exp (A i l) * P n l) + ∑ j : Fin 128, dscore M X D A DY i j * B j n

/-- The gradient with respect to the state entering the chunk. -/
def gs (A DY : Mat) (C : Sq) (G : Mat) (T : Fin 256 → EReal) (n : Fin 128) (l : Fin 256) : EReal :=
  G n l * Ideal.exp (T l) + ∑ i : Fin 128, C i n * (DY i l * Ideal.exp (A i l))

section perm

variable (e : Fin 128 ≃ Fin 128) (M M' : Fin 128 → Fin 128 → Prop) [∀ i j, Decidable (M i j)] [∀ i j, Decidable (M' i j)]
  (hM : ∀ i j, M' i j ↔ M (e i) (e j)) (X D A DY : Mat) (B C : Sq) (G P : Mat) (T : Fin 256 → EReal)

include hM

theorem decay_perm (h i j) : decay M' (fun i l => A (e i) l) h i j = decay M A h (e i) (e j) := by
  simp only [decay, hM]

theorem dscore_perm (i j) : dscore M' (fun i l => X (e i) l) (fun i l => D (e i) l) (fun i l => A (e i) l) (fun i l => DY (e i) l) i j
    = dscore M X D A DY (e i) (e j) := by
  simp only [dscore, decay_perm e M M' hM]

/-- The rows may be renumbered. -/
theorem gx_perm (j l) : gx M' (fun i l => D (e i) l) (fun i l => A (e i) l) (fun i l => DY (e i) l) (fun i l => B (e i) l) (fun i l => C (e i) l) G T j l
    = gx M D A DY B C G T (e j) l := by
  simp only [gx, score, decay_perm e M M' hM]
  congr 2
  exact Equiv.sum_comp e (fun i => (∑ n, C i n * B (e j) n) * decay M A (headOf l) i (e j) * DY i l)

theorem gb_perm (j n) : gb M' (fun i l => X (e i) l) (fun i l => D (e i) l) (fun i l => A (e i) l) (fun i l => DY (e i) l) (fun i l => C (e i) l) G T j n
    = gb M X D A DY C G T (e j) n := by
  simp only [gb, dscore_perm e M M' hM]
  congr 1
  exact Equiv.sum_comp e (fun i => dscore M X D A DY i (e j) * C i n)

theorem gc_perm (i n) : gc M' (fun i l => X (e i) l) (fun i l => D (e i) l) (fun i l => A (e i) l) (fun i l => DY (e i) l) (fun i l => B (e i) l) P i n
    = gc M X D A DY B P (e i) n := by
  simp only [gc, dscore_perm e M M' hM]
  congr 1
  exact Equiv.sum_comp e (fun j => dscore M X D A DY (e i) j * B j n)

end perm

theorem gs_perm (e : Fin 128 ≃ Fin 128) (A DY : Mat) (C : Sq) (G : Mat) (T : Fin 256 → EReal) (n l) :
    gs (fun i l => A (e i) l) (fun i l => DY (e i) l) (fun i l => C (e i) l) G T n l = gs A DY C G T n l := by
  simp only [gs]
  congr 1
  exact Equiv.sum_comp e (fun i => C i n * (DY i l * Ideal.exp (A i l)))

/-- A sum over lanes is a sum over heads and the lanes of each. -/
theorem sum_lanes (f : Fin 256 → EReal) : ∑ l : Fin 256, f l = ∑ h : Fin 4, ∑ p : Fin 64, f (lane h p) := by
  rw [← Fintype.sum_prod_type']
  refine (Fintype.sum_equiv (finProdFinEquiv (m := 4) (n := 64)) _ _ fun x => ?_).symm
  congr 1
  apply Fin.ext
  simp [lane, finProdFinEquiv]
  omega

theorem headOf_lane (h : Fin 4) (p : Fin 64) : headOf (lane h p) = h := by
  apply Fin.ext; simp only [headOf, lane]; omega

/-- A sum over lanes of which only one head's count. -/
theorem sum_head (f g : Fin 256 → EReal) (h : Fin 4) :
    ∑ l : Fin 256, f l * (g l * (if headOf l = h then 1 else 0)) = ∑ p : Fin 64, f (lane h p) * g (lane h p) := by
  rw [sum_lanes, Finset.sum_eq_single h]
  · refine Finset.sum_congr rfl fun p _ => ?_
    rw [headOf_lane, if_pos rfl, mul_one]
  · intro b _ hb
    refine Finset.sum_eq_zero fun p _ => ?_
    rw [headOf_lane, if_neg hb, mul_zero, mul_zero]
  · intro hh; exact absurd (Finset.mem_univ h) hh

/-- Of four terms each masked to one head's lanes only the lane's own head's is there. -/
theorem four_masks (f : Fin 4 → EReal) (k : Fin 4) (z : EReal) :
    z + f 3 * (if k = 3 then 1 else 0) + f 2 * (if k = 2 then 1 else 0) + f 1 * (if k = 1 then 1 else 0)
      + f 0 * (if k = 0 then 1 else 0) = z + f k := by
  fin_cases k <;> simp

end Cert.SsdMath

end
-- ==== Proof.SsdRef.lean ====
/- The reference's arrays in steps: its inputs for both directions (the second one's rows in reverse order), and the three
   results, which put the rows of the loop's stacks back in order. -/
module

public import proofs.«01_k».proof.Proof.Gen.Reference16Ideal.Step
public import proofs.«01_k».proof.Proof.SsdMath
public import Idealize.ShloMosaic.Lib.Pointwise
public import Idealize.ShloMosaic.Lib.Pipeline.ValueKit
public import Idealize.ShloMosaic.Lib.Claim

@[expose] public section

set_option maxRecDepth 200000

noncomputable section

namespace Cert.SsdRef

open Cert.Reference16Ideal Cert.Reference16Ideal.Gen Cert.Reference16Ideal.Step Idealize.ShloMosaic Idealize.ShloMosaic.TcCoe Cert.SsdMath

/-- The inputs, both directions. -/
def xs (a0 : FVec Ideal S4096x4096 .f32) : FVec Ideal S2x32x128x8x4x64 .f32 :=
  shapeCast S2x32x128x8x4x64 (concatenate S2x4096x2048 0 [⟨S1x4096x2048, (broadcastInDim S1x4096x2048 ![1, 2] bcast_S4096x2048_S1x4096x2048_1_2 (extractStridedSlice S4096x2048 ![0, 0] (a0) slices_S4096x4096_S4096x2048_0_0))⟩, ⟨S1x4096x2048, (broadcastInDim S1x4096x2048 ![1, 2] bcast_S4096x2048_S1x4096x2048_1_2 (Host.reverse [0] (extractStridedSlice S4096x2048 ![0, 0] (a0) slices_S4096x4096_S4096x2048_0_0)))⟩] concatenates_S1x4096x2048_S1x4096x2048_S2x4096x2048_d0) shapeCasts_S2x4096x2048_S2x32x128x8x4x64

/-- B, both directions. -/
def bs (a0 : FVec Ideal S4096x4096 .f32) : FVec Ideal S2x32x128x8x128 .f32 :=
  shapeCast S2x32x128x8x128 (concatenate S2x4096x1024 0 [⟨S1x4096x1024, (broadcastInDim S1x4096x1024 ![1, 2] bcast_S4096x1024_S1x4096x1024_1_2 (extractStridedSlice S4096x1024 ![0, 2048] (a0) slices_S4096x4096_S4096x1024_0_2048))⟩, ⟨S1x4096x1024, (broadcastInDim S1x4096x1024 ![1, 2] bcast_S4096x1024_S1x4096x1024_1_2 (Host.reverse [0] (extractStridedSlice S4096x1024 ![0, 2048] (a0) slices_S4096x4096_S4096x1024_0_2048)))⟩] concatenates_S1x4096x1024_S1x4096x1024_S2x4096x1024_d0) shapeCasts_S2x4096x1024_S2x32x128x8x128

/-- C, both directions. -/
def cs (a0 : FVec Ideal S4096x4096 .f32) : FVec Ideal S2x32x128x8x128 .f32 :=
  shapeCast S2x32x128x8x128 (concatenate S2x4096x1024 0 [⟨S1x4096x1024, (broadcastInDim S1x4096x1024 ![1, 2] bcast_S4096x1024_S1x4096x1024_1_2 (extractStridedSlice S4096x1024 ![0, 3072] (a0) slices_S4096x4096_S4096x1024_0_3072))⟩, ⟨S1x4096x1024, (broadcastInDim S1x4096x1024 ![1, 2] bcast_S4096x1024_S1x4096x1024_1_2 (Host.reverse [0] (extractStridedSlice S4096x1024 ![0, 3072] (a0) slices_S4096x4096_S4096x1024_0_3072)))⟩] concatenates_S1x4096x1024_S1x4096x1024_S2x4096x1024_d0) shapeCasts_S2x4096x1024_S2x32x128x8x128

/-- The gradient of the output, both directions. -/
def dys (a6 : FVec Ideal S4096x2048 .f32) : FVec Ideal S2x32x128x8x4x64 .f32 :=
  shapeCast S2x32x128x8x4x64 (concatenate S2x4096x2048 0 [⟨S1x4096x2048, (broadcastInDim S1x4096x2048 ![1, 2] bcast_S4096x2048_S1x4096x2048_1_2 (a6))⟩, ⟨S1x4096x2048, (broadcastInDim S1x4096x2048 ![1, 2] bcast_S4096x2048_S1x4096x2048_1_2 (Host.reverse [0] (a6)))⟩] concatenates_S1x4096x2048_S1x4096x2048_S2x4096x2048_d0) shapeCasts_S2x4096x2048_S2x32x128x8x4x64

/-- The step sizes, both directions. -/
def dts (a1 a2 : FVec Ideal S4096x32 .f32) : FVec Ideal S2x32x128x8x4 .f32 :=
  shapeCast S2x32x128x8x4 (concatenate S2x4096x32 0 [⟨S1x4096x32, (broadcastInDim S1x4096x32 ![1, 2] bcast_S4096x32_S1x4096x32_1_2 (a1))⟩, ⟨S1x4096x32, (broadcastInDim S1x4096x32 ![1, 2] bcast_S4096x32_S1x4096x32_1_2 (Host.reverse [0] (a2)))⟩] concatenates_S1x4096x32_S1x4096x32_S2x4096x32_d0) shapeCasts_S2x4096x32_S2x32x128x8x4

/-- The states entering the chunks, both directions. -/
def ps (a5 : FVec Ideal S2x32x8x128x256 .f32) : FVec Ideal S2x32x8x128x4x64 .f32 :=
  shapeCast S2x32x8x128x4x64 (concatenate S2x32x8x128x256 0 [⟨S1x32x8x128x256, (broadcastInDim S1x32x8x128x256 ![1, 2, 3, 4] bcast_S32x8x128x256_S1x32x8x128x256_1_2_3_4 (shapeCast _ (extractStridedSlice S1x32x8x128x256 ![0, 0, 0, 0, 0] (a5) slices_S2x32x8x128x256_S1x32x8x128x256_0_0_0_0_0) shapeCasts_S1x32x8x128x256_S32x8x128x256))⟩, ⟨S1x32x8x128x256, (broadcastInDim S1x32x8x128x256 ![1, 2, 3, 4] bcast_S32x8x128x256_S1x32x8x128x256_1_2_3_4 (Host.reverse [0] (shapeCast _ (extractStridedSlice S1x32x8x128x256 ![1, 0, 0, 0, 0] (a5) slices_S2x32x8x128x256_S1x32x8x128x256_1_0_0_0_0) shapeCasts_S1x32x8x128x256_S32x8x128x256)))⟩] concatenates_S1x32x8x128x256_S1x32x8x128x256_S2x32x8x128x256_d0) shapeCasts_S2x32x8x128x256_S2x32x8x128x4x64

/-- The running sum of the decay exponents within each chunk. -/
def cum (dt : FVec Ideal S4096x32 .f32) (a : FVec Ideal S32 .f32) : FVec Ideal S32x128x32 .f32 :=
  Host.reduceWindowAdd ![1, 128, 1] ![1, 1, 1] ![0, 127, 0] ![0, 0, 0] (shapeCast _ (mulf dt (broadcastInDim S4096x32 ![0, 1] bcast_S1x32_S4096x32_0_1 (broadcastInDim S1x32 ![1] bcast_S32_S1x32_1 a))) shapeCasts_S4096x32_S32x128x32) (broadcastInDim S_ ![] bcast_S_S_ (constant S_ .f32 0x00000000#32)) reduceWindows_S32x128x32_S32x128x32_w1s1p0_0_w128s1p127_0_w1s1p0_0 h_S_

/-- The running sums, both directions. -/
def acs (a1 a2 : FVec Ideal S4096x32 .f32) (a3 a4 : FVec Ideal S32 .f32) : FVec Ideal S2x32x128x8x4 .f32 :=
  shapeCast S2x32x128x8x4 (concatenate S2x32x128x32 0 [⟨S1x32x128x32, (broadcastInDim S1x32x128x32 ![1, 2, 3] bcast_S32x128x32_S1x32x128x32_1_2_3 (cum a1 a3))⟩, ⟨S1x32x128x32, (broadcastInDim S1x32x128x32 ![1, 2, 3] bcast_S32x128x32_S1x32x128x32_1_2_3 (cum (Host.reverse [0] a2) a4))⟩] concatenates_S1x32x128x32_S1x32x128x32_S2x32x128x32_d0) shapeCasts_S2x32x128x32_S2x32x128x8x4

/-- Both directions' rows back in order, 2048 columns. -/
def back6 (t : FVec Ideal S32x2x128x8x4x64 .f32) : FVec Ideal S2x4096x2048 .f32 :=
  concatenate S2x4096x2048 0 [⟨S1x4096x2048, (broadcastInDim S1x4096x2048 ![1, 2] bcast_S4096x2048_S1x4096x2048_1_2 (shapeCast _ (shapeCast _ (extractStridedSlice S32x1x128x8x4x64 ![0, 0, 0, 0, 0, 0] t slices_S32x2x128x8x4x64_S32x1x128x8x4x64_0_0_0_0_0_0) shapeCasts_S32x1x128x8x4x64_S32x128x8x4x64) shapeCasts_S32x128x8x4x64_S4096x2048))⟩, ⟨S1x4096x2048, (broadcastInDim S1x4096x2048 ![1, 2] bcast_S4096x2048_S1x4096x2048_1_2 (Host.reverse [0] (shapeCast _ (shapeCast _ (extractStridedSlice S32x1x128x8x4x64 ![0, 1, 0, 0, 0, 0] t slices_S32x2x128x8x4x64_S32x1x128x8x4x64_0_1_0_0_0_0) shapeCasts_S32x1x128x8x4x64_S32x128x8x4x64) shapeCasts_S32x128x8x4x64_S4096x2048)))⟩] concatenates_S1x4096x2048_S1x4096x2048_S2x4096x2048_d0

/-- Both directions' rows back in order, 1024 columns. -/
def back5 (t : FVec Ideal S32x2x128x8x128 .f32) : FVec Ideal S2x4096x1024 .f32 :=
  concatenate S2x4096x1024 0 [⟨S1x4096x1024, (broadcastInDim S1x4096x1024 ![1, 2] bcast_S4096x1024_S1x4096x1024_1_2 (shapeCast _ (shapeCast _ (extractStridedSlice S32x1x128x8x128 ![0, 0, 0, 0, 0] t slices_S32x2x128x8x128_S32x1x128x8x128_0_0_0_0_0) shapeCasts_S32x1x128x8x128_S32x128x8x128) shapeCasts_S32x128x8x128_S4096x1024))⟩, ⟨S1x4096x1024, (broadcastInDim S1x4096x1024 ![1, 2] bcast_S4096x1024_S1x4096x1024_1_2 (Host.reverse [0] (shapeCast _ (shapeCast _ (extractStridedSlice S32x1x128x8x128 ![0, 1, 0, 0, 0] t slices_S32x2x128x8x128_S32x1x128x8x128_0_1_0_0_0) shapeCasts_S32x1x128x8x128_S32x128x8x128) shapeCasts_S32x128x8x128_S4096x1024)))⟩] concatenates_S1x4096x1024_S1x4096x1024_S2x4096x1024_d0

variable (s : State Ideal) (a0 : FVec Ideal S4096x4096 .f32) (a1 a2 : FVec Ideal S4096x32 .f32) (a3 a4 : FVec Ideal S32 .f32) (a5 : FVec Ideal S2x32x8x128x256 .f32) (a6 : FVec Ideal S4096x2048 .f32)

/-- The results in steps. -/
theorem R74 : R_main_v74 (F := Ideal) s = back6 s.main_v64_9 := rfl

theorem R84 : R_main_v84 (F := Ideal) s = back5 s.main_v64_10 := rfl

theorem R94 : R_main_v94 (F := Ideal) s = back5 s.main_v64_11 := rfl

/-! What the loop reads: the same arrays with the chunk's number in front. -/

theorem A54 : A_main_v54 (F := Ideal) a0 a1 a2 a3 a4 a5 a6 = transpose S32x2x128x8x4x64 [1, 0, 2, 3, 4, 5] (xs a0) transposes_S2x32x128x8x4x64_S32x2x128x8x4x64_1_0_2_3_4_5 := rfl

theorem A55 : A_main_v55 (F := Ideal) a0 a1 a2 a3 a4 a5 a6 = transpose S32x2x128x8x128 [1, 0, 2, 3, 4] (bs a0) transposes_S2x32x128x8x128_S32x2x128x8x128_1_0_2_3_4 := rfl

theorem A56 : A_main_v56 (F := Ideal) a0 a1 a2 a3 a4 a5 a6 = transpose S32x2x128x8x128 [1, 0, 2, 3, 4] (cs a0) transposes_S2x32x128x8x128_S32x2x128x8x128_1_0_2_3_4 := rfl

theorem A57 : A_main_v57 (F := Ideal) a0 a1 a2 a3 a4 a5 a6 = transpose S32x2x8x4x64x128 [1, 0, 2, 3, 4, 5] (transpose S2x32x8x4x64x128 [0, 1, 2, 4, 5, 3] (ps a5) transposes_S2x32x8x128x4x64_S2x32x8x4x64x128_0_1_2_4_5_3) transposes_S2x32x8x4x64x128_S32x2x8x4x64x128_1_0_2_3_4_5 := rfl

theorem A58 : A_main_v58 (F := Ideal) a0 a1 a2 a3 a4 a5 a6 = transpose S32x2x128x8x4 [1, 0, 2, 3, 4] (dts a1 a2) transposes_S2x32x128x8x4_S32x2x128x8x4_1_0_2_3_4 := rfl

theorem A59 : A_main_v59 (F := Ideal) a0 a1 a2 a3 a4 a5 a6 = transpose S32x2x128x8x4 [1, 0, 2, 3, 4] (acs a1 a2 a3 a4) transposes_S2x32x128x8x4_S32x2x128x8x4_1_0_2_3_4 := rfl

theorem A60 : A_main_v60 (F := Ideal) a0 a1 a2 a3 a4 a5 a6 = transpose S32x2x128x8x4x64 [1, 0, 2, 3, 4, 5] (dys a6) transposes_S2x32x128x8x4x64_S32x2x128x8x4x64_1_0_2_3_4_5 := rfl

end Cert.SsdRef

end
-- ==== Proof.SsdRefAt.lean ====
/- One trip of the reference's loop at one place: the scan's gradient of `SsdMath` over the chunk the trip reads,
   direction `d`, group `g` of four heads. -/
module

public import proofs.«01_k».proof.Proof.SsdRef

@[expose] public section

set_option maxRecDepth 200000

noncomputable section

namespace Cert.SsdRef

open Cert.Reference16Ideal Cert.Reference16Ideal.Gen Cert.Reference16Ideal.Step Idealize.ShloMosaic Idealize.ShloMosaic.TcCoe Cert.SsdMath

/-- A lane's place in its head. -/
def sub (l : Fin 256) : Fin 64 := ⟨l.val % 64, by omega⟩

theorem sub_lane (h : Fin 4) (p : Fin 64) : sub (lane h p) = p := by
  apply Fin.ext; simp only [sub, lane]; omega

theorem lane0_head (h : Fin 4) : headOf (lane0 h) = h := by
  apply Fin.ext; simp only [headOf, lane0]; omega

/-! The arrays of one chunk and group as matrices. -/

abbrev mh (t : FVec Ideal S2x32x128x8x4 .f32) (d : Fin 2) (k : Fin 32) (g : Fin 8) : Mat := fun i l => t (ix5 d k i g (headOf l))
abbrev mn (t : FVec Ideal S2x32x128x8x128 .f32) (d : Fin 2) (k : Fin 32) (g : Fin 8) : Sq := fun i n => t (ix5 d k i g n)
abbrev ml (t : FVec Ideal S2x32x128x8x4x64 .f32) (d : Fin 2) (k : Fin 32) (g : Fin 8) : Mat := fun i l => t (ix6 d k i g (headOf l) (sub l))
abbrev mp (t : FVec Ideal S2x32x8x128x4x64 .f32) (d : Fin 2) (k : Fin 32) (g : Fin 8) : Mat := fun n l => t (ix6 d k g n (headOf l) (sub l))
abbrev mT (ac : FVec Ideal S2x32x128x8x4 .f32) (d : Fin 2) (k : Fin 32) (g : Fin 8) : Fin 256 → EReal := fun l => ac (ix5 d k 127 g (headOf l))

/-! The same of arrays that hold one chunk only. -/

abbrev ch (t : FVec Ideal S2x128x8x4 .f32) (d : Fin 2) (g : Fin 8) : Mat := fun i l => t (ix4 d i g (headOf l))
abbrev cn (t : FVec Ideal S2x128x8x128 .f32) (d : Fin 2) (g : Fin 8) : Sq := fun i n => t (ix4 d i g n)
abbrev cl (t : FVec Ideal S2x128x8x4x64 .f32) (d : Fin 2) (g : Fin 8) : Mat := fun i l => t (ix5 d i g (headOf l) (sub l))
abbrev cp (t : FVec Ideal S2x8x4x64x128 .f32) (d : Fin 2) (g : Fin 8) : Mat := fun n l => t (ix5 d g (headOf l) (sub l) n)
abbrev cT (ac : FVec Ideal S2x128x8x4 .f32) (d : Fin 2) (g : Fin 8) : Fin 256 → EReal := fun l => ac (ix4 d 127 g (headOf l))

/-- Row `j` reaches row `i` when it is not after it. -/
abbrev Upto (i j : Fin 128) : Prop := j.val ≤ i.val

theorem reaches : ∀ i j : Fin 128, (IntOp.cmpi .sge (IntOp.addi (BitVec.ofNat 32 i.val) 0#32) (BitVec.ofNat 32 j.val)) = (if j.val ≤ i.val then 1#1 else 0#1) := by
  decide +kernel

theorem negInf : Ideal.ofBits .f32 0xFF800000#32 = ⊥ := by simp [Ideal.ofBits, Ideal.ieee]

variable (q : ℕ) (s : State Ideal) (d : Fin 2) (i j n : Fin 128) (g : Fin 8) (h : Fin 4) (p : Fin 64) (l : Fin 256)

theorem decay_at : b74 q s (ix5 d i j g h) = decay Upto (ch (b41 q s) d g) h i j := by
  pointwise [b74, b73, b72, b71, b70, b69, b68, b67, b66, b65, b64, b63, b62, b61, b60, b59, b58, b57, b56, b55, b54, b53, b52, reaches]
  by_cases hij : j.val ≤ i.val
  · simp only [hij, if_true, decay, ch, lane0_head]
    rfl
  · simp only [hij, if_false, decay]
    rw [negInf]
    rfl

theorem score_at : b76 q s (ix4 d i j g) = score (cn (b16 q s) d g) (cn (b22 q s) d g) i j := by
  pointwise [b76, b75, score]
  exact Finset.sum_congr rfl fun x _ => mul_comm _ _

theorem toEnd_at : b85 q s (ix4 d i g h) = Ideal.exp (b41 q s (ix4 d 127 g h) - b41 q s (ix4 d i g h)) := by
  pointwise [b85, b84, b83, b82]

theorem xdt_at : b51 q s (ix5 d i g h p) = b10 q s (ix5 d i g h p) * b35 q s (ix4 d i g h) := by
  pointwise [b51, b50, b49]

theorem dscore_at : b130 q s (ix4 d i j g)
    = dscore Upto (cl (b10 q s) d g) (ch (b35 q s) d g) (ch (b41 q s) d g) (cl (b48 q s) d g) i j := by
  pointwise [b130, b129]
  rw [Fin.sum_univ_one]
  pointwise [b128, b127, b126, b125, b121, b120, b119, xdt_at, decay_at, dscore]
  simp only [cl, ch, headOf_lane, sub_lane]

theorem dx_at : b139 q s (ix5 d j g (headOf l) (sub l))
    = gx Upto (ch (b35 q s) d g) (ch (b41 q s) d g) (cl (b48 q s) d g) (cn (b16 q s) d g) (cn (b22 q s) d g) (cp s.main_v64_8 d g) (cT (b41 q s) d g) j l := by
  pointwise [b139, b138, b124, b123, b122, b119, b118, b117, b116, b115, b86, b79, b78, b77, b49, toEnd_at, score_at, decay_at, gx]
  simp only [mul_comm (s.main_v64_8 _), mul_comm (b48 q s _)]

theorem db_at : b137 q s (ix4 d j g n)
    = gb Upto (cl (b10 q s) d g) (ch (b35 q s) d g) (ch (b41 q s) d g) (cl (b48 q s) d g) (cn (b22 q s) d g) (cp s.main_v64_8 d g) (cT (b41 q s) d g) j n := by
  pointwise [b137, b136, b135, b131, b114, b113, b88, b87, b86, toEnd_at, dscore_at, xdt_at, gb]
  simp only [sum_lanes, cl, ch, cp, cT, cn, headOf_lane, sub_lane, mul_comm (s.main_v64_8 _)]

theorem dc_at : b134 q s (ix4 d i g n)
    = gc Upto (cl (b10 q s) d g) (ch (b35 q s) d g) (ch (b41 q s) d g) (cl (b48 q s) d g) (cn (b16 q s) d g) (cp (b29 q s) d g) i n := by
  pointwise [b134, b133, b132, b131, b110, b109, b108, b107, b106, b93, b92, dscore_at, gc]
  simp only [sum_lanes, cl, ch, cp, cn, headOf_lane, sub_lane]

theorem dstate_at : b112 q s (ix5 d g (headOf l) (sub l) n)
    = gs (ch (b41 q s) d g) (cl (b48 q s) d g) (cn (b22 q s) d g) (cp s.main_v64_8 d g) (cT (b41 q s) d g) n l := by
  pointwise [b112, b111, b108, b107, b106, b105, b104, b100, b99, b98, b97, b93, b92, gs]
  simp only [mul_comm (b22 q s _)]

end Cert.SsdRef

end
-- ==== Proof.SsdPlace.lean ====
/- Where the reference's arrays take their entries: the second direction reads the sequence backwards. -/
module

public import proofs.«01_k».proof.Proof.SsdRefAt

@[expose] public section

set_option maxRecDepth 200000

noncomputable section

namespace Cert.SsdRef

open Cert.Reference16Ideal Cert.Reference16Ideal.Gen Idealize.ShloMosaic Idealize.ShloMosaic.TcCoe Cert.SsdMath

/-- The row of the sequence that row `i` of chunk `k` is in direction `d`. -/
def rowOf (d : Fin 2) (k : Fin 32) (i : Fin 128) : Fin 4096 :=
  if d.val < 1 then ⟨k.val * 128 + i.val, by omega⟩ else (⟨k.val * 128 + i.val, by omega⟩ : Fin 4096).rev

variable (a0 : FVec Ideal S4096x4096 .f32) (a1 a2 : FVec Ideal S4096x32 .f32) (a3 a4 : FVec Ideal S32 .f32)
  (a5 : FVec Ideal S2x32x8x128x256 .f32) (a6 : FVec Ideal S4096x2048 .f32)
  (d : Fin 2) (k : Fin 32) (i j n : Fin 128) (g : Fin 8) (l : Fin 256)

theorem lane_eq : (headOf l).val * 64 + (sub l).val = l.val := by
  simp only [headOf, sub]; omega

theorem xs_at : ml (xs a0) d k g i l = a0 (ix2 (rowOf d k i) (⟨g.val * 256 + l.val, by omega⟩ : Fin 4096)) := by
  have e := lane_eq l
  have e2 : (headOf l).val = l.val / 64 := rfl
  pointwise [xs, rowOf]
  split <;> (try simp only [List.mem_singleton, reduceIte, Fin.isValue, one_ne_zero, Fin.reduceEq]) <;> blk_ext <;> (try omega)

theorem bs_at : mn (bs a0) d k g i n = a0 (ix2 (rowOf d k i) (⟨2048 + g.val * 128 + n.val, by omega⟩ : Fin 4096)) := by
  pointwise [bs, rowOf]
  split <;> (try simp only [List.mem_singleton, reduceIte, Fin.isValue, one_ne_zero, Fin.reduceEq]) <;> blk_ext <;> (try omega)

theorem cs_at : mn (cs a0) d k g i n = a0 (ix2 (rowOf d k i) (⟨3072 + g.val * 128 + n.val, by omega⟩ : Fin 4096)) := by
  pointwise [cs, rowOf]
  split <;> (try simp only [List.mem_singleton, reduceIte, Fin.isValue, one_ne_zero, Fin.reduceEq]) <;> blk_ext <;> (try omega)

theorem dys_at : ml (dys a6) d k g i l = a6 (ix2 (rowOf d k i) (⟨g.val * 256 + l.val, by omega⟩ : Fin 2048)) := by
  have e := lane_eq l
  have e2 : (headOf l).val = l.val / 64 := rfl
  pointwise [dys, rowOf]
  split <;> (try simp only [List.mem_singleton, reduceIte, Fin.isValue, one_ne_zero, Fin.reduceEq]) <;> blk_ext <;> (try omega)

theorem dts_at : mh (dts a1 a2) d k g i l = (if d.val < 1 then a1 else a2) (ix2 (rowOf d k i) (⟨g.val * 4 + l.val / 64, by omega⟩ : Fin 32)) := by
  have e := lane_eq l
  have e2 : (headOf l).val = l.val / 64 := rfl
  pointwise [dts, rowOf]
  split <;> (try simp only [List.mem_singleton, reduceIte, Fin.isValue, one_ne_zero, Fin.reduceEq]) <;> blk_ext <;> (try omega)

theorem ps_at : mp (ps a5) d k g n l = a5 (ix5 d (if d.val < 1 then k else k.rev) g n l) := by
  have e := lane_eq l
  have e2 : (headOf l).val = l.val / 64 := rfl
  pointwise [ps, rowOf]
  split <;> (try simp only [List.mem_singleton, reduceIte, Fin.isValue, one_ne_zero, Fin.reduceEq]) <;> blk_ext <;> (try omega)

theorem acs_at : mh (acs a1 a2 a3 a4) d k g i l = (if d.val < 1 then cum a1 a3 else cum (Host.reverse [0] a2) a4) (ix3 k i (⟨g.val * 4 + l.val / 64, by omega⟩ : Fin 32)) := by
  have e := lane_eq l
  have e2 : (headOf l).val = l.val / 64 := rfl
  pointwise [acs, rowOf]
  split <;> (try simp only [List.mem_singleton, reduceIte, Fin.isValue, one_ne_zero, Fin.reduceEq]) <;> blk_ext <;> (try omega)

/-- The window sum at a chunk's last row takes in every row of the chunk. -/
theorem window_at (x : FVec Ideal S32x128x32 .f32) (w : Fin 32) (h) :
    Ideal.hostReduceWindowAdd (t := S32x128x32) ![1, 128, 1] ![1, 1, 1] ![0, 127, 0] ![0, 0, 0] h x 0 (ix3 k 127 w)
      = ∑ i : Fin 128, x (ix3 k i w) := by
  unfold Ideal.hostReduceWindowAdd Host.reduceWindow
  have e := sum_idx_eq_foldl (⟨3, ![1, 128, 1]⟩ : Shape) (fun q => x (ix3 k (q 1) w))
  rw [sum_idx3] at e
  refine Eq.trans (Eq.trans ?_ e.symm) ?_
  · refine List.foldl_ext _ _ _ fun r n _ => ?_
    refine congrArg (r + ·) ?_
    let q : (⟨3, ![1, 128, 1]⟩ : Shape).Idx := (⟨3, ![1, 128, 1]⟩ : Shape).rowMajor.symm n
    have q0 : (q 0).val < 1 := (q 0).isLt
    have q1 : (q 1).val < 128 := (q 1).isLt
    have q2 : (q 2).val < 1 := (q 2).isLt
    rw [dif_pos]
    · refine congrArg x (funext fun a => Fin.ext ?_)
      fin_cases a
      · show k.val * 1 + (q 0).val - 0 = k.val
        omega
      · show 127 * 1 + (q 1).val - 127 = (q 1).val
        omega
      · show w.val * 1 + (q 2).val - 0 = w.val
        omega
    · intro a
      fin_cases a
      · show 0 ≤ k.val * 1 + (q 0).val ∧ k.val * 1 + (q 0).val - 0 < 32
        omega
      · show 127 ≤ 127 * 1 + (q 1).val ∧ 127 * 1 + (q 1).val - 127 < 128
        omega
      · show 0 ≤ w.val * 1 + (q 2).val ∧ w.val * 1 + (q 2).val - 0 < 32
        omega
  · rw [Fin.sum_univ_one]
    exact Finset.sum_congr rfl fun i _ => Fin.sum_univ_one _

/-- The running sum at a chunk's last row. -/
theorem cum_last (dt : FVec Ideal S4096x32 .f32) (a : FVec Ideal S32 .f32) (w : Fin 32) :
    cum dt a (ix3 k 127 w) = ∑ i : Fin 128, dt (ix2 (⟨k.val * 128 + i.val, by omega⟩ : Fin 4096) w) * a (ix1 w) := by
  unfold cum Host.reduceWindowAdd
  rw [Ideal.hostReduceWindowAdd_def]
  rw [show broadcastInDim S_ ![] bcast_S_S_ (constant (F := Ideal) S_ .f32 0x00000000#32) (Shape.Idx.first (by decide)) = 0 by pointwise]
  refine (window_at k _ w _).trans (Finset.sum_congr rfl fun i _ => ?_)
  pointwise

/-- The chunk's total exponent. -/
theorem total_at : mT (acs a1 a2 a3 a4) d k g l
    = ∑ i : Fin 128, mh (dts a1 a2) d k g i l * (if d.val < 1 then a3 else a4) (ix1 (⟨g.val * 4 + l.val / 64, by omega⟩ : Fin 32)) := by
  refine (acs_at a1 a2 a3 a4 d k 127 g l).trans ?_
  simp only [dts_at]
  by_cases hd : d.val < 1
  · simp only [hd, if_true, rowOf]
    exact cum_last k a1 a3 _
  · simp only [hd, if_false, rowOf]
    refine (cum_last k _ a4 _).trans (Finset.sum_congr rfl fun i _ => ?_)
    pointwise
    simp only [List.mem_singleton, reduceIte, Fin.isValue, one_ne_zero, Fin.reduceEq]

theorem back6_at (t : FVec Ideal S32x2x128x8x4x64 .f32) :
    back6 t (ix3 d (rowOf d k i) (⟨g.val * 256 + l.val, by omega⟩ : Fin 2048)) = t (ix6 k d i g (headOf l) (sub l)) := by
  have e2 : (headOf l).val = l.val / 64 := rfl
  have e3 : (sub l).val = l.val % 64 := rfl
  by_cases hd : d.val < 1
  · simp only [rowOf, hd, if_true]
    pointwise [back6]
    simp only [hd, dif_pos]
    blk_ext <;> omega
  · simp only [rowOf, hd, if_false]
    pointwise [back6]
    simp only [hd, dif_neg, not_false_eq_true, List.mem_singleton, reduceIte, Fin.isValue, one_ne_zero, Fin.reduceEq, Fin.rev_rev]
    blk_ext <;> omega

theorem back5_at (t : FVec Ideal S32x2x128x8x128 .f32) :
    back5 t (ix3 d (rowOf d k i) (⟨g.val * 128 + n.val, by omega⟩ : Fin 1024)) = t (ix5 k d i g n) := by
  by_cases hd : d.val < 1
  · simp only [rowOf, hd, if_true]
    pointwise [back5]
    simp only [hd, dif_pos]
    blk_ext <;> omega
  · simp only [rowOf, hd, if_false]
    pointwise [back5]
    simp only [hd, dif_neg, not_false_eq_true, List.mem_singleton, reduceIte, Fin.isValue, one_ne_zero, Fin.reduceEq, Fin.rev_rev]
    blk_ext <;> omega

end Cert.SsdRef

end
-- ==== Proof.SsdEntry.lean ====
/- The arrays the host prepares for the kernel, at one place: the step sizes and the running sums of the decays spread over the
   lanes, the decay rates spread likewise, and the two triangles. -/
module

public import proofs.«01_k».proof.Proof.Gen.Kernel16Ideal.Value
public import proofs.«01_k».proof.Proof.SsdPlace
public import Idealize.ShloMosaic.Lib.Pipeline.ValueKit
public import Idealize.ShloMosaic.Lib.Claim

@[expose] public section

set_option maxRecDepth 200000

noncomputable section

namespace Cert.SsdKer

open Cert.Kernel16Ideal Cert.Kernel16Ideal.Gen Idealize.ShloMosaic Idealize.ShloMosaic.TcCoe Idealize.SL.Sem Cert.SsdMath
open Cert.SsdRef (cum)

/-- A number per head, spread over the 64 lanes of the head. -/
def wide (x : FVec Ideal S4096x32 .f32) : FVec Ideal S1x4096x2048 .f32 :=
  broadcastInDim S1x4096x2048 ![1, 2] bcast_S4096x2048_S1x4096x2048_1_2
    (shapeCast S4096x2048 (broadcastInDim S4096x32x64 ![0, 1] bcast_S4096x32_S4096x32x64_0_1 x) shapeCasts_S4096x32x64_S4096x2048)

/-- The two directions' arrays, one after the other. -/
def both (x y : FVec Ideal S4096x32 .f32) : FVec Ideal S2x4096x2048 .f32 :=
  concatenate S2x4096x2048 0 [⟨S1x4096x2048, wide x⟩, ⟨S1x4096x2048, wide y⟩] concatenates_S1x4096x2048_S1x4096x2048_S2x4096x2048_d0

/-- A decay rate per head, spread over the 64 lanes of the head. -/
def wide1 (x : FVec Ideal S32 .f32) : FVec Ideal S1x1x2048 .f32 :=
  broadcastInDim S1x1x2048 ![1, 2] bcast_S1x2048_S1x1x2048_1_2
    (shapeCast S1x2048 (broadcastInDim S1x32x64 ![0, 1] bcast_S1x32_S1x32x64_0_1 (broadcastInDim S1x32 ![1] bcast_S32_S1x32_1 x)) shapeCasts_S1x32x64_S1x2048)

/-- The two directions' rates, one after the other. -/
def both1 (x y : FVec Ideal S32 .f32) : FVec Ideal S2x1x2048 .f32 :=
  concatenate S2x1x2048 0 [⟨S1x1x2048, wide1 x⟩, ⟨S1x1x2048, wide1 y⟩] concatenates_S1x1x2048_S1x1x2048_S2x1x2048_d0

/-- The two triangles: what lies at or before a row, and what lies at or after it. -/
def tris : FVec Ideal S2x128x128 .f32 :=
  uitofp .f32 (concatenate S2x128x128 0
    [⟨S1x128x128, broadcastInDim S1x128x128 ![1, 2] bcast_S128x128_S1x128x128_1_2 (cmpi .sle (iotaInDim S128x128 32 1) (iotaInDim S128x128 32 0))⟩,
     ⟨S1x128x128, broadcastInDim S1x128x128 ![1, 2] bcast_S128x128_S1x128x128_1_2 (cmpi .sge (iotaInDim S128x128 32 1) (iotaInDim S128x128 32 0))⟩]
    concatenates_S1x128x128_S1x128x128_S2x128x128_d0)

theorem both_at (x y : FVec Ideal S4096x32 .f32) (d : Fin 2) (r : Fin 4096) (l : Fin 2048) :
    both x y (ix3 d r l) = (if d.val < 1 then x else y) (ix2 r (⟨l.val / 64, by omega⟩ : Fin 32)) := by
  unfold both wide
  pointwise
  split <;> rfl

theorem both1_at (x y : FVec Ideal S32 .f32) (d : Fin 2) (l : Fin 2048) :
    both1 x y (ix3 d 0 l) = (if d.val < 1 then x else y) (ix1 (⟨l.val / 64, by omega⟩ : Fin 32)) := by
  unfold both1 wide1
  pointwise
  split <;> rfl

theorem tris_at (d : Fin 2) (i j : Fin 128) :
    0 < tris (ix3 d i j) ↔ if d.val < 1 then j.val ≤ i.val else i.val ≤ j.val := by
  unfold tris
  pointwise
  have hs : ∀ i j : Fin 128, IntOp.cmpi .sle (BitVec.ofNat 32 j.val) (BitVec.ofNat 32 i.val) = if j.val ≤ i.val then 1#1 else 0#1 := by
    decide +kernel
  have hg : ∀ i j : Fin 128, IntOp.cmpi .sge (BitVec.ofNat 32 j.val) (BitVec.ofNat 32 i.val) = if i.val ≤ j.val then 1#1 else 0#1 := by
    decide +kernel
  rw [hs, hg]
  have h1 : (FloatOps.uitofp .f32 (1#1) : Ideal .f32) = (1 : EReal) := by show (((1#1 : BitVec 1).toNat : ℝ) : EReal) = 1; simp
  have h0 : (FloatOps.uitofp .f32 (0#1) : Ideal .f32) = (0 : EReal) := by show (((0#1 : BitVec 1).toNat : ℝ) : EReal) = 0; simp
  by_cases hd : d.val < 1
  · simp only [hd, dite_true, if_true]
    by_cases h : j.val ≤ i.val
    · simp only [h, if_true, iff_true]; rw [h1]; exact zero_lt_one
    · simp only [h, if_false, iff_false]; rw [h0]; exact lt_irrefl _
  · simp only [hd, dite_false, if_false]
    by_cases h : i.val ≤ j.val
    · simp only [h, if_true, iff_true]; rw [h1]; exact zero_lt_one
    · simp only [h, if_false, iff_false]; rw [h0]; exact lt_irrefl _

theorem cum_rows_at (x : FVec Ideal S32x128x32 .f32) (r : Fin 4096) (w : Fin 32) :
    shapeCast S4096x32 x shapeCasts_S32x128x32_S4096x32 (ix2 r w) = x (ix3 (⟨r.val / 128, by omega⟩ : Fin 32) (⟨r.val % 128, by omega⟩ : Fin 128) w) := by
  pointwise

theorem turned_at (x : FVec Ideal S4096x32 .f32) (r : Fin 4096) (w : Fin 32) :
    Host.reverse [0] x (ix2 r w) = x (ix2 r.rev w) := by
  pointwise
  simp only [List.mem_singleton, reduceIte, Fin.isValue, one_ne_zero]

variable (m : (ℓ : Loc nD τ sig) → Buf (Elt Ideal) ℓ) (c : Dev nD)

theorem V_main_v6 : V m c main_v6 = both (m ((c : Thread nD τ).loc main_arg1)) (m ((c : Thread nD τ).loc main_arg2)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

theorem V_main_v36 : V m c main_v36 = both1 (m ((c : Thread nD τ).loc main_arg3)) (m ((c : Thread nD τ).loc main_arg4)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

theorem V_main_v44 : V m c main_v44 = tris := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

theorem V_main_v27 : V m c main_v27 = both (shapeCast S4096x32 (cum (m ((c : Thread nD τ).loc main_arg1)) (m ((c : Thread nD τ).loc main_arg3))) shapeCasts_S32x128x32_S4096x32)
        (Host.reverse [0] (shapeCast S4096x32 (cum (Host.reverse [0] (m ((c : Thread nD τ).loc main_arg2))) (m ((c : Thread nD τ).loc main_arg4)))
          shapeCasts_S32x128x32_S4096x32)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

end Cert.SsdKer

end
-- ==== Proof.SsdKer.lean ====
/- The kernel's arithmetic on one group of four heads, in one chunk: the four stored tiles as functions of the tiles
   loaded.  The body writes it four times, once for each group; the four texts are the same function. -/
module

public import proofs.«01_k».proof.Proof.Gen.Kernel16Ideal.Skeleton
public import proofs.«01_k».proof.Proof.SsdMath
public import Idealize.ShloMosaic.Lib.Pipeline.ValueKit

@[expose] public section

set_option maxRecDepth 200000

noncomputable section

namespace Cert.SsdKer

open Cert.Kernel16Ideal Cert.Kernel16Ideal.Gen Idealize.ShloMosaic Idealize.ShloMosaic.TcCoe Cert.SsdMath

/-- The carried state's gradient after the chunk, for one group of heads. -/
def kS (x2 : Vec Ideal S128x128 .f32) (x3 : Vec Ideal S1x128x256 .f32) (x4 : Vec Ideal S1x128x256 .f32) (x5 : Vec Ideal S1x1x256 .f32) (s : Vec Ideal S1x128x256 .f32) (x8 : Vec Ideal S128x256 .f32) : FVec Ideal S1x128x256 .f32 :=
  k0_pay84 (k0_pay72 x2 (k0_pay15 (k0_pay5 x4)) (k0_pay49 (k0_pay8 x3 x5) s) (k0_pay51 x8))

/-- The inputs' gradient of one group. -/
def kX (x1 : Vec Ideal S128x128 .f32) (x2 : Vec Ideal S128x128 .f32) (x3 : Vec Ideal S1x128x256 .f32) (x4 : Vec Ideal S1x128x256 .f32) (x5 : Vec Ideal S1x1x256 .f32) (x6 : Vec Ideal S1x128x128 .f32) (s : Vec Ideal S1x128x256 .f32) (x8 : Vec Ideal S128x256 .f32) : FVec Ideal S1x128x256 .f32 :=
  k0_pay79 (k0_pay75 (k0_pay4 x3) (k0_pay68 (k0_pay19 (iota Kind.tc S1x256 32 [1] iota_S1x256_d1_w32) 64#32) (k0_pay22 (k0_pay11 x1 x2) (k0_pay18 (k0_pay5 x4) (k0_pay10 x6))) (k0_pay26 (k0_pay12 (iota Kind.tc S1x256 32 [1] iota_S1x256_d1_w32) 64#32)) (k0_pay28 (k0_pay5 x4) (k0_pay10 x6) (k0_pay11 x1 x2) k0_pay13) (k0_pay51 x8) (k0_pay59 (k0_pay32 (k0_pay12 (iota Kind.tc S1x256 32 [1] iota_S1x256_d1_w32) 64#32)) (k0_pay34 (k0_pay5 x4) (k0_pay10 x6) (k0_pay11 x1 x2) k0_pay13) (k0_pay38 (k0_pay12 (iota Kind.tc S1x256 32 [1] iota_S1x256_d1_w32) 64#32)) (k0_pay46 x1 (k0_pay5 x4) (k0_pay8 x3 x5) s) (k0_pay51 x8) (k0_pay54 (k0_pay10 x6) (k0_pay11 x1 x2) (k0_pay36 (k0_pay5 x4) (k0_pay10 x6) k0_pay13)) (k0_pay55 x8) (constant S128x256 .f32 0#32))))

/-- The gradient of B of one group. -/
def kB (x0 : Vec Ideal S128x256 .f32) (x2 : Vec Ideal S128x128 .f32) (x3 : Vec Ideal S1x128x256 .f32) (x4 : Vec Ideal S1x128x256 .f32) (x5 : Vec Ideal S1x1x256 .f32) (x6 : Vec Ideal S1x128x128 .f32) (s : Vec Ideal S1x128x256 .f32) (x8 : Vec Ideal S128x256 .f32) : FVec Ideal S1x128x128 .f32 :=
  k0_pay80 (k0_pay74 x2 (k0_pay44 (k0_pay5 x4) (k0_pay8 x3 x5) (k0_pay9 x0 x3) s) (k0_pay67 (k0_pay18 (k0_pay5 x4) (k0_pay10 x6)) (k0_pay21 (k0_pay9 x0 x3) (k0_pay20 (iota Kind.tc S1x256 32 [1] iota_S1x256_d1_w32) 64#32)) (k0_pay25 (k0_pay5 x4) (k0_pay10 x6) k0_pay13) (k0_pay27 (k0_pay9 x0 x3) (k0_pay12 (iota Kind.tc S1x256 32 [1] iota_S1x256_d1_w32) 64#32)) (k0_pay51 x8) (k0_pay58 (k0_pay31 (k0_pay5 x4) (k0_pay10 x6) k0_pay13) (k0_pay33 (k0_pay9 x0 x3) (k0_pay12 (iota Kind.tc S1x256 32 [1] iota_S1x256_d1_w32) 64#32)) (k0_pay37 (k0_pay10 x6) (k0_pay36 (k0_pay5 x4) (k0_pay10 x6) k0_pay13)) (k0_pay51 x8) (k0_pay53 (k0_pay9 x0 x3) (k0_pay12 (iota Kind.tc S1x256 32 [1] iota_S1x256_d1_w32) 64#32) x8))))

/-- The gradient of C of one group. -/
def kC (x0 : Vec Ideal S128x256 .f32) (x1 : Vec Ideal S128x128 .f32) (x3 : Vec Ideal S1x128x256 .f32) (x4 : Vec Ideal S1x128x256 .f32) (x6 : Vec Ideal S1x128x128 .f32) (x7 : Vec Ideal S1x1x1x128x256 .f32) (x8 : Vec Ideal S128x256 .f32) : FVec Ideal S1x128x128 .f32 :=
  k0_pay81 (k0_pay73 x1 (k0_pay7 x7) (k0_pay15 (k0_pay5 x4)) (k0_pay51 x8) (k0_pay67 (k0_pay18 (k0_pay5 x4) (k0_pay10 x6)) (k0_pay21 (k0_pay9 x0 x3) (k0_pay20 (iota Kind.tc S1x256 32 [1] iota_S1x256_d1_w32) 64#32)) (k0_pay25 (k0_pay5 x4) (k0_pay10 x6) k0_pay13) (k0_pay27 (k0_pay9 x0 x3) (k0_pay12 (iota Kind.tc S1x256 32 [1] iota_S1x256_d1_w32) 64#32)) (k0_pay51 x8) (k0_pay58 (k0_pay31 (k0_pay5 x4) (k0_pay10 x6) k0_pay13) (k0_pay33 (k0_pay9 x0 x3) (k0_pay12 (iota Kind.tc S1x256 32 [1] iota_S1x256_d1_w32) 64#32)) (k0_pay37 (k0_pay10 x6) (k0_pay36 (k0_pay5 x4) (k0_pay10 x6) k0_pay13)) (k0_pay51 x8) (k0_pay53 (k0_pay9 x0 x3) (k0_pay12 (iota Kind.tc S1x256 32 [1] iota_S1x256_d1_w32) 64#32) x8))))

/-! The other three groups. -/

theorem kS_1 (x2 : Vec Ideal S128x128 .f32) (x3 : Vec Ideal S1x128x256 .f32) (x4 : Vec Ideal S1x128x256 .f32) (x5 : Vec Ideal S1x1x256 .f32) (s : Vec Ideal S1x128x256 .f32) (x8 : Vec Ideal S128x256 .f32) :
    k0_pay169 (k0_pay159 x2 (k0_pay98 (k0_pay86 x4)) (k0_pay134 (k0_pay124 (k0_pay89 (k0_pay85 x3) x5)) (k0_pay127 s)) (k0_pay136 x8))
      = kS x2 x3 x4 x5 s x8 := rfl

theorem kS_2 (x2 : Vec Ideal S128x128 .f32) (x3 : Vec Ideal S1x128x256 .f32) (x4 : Vec Ideal S1x128x256 .f32) (x5 : Vec Ideal S1x1x256 .f32) (s : Vec Ideal S1x128x256 .f32) (x8 : Vec Ideal S128x256 .f32) :
    k0_pay254 (k0_pay244 x2 (k0_pay183 (k0_pay171 x4)) (k0_pay219 (k0_pay210 (k0_pay174 x3 x5)) s) (k0_pay221 x8))
      = kS x2 x3 x4 x5 s x8 := rfl

theorem kS_3 (x2 : Vec Ideal S128x128 .f32) (x3 : Vec Ideal S1x128x256 .f32) (x4 : Vec Ideal S1x128x256 .f32) (x5 : Vec Ideal S1x1x256 .f32) (s : Vec Ideal S1x128x256 .f32) (x8 : Vec Ideal S128x256 .f32) :
    k0_pay338 (k0_pay326 x2 (k0_pay267 (k0_pay256 x4)) (k0_pay306 (k0_pay296 s) (k0_pay305 (k0_pay260 (k0_pay259 x3 x5)))) (k0_pay308 x8))
      = kS x2 x3 x4 x5 s x8 := rfl

theorem kX_1 (x1 : Vec Ideal S128x128 .f32) (x2 : Vec Ideal S128x128 .f32) (x3 : Vec Ideal S1x128x256 .f32) (x4 : Vec Ideal S1x128x256 .f32) (x5 : Vec Ideal S1x1x256 .f32) (x6 : Vec Ideal S1x128x128 .f32) (s : Vec Ideal S1x128x256 .f32) (x8 : Vec Ideal S128x256 .f32) :
    k0_pay164 (k0_pay85 x3) (k0_pay155 (k0_pay102 k0_pay93) (k0_pay104 (k0_pay86 x4) (k0_pay91 (k0_pay3 x6)) (k0_pay92 x1 x2) k0_pay94) (k0_pay136 x8) (k0_pay148 (k0_pay108 k0_pay93) (k0_pay110 (k0_pay86 x4) (k0_pay91 (k0_pay3 x6)) (k0_pay92 x1 x2) k0_pay94) (k0_pay115 k0_pay93) (k0_pay136 x8) (k0_pay140 (k0_pay121 k0_pay93) (k0_pay123 (k0_pay86 x4) (k0_pay91 (k0_pay3 x6)) (k0_pay92 x1 x2) k0_pay94) x8 (k0_pay132 x1 (k0_pay86 x4) (k0_pay89 (k0_pay85 x3) x5) s)) (k0_pay143 (k0_pay117 (k0_pay91 (k0_pay3 x6)) (k0_pay92 x1 x2) (k0_pay112 (k0_pay86 x4) (k0_pay91 (k0_pay3 x6)) k0_pay94))) (k0_pay144 x8) (constant S128x256 .f32 0#32)))
      = kX x1 x2 x3 x4 x5 x6 s x8 := rfl

theorem kX_2 (x1 : Vec Ideal S128x128 .f32) (x2 : Vec Ideal S128x128 .f32) (x3 : Vec Ideal S1x128x256 .f32) (x4 : Vec Ideal S1x128x256 .f32) (x5 : Vec Ideal S1x1x256 .f32) (x6 : Vec Ideal S1x128x128 .f32) (s : Vec Ideal S1x128x256 .f32) (x8 : Vec Ideal S128x256 .f32) :
    k0_pay249 (k0_pay170 x3) (k0_pay238 (k0_pay187 (iota Kind.tc S1x256 32 [1] iota_S1x256_d1_w32) (64#32) k0_pay178 k0_pay179 0#32) (k0_pay189 (k0_pay171 x4) (k0_pay176 (k0_pay3 x6)) (k0_pay177 x1 x2)) (k0_pay195 (k0_pay180 (iota Kind.tc S1x256 32 [1] iota_S1x256_d1_w32) (64#32) k0_pay178 k0_pay179 0#32)) (k0_pay221 x8) (k0_pay230 (k0_pay201 (k0_pay180 (iota Kind.tc S1x256 32 [1] iota_S1x256_d1_w32) (64#32) k0_pay178 k0_pay179 0#32)) (k0_pay203 (k0_pay171 x4) (k0_pay176 (k0_pay3 x6)) (k0_pay177 x1 x2) k0_pay181) (k0_pay221 x8) (k0_pay225 x1 (k0_pay171 x4) (k0_pay174 x3 x5) (k0_pay207 (k0_pay180 (iota Kind.tc S1x256 32 [1] iota_S1x256_d1_w32) (64#32) k0_pay178 k0_pay179 0#32)) (k0_pay209 (k0_pay171 x4) (k0_pay176 (k0_pay3 x6)) (k0_pay177 x1 x2) k0_pay181) x8 s)) (k0_pay233 (k0_pay197 (k0_pay176 (k0_pay3 x6)) (k0_pay177 x1 x2) (k0_pay191 (k0_pay171 x4)) k0_pay192)) (k0_pay234 (k0_pay221 x8)))
      = kX x1 x2 x3 x4 x5 x6 s x8 := rfl

theorem kX_3 (x1 : Vec Ideal S128x128 .f32) (x2 : Vec Ideal S128x128 .f32) (x3 : Vec Ideal S1x128x256 .f32) (x4 : Vec Ideal S1x128x256 .f32) (x5 : Vec Ideal S1x1x256 .f32) (x6 : Vec Ideal S1x128x128 .f32) (s : Vec Ideal S1x128x256 .f32) (x8 : Vec Ideal S128x256 .f32) :
    k0_pay333 (k0_pay330 (k0_pay255 x3) (k0_pay272 k0_pay264) (k0_pay308 x8) (k0_pay318 (k0_pay278 k0_pay264) (k0_pay280 (k0_pay256 x4) (k0_pay262 (k0_pay3 x6)) (k0_pay263 x1 x2) k0_pay265) (k0_pay308 x8) (k0_pay314 (k0_pay284 k0_pay264) (k0_pay286 (k0_pay256 x4) (k0_pay262 (k0_pay3 x6)) (k0_pay263 x1 x2) k0_pay265) (k0_pay290 k0_pay264) (k0_pay292 (k0_pay256 x4) (k0_pay262 (k0_pay3 x6)) (k0_pay263 x1 x2) k0_pay265) x8 (k0_pay300 x1 (k0_pay256 x4) (k0_pay260 (k0_pay259 x3 x5)) s))) (k0_pay321 (k0_pay274 (k0_pay262 (k0_pay3 x6)) (k0_pay263 x1 x2) (k0_pay269 (k0_pay256 x4)) (FloatOps.ofBits .f32 0#32))))
      = kX x1 x2 x3 x4 x5 x6 s x8 := rfl

theorem kB_1 (x0 : Vec Ideal S128x256 .f32) (x2 : Vec Ideal S128x128 .f32) (x3 : Vec Ideal S1x128x256 .f32) (x4 : Vec Ideal S1x128x256 .f32) (x5 : Vec Ideal S1x1x256 .f32) (x6 : Vec Ideal S1x128x128 .f32) (s : Vec Ideal S1x128x256 .f32) (x8 : Vec Ideal S128x256 .f32) :
    k0_pay165 x2 (k0_pay129 (k0_pay86 x4) (k0_pay89 (k0_pay85 x3) x5) (k0_pay90 x0 (k0_pay85 x3)) s) (k0_pay154 (k0_pay101 (k0_pay86 x4) (k0_pay91 (k0_pay3 x6)) k0_pay94) (k0_pay103 (k0_pay90 x0 (k0_pay85 x3)) k0_pay93) (k0_pay136 x8) (k0_pay147 (k0_pay107 (k0_pay86 x4) (k0_pay91 (k0_pay3 x6)) k0_pay94) (k0_pay109 (k0_pay90 x0 (k0_pay85 x3)) k0_pay93) (k0_pay114 (k0_pay91 (k0_pay3 x6)) (k0_pay112 (k0_pay86 x4) (k0_pay91 (k0_pay3 x6)) k0_pay94)) (k0_pay136 x8) (k0_pay139 (k0_pay120 (k0_pay86 x4) (k0_pay91 (k0_pay3 x6)) k0_pay94) (k0_pay122 (k0_pay90 x0 (k0_pay85 x3)) k0_pay93) x8) (k0_pay142 (k0_pay116 (k0_pay90 x0 (k0_pay85 x3)) k0_pay93) x8)))
      = kB x0 x2 x3 x4 x5 x6 s x8 := rfl

theorem kB_2 (x0 : Vec Ideal S128x256 .f32) (x2 : Vec Ideal S128x128 .f32) (x3 : Vec Ideal S1x128x256 .f32) (x4 : Vec Ideal S1x128x256 .f32) (x5 : Vec Ideal S1x1x256 .f32) (x6 : Vec Ideal S1x128x128 .f32) (s : Vec Ideal S1x128x256 .f32) (x8 : Vec Ideal S128x256 .f32) :
    k0_pay250 x2 (k0_pay215 (k0_pay171 x4) (k0_pay174 x3 x5) (k0_pay175 x0 x3) s) (k0_pay237 (k0_pay186 (k0_pay171 x4) (k0_pay176 (k0_pay3 x6))) (k0_pay188 (k0_pay175 x0 x3) (iota Kind.tc S1x256 32 [1] iota_S1x256_d1_w32) (64#32) k0_pay178 k0_pay179 0#32) (k0_pay194 (k0_pay176 (k0_pay3 x6)) (k0_pay191 (k0_pay171 x4)) k0_pay192) (k0_pay221 x8) (k0_pay229 (k0_pay200 (k0_pay171 x4) (k0_pay176 (k0_pay3 x6)) k0_pay181) (k0_pay202 (k0_pay175 x0 x3) (k0_pay180 (iota Kind.tc S1x256 32 [1] iota_S1x256_d1_w32) (64#32) k0_pay178 k0_pay179 0#32)) (k0_pay221 x8) (k0_pay224 (k0_pay206 (k0_pay171 x4) (k0_pay176 (k0_pay3 x6)) k0_pay181) (k0_pay208 (k0_pay175 x0 x3) (k0_pay180 (iota Kind.tc S1x256 32 [1] iota_S1x256_d1_w32) (64#32) k0_pay178 k0_pay179 0#32)) x8)) (k0_pay232 (k0_pay196 (k0_pay175 x0 x3) (k0_pay180 (iota Kind.tc S1x256 32 [1] iota_S1x256_d1_w32) (64#32) k0_pay178 k0_pay179 0#32)) (k0_pay221 x8)))
      = kB x0 x2 x3 x4 x5 x6 s x8 := rfl

theorem kB_3 (x0 : Vec Ideal S128x256 .f32) (x2 : Vec Ideal S128x128 .f32) (x3 : Vec Ideal S1x128x256 .f32) (x4 : Vec Ideal S1x128x256 .f32) (x5 : Vec Ideal S1x1x256 .f32) (x6 : Vec Ideal S1x128x128 .f32) (s : Vec Ideal S1x128x256 .f32) (x8 : Vec Ideal S128x256 .f32) :
    k0_pay334 (k0_pay328 x2 (k0_pay271 (k0_pay262 (k0_pay3 x6)) (k0_pay269 (k0_pay256 x4)) (FloatOps.ofBits .f32 0#32)) (k0_pay298 (k0_pay256 x4) (k0_pay260 (k0_pay259 x3 x5)) (k0_pay261 x0 (k0_pay255 x3)) s) (k0_pay317 (k0_pay277 (k0_pay256 x4) (k0_pay262 (k0_pay3 x6)) k0_pay265) (k0_pay279 (k0_pay261 x0 (k0_pay255 x3)) k0_pay264) (k0_pay308 x8) (k0_pay313 (k0_pay283 (k0_pay256 x4) (k0_pay262 (k0_pay3 x6)) k0_pay265) (k0_pay285 (k0_pay261 x0 (k0_pay255 x3)) k0_pay264) (k0_pay289 (k0_pay256 x4) (k0_pay262 (k0_pay3 x6)) k0_pay265) (k0_pay291 (k0_pay261 x0 (k0_pay255 x3)) k0_pay264) x8)) (k0_pay320 (k0_pay273 (k0_pay261 x0 (k0_pay255 x3)) k0_pay264) (k0_pay308 x8)))
      = kB x0 x2 x3 x4 x5 x6 s x8 := rfl

theorem kC_1 (x0 : Vec Ideal S128x256 .f32) (x1 : Vec Ideal S128x128 .f32) (x3 : Vec Ideal S1x128x256 .f32) (x4 : Vec Ideal S1x128x256 .f32) (x6 : Vec Ideal S1x128x128 .f32) (x7 : Vec Ideal S1x1x1x128x256 .f32) (x8 : Vec Ideal S128x256 .f32) :
    k0_pay166 (k0_pay158 (k0_pay88 x7) (k0_pay98 (k0_pay86 x4)) (k0_pay136 x8)) (k0_pay160 (k0_pay101 (k0_pay86 x4) (k0_pay91 (k0_pay3 x6)) k0_pay94) (k0_pay103 (k0_pay90 x0 (k0_pay85 x3)) k0_pay93) (k0_pay136 x8) (k0_pay147 (k0_pay107 (k0_pay86 x4) (k0_pay91 (k0_pay3 x6)) k0_pay94) (k0_pay109 (k0_pay90 x0 (k0_pay85 x3)) k0_pay93) (k0_pay114 (k0_pay91 (k0_pay3 x6)) (k0_pay112 (k0_pay86 x4) (k0_pay91 (k0_pay3 x6)) k0_pay94)) (k0_pay136 x8) (k0_pay139 (k0_pay120 (k0_pay86 x4) (k0_pay91 (k0_pay3 x6)) k0_pay94) (k0_pay122 (k0_pay90 x0 (k0_pay85 x3)) k0_pay93) x8) (k0_pay142 (k0_pay116 (k0_pay90 x0 (k0_pay85 x3)) k0_pay93) x8))) (k0_pay161 x1) (constant S128x128 .f32 0#32)
      = kC x0 x1 x3 x4 x6 x7 x8 := rfl

theorem kC_2 (x0 : Vec Ideal S128x256 .f32) (x1 : Vec Ideal S128x128 .f32) (x3 : Vec Ideal S1x128x256 .f32) (x4 : Vec Ideal S1x128x256 .f32) (x6 : Vec Ideal S1x128x128 .f32) (x7 : Vec Ideal S1x1x1x128x256 .f32) (x8 : Vec Ideal S128x256 .f32) :
    k0_pay251 (k0_pay245 x1 (k0_pay173 x7) (k0_pay183 (k0_pay171 x4)) (k0_pay221 x8) (k0_pay237 (k0_pay186 (k0_pay171 x4) (k0_pay176 (k0_pay3 x6))) (k0_pay188 (k0_pay175 x0 x3) (iota Kind.tc S1x256 32 [1] iota_S1x256_d1_w32) (64#32) k0_pay178 k0_pay179 0#32) (k0_pay194 (k0_pay176 (k0_pay3 x6)) (k0_pay191 (k0_pay171 x4)) k0_pay192) (k0_pay221 x8) (k0_pay229 (k0_pay200 (k0_pay171 x4) (k0_pay176 (k0_pay3 x6)) k0_pay181) (k0_pay202 (k0_pay175 x0 x3) (k0_pay180 (iota Kind.tc S1x256 32 [1] iota_S1x256_d1_w32) (64#32) k0_pay178 k0_pay179 0#32)) (k0_pay221 x8) (k0_pay224 (k0_pay206 (k0_pay171 x4) (k0_pay176 (k0_pay3 x6)) k0_pay181) (k0_pay208 (k0_pay175 x0 x3) (k0_pay180 (iota Kind.tc S1x256 32 [1] iota_S1x256_d1_w32) (64#32) k0_pay178 k0_pay179 0#32)) x8)) (k0_pay232 (k0_pay196 (k0_pay175 x0 x3) (k0_pay180 (iota Kind.tc S1x256 32 [1] iota_S1x256_d1_w32) (64#32) k0_pay178 k0_pay179 0#32)) (k0_pay221 x8))))
      = kC x0 x1 x3 x4 x6 x7 x8 := rfl

theorem kC_3 (x0 : Vec Ideal S128x256 .f32) (x1 : Vec Ideal S128x128 .f32) (x3 : Vec Ideal S1x128x256 .f32) (x4 : Vec Ideal S1x128x256 .f32) (x6 : Vec Ideal S1x128x128 .f32) (x7 : Vec Ideal S1x1x1x128x256 .f32) (x8 : Vec Ideal S128x256 .f32) :
    k0_pay335 (k0_pay327 x1 (k0_pay258 x7) (k0_pay267 (k0_pay256 x4)) (k0_pay271 (k0_pay262 (k0_pay3 x6)) (k0_pay269 (k0_pay256 x4)) (FloatOps.ofBits .f32 0#32)) (k0_pay308 x8) (k0_pay317 (k0_pay277 (k0_pay256 x4) (k0_pay262 (k0_pay3 x6)) k0_pay265) (k0_pay279 (k0_pay261 x0 (k0_pay255 x3)) k0_pay264) (k0_pay308 x8) (k0_pay313 (k0_pay283 (k0_pay256 x4) (k0_pay262 (k0_pay3 x6)) k0_pay265) (k0_pay285 (k0_pay261 x0 (k0_pay255 x3)) k0_pay264) (k0_pay289 (k0_pay256 x4) (k0_pay262 (k0_pay3 x6)) k0_pay265) (k0_pay291 (k0_pay261 x0 (k0_pay255 x3)) k0_pay264) x8)) (k0_pay320 (k0_pay273 (k0_pay261 x0 (k0_pay255 x3)) k0_pay264) (k0_pay308 x8)))
      = kC x0 x1 x3 x4 x6 x7 x8 := rfl

end Cert.SsdKer
-- ==== Proof.SsdKerAt.lean ====
/- The four stored tiles of one group at one place: the scan's gradient of `SsdMath`, over the tiles loaded.  The kernel
   takes a head's exponents from lanes next to each other in the array of running sums, where they are the same value
   for all 64 lanes of the head: `Flat` says so. -/
module

public import proofs.«01_k».proof.Proof.SsdKer

@[expose] public section

set_option maxRecDepth 200000

noncomputable section

namespace Cert.SsdKer

open Cert.Kernel16Ideal Cert.Kernel16Ideal.Gen Idealize.ShloMosaic Idealize.ShloMosaic.TcCoe Cert.SsdMath

/-! Tiles as matrices. -/

/-- A tile of rows and columns. -/
abbrev m2 {a b : ℕ} (x : Vec Ideal ⟨2, ![a, b]⟩ .f32) (i : Fin a) (l : Fin b) : EReal := x (ix2 i l)

/-- The same with a leading axis of one. -/
abbrev m3 {a b : ℕ} (x : Vec Ideal ⟨3, ![1, a, b]⟩ .f32) (i : Fin a) (l : Fin b) : EReal := x (ix3 0 i l)

/-- The total of a chunk's exponents. -/
def tot (x3 : Vec Ideal S1x128x256 .f32) (x5 : Vec Ideal S1x1x256 .f32) (l : Fin 256) : EReal :=
  ∑ i : Fin 128, x3 (ix3 0 i l) * x5 (ix3 0 0 l)

/-- Where the mask is set. -/
abbrev On (x6 : Vec Ideal S1x128x128 .f32) (i j : Fin 128) : Prop := 0 < x6 (ix3 0 i j)

/-- Every lane of a head holds the head's value. -/
def Flat (A : Mat) : Prop := ∀ i l, A i l = A i (lane0 (headOf l))

/-! Which head a lane belongs to. -/

/-- The lanes' numbers divided by 64 are the heads' numbers. -/
def Heads (v26 : IVec S1x256 32) : Prop := ∀ (z : Fin 1) (l : Fin 256), k0_pay12 v26 64#32 (ix2 z l) = BitVec.ofNat 32 (headOf l).val

theorem heads_at : Heads (iota Kind.tc S1x256 32 [1] iota_S1x256_d1_w32) := by unfold Heads; decide +kernel

theorem one_hot (k h : Fin 4) :
    (FloatOps.sitofp .f32 (BitVec.setWidth 32 (IntOp.cmpi .eq (BitVec.ofNat 32 k.val) (BitVec.ofNat 32 h.val))) : Ideal .f32)
      = if k = h then (1 : EReal) else 0 := by
  fin_cases k <;> fin_cases h <;> simp [IntOp.cmpi, FloatOps.sitofp]

theorem mask0_at (v26 : IVec S1x256 32) (hv : Heads v26) (z : Fin 1) (l : Fin 256) : k0_pay19 (F := Ideal) v26 64#32 (ix2 z l)
    = if headOf l = 0 then 1 else 0 := by
  pointwise [k0_pay19]
  rw [hv]
  exact one_hot (headOf l) 0

theorem mask1_at (v26 : IVec S1x256 32) (hv : Heads v26) (z : Fin 1) (l : Fin 256) : k0_pay26 (F := Ideal) (k0_pay12 v26 64#32) (ix2 z l) = if headOf l = 1 then 1 else 0 := by
  pointwise [k0_pay26]
  rw [hv]
  exact one_hot (headOf l) 1

theorem mask2_at (v26 : IVec S1x256 32) (hv : Heads v26) (z : Fin 1) (l : Fin 256) : k0_pay32 (F := Ideal) (k0_pay12 v26 64#32) (ix2 z l) = if headOf l = 2 then 1 else 0 := by
  pointwise [k0_pay32]
  rw [hv]
  exact one_hot (headOf l) 2

theorem mask3_at (v26 : IVec S1x256 32) (hv : Heads v26) (z : Fin 1) (l : Fin 256) : k0_pay38 (F := Ideal) (k0_pay12 v26 64#32) (ix2 z l) = if headOf l = 3 then 1 else 0 := by
  pointwise [k0_pay38]
  rw [hv]
  exact one_hot (headOf l) 3

theorem tot_at (x3 : Vec Ideal S1x128x256 .f32) (x5 : Vec Ideal S1x1x256 .f32) (l : Fin 256) :
    k0_pay8 x3 x5 (ix2 0 l) = tot x3 x5 l := by
  pointwise [k0_pay8, k0_pay4, k0_pay6, tot]

/-! The decays of the four heads. -/

/-- Either of two lanes of one head gives the head's value. -/
theorem pick (f : Fin 256 → EReal) (hf : ∀ l, f l = f (lane0 (headOf l))) (k : Fin 4) (b : BitVec 1) (u v : Fin 256)
    (hu : b = 1#1 → headOf u = k) (hv : b ≠ 1#1 → headOf v = k) : Scalar.select b (f u) (f v) = f (lane0 k) := by
  unfold Scalar.select
  split
  · next h => rw [hf u, hu h]
  · next h => rw [hf v, hv h]

theorem small (j : Fin 128) : IntOp.cmpi .slt (BitVec.ofNat 32 j.val) 64#32 = 1#1 ↔ j.val < 64 := by
  revert j; decide +kernel

theorem flat_at (x4 : Vec Ideal S1x128x256 .f32) (i : Fin 128) (l : Fin 256) : k0_pay5 x4 (ix2 i l) = x4 (ix3 0 i l) := by
  pointwise [k0_pay5]

variable (x0 : Vec Ideal S128x256 .f32) (x1 x2 : Vec Ideal S128x128 .f32) (x3 x4 : Vec Ideal S1x128x256 .f32)
  (x5 : Vec Ideal S1x1x256 .f32) (x6 : Vec Ideal S1x128x128 .f32) (x7 : Vec Ideal S1x1x1x128x256 .f32)
  (s : Vec Ideal S1x128x256 .f32) (x8 : Vec Ideal S128x256 .f32)

theorem dec0_at (hA : Flat (m3 x4)) (i j : Fin 128) :
    k0_pay18 (k0_pay5 x4) (k0_pay10 x6) (ix2 i j) = decay (On x6) (m3 x4) 0 i j := by
  pointwise [k0_pay18, k0_pay17, k0_pay16, k0_pay13, k0_pay10, k0_pay3, k0_pay5]
  by_cases h : 0 < x6 (ix3 0 i j)
  · simp only [h, if_true, decay]
    rw [pick _ (hA i) 0, pick _ (hA j) 0] <;> simp only [ne_eq, small] <;> intro _ <;> (apply Fin.ext; simp only [headOf]; omega)
  · simp only [h, if_false, decay]

theorem dec1_at (hA : Flat (m3 x4)) (i j : Fin 128) :
    k0_pay25 (k0_pay5 x4) (k0_pay10 x6) k0_pay13 (ix2 i j) = decay (On x6) (m3 x4) 1 i j := by
  pointwise [k0_pay25, k0_pay24, k0_pay23, k0_pay13, k0_pay10, k0_pay3, k0_pay5]
  by_cases h : 0 < x6 (ix3 0 i j)
  · simp only [h, if_true, decay]
    rw [pick _ (hA i) 1, pick _ (hA j) 1] <;> simp only [ne_eq, small] <;> intro _ <;> (apply Fin.ext; simp only [headOf]; omega)
  · simp only [h, if_false, decay]

theorem dec2_at (hA : Flat (m3 x4)) (i j : Fin 128) :
    k0_pay31 (k0_pay5 x4) (k0_pay10 x6) k0_pay13 (ix2 i j) = decay (On x6) (m3 x4) 2 i j := by
  pointwise [k0_pay31, k0_pay30, k0_pay29, k0_pay13, k0_pay10, k0_pay3, k0_pay5]
  by_cases h : 0 < x6 (ix3 0 i j)
  · simp only [h, if_true, decay]
    rw [pick _ (hA i) 2, pick _ (hA j) 2] <;> simp only [ne_eq, small] <;> intro _ <;> (apply Fin.ext; simp only [headOf]; omega)
  · simp only [h, if_false, decay]

theorem dec3_at (hA : Flat (m3 x4)) (i j : Fin 128) :
    k0_pay37 (k0_pay10 x6) (k0_pay36 (k0_pay5 x4) (k0_pay10 x6) k0_pay13) (ix2 i j) = decay (On x6) (m3 x4) 3 i j := by
  pointwise [k0_pay37, k0_pay36, k0_pay35, k0_pay13, k0_pay10, k0_pay3, k0_pay5]
  by_cases h : 0 < x6 (ix3 0 i j)
  · simp only [h, if_true, decay]
    rw [pick _ (hA i) 3, pick _ (hA j) 3] <;> simp only [ne_eq, small] <;> intro _ <;> (apply Fin.ext; simp only [headOf]; omega)
  · simp only [h, if_false, decay]

/-! The tiles. -/

theorem kS_at (n : Fin 128) (l : Fin 256) : kS x2 x3 x4 x5 s x8 (ix3 0 n l)
    = gs (m3 x4) (m2 x8) (m2 x2) (m3 s) (tot x3 x5) n l := by
  pointwise [kS, k0_pay84, k0_pay72, k0_pay70, k0_pay15, k0_pay5, k0_pay49, k0_pay39, k0_pay42, k0_pay41, k0_pay51, tot_at, gs]

theorem kX_at (hA : Flat (m3 x4)) (j : Fin 128) (l : Fin 256) : kX x1 x2 x3 x4 x5 x6 s x8 (ix3 0 j l)
    = gx (On x6) (m3 x3) (m3 x4) (m2 x8) (m2 x1) (m2 x2) (m3 s) (tot x3 x5) j l := by
  unfold kX
  have hv := heads_at
  generalize iota Kind.tc S1x256 32 [1] iota_S1x256_d1_w32 = v26 at hv ⊢
  pointwise [k0_pay79, k0_pay75, k0_pay4, k0_pay68, k0_pay22, k0_pay11, dec0_at, k0_pay28, dec1_at, k0_pay51, k0_pay59,
    k0_pay34, dec2_at, k0_pay46, k0_pay45, k0_pay40, k0_pay43, k0_pay41, flat_at, k0_pay54, dec3_at, k0_pay55, k0_pay52, tot_at]
  simp only [mask0_at _ hv, mask1_at _ hv, mask2_at _ hv, mask3_at _ hv, dec0_at x4 x6 hA, dec1_at x4 x6 hA, dec2_at x4 x6 hA, dec3_at x4 x6 hA]
  rw [four_masks (fun h => ∑ x, (∑ y, x2 (ix2 x y) * x1 (ix2 j y)) * decay (On x6) (m3 x4) h x j * x8 (ix2 x l)) (headOf l)]
  rfl

/-- The gradient with respect to the scores, as both other results use it. -/
def dsc : FVec Ideal S128x128 .f32 :=
  k0_pay67 (k0_pay18 (k0_pay5 x4) (k0_pay10 x6)) (k0_pay21 (k0_pay9 x0 x3) (k0_pay20 (iota Kind.tc S1x256 32 [1] iota_S1x256_d1_w32) 64#32)) (k0_pay25 (k0_pay5 x4) (k0_pay10 x6) k0_pay13) (k0_pay27 (k0_pay9 x0 x3) (k0_pay12 (iota Kind.tc S1x256 32 [1] iota_S1x256_d1_w32) 64#32)) (k0_pay51 x8) (k0_pay58 (k0_pay31 (k0_pay5 x4) (k0_pay10 x6) k0_pay13) (k0_pay33 (k0_pay9 x0 x3) (k0_pay12 (iota Kind.tc S1x256 32 [1] iota_S1x256_d1_w32) 64#32)) (k0_pay37 (k0_pay10 x6) (k0_pay36 (k0_pay5 x4) (k0_pay10 x6) k0_pay13)) (k0_pay51 x8) (k0_pay53 (k0_pay9 x0 x3) (k0_pay12 (iota Kind.tc S1x256 32 [1] iota_S1x256_d1_w32) 64#32) x8))

/-- Four terms summed from the last. -/
theorem turn (a b c d : EReal) : d + c + b + a = a + b + c + d := by abel

theorem dsc_at (hA : Flat (m3 x4)) (i j : Fin 128) : dsc x0 x3 x4 x6 x8 (ix2 i j) = dscore (On x6) (m2 x0) (m3 x3) (m3 x4) (m2 x8) i j := by
  unfold dsc
  have hv := heads_at
  generalize iota Kind.tc S1x256 32 [1] iota_S1x256_d1_w32 = v26 at hv ⊢
  pointwise [k0_pay67, k0_pay64, k0_pay66, k0_pay21, k0_pay20, k0_pay9, k0_pay4, k0_pay27, k0_pay51, k0_pay58, k0_pay57, k0_pay33,
    k0_pay53, k0_pay52]
  simp only [mask0_at _ hv, mask1_at _ hv, mask2_at _ hv, mask3_at _ hv, dec0_at x4 x6 hA, dec1_at x4 x6 hA, dec2_at x4 x6 hA, dec3_at x4 x6 hA]
  simp only [sum_head (fun x => x8 (ix2 i x)) (fun x => x0 (ix2 j x) * x3 (ix3 0 j x))]
  rw [dscore, Fin.sum_univ_four]
  exact turn _ _ _ _

theorem kB_at (hA : Flat (m3 x4)) (j n : Fin 128) : kB x0 x2 x3 x4 x5 x6 s x8 (ix3 0 j n)
    = gb (On x6) (m2 x0) (m3 x3) (m3 x4) (m2 x8) (m2 x2) (m3 s) (tot x3 x5) j n := by
  have e : kB x0 x2 x3 x4 x5 x6 s x8 = k0_pay80 (k0_pay74 x2 (k0_pay44 (k0_pay5 x4) (k0_pay8 x3 x5) (k0_pay9 x0 x3) s) (dsc x0 x3 x4 x6 x8)) := rfl
  rw [e]
  generalize hd : dsc x0 x3 x4 x6 x8 = d
  pointwise [k0_pay80, k0_pay74, k0_pay44, k0_pay5, k0_pay9, k0_pay4, k0_pay40, k0_pay43, k0_pay41, tot_at, gb]
  subst hd
  simp only [dsc_at x0 x3 x4 x6 x8 hA]

theorem kC_at (hA : Flat (m3 x4)) (i n : Fin 128) : kC x0 x1 x3 x4 x6 x7 x8 (ix3 0 i n)
    = gc (On x6) (m2 x0) (m3 x3) (m3 x4) (m2 x8) (m2 x1) (fun n l => x7 (ix5 0 0 0 n l)) i n := by
  have e : kC x0 x1 x3 x4 x6 x7 x8 = k0_pay81 (k0_pay73 x1 (k0_pay7 x7) (k0_pay15 (k0_pay5 x4)) (k0_pay51 x8) (dsc x0 x3 x4 x6 x8)) := rfl
  rw [e]
  generalize hd : dsc x0 x3 x4 x6 x8 = d
  pointwise [k0_pay81, k0_pay73, k0_pay70, k0_pay15, k0_pay5, k0_pay7, k0_pay51, gc]
  subst hd
  simp only [dsc_at x0 x3 x4 x6 x8 hA]

end Cert.SsdKer
-- ==== Proof.SsdPoint.lean ====
/- What one grid point stores: for each of its four groups of heads the scan's gradient of `SsdMath`, over the point's
   blocks and the gradient the point before left in the carried array. -/
module

public import proofs.«01_k».proof.Proof.Gen.Kernel16Ideal.Value
public import proofs.«01_k».proof.Proof.SsdKerAt
public import Idealize.ShloMosaic.Lib.Pipeline.ReadBack
public import Idealize.ShloMosaic.Lib.Claim

@[expose] public section

set_option maxRecDepth 200000

noncomputable section

namespace Cert.SsdKer

open Cert.Kernel16Ideal Cert.Kernel16Ideal.Gen Idealize.ShloMosaic Idealize.ShloMosaic.TcCoe Idealize.SL.Sem Cert.SsdMath
open Idealize.ShloMosaic.Pipeline (Dat)

/-! The tiles, given what they hold. -/

section tiles

variable (x0 : Vec Ideal S128x256 .f32) (x1 x2 : Vec Ideal S128x128 .f32) (x3 x4 : Vec Ideal S1x128x256 .f32)
  (x5 : Vec Ideal S1x1x256 .f32) (x6 : Vec Ideal S1x128x128 .f32) (x7 : Vec Ideal S1x1x1x128x256 .f32)
  (s : Vec Ideal S1x128x256 .f32) (x8 : Vec Ideal S128x256 .f32)
  {X D A DY G P : Mat} {B C : Sq} {M : Fin 128 → Fin 128 → Prop} {T : Fin 256 → EReal}

theorem zero_tile (h : s = fun _ => 0) : m3 s = fun _ _ => 0 := by
  rw [h]

theorem fill_zero : (k0_pay2 : FVec Ideal S4x128x256 .f32) = fun _ => 0 := by
  funext x
  pointwise [k0_pay2]

theorem kS_eq (h2 : m2 x2 = C) (h3 : m3 x3 = D) (h4 : m3 x4 = A) (h5 : ∀ l, x5 (ix3 0 0 l) = T l) (hs : m3 s = G) (h8 : m2 x8 = DY)
    (z : Fin 1) (n : Fin 128) (l : Fin 256) :
    kS x2 x3 x4 x5 s x8 (ix3 z n l) = gs A DY C G (fun l => ∑ i, D i l * T l) n l := by
  subst h2 h3 h4 hs h8
  rw [Subsingleton.elim z 0, kS_at]
  simp only [gs, tot, h5]

theorem kX_eq (hA : Flat A) (h1 : m2 x1 = B) (h2 : m2 x2 = C) (h3 : m3 x3 = D) (h4 : m3 x4 = A) (h5 : ∀ l, x5 (ix3 0 0 l) = T l)
    (hs : m3 s = G) (h8 : m2 x8 = DY) (z : Fin 1) (n : Fin 128) (l : Fin 256) :
    kX x1 x2 x3 x4 x5 x6 s x8 (ix3 z n l) = gx (On x6) D A DY B C G (fun l => ∑ i, D i l * T l) n l := by
  subst h1 h2 h3 h4 hs h8
  rw [Subsingleton.elim z 0, kX_at _ _ _ _ _ _ _ _ hA, show tot x3 x5 = fun l => ∑ i, m3 x3 i l * T l from funext fun l => by simp only [tot, h5]]

theorem kB_eq (hA : Flat A) (h0 : m2 x0 = X) (h2 : m2 x2 = C) (h3 : m3 x3 = D) (h4 : m3 x4 = A) (h5 : ∀ l, x5 (ix3 0 0 l) = T l)
    (hs : m3 s = G) (h8 : m2 x8 = DY) (z : Fin 1) (n l : Fin 128) :
    kB x0 x2 x3 x4 x5 x6 s x8 (ix3 z n l) = gb (On x6) X D A DY C G (fun l => ∑ i, D i l * T l) n l := by
  subst h0 h2 h3 h4 hs h8
  rw [Subsingleton.elim z 0, kB_at _ _ _ _ _ _ _ _ hA, show tot x3 x5 = fun l => ∑ i, m3 x3 i l * T l from funext fun l => by simp only [tot, h5]]

theorem kC_eq (hA : Flat A) (h0 : m2 x0 = X) (h1 : m2 x1 = B) (h3 : m3 x3 = D) (h4 : m3 x4 = A)
    (h7 : ∀ n l, x7 (ix5 0 0 0 n l) = P n l) (h8 : m2 x8 = DY) (z : Fin 1) (n l : Fin 128) :
    kC x0 x1 x3 x4 x6 x7 x8 (ix3 z n l) = gc (On x6) X D A DY B P n l := by
  subst h0 h1 h3 h4 h8
  rw [Subsingleton.elim z 0, kC_at _ _ _ _ _ _ _ hA, show (fun n l => x7 (ix5 0 0 0 n l)) = P from funext fun n => funext fun l => h7 n l]

end tiles

variable (m : (ℓ : Loc nD τ sig) → Buf (Elt Ideal) ℓ) (c : Dev nD)

/-! The blocks of a point, group by group. -/

abbrev bX (t : Fin cfg0.N) (g : Fin 4) : Mat := fun i l => (show FVec Ideal S128x1024 .f32 from iblk m c 0 t) (ix2 i (⟨256 * g.val + l.val, by omega⟩ : Fin 1024))
abbrev bB (t : Fin cfg0.N) (g : Fin 4) : Sq := fun i n => (show FVec Ideal S128x512 .f32 from iblk m c 1 t) (ix2 i (⟨128 * g.val + n.val, by omega⟩ : Fin 512))
abbrev bC (t : Fin cfg0.N) (g : Fin 4) : Sq := fun i n => (show FVec Ideal S128x512 .f32 from iblk m c 2 t) (ix2 i (⟨128 * g.val + n.val, by omega⟩ : Fin 512))
abbrev bD (t : Fin cfg0.N) (g : Fin 4) : Mat := fun i l => (show FVec Ideal S1x128x1024 .f32 from iblk m c 3 t) (ix3 0 i (⟨256 * g.val + l.val, by omega⟩ : Fin 1024))
abbrev bA (t : Fin cfg0.N) (g : Fin 4) : Mat := fun i l => (show FVec Ideal S1x128x1024 .f32 from iblk m c 4 t) (ix3 0 i (⟨256 * g.val + l.val, by omega⟩ : Fin 1024))
abbrev bR (t : Fin cfg0.N) (g : Fin 4) : Fin 256 → EReal := fun l => (show FVec Ideal S1x1x1024 .f32 from iblk m c 5 t) (ix3 0 0 (⟨256 * g.val + l.val, by omega⟩ : Fin 1024))
abbrev bM (t : Fin cfg0.N) (i j : Fin 128) : Prop := 0 < (show FVec Ideal S1x128x128 .f32 from iblk m c 6 t) (ix3 0 i j)
abbrev bP (t : Fin cfg0.N) (g : Fin 4) : Mat := fun n l => (show FVec Ideal S1x1x4x128x256 .f32 from iblk m c 7 t) (ix5 0 0 g n l)
abbrev bY (t : Fin cfg0.N) (g : Fin 4) : Mat := fun i l => (show FVec Ideal S128x1024 .f32 from iblk m c 8 t) (ix2 i (⟨256 * g.val + l.val, by omega⟩ : Fin 1024))
/-- The chunk's total exponent. -/
abbrev bT (t : Fin cfg0.N) (g : Fin 4) : Fin 256 → EReal := fun l => ∑ i, bD m c t g i l * bR m c t g l
/-- The carried array after a point. -/
abbrev carry (n : ℕ) (h : n < cfg0.N) (g : Fin 4) : Mat := fun x l => (show FVec Ideal S4x128x256 .f32 from (outsAt0 m c n h).2.2.2.2.2.2) (ix3 g x l)

/-- A later point's carried array. -/
theorem carry_B (t : Fin cfg0.N) (h0 : ¬ t.val % 32 = 0) (h1 : ¬ t.val % 32 = 0) (h2 : 1 ≤ t.val % 32) (g : Fin 4) (n : Fin 128) (l : Fin 256) :
    (outsAt0 m c t.val t.isLt).2.2.2.2.2.2 (ix3 g n l)
      = gs (bA m c t g) (bY m c t g) (bC m c t g) (carry m c (t.val - 1) (by omega) g) (bT m c t g) n l := by
  rw [outsAt0_B m c t h0 h1 h2]
  frame_out
  simp only [read_unread_whole]
  canon_tiles x h
  all_goals
    obtain ⟨z, n', l', rfl⟩ : ∃ (z : Fin 1) (n' : Fin 128) (l' : Fin 256), x = ix3 z n' l' := ⟨x 0, x 1, x 2, eq_ix3 x⟩
    obtain rfl : n = n' := Fin.ext h1
  on_goal 4 =>
    have e : g.val = z.val := h0
    obtain rfl : g = 0 := by omega
    obtain rfl : l = l' := Fin.ext h2
    refine kS_eq _ _ _ _ _ _ ?_ ?_ ?_ ?_ ?_ ?_ z n l
  on_goal 3 =>
    have e : g.val = 1 + z.val := h0
    obtain rfl : g = 1 := by omega
    obtain rfl : l = l' := Fin.ext h2
    rw [kS_1]
    refine kS_eq _ _ _ _ _ _ ?_ ?_ ?_ ?_ ?_ ?_ z n l
  on_goal 2 =>
    have e : g.val = 2 + z.val := h0
    obtain rfl : g = 2 := by omega
    obtain rfl : l = l' := Fin.ext h2
    rw [kS_2]
    refine kS_eq _ _ _ _ _ _ ?_ ?_ ?_ ?_ ?_ ?_ z n l
  on_goal 1 =>
    have e : g.val = 3 + z.val := h0
    obtain rfl : g = 3 := by omega
    obtain rfl : l = l' := Fin.ext h2
    rw [kS_3]
    refine kS_eq _ _ _ _ _ _ ?_ ?_ ?_ ?_ ?_ ?_ z n l
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | (intro n l; exact View.ld_unit_apply_of _ _ _ _ _ _ fun a => by fin_cases a <;> simp)
    | rfl

/-- A later point's gradient of the inputs. -/
theorem dx_B (t : Fin cfg0.N) (h0 : ¬ t.val % 32 = 0) (h1 : ¬ t.val % 32 = 0) (h2 : 1 ≤ t.val % 32) (hA : ∀ g, Flat (bA m c t g)) (g : Fin 4) (n : Fin 128) (l : Fin 256) :
    (outsAt0 m c t.val t.isLt).1 (ix3 0 n (⟨256 * g.val + l.val, by omega⟩ : Fin 1024))
      = gx (bM m c t) (bD m c t g) (bA m c t g) (bY m c t g) (bB m c t g) (bC m c t g) (carry m c (t.val - 1) (by omega) g) (bT m c t g) n l := by
  rw [outsAt0_B m c t h0 h1 h2]
  frame_out
  simp only [read_unread_whole]
  canon_tiles x h
  all_goals
    obtain ⟨z, n', l', rfl⟩ : ∃ (z : Fin 1) (n' : Fin 128) (l' : Fin 256), x = ix3 z n' l' := ⟨x 0, x 1, x 2, eq_ix3 x⟩
    obtain rfl : n = n' := Fin.ext h1
  on_goal 4 =>
    have e : 256 * g.val + l.val = l'.val := h2
    obtain rfl : g = 0 := by omega
    obtain rfl : l = l' := by omega
    refine kX_eq _ _ _ _ _ _ _ _ (hA _) ?_ ?_ ?_ ?_ ?_ ?_ ?_ z n l
  on_goal 3 =>
    have e : 256 * g.val + l.val = 256 + l'.val := h2
    obtain rfl : g = 1 := by omega
    obtain rfl : l = l' := by omega
    rw [kX_1]
    refine kX_eq _ _ _ _ _ _ _ _ (hA _) ?_ ?_ ?_ ?_ ?_ ?_ ?_ z n l
  on_goal 2 =>
    have e : 256 * g.val + l.val = 512 + l'.val := h2
    obtain rfl : g = 2 := by omega
    obtain rfl : l = l' := by omega
    rw [kX_2]
    refine kX_eq _ _ _ _ _ _ _ _ (hA _) ?_ ?_ ?_ ?_ ?_ ?_ ?_ z n l
  on_goal 1 =>
    have e : 256 * g.val + l.val = 768 + l'.val := h2
    obtain rfl : g = 3 := by omega
    obtain rfl : l = l' := by omega
    rw [kX_3]
    refine kX_eq _ _ _ _ _ _ _ _ (hA _) ?_ ?_ ?_ ?_ ?_ ?_ ?_ z n l
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | (intro n l; exact View.ld_unit_apply_of _ _ _ _ _ _ fun a => by fin_cases a <;> simp)
    | rfl

/-- A later point's gradient of B. -/
theorem db_B (t : Fin cfg0.N) (h0 : ¬ t.val % 32 = 0) (h1 : ¬ t.val % 32 = 0) (h2 : 1 ≤ t.val % 32) (hA : ∀ g, Flat (bA m c t g)) (g : Fin 4) (n : Fin 128) (l : Fin 128) :
    (outsAt0 m c t.val t.isLt).2.1 (ix3 0 n (⟨128 * g.val + l.val, by omega⟩ : Fin 512))
      = gb (bM m c t) (bX m c t g) (bD m c t g) (bA m c t g) (bY m c t g) (bC m c t g) (carry m c (t.val - 1) (by omega) g) (bT m c t g) n l := by
  rw [outsAt0_B m c t h0 h1 h2]
  frame_out
  simp only [read_unread_whole]
  canon_tiles x h
  all_goals
    obtain ⟨z, n', l', rfl⟩ : ∃ (z : Fin 1) (n' : Fin 128) (l' : Fin 128), x = ix3 z n' l' := ⟨x 0, x 1, x 2, eq_ix3 x⟩
    obtain rfl : n = n' := Fin.ext h1
  on_goal 4 =>
    have e : 128 * g.val + l.val = l'.val := h2
    obtain rfl : g = 0 := by omega
    obtain rfl : l = l' := by omega
    refine kB_eq _ _ _ _ _ _ _ _ (hA _) ?_ ?_ ?_ ?_ ?_ ?_ ?_ z n l
  on_goal 3 =>
    have e : 128 * g.val + l.val = 128 + l'.val := h2
    obtain rfl : g = 1 := by omega
    obtain rfl : l = l' := by omega
    rw [kB_1]
    refine kB_eq _ _ _ _ _ _ _ _ (hA _) ?_ ?_ ?_ ?_ ?_ ?_ ?_ z n l
  on_goal 2 =>
    have e : 128 * g.val + l.val = 256 + l'.val := h2
    obtain rfl : g = 2 := by omega
    obtain rfl : l = l' := by omega
    rw [kB_2]
    refine kB_eq _ _ _ _ _ _ _ _ (hA _) ?_ ?_ ?_ ?_ ?_ ?_ ?_ z n l
  on_goal 1 =>
    have e : 128 * g.val + l.val = 384 + l'.val := h2
    obtain rfl : g = 3 := by omega
    obtain rfl : l = l' := by omega
    rw [kB_3]
    refine kB_eq _ _ _ _ _ _ _ _ (hA _) ?_ ?_ ?_ ?_ ?_ ?_ ?_ z n l
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | (intro n l; exact View.ld_unit_apply_of _ _ _ _ _ _ fun a => by fin_cases a <;> simp)
    | rfl

/-- A later point's gradient of C. -/
theorem dc_B (t : Fin cfg0.N) (h0 : ¬ t.val % 32 = 0) (h1 : ¬ t.val % 32 = 0) (h2 : 1 ≤ t.val % 32) (hA : ∀ g, Flat (bA m c t g)) (g : Fin 4) (n : Fin 128) (l : Fin 128) :
    (outsAt0 m c t.val t.isLt).2.2.1 (ix3 0 n (⟨128 * g.val + l.val, by omega⟩ : Fin 512))
      = gc (bM m c t) (bX m c t g) (bD m c t g) (bA m c t g) (bY m c t g) (bB m c t g) (bP m c t g) n l := by
  rw [outsAt0_B m c t h0 h1 h2]
  frame_out
  canon_tiles x h
  all_goals
    obtain ⟨z, n', l', rfl⟩ : ∃ (z : Fin 1) (n' : Fin 128) (l' : Fin 128), x = ix3 z n' l' := ⟨x 0, x 1, x 2, eq_ix3 x⟩
    obtain rfl : n = n' := Fin.ext h1
  on_goal 4 =>
    have e : 128 * g.val + l.val = l'.val := h2
    obtain rfl : g = 0 := by omega
    obtain rfl : l = l' := by omega
    refine kC_eq _ _ _ _ _ _ _ (hA _) ?_ ?_ ?_ ?_ ?_ ?_ z n l
  on_goal 3 =>
    have e : 128 * g.val + l.val = 128 + l'.val := h2
    obtain rfl : g = 1 := by omega
    obtain rfl : l = l' := by omega
    rw [kC_1]
    refine kC_eq _ _ _ _ _ _ _ (hA _) ?_ ?_ ?_ ?_ ?_ ?_ z n l
  on_goal 2 =>
    have e : 128 * g.val + l.val = 256 + l'.val := h2
    obtain rfl : g = 2 := by omega
    obtain rfl : l = l' := by omega
    rw [kC_2]
    refine kC_eq _ _ _ _ _ _ _ (hA _) ?_ ?_ ?_ ?_ ?_ ?_ z n l
  on_goal 1 =>
    have e : 128 * g.val + l.val = 384 + l'.val := h2
    obtain rfl : g = 3 := by omega
    obtain rfl : l = l' := by omega
    rw [kC_3]
    refine kC_eq _ _ _ _ _ _ _ (hA _) ?_ ?_ ?_ ?_ ?_ ?_ z n l
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | (intro n l; exact View.ld_unit_apply_of _ _ _ _ _ _ fun a => by fin_cases a <;> simp)
    | rfl

/-- The carried array after a direction's first point, at an index. -/
def newS (t : Fin cfg0.N) (y : S4x128x256.Idx) : EReal :=
  gs (bA m c t (y 0)) (bY m c t (y 0)) (bC m c t (y 0)) (fun _ _ => 0) (bT m c t (y 0)) (y 1) (y 2)

theorem emb_at (off : Fin 3 → ℕ) (inb) (g : Fin 4) (h : off = ![g.val, 0, 0]) (z : Fin 1) (n : Fin 128) (l : Fin 256) :
    (Rect.unit (s := S4x128x256) off ![1, 128, 256] inb).emb (ix3 z n l) = (ix3 g n l : S4x128x256.Idx) := by
  subst h
  exact funext fun a => Fin.ext ((Rect.idx_unit_val _ _ _ _ a).trans (by fin_cases a <;> simp))

/-- A direction's first point's carried array. -/
theorem carry_A (t : Fin cfg0.N) (h0 : t.val % 32 = 0) (h1 : t.val % 32 = 0) (h2 : ¬ 1 ≤ t.val % 32) (g : Fin 4) (n : Fin 128) (l : Fin 256) :
    (outsAt0 m c t.val t.isLt).2.2.2.2.2.2 (ix3 g n l)
      = gs (bA m c t g) (bY m c t g) (bC m c t g) (fun _ _ => 0) (bT m c t g) n l := by
  show _ = newS m c t (ix3 g n l)
  rw [outsAt0_A m c t h0 h1 h2]
  frame_out
  refine View.canon_append_of_piecesOf (Val := Elt Ideal) (e := .f32) (newS m c t) [_] [_, _, _, _]
    ⟨fun x => ?_, fun x => ?_, fun x => ?_, fun x => ?_, trivial⟩ (ix3 g n l) (View.cover_of_tiledL _ ![1, 128, 256] (by rfl) (ix3 g n l))
  all_goals obtain ⟨z, n', l', rfl⟩ : ∃ (z : Fin 1) (n' : Fin 128) (l' : Fin 256), x = ix3 z n' l' := ⟨x 0, x 1, x 2, eq_ix3 x⟩
  on_goal 4 => refine Eq.trans ?_ (congrArg (newS m c t) (emb_at ![0, 0, 0] inb_S4x128x256_S1x128x256_0_0_0 0 rfl z n' l').symm)
  on_goal 3 => refine Eq.trans ?_ (congrArg (newS m c t) (emb_at ![1, 0, 0] inb_S4x128x256_S1x128x256_1_0_0 1 rfl z n' l').symm); rw [kS_1]
  on_goal 2 => refine Eq.trans ?_ (congrArg (newS m c t) (emb_at ![2, 0, 0] inb_S4x128x256_S1x128x256_2_0_0 2 rfl z n' l').symm); rw [kS_2]
  on_goal 1 => refine Eq.trans ?_ (congrArg (newS m c t) (emb_at ![3, 0, 0] inb_S4x128x256_S1x128x256_3_0_0 3 rfl z n' l').symm); rw [kS_3]
  all_goals
    refine kS_eq _ _ _ _ _ _ ?_ ?_ ?_ ?_ ?_ ?_ z n' l'
    case refine_5 =>
      refine zero_tile _ ?_
      (repeat rw [View.readCov_skip _ _ _ _ _ (by rfl)])
      rw [View.readCov_fill _ _ _ _ _ (by decide), fill_zero]
      rfl
    all_goals first
      | exact View.ld_unit_apply_of _ _ _ _ _ _ fun a => by fin_cases a <;> simp
      | (intro l; exact View.ld_unit_apply_of _ _ _ _ _ _ fun a => by fin_cases a <;> simp)
      | (funext i n; exact View.ld_unit_apply_of _ _ _ _ _ _ fun a => by fin_cases a <;> simp)
      | (intro n l; exact View.ld_unit_apply_of _ _ _ _ _ _ fun a => by fin_cases a <;> simp)
      | rfl

/-- A direction's first point's gradient of the inputs. -/
theorem dx_A (t : Fin cfg0.N) (h0 : t.val % 32 = 0) (h1 : t.val % 32 = 0) (h2 : ¬ 1 ≤ t.val % 32) (hA : ∀ g, Flat (bA m c t g)) (g : Fin 4) (n : Fin 128) (l : Fin 256) :
    (outsAt0 m c t.val t.isLt).1 (ix3 0 n (⟨256 * g.val + l.val, by omega⟩ : Fin 1024))
      = gx (bM m c t) (bD m c t g) (bA m c t g) (bY m c t g) (bB m c t g) (bC m c t g) (fun _ _ => 0) (bT m c t g) n l := by
  rw [outsAt0_A m c t h0 h1 h2]
  frame_out
  canon_tiles x h
  all_goals
    obtain ⟨z, n', l', rfl⟩ : ∃ (z : Fin 1) (n' : Fin 128) (l' : Fin 256), x = ix3 z n' l' := ⟨x 0, x 1, x 2, eq_ix3 x⟩
    obtain rfl : n = n' := Fin.ext h1
  on_goal 4 =>
    have e : 256 * g.val + l.val = l'.val := h2
    obtain rfl : g = 0 := by omega
    obtain rfl : l = l' := by omega
    refine kX_eq _ _ _ _ _ _ _ _ (hA _) ?_ ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 3 =>
    have e : 256 * g.val + l.val = 256 + l'.val := h2
    obtain rfl : g = 1 := by omega
    obtain rfl : l = l' := by omega
    rw [kX_1]
    refine kX_eq _ _ _ _ _ _ _ _ (hA _) ?_ ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 2 =>
    have e : 256 * g.val + l.val = 512 + l'.val := h2
    obtain rfl : g = 2 := by omega
    obtain rfl : l = l' := by omega
    rw [kX_2]
    refine kX_eq _ _ _ _ _ _ _ _ (hA _) ?_ ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 1 =>
    have e : 256 * g.val + l.val = 768 + l'.val := h2
    obtain rfl : g = 3 := by omega
    obtain rfl : l = l' := by omega
    rw [kX_3]
    refine kX_eq _ _ _ _ _ _ _ _ (hA _) ?_ ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | (intro n l; exact View.ld_unit_apply_of _ _ _ _ _ _ fun a => by fin_cases a <;> simp)
    | rfl

/-- A direction's first point's gradient of B. -/
theorem db_A (t : Fin cfg0.N) (h0 : t.val % 32 = 0) (h1 : t.val % 32 = 0) (h2 : ¬ 1 ≤ t.val % 32) (hA : ∀ g, Flat (bA m c t g)) (g : Fin 4) (n : Fin 128) (l : Fin 128) :
    (outsAt0 m c t.val t.isLt).2.1 (ix3 0 n (⟨128 * g.val + l.val, by omega⟩ : Fin 512))
      = gb (bM m c t) (bX m c t g) (bD m c t g) (bA m c t g) (bY m c t g) (bC m c t g) (fun _ _ => 0) (bT m c t g) n l := by
  rw [outsAt0_A m c t h0 h1 h2]
  frame_out
  canon_tiles x h
  all_goals
    obtain ⟨z, n', l', rfl⟩ : ∃ (z : Fin 1) (n' : Fin 128) (l' : Fin 128), x = ix3 z n' l' := ⟨x 0, x 1, x 2, eq_ix3 x⟩
    obtain rfl : n = n' := Fin.ext h1
  on_goal 4 =>
    have e : 128 * g.val + l.val = l'.val := h2
    obtain rfl : g = 0 := by omega
    obtain rfl : l = l' := by omega
    refine kB_eq _ _ _ _ _ _ _ _ (hA _) ?_ ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 3 =>
    have e : 128 * g.val + l.val = 128 + l'.val := h2
    obtain rfl : g = 1 := by omega
    obtain rfl : l = l' := by omega
    rw [kB_1]
    refine kB_eq _ _ _ _ _ _ _ _ (hA _) ?_ ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 2 =>
    have e : 128 * g.val + l.val = 256 + l'.val := h2
    obtain rfl : g = 2 := by omega
    obtain rfl : l = l' := by omega
    rw [kB_2]
    refine kB_eq _ _ _ _ _ _ _ _ (hA _) ?_ ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 1 =>
    have e : 128 * g.val + l.val = 384 + l'.val := h2
    obtain rfl : g = 3 := by omega
    obtain rfl : l = l' := by omega
    rw [kB_3]
    refine kB_eq _ _ _ _ _ _ _ _ (hA _) ?_ ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | (intro n l; exact View.ld_unit_apply_of _ _ _ _ _ _ fun a => by fin_cases a <;> simp)
    | rfl

/-- A direction's first point's gradient of C. -/
theorem dc_A (t : Fin cfg0.N) (h0 : t.val % 32 = 0) (h1 : t.val % 32 = 0) (h2 : ¬ 1 ≤ t.val % 32) (hA : ∀ g, Flat (bA m c t g)) (g : Fin 4) (n : Fin 128) (l : Fin 128) :
    (outsAt0 m c t.val t.isLt).2.2.1 (ix3 0 n (⟨128 * g.val + l.val, by omega⟩ : Fin 512))
      = gc (bM m c t) (bX m c t g) (bD m c t g) (bA m c t g) (bY m c t g) (bB m c t g) (bP m c t g) n l := by
  rw [outsAt0_A m c t h0 h1 h2]
  frame_out
  canon_tiles x h
  all_goals
    obtain ⟨z, n', l', rfl⟩ : ∃ (z : Fin 1) (n' : Fin 128) (l' : Fin 128), x = ix3 z n' l' := ⟨x 0, x 1, x 2, eq_ix3 x⟩
    obtain rfl : n = n' := Fin.ext h1
  on_goal 4 =>
    have e : 128 * g.val + l.val = l'.val := h2
    obtain rfl : g = 0 := by omega
    obtain rfl : l = l' := by omega
    refine kC_eq _ _ _ _ _ _ _ (hA _) ?_ ?_ ?_ ?_ ?_ ?_ z n l
  on_goal 3 =>
    have e : 128 * g.val + l.val = 128 + l'.val := h2
    obtain rfl : g = 1 := by omega
    obtain rfl : l = l' := by omega
    rw [kC_1]
    refine kC_eq _ _ _ _ _ _ _ (hA _) ?_ ?_ ?_ ?_ ?_ ?_ z n l
  on_goal 2 =>
    have e : 128 * g.val + l.val = 256 + l'.val := h2
    obtain rfl : g = 2 := by omega
    obtain rfl : l = l' := by omega
    rw [kC_2]
    refine kC_eq _ _ _ _ _ _ _ (hA _) ?_ ?_ ?_ ?_ ?_ ?_ z n l
  on_goal 1 =>
    have e : 128 * g.val + l.val = 384 + l'.val := h2
    obtain rfl : g = 3 := by omega
    obtain rfl : l = l' := by omega
    rw [kC_3]
    refine kC_eq _ _ _ _ _ _ _ (hA _) ?_ ?_ ?_ ?_ ?_ ?_ z n l
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | (intro n l; exact View.ld_unit_apply_of _ _ _ _ _ _ fun a => by fin_cases a <;> simp)
    | rfl

end Cert.SsdKer

end
-- ==== Proof.SsdLoop.lean ====
/- The reference's backward scan over the chunks: what each trip reads, the carried gradient after each trip, and the
   stacks of the three gradients. -/
module

public import proofs.«01_k».proof.Proof.SsdRefAt
public import Idealize.ShloMosaic.Lib.DynamicIndex

@[expose] public section

set_option maxRecDepth 200000

noncomputable section

namespace Cert.SsdRef

open Cert.Reference16Ideal Cert.Reference16Ideal.Gen Cert.Reference16Ideal.Step Idealize.ShloMosaic Idealize.ShloMosaic.TcCoe Cert.SsdMath

/-- The chunk a trip reads. -/
def at' (j : ℕ) : Fin 32 := ⟨31 - j, by omega⟩

theorem chunk_word (j : ℕ) (hj : j < 32) (s : State Ideal) (z) : (b3 j s z).toInt = ((31 - j : ℕ) : Int) := by
  have : ∀ k : Fin 32, ((32#32 - BitVec.ofNat 32 k.val) - 1#32).toInt = ((31 - k.val : ℕ) : Int) := by decide +kernel
  exact this ⟨j, hj⟩

/-- Every start of a trip: the chunk, and zero on the other axes. -/
theorem starts6 (j : ℕ) (w : IVec S_ 32) (hw : ∀ z, (w z).toInt = ((31 - j : ℕ) : Int)) (a : Fin 6) :
    ((![w, constantI S_ 32 0#32, constantI S_ 32 0#32, constantI S_ 32 0#32, constantI S_ 32 0#32, constantI S_ 32 0#32] : Fin 6 → IVec S_ 32) a
      (Shape.Idx.first h_S_)).toInt = ((![31 - j, 0, 0, 0, 0, 0] : Fin 6 → ℕ) a : Int) := by
  fin_cases a
  · exact hw _
  all_goals rfl

theorem starts5 (j : ℕ) (w : IVec S_ 32) (hw : ∀ z, (w z).toInt = ((31 - j : ℕ) : Int)) (a : Fin 5) :
    ((![w, constantI S_ 32 0#32, constantI S_ 32 0#32, constantI S_ 32 0#32, constantI S_ 32 0#32] : Fin 5 → IVec S_ 32) a
      (Shape.Idx.first h_S_)).toInt = ((![31 - j, 0, 0, 0, 0] : Fin 5 → ℕ) a : Int) := by
  fin_cases a
  · exact hw _
  all_goals rfl

theorem fitsX (j : ℕ) : S32x2x128x8x4x64.Slices ![31 - j, 0, 0, 0, 0, 0] S1x2x128x8x4x64 :=
  ⟨rfl, fun a => by fin_cases a <;> simp <;> omega⟩

theorem fitsP (j : ℕ) : S32x2x8x4x64x128.Slices ![31 - j, 0, 0, 0, 0, 0] S1x2x8x4x64x128 :=
  ⟨rfl, fun a => by fin_cases a <;> simp <;> omega⟩

theorem fitsB (j : ℕ) : S32x2x128x8x128.Slices ![31 - j, 0, 0, 0, 0] S1x2x128x8x128 :=
  ⟨rfl, fun a => by fin_cases a <;> simp <;> omega⟩

theorem fitsD (j : ℕ) : S32x2x128x8x4.Slices ![31 - j, 0, 0, 0, 0] S1x2x128x8x4 :=
  ⟨rfl, fun a => by fin_cases a <;> simp <;> omega⟩

/-! What a trip reads. -/

section reads

variable (j : ℕ) (hj : j < 32) (s : State Ideal) (d : Fin 2) (i n : Fin 128) (g : Fin 8) (r : Fin 4) (p : Fin 64)

include hj

theorem read0 : b10 j s (ix5 d i g r p) = s.main_v64_0 (ix6 (at' j) d i g r p) := by
  have e : b9 j s = extractStridedSlice S1x2x128x8x4x64 ![31 - j, 0, 0, 0, 0, 0] s.main_v64_0 (fitsX j) :=
    Host.dynamicSlice_eq_extractStridedSlice _ _ _ _ _ (fitsX j) (starts6 j (b3 j s) (chunk_word j hj s))
  pointwise [b10]
  rw [e]
  pointwise [at']

theorem read1 : b16 j s (ix4 d i g n) = s.main_v64_1 (ix5 (at' j) d i g n) := by
  have e : b15 j s = extractStridedSlice S1x2x128x8x128 ![31 - j, 0, 0, 0, 0] s.main_v64_1 (fitsB j) :=
    Host.dynamicSlice_eq_extractStridedSlice _ _ _ _ _ (fitsB j) (starts5 j (b3 j s) (chunk_word j hj s))
  pointwise [b16]
  rw [e]
  pointwise [at']

theorem read2 : b22 j s (ix4 d i g n) = s.main_v64_2 (ix5 (at' j) d i g n) := by
  have e : b21 j s = extractStridedSlice S1x2x128x8x128 ![31 - j, 0, 0, 0, 0] s.main_v64_2 (fitsB j) :=
    Host.dynamicSlice_eq_extractStridedSlice _ _ _ _ _ (fitsB j) (starts5 j (b3 j s) (chunk_word j hj s))
  pointwise [b22]
  rw [e]
  pointwise [at']

theorem read3 : b29 j s (ix5 d g r p n) = s.main_v64_3 (ix6 (at' j) d g r p n) := by
  have e : b28 j s = extractStridedSlice S1x2x8x4x64x128 ![31 - j, 0, 0, 0, 0, 0] s.main_v64_3 (fitsP j) :=
    Host.dynamicSlice_eq_extractStridedSlice _ _ _ _ _ (fitsP j) (starts6 j (b3 j s) (chunk_word j hj s))
  pointwise [b29]
  rw [e]
  pointwise [at']

theorem read4 : b35 j s (ix4 d i g r) = s.main_v64_4 (ix5 (at' j) d i g r) := by
  have e : b34 j s = extractStridedSlice S1x2x128x8x4 ![31 - j, 0, 0, 0, 0] s.main_v64_4 (fitsD j) :=
    Host.dynamicSlice_eq_extractStridedSlice _ _ _ _ _ (fitsD j) (starts5 j (b3 j s) (chunk_word j hj s))
  pointwise [b35]
  rw [e]
  pointwise [at']

theorem read5 : b41 j s (ix4 d i g r) = s.main_v64_5 (ix5 (at' j) d i g r) := by
  have e : b40 j s = extractStridedSlice S1x2x128x8x4 ![31 - j, 0, 0, 0, 0] s.main_v64_5 (fitsD j) :=
    Host.dynamicSlice_eq_extractStridedSlice _ _ _ _ _ (fitsD j) (starts5 j (b3 j s) (chunk_word j hj s))
  pointwise [b41]
  rw [e]
  pointwise [at']

theorem read6 : b48 j s (ix5 d i g r p) = s.main_v64_6 (ix6 (at' j) d i g r p) := by
  have e : b47 j s = extractStridedSlice S1x2x128x8x4x64 ![31 - j, 0, 0, 0, 0, 0] s.main_v64_6 (fitsX j) :=
    Host.dynamicSlice_eq_extractStridedSlice _ _ _ _ _ (fitsX j) (starts6 j (b3 j s) (chunk_word j hj s))
  pointwise [b48]
  rw [e]
  pointwise [at']

/-! What a trip stacks. -/

theorem stack9 (k : Fin 32) : (step j s).main_v64_9 (ix6 k d i g r p)
    = if k = at' j then b139 j s (ix5 d i g r p) else s.main_v64_9 (ix6 k d i g r p) := by
  rw [step_main_v64_9]
  have e : b146 j s = updateSlice s.main_v64_9 (b140 j s) ![31 - j, 0, 0, 0, 0, 0] (fitsX j) :=
    Host.dynamicUpdateSlice_eq_updateSlice _ _ _ _ _ (fun a => by
      have h := starts6 j (b3 j s) (chunk_word j hj s) a
      have hf := (fitsX j).2 a
      refine (congrArg (fun z : Int => (min (max z 0) _).toNat) h).trans ?_
      omega) (fitsX j)
  rw [e]
  pointwise [b140]
  by_cases hk : k = at' j
  · have : k.val = 31 - j := congrArg Fin.val hk
    rw [if_pos hk, dif_pos ⟨by omega, by omega⟩]
  · have : k.val ≠ 31 - j := fun h => hk (Fin.ext h)
    rw [if_neg hk, dif_neg (by omega)]

theorem stack10 (k : Fin 32) : (step j s).main_v64_10 (ix5 k d i g n)
    = if k = at' j then b137 j s (ix4 d i g n) else s.main_v64_10 (ix5 k d i g n) := by
  rw [step_main_v64_10]
  have e : b152 j s = updateSlice s.main_v64_10 (b147 j s) ![31 - j, 0, 0, 0, 0] (fitsB j) :=
    Host.dynamicUpdateSlice_eq_updateSlice _ _ _ _ _ (fun a => by
      have h := starts5 j (b3 j s) (chunk_word j hj s) a
      have hf := (fitsB j).2 a
      refine (congrArg (fun z : Int => (min (max z 0) _).toNat) h).trans ?_
      omega) (fitsB j)
  rw [e]
  pointwise [b147]
  by_cases hk : k = at' j
  · have : k.val = 31 - j := congrArg Fin.val hk
    rw [if_pos hk, dif_pos ⟨by omega, by omega⟩]
  · have : k.val ≠ 31 - j := fun h => hk (Fin.ext h)
    rw [if_neg hk, dif_neg (by omega)]

theorem stack11 (k : Fin 32) : (step j s).main_v64_11 (ix5 k d i g n)
    = if k = at' j then b134 j s (ix4 d i g n) else s.main_v64_11 (ix5 k d i g n) := by
  rw [step_main_v64_11]
  have e : b158 j s = updateSlice s.main_v64_11 (b153 j s) ![31 - j, 0, 0, 0, 0] (fitsB j) :=
    Host.dynamicUpdateSlice_eq_updateSlice _ _ _ _ _ (fun a => by
      have h := starts5 j (b3 j s) (chunk_word j hj s) a
      have hf := (fitsB j).2 a
      refine (congrArg (fun z : Int => (min (max z 0) _).toNat) h).trans ?_
      omega) (fitsB j)
  rw [e]
  pointwise [b153]
  by_cases hk : k = at' j
  · have : k.val = 31 - j := congrArg Fin.val hk
    rw [if_pos hk, dif_pos ⟨by omega, by omega⟩]
  · have : k.val ≠ 31 - j := fun h => hk (Fin.ext h)
    rw [if_neg hk, dif_neg (by omega)]

end reads

section front

variable (k : Fin 32) (d : Fin 2) (i n : Fin 128) (g : Fin 8) (r : Fin 4) (p : Fin 64)

theorem front_l (x : FVec Ideal S2x32x128x8x4x64 .f32) :
    transpose S32x2x128x8x4x64 [1, 0, 2, 3, 4, 5] x transposes_S2x32x128x8x4x64_S32x2x128x8x4x64_1_0_2_3_4_5 (ix6 k d i g r p) = x (ix6 d k i g r p) := by
  pointwise

theorem front_n (x : FVec Ideal S2x32x128x8x128 .f32) :
    transpose S32x2x128x8x128 [1, 0, 2, 3, 4] x transposes_S2x32x128x8x128_S32x2x128x8x128_1_0_2_3_4 (ix5 k d i g n) = x (ix5 d k i g n) := by
  pointwise

theorem front_h (x : FVec Ideal S2x32x128x8x4 .f32) :
    transpose S32x2x128x8x4 [1, 0, 2, 3, 4] x transposes_S2x32x128x8x4_S32x2x128x8x4_1_0_2_3_4 (ix5 k d i g r) = x (ix5 d k i g r) := by
  pointwise

theorem front_p (x : FVec Ideal S2x32x8x128x4x64 .f32) :
    transpose S32x2x8x4x64x128 [1, 0, 2, 3, 4, 5] (transpose S2x32x8x4x64x128 [0, 1, 2, 4, 5, 3] x transposes_S2x32x8x128x4x64_S2x32x8x4x64x128_0_1_2_4_5_3)
      transposes_S2x32x8x4x64x128_S32x2x8x4x64x128_1_0_2_3_4_5 (ix6 k d g r p n) = x (ix6 d k g n r p) := by
  pointwise

end front

/-! The scan. -/

variable (a0 : FVec Ideal S4096x4096 .f32) (a1 a2 : FVec Ideal S4096x32 .f32) (a3 a4 : FVec Ideal S32 .f32)
  (a5 : FVec Ideal S2x32x8x128x256 .f32) (a6 : FVec Ideal S4096x2048 .f32)

/-- The carried gradient after `n` trips. -/
def flow (c : FVec Ideal S2x32x128x8x128 .f32) (ac : FVec Ideal S2x32x128x8x4 .f32) (dy : FVec Ideal S2x32x128x8x4x64 .f32) :
    ℕ → Fin 2 → Fin 8 → Mat
  | 0, _, _ => fun _ _ => 0
  | n + 1, d, g => gs (mh ac d (at' n) g) (ml dy d (at' n) g) (mn c d (at' n) g) (flow c ac dy n d g) (mT ac d (at' n) g)

variable (it : ℕ → State Ideal) (h0 : it 0 = init a0 a1 a2 a3 a4 a5 a6) (hs : ∀ n, it (n + 1) = step n (it n))

include h0 hs

theorem kept0 (n : ℕ) : (it n).main_v64_0 = A_main_v54 a0 a1 a2 a3 a4 a5 a6 := by
  induction n with
  | zero => rw [h0]; rfl
  | succ n ih => rw [hs]; exact ih

theorem kept1 (n : ℕ) : (it n).main_v64_1 = A_main_v55 a0 a1 a2 a3 a4 a5 a6 := by
  induction n with
  | zero => rw [h0]; rfl
  | succ n ih => rw [hs]; exact ih

theorem kept2 (n : ℕ) : (it n).main_v64_2 = A_main_v56 a0 a1 a2 a3 a4 a5 a6 := by
  induction n with
  | zero => rw [h0]; rfl
  | succ n ih => rw [hs]; exact ih

theorem kept3 (n : ℕ) : (it n).main_v64_3 = A_main_v57 a0 a1 a2 a3 a4 a5 a6 := by
  induction n with
  | zero => rw [h0]; rfl
  | succ n ih => rw [hs]; exact ih

theorem kept4 (n : ℕ) : (it n).main_v64_4 = A_main_v58 a0 a1 a2 a3 a4 a5 a6 := by
  induction n with
  | zero => rw [h0]; rfl
  | succ n ih => rw [hs]; exact ih

theorem kept5 (n : ℕ) : (it n).main_v64_5 = A_main_v59 a0 a1 a2 a3 a4 a5 a6 := by
  induction n with
  | zero => rw [h0]; rfl
  | succ n ih => rw [hs]; exact ih

theorem kept6 (n : ℕ) : (it n).main_v64_6 = A_main_v60 a0 a1 a2 a3 a4 a5 a6 := by
  induction n with
  | zero => rw [h0]; rfl
  | succ n ih => rw [hs]; exact ih

/-! The chunk a trip reads, as matrices of the whole arrays. -/

theorem mat0 (n : ℕ) (hn : n < 32) (d : Fin 2) (g : Fin 8) : cl (b10 n (it n)) d g = ml (xs a0) d (at' n) g := by
  funext i l
  refine (read0 n hn (it n) _ _ _ _ _).trans ?_
  rw [kept0 a0 a1 a2 a3 a4 a5 a6 it h0 hs, A54]
  exact front_l _ _ _ _ _ _ _

theorem mat1 (n : ℕ) (hn : n < 32) (d : Fin 2) (g : Fin 8) : cn (b16 n (it n)) d g = mn (bs a0) d (at' n) g := by
  funext i l
  refine (read1 n hn (it n) _ _ _ _).trans ?_
  rw [kept1 a0 a1 a2 a3 a4 a5 a6 it h0 hs, A55]
  exact front_n _ _ _ _ _ _

theorem mat2 (n : ℕ) (hn : n < 32) (d : Fin 2) (g : Fin 8) : cn (b22 n (it n)) d g = mn (cs a0) d (at' n) g := by
  funext i l
  refine (read2 n hn (it n) _ _ _ _).trans ?_
  rw [kept2 a0 a1 a2 a3 a4 a5 a6 it h0 hs, A56]
  exact front_n _ _ _ _ _ _

theorem mat3 (n : ℕ) (hn : n < 32) (d : Fin 2) (g : Fin 8) : cp (b29 n (it n)) d g = mp (ps a5) d (at' n) g := by
  funext i l
  refine (read3 n hn (it n) _ _ _ _ _).trans ?_
  rw [kept3 a0 a1 a2 a3 a4 a5 a6 it h0 hs, A57]
  exact front_p _ _ _ _ _ _ _

theorem mat4 (n : ℕ) (hn : n < 32) (d : Fin 2) (g : Fin 8) : ch (b35 n (it n)) d g = mh (dts a1 a2) d (at' n) g := by
  funext i l
  refine (read4 n hn (it n) _ _ _ _).trans ?_
  rw [kept4 a0 a1 a2 a3 a4 a5 a6 it h0 hs, A58]
  exact front_h _ _ _ _ _ _

theorem mat5 (n : ℕ) (hn : n < 32) (d : Fin 2) (g : Fin 8) : ch (b41 n (it n)) d g = mh (acs a1 a2 a3 a4) d (at' n) g := by
  funext i l
  refine (read5 n hn (it n) _ _ _ _).trans ?_
  rw [kept5 a0 a1 a2 a3 a4 a5 a6 it h0 hs, A59]
  exact front_h _ _ _ _ _ _

theorem mat6 (n : ℕ) (hn : n < 32) (d : Fin 2) (g : Fin 8) : cl (b48 n (it n)) d g = ml (dys a6) d (at' n) g := by
  funext i l
  refine (read6 n hn (it n) _ _ _ _ _).trans ?_
  rw [kept6 a0 a1 a2 a3 a4 a5 a6 it h0 hs, A60]
  exact front_l _ _ _ _ _ _ _

theorem matT (n : ℕ) (hn : n < 32) (d : Fin 2) (g : Fin 8) : cT (b41 n (it n)) d g = mT (acs a1 a2 a3 a4) d (at' n) g :=
  funext fun l => congrFun (congrFun (mat5 a0 a1 a2 a3 a4 a5 a6 it h0 hs n hn d g) 127) l

theorem carried (n : ℕ) (hn : n ≤ 32) (d : Fin 2) (g : Fin 8) :
    cp (it n).main_v64_8 d g = flow (cs a0) (acs a1 a2 a3 a4) (dys a6) n d g := by
  induction n with
  | zero =>
    rw [h0]
    funext x l
    show K_main_v53 (F := Ideal) (ix5 d g (headOf l) (sub l) x) = 0
    pointwise [K_main_v53, K_main_cst]
  | succ n ih =>
    funext x l
    rw [hs]
    refine (dstate_at n (it n) d x g l).trans ?_
    rw [ih (by omega), mat2 a0 a1 a2 a3 a4 a5 a6 it h0 hs n hn, mat5 a0 a1 a2 a3 a4 a5 a6 it h0 hs n hn, mat6 a0 a1 a2 a3 a4 a5 a6 it h0 hs n hn, matT a0 a1 a2 a3 a4 a5 a6 it h0 hs n hn]
    simp only [flow]

theorem dx_stack (j : ℕ) (hj : j ≤ 32) (k : Fin 32) (hk : 32 - j ≤ k.val) (d : Fin 2) (g : Fin 8) (i : Fin 128) (l : Fin 256) :
    (it j).main_v64_9 (ix6 k d i g (headOf l) (sub l)) = gx Upto (mh (dts a1 a2) d k g) (mh (acs a1 a2 a3 a4) d k g) (ml (dys a6) d k g) (mn (bs a0) d k g) (mn (cs a0) d k g) (flow (cs a0) (acs a1 a2 a3 a4) (dys a6) (31 - k.val) d g) (mT (acs a1 a2 a3 a4) d k g) i l := by
  induction j with
  | zero => exact absurd k.isLt (by omega)
  | succ j ih =>
    rw [hs, stack9 j (by omega)]
    by_cases h : k = at' j
    · rw [if_pos h, dx_at]
      rw [mat1 a0 a1 a2 a3 a4 a5 a6 it h0 hs j (by omega), mat2 a0 a1 a2 a3 a4 a5 a6 it h0 hs j (by omega), mat4 a0 a1 a2 a3 a4 a5 a6 it h0 hs j (by omega), mat5 a0 a1 a2 a3 a4 a5 a6 it h0 hs j (by omega), mat6 a0 a1 a2 a3 a4 a5 a6 it h0 hs j (by omega), matT a0 a1 a2 a3 a4 a5 a6 it h0 hs j (by omega), carried a0 a1 a2 a3 a4 a5 a6 it h0 hs j (by omega)]
      have e : 31 - k.val = j := by
        have : k.val = 31 - j := congrArg Fin.val h
        omega
      rw [e, h]
    · have : k.val ≠ 31 - j := fun e => h (Fin.ext e)
      rw [if_neg h, ih (by omega) (by omega)]

theorem db_stack (j : ℕ) (hj : j ≤ 32) (k : Fin 32) (hk : 32 - j ≤ k.val) (d : Fin 2) (g : Fin 8) (i : Fin 128) (n : Fin 128) :
    (it j).main_v64_10 (ix5 k d i g n) = gb Upto (ml (xs a0) d k g) (mh (dts a1 a2) d k g) (mh (acs a1 a2 a3 a4) d k g) (ml (dys a6) d k g) (mn (cs a0) d k g) (flow (cs a0) (acs a1 a2 a3 a4) (dys a6) (31 - k.val) d g) (mT (acs a1 a2 a3 a4) d k g) i n := by
  induction j with
  | zero => exact absurd k.isLt (by omega)
  | succ j ih =>
    rw [hs, stack10 j (by omega)]
    by_cases h : k = at' j
    · rw [if_pos h, db_at]
      rw [mat0 a0 a1 a2 a3 a4 a5 a6 it h0 hs j (by omega), mat2 a0 a1 a2 a3 a4 a5 a6 it h0 hs j (by omega), mat4 a0 a1 a2 a3 a4 a5 a6 it h0 hs j (by omega), mat5 a0 a1 a2 a3 a4 a5 a6 it h0 hs j (by omega), mat6 a0 a1 a2 a3 a4 a5 a6 it h0 hs j (by omega), matT a0 a1 a2 a3 a4 a5 a6 it h0 hs j (by omega), carried a0 a1 a2 a3 a4 a5 a6 it h0 hs j (by omega)]
      have e : 31 - k.val = j := by
        have : k.val = 31 - j := congrArg Fin.val h
        omega
      rw [e, h]
    · have : k.val ≠ 31 - j := fun e => h (Fin.ext e)
      rw [if_neg h, ih (by omega) (by omega)]

theorem dc_stack (j : ℕ) (hj : j ≤ 32) (k : Fin 32) (hk : 32 - j ≤ k.val) (d : Fin 2) (g : Fin 8) (i : Fin 128) (n : Fin 128) :
    (it j).main_v64_11 (ix5 k d i g n) = gc Upto (ml (xs a0) d k g) (mh (dts a1 a2) d k g) (mh (acs a1 a2 a3 a4) d k g) (ml (dys a6) d k g) (mn (bs a0) d k g) (mp (ps a5) d k g) i n := by
  induction j with
  | zero => exact absurd k.isLt (by omega)
  | succ j ih =>
    rw [hs, stack11 j (by omega)]
    by_cases h : k = at' j
    · rw [if_pos h, dc_at]
      rw [mat0 a0 a1 a2 a3 a4 a5 a6 it h0 hs j (by omega), mat1 a0 a1 a2 a3 a4 a5 a6 it h0 hs j (by omega), mat3 a0 a1 a2 a3 a4 a5 a6 it h0 hs j (by omega), mat4 a0 a1 a2 a3 a4 a5 a6 it h0 hs j (by omega), mat5 a0 a1 a2 a3 a4 a5 a6 it h0 hs j (by omega), mat6 a0 a1 a2 a3 a4 a5 a6 it h0 hs j (by omega)]
      have e : 31 - k.val = j := by
        have : k.val = 31 - j := congrArg Fin.val h
        omega
      rw [h]
    · have : k.val ≠ 31 - j := fun e => h (Fin.ext e)
      rw [if_neg h, ih (by omega) (by omega)]

end Cert.SsdRef

end
-- ==== Proof.SsdBlk.lean ====
/- What the kernel's blocks hold at a grid point, as the reference's arrays: point `t` works in direction `t / 64` on the groups of
   half `t / 32 % 2`, and on the chunk that the reference reaches at trip `t % 32`; in the second direction the rows are turned. -/
module

public import proofs.«01_k».proof.Proof.SsdEntry
public import proofs.«01_k».proof.Proof.SsdPoint
public import proofs.«01_k».proof.Proof.SsdLoop

@[expose] public section

set_option maxRecDepth 200000

noncomputable section

namespace Cert.SsdKer

open Cert.Kernel16Ideal Cert.Kernel16Ideal.Gen Idealize.ShloMosaic Idealize.ShloMosaic.TcCoe Idealize.SL.Sem Cert.SsdMath
open Cert.SsdRef (cum xs bs cs dys dts ps acs ml mh mn mp mT rowOf Upto)

/-- The chunk of the sequence that point `n` works on. -/
def nk (n : ℕ) : ℕ := if n / 64 < 1 then 31 - n % 32 else n % 32

theorem idx : ∀ t : Fin cfg0.N, win0_0.index t = ![nk t.val, t.val / 32 % 2] ∧ win0_1.index t = ![nk t.val, 4 + t.val / 32 % 2]
    ∧ win0_2.index t = ![nk t.val, 6 + t.val / 32 % 2] ∧ win0_3.index t = ![t.val / 64, nk t.val, t.val / 32 % 2]
    ∧ win0_4.index t = ![t.val / 64, nk t.val, t.val / 32 % 2] ∧ win0_5.index t = ![t.val / 64, 0, t.val / 32 % 2]
    ∧ win0_6.index t = ![t.val / 64, 0, 0] ∧ win0_7.index t = ![t.val / 64, nk t.val, t.val / 32 % 2, 0, 0]
    ∧ win0_8.index t = ![nk t.val, t.val / 32 % 2] ∧ win0_9.index t = ![t.val / 64, nk t.val, t.val / 32 % 2]
    ∧ win0_10.index t = ![t.val / 64, nk t.val, t.val / 32 % 2] ∧ win0_11.index t = ![t.val / 64, nk t.val, t.val / 32 % 2] :=
  (by decide +kernel : ∀ t : Fin grid0.N, _)

theorem t_lt (t : Fin cfg0.N) : t.val < 128 := lt_of_lt_of_eq t.isLt N_0

/-- The direction of point `t`. -/
def dd (t : Fin cfg0.N) : Fin 2 := ⟨t.val / 64, by have := t_lt t; omega⟩
/-- The reference's chunk at point `t`. -/
def kk (t : Fin cfg0.N) : Fin 32 := ⟨31 - t.val % 32, by omega⟩
/-- The group that is `g`-th at point `t`. -/
def g8 (t : Fin cfg0.N) (g : Fin 4) : Fin 8 := ⟨t.val / 32 % 2 * 4 + g.val, by omega⟩
/-- The rows of a chunk as direction `d` meets them. -/
def rowTurn (d : Fin 2) : Fin 128 ≃ Fin 128 := if d.val < 1 then Equiv.refl _ else Fin.revPerm

theorem turn_val (d : Fin 2) (i : Fin 128) : (rowTurn d i).val = if d.val < 1 then i.val else 127 - i.val := by
  unfold rowTurn; split
  · rfl
  · show (Fin.rev i).val = _; rw [Fin.val_rev]; omega

theorem row_val (t : Fin cfg0.N) (i : Fin 128) : (rowOf (dd t) (kk t) (rowTurn (dd t) i)).val = nk t.val * 128 + i.val := by
  have ht := t_lt t
  have e := turn_val (dd t) i
  have hd : (dd t).val = t.val / 64 := rfl
  have hk : (kk t).val = 31 - t.val % 32 := rfl
  have hi := i.isLt
  unfold rowOf nk
  rw [hd] at e ⊢
  by_cases h : t.val / 64 < 1
  · simp only [h, if_true] at e ⊢; rw [hk, e]
  · simp only [h, if_false] at e ⊢; rw [Fin.val_rev]; simp only [hk, e]; omega

variable (m : (ℓ : Loc nD τ sig) → Buf (Elt Ideal) ℓ) (c : Dev nD)

theorem bX_eq (t : Fin cfg0.N) (g : Fin 4) : bX m c t g = fun i l => ml (xs (m ((c : Thread nD τ).loc main_arg0))) (dd t) (kk t) (g8 t g) (rowTurn (dd t) i) l := by
  funext i l
  have ht := t_lt t
  have er := row_val t i
  rw [Cert.SsdRef.xs_at]
  have hg : (g8 t g).val = t.val / 32 % 2 * 4 + g.val := rfl
  simp only [bX]
  blk_ext [iblk, V_main_arg0 m c, idx t]

theorem bB_eq (t : Fin cfg0.N) (g : Fin 4) : bB m c t g = fun i n => mn (bs (m ((c : Thread nD τ).loc main_arg0))) (dd t) (kk t) (g8 t g) (rowTurn (dd t) i) n := by
  funext i n
  have ht := t_lt t
  have er := row_val t i
  rw [Cert.SsdRef.bs_at]
  have hg : (g8 t g).val = t.val / 32 % 2 * 4 + g.val := rfl
  simp only [bB]
  blk_ext [iblk, V_main_arg0 m c, idx t]

theorem bC_eq (t : Fin cfg0.N) (g : Fin 4) : bC m c t g = fun i n => mn (cs (m ((c : Thread nD τ).loc main_arg0))) (dd t) (kk t) (g8 t g) (rowTurn (dd t) i) n := by
  funext i n
  have ht := t_lt t
  have er := row_val t i
  rw [Cert.SsdRef.cs_at]
  have hg : (g8 t g).val = t.val / 32 % 2 * 4 + g.val := rfl
  simp only [bC]
  blk_ext [iblk, V_main_arg0 m c, idx t]

theorem bY_eq (t : Fin cfg0.N) (g : Fin 4) : bY m c t g = fun i l => ml (dys (m ((c : Thread nD τ).loc main_arg6))) (dd t) (kk t) (g8 t g) (rowTurn (dd t) i) l := by
  funext i l
  have ht := t_lt t
  have er := row_val t i
  rw [Cert.SsdRef.dys_at]
  have hg : (g8 t g).val = t.val / 32 % 2 * 4 + g.val := rfl
  simp only [bY]
  blk_ext [iblk, V_main_arg6 m c, idx t]

theorem bP_eq (t : Fin cfg0.N) (g : Fin 4) : bP m c t g = fun n l => mp (ps (m ((c : Thread nD τ).loc main_arg5))) (dd t) (kk t) (g8 t g) n l := by
  funext n l
  have ht := t_lt t
  have hk : (if (dd t).val < 1 then kk t else (kk t).rev).val = nk t.val := by
    unfold nk; show (if t.val / 64 < 1 then kk t else (kk t).rev).val = _
    split
    · rfl
    · rw [Fin.val_rev]; show 32 - (31 - t.val % 32 + 1) = t.val % 32; omega
  have hd : (dd t).val = t.val / 64 := rfl
  rw [Cert.SsdRef.ps_at]
  have hg : (g8 t g).val = t.val / 32 % 2 * 4 + g.val := rfl
  simp only [bP]
  blk_ext [iblk, V_main_arg5 m c, idx t]

/-- A prepared array over lanes, read at a block's place. -/
theorem lane_col (t : Fin cfg0.N) (g : Fin 4) (l : Fin 256) : (t.val / 32 % 2 * 1024 + (256 * g.val + l.val)) / 64 = (g8 t g).val * 4 + l.val / 64 := by
  show _ = (t.val / 32 % 2 * 4 + g.val) * 4 + l.val / 64
  omega

theorem nk_lt (t : Fin cfg0.N) : nk t.val < 32 := by
  unfold nk; split <;> omega

theorem bD_at (t : Fin cfg0.N) (g : Fin 4) (i : Fin 128) (l : Fin 256) (X : FVec Ideal S2x4096x2048 .f32) (hX : V m c main_v6 = X) :
    bD m c t g i l = X (ix3 (dd t) (rowOf (dd t) (kk t) (rowTurn (dd t) i)) (⟨t.val / 32 % 2 * 1024 + (256 * g.val + l.val), by omega⟩ : Fin 2048)) := by
  subst hX
  have er := row_val t i
  have hd : (dd t).val = t.val / 64 := rfl
  simp only [bD]
  blk_ext [iblk, idx t]

theorem bA_at (t : Fin cfg0.N) (g : Fin 4) (i : Fin 128) (l : Fin 256) (X : FVec Ideal S2x4096x2048 .f32) (hX : V m c main_v27 = X) :
    bA m c t g i l = X (ix3 (dd t) (rowOf (dd t) (kk t) (rowTurn (dd t) i)) (⟨t.val / 32 % 2 * 1024 + (256 * g.val + l.val), by omega⟩ : Fin 2048)) := by
  subst hX
  have er := row_val t i
  have hd : (dd t).val = t.val / 64 := rfl
  simp only [bA]
  blk_ext [iblk, idx t]

theorem bR_at (t : Fin cfg0.N) (g : Fin 4) (l : Fin 256) (X : FVec Ideal S2x1x2048 .f32) (hX : V m c main_v36 = X) :
    bR m c t g l = X (ix3 (dd t) 0 (⟨t.val / 32 % 2 * 1024 + (256 * g.val + l.val), by omega⟩ : Fin 2048)) := by
  subst hX
  have hd : (dd t).val = t.val / 64 := rfl
  simp only [bR]
  blk_ext [iblk, idx t]

theorem bM_at (t : Fin cfg0.N) (i j : Fin 128) (X : FVec Ideal S2x128x128 .f32) (hX : V m c main_v44 = X) :
    bM m c t i j ↔ 0 < X (ix3 (dd t) i j) := by
  subst hX
  have hd : (dd t).val = t.val / 64 := rfl
  refine iff_of_eq (congrArg (0 < ·) ?_)
  blk_ext [iblk, idx t]

theorem bD_eq (t : Fin cfg0.N) (g : Fin 4) : bD m c t g = fun i l => mh (dts (m ((c : Thread nD τ).loc main_arg1)) (m ((c : Thread nD τ).loc main_arg2))) (dd t) (kk t) (g8 t g) (rowTurn (dd t) i) l := by
  funext i l
  rw [bD_at m c t g i l _ (V_main_v6 m c), both_at, Cert.SsdRef.dts_at]
  refine congrArg _ (congrArg _ (Fin.ext (lane_col t g l)))

theorem bA_eq (t : Fin cfg0.N) (g : Fin 4) : bA m c t g = fun i l => mh (acs (m ((c : Thread nD τ).loc main_arg1)) (m ((c : Thread nD τ).loc main_arg2)) (m ((c : Thread nD τ).loc main_arg3)) (m ((c : Thread nD τ).loc main_arg4))) (dd t) (kk t) (g8 t g) (rowTurn (dd t) i) l := by
  funext i l
  rw [bA_at m c t g i l _ (V_main_v27 m c), both_at, Cert.SsdRef.acs_at]
  have e := lane_col t g l
  have er := row_val t i
  have hn := nk_lt t
  have et := turn_val (dd t) i
  have hk : (kk t).val = 31 - t.val % 32 := rfl
  have en : nk t.val = if (dd t).val < 1 then 31 - t.val % 32 else t.val % 32 := rfl
  by_cases h : (dd t).val < 1
  · simp only [h, if_true] at et en ⊢
    rw [cum_rows_at]
    congr 1
    refine congr (congr (congrArg ix3 (Fin.ext ?_)) (Fin.ext ?_)) (Fin.ext e)
    · show (rowOf _ _ _).val / 128 = _; omega
    · show (rowOf _ _ _).val % 128 = _; omega
  · simp only [h, if_false] at et en ⊢
    rw [turned_at, cum_rows_at]
    congr 1
    refine congr (congr (congrArg ix3 (Fin.ext ?_)) (Fin.ext ?_)) (Fin.ext e)
    · show (Fin.rev (rowOf _ _ _)).val / 128 = _; rw [Fin.val_rev]; omega
    · show (Fin.rev (rowOf _ _ _)).val % 128 = _; rw [Fin.val_rev]; omega

theorem bR_eq (t : Fin cfg0.N) (g : Fin 4) (l : Fin 256) :
    bR m c t g l = (if (dd t).val < 1 then (m ((c : Thread nD τ).loc main_arg3)) else (m ((c : Thread nD τ).loc main_arg4)) : FVec Ideal S32 .f32) (ix1 (⟨(g8 t g).val * 4 + l.val / 64, by omega⟩ : Fin 32)) := by
  rw [bR_at m c t g l _ (V_main_v36 m c), both1_at]
  refine congrArg _ (congrArg _ (Fin.ext (lane_col t g l)))

theorem bT_eq (t : Fin cfg0.N) (g : Fin 4) : bT m c t g = mT (acs (m ((c : Thread nD τ).loc main_arg1)) (m ((c : Thread nD τ).loc main_arg2)) (m ((c : Thread nD τ).loc main_arg3)) (m ((c : Thread nD τ).loc main_arg4))) (dd t) (kk t) (g8 t g) := by
  funext l
  rw [Cert.SsdRef.total_at, ← Equiv.sum_comp (rowTurn (dd t))]
  refine Finset.sum_congr rfl fun i _ => ?_
  show bD m c t g i l * bR m c t g l = _
  rw [bR_eq, bD_eq]

theorem bM_iff (t : Fin cfg0.N) (i j : Fin 128) : bM m c t i j ↔ Upto (rowTurn (dd t) i) (rowTurn (dd t) j) := by
  rw [bM_at m c t i j _ (V_main_v44 m c), tris_at]
  have hi := turn_val (dd t) i
  have hj := turn_val (dd t) j
  show _ ↔ (rowTurn (dd t) j).val ≤ (rowTurn (dd t) i).val
  rw [hi, hj]
  split <;> omega

theorem bA_flat (t : Fin cfg0.N) (g : Fin 4) : Flat (bA m c t g) := by
  intro i l
  rw [bA_eq]
  refine congrArg (acs (m ((c : Thread nD τ).loc main_arg1)) (m ((c : Thread nD τ).loc main_arg2)) (m ((c : Thread nD τ).loc main_arg3)) (m ((c : Thread nD τ).loc main_arg4))) (congrArg (ix5 _ _ _ _) (Fin.ext ?_))
  simp only [headOf, lane0]
  omega

end Cert.SsdKer

end
-- ==== Proof.SsdFlow.lean ====
/- The gradient carried from chunk to chunk in the kernel's scratch is the reference's, and each grid point writes the reference's
   rows. -/
module

public import proofs.«01_k».proof.Proof.SsdBlk

@[expose] public section

set_option maxRecDepth 200000

noncomputable section

namespace Cert.SsdKer

open Cert.Kernel16Ideal Cert.Kernel16Ideal.Gen Idealize.ShloMosaic Idealize.ShloMosaic.TcCoe Idealize.SL.Sem Cert.SsdMath
open Cert.SsdRef (cum xs bs cs dys dts ps acs ml mh mn mp mT rowOf Upto flow at')

variable (m : (ℓ : Loc nD τ sig) → Buf (Elt Ideal) ℓ) (c : Dev nD)

/-- The reference's columns, step sizes, running sums and incoming gradient over the launched arrays. -/
abbrev rX := xs (m ((c : Thread nD τ).loc main_arg0))
abbrev rB := bs (m ((c : Thread nD τ).loc main_arg0))
abbrev rC := cs (m ((c : Thread nD τ).loc main_arg0))
abbrev rD := dts (m ((c : Thread nD τ).loc main_arg1)) (m ((c : Thread nD τ).loc main_arg2))
abbrev rA := acs (m ((c : Thread nD τ).loc main_arg1)) (m ((c : Thread nD τ).loc main_arg2)) (m ((c : Thread nD τ).loc main_arg3)) (m ((c : Thread nD τ).loc main_arg4))
abbrev rP := ps (m ((c : Thread nD τ).loc main_arg5))
abbrev rY := dys (m ((c : Thread nD τ).loc main_arg6))

/-- The gradient carried into trip `n` of direction `d`, group `g`. -/
abbrev rG (n : ℕ) (d : Fin 2) (g : Fin 8) : Mat := flow (rC m c) (rA m c) (rY m c) n d g

/-- One trip at point `t`, on the rows as the kernel meets them. -/
theorem trip (t : Fin cfg0.N) (g : Fin 4) (n : Fin 128) (l : Fin 256) :
    gs (bA m c t g) (bY m c t g) (bC m c t g) (rG m c (t.val % 32) (dd t) (g8 t g)) (bT m c t g) n l
      = rG m c (t.val % 32 + 1) (dd t) (g8 t g) n l := by
  rw [bT_eq, bA_eq, bY_eq, bC_eq]
  exact gs_perm (rowTurn (dd t)) _ _ _ _ _ n l

/-- After point `n` the scratch holds what the reference carries out of the same trip. -/
theorem carry_eq (n : ℕ) : ∀ (h : n < cfg0.N) (g : Fin 4), carry m c n h g = rG m c (n % 32 + 1) (dd ⟨n, h⟩) (g8 ⟨n, h⟩ g) := by
  induction n using Nat.strong_induction_on with
  | _ n ih =>
    intro h g
    funext x l
    let t : Fin cfg0.N := ⟨n, h⟩
    have e := trip m c t g x l
    by_cases h0 : n % 32 = 0
    · refine Eq.trans (carry_A m c t h0 h0 (by show ¬ 1 ≤ n % 32; omega) g x l) (Eq.trans ?_ e)
      show _ = gs _ _ _ (rG m c (n % 32) _ _) _ x l
      rw [h0]; rfl
    · refine Eq.trans (carry_B m c t h0 h0 (by show 1 ≤ n % 32; omega) g x l) (Eq.trans ?_ e)
      have hp : n - 1 < cfg0.N := by omega
      have hd : dd ⟨n - 1, hp⟩ = dd t := Fin.ext (by show (n - 1) / 64 = n / 64; omega)
      have hg : g8 ⟨n - 1, hp⟩ g = g8 t g := Fin.ext (by show (n - 1) / 32 % 2 * 4 + g.val = n / 32 % 2 * 4 + g.val; omega)
      have hn : (n - 1) % 32 + 1 = n % 32 := by omega
      have := ih (n - 1) (by omega) hp g
      rw [hd, hg, hn] at this
      show gs _ _ _ (carry m c (n - 1) _ g) _ x l = gs _ _ _ (rG m c (n % 32) _ _) _ x l
      rw [this]

/-- What is carried into a point that starts no scan. -/
theorem carried (t : Fin cfg0.N) (h0 : ¬ t.val % 32 = 0) (h : t.val - 1 < cfg0.N) (g : Fin 4) :
    carry m c (t.val - 1) h g = rG m c (t.val % 32) (dd t) (g8 t g) := by
  have hd : dd ⟨t.val - 1, h⟩ = dd t := Fin.ext (by show (t.val - 1) / 64 = t.val / 64; omega)
  have hg : g8 ⟨t.val - 1, h⟩ g = g8 t g := Fin.ext (by show (t.val - 1) / 32 % 2 * 4 + g.val = t.val / 32 % 2 * 4 + g.val; omega)
  have hn : (t.val - 1) % 32 + 1 = t.val % 32 := by omega
  have := carry_eq m c (t.val - 1) h g
  rw [hd, hg, hn] at this
  exact this

/-- Nothing is carried into the first trip. -/
theorem carried0 (t : Fin cfg0.N) (h0 : t.val % 32 = 0) (g : Fin 4) : (fun _ _ => 0 : Mat) = rG m c (t.val % 32) (dd t) (g8 t g) := by
  rw [h0]; rfl

theorem dx_pt (t : Fin cfg0.N) (g : Fin 4) (n : Fin 128) (l : Fin 256) :
    (outsAt0 m c t.val t.isLt).1 (ix3 0 n (⟨256 * g.val + l.val, by omega⟩ : Fin 1024))
      = gx Upto (mh (rD m c) (dd t) (kk t) (g8 t g)) (mh (rA m c) (dd t) (kk t) (g8 t g)) (ml (rY m c) (dd t) (kk t) (g8 t g)) (mn (rB m c) (dd t) (kk t) (g8 t g)) (mn (rC m c) (dd t) (kk t) (g8 t g)) (rG m c (t.val % 32) (dd t) (g8 t g)) (mT (rA m c) (dd t) (kk t) (g8 t g)) (rowTurn (dd t) n) l := by
  have e : gx (bM m c t) (bD m c t g) (bA m c t g) (bY m c t g) (bB m c t g) (bC m c t g) (rG m c (t.val % 32) (dd t) (g8 t g)) (bT m c t g) n l = gx Upto (mh (rD m c) (dd t) (kk t) (g8 t g)) (mh (rA m c) (dd t) (kk t) (g8 t g)) (ml (rY m c) (dd t) (kk t) (g8 t g)) (mn (rB m c) (dd t) (kk t) (g8 t g)) (mn (rC m c) (dd t) (kk t) (g8 t g)) (rG m c (t.val % 32) (dd t) (g8 t g)) (mT (rA m c) (dd t) (kk t) (g8 t g)) (rowTurn (dd t) n) l := by
    rw [bT_eq, bD_eq, bA_eq, bY_eq, bB_eq, bC_eq]
    exact gx_perm (rowTurn (dd t)) Upto (bM m c t) (bM_iff m c t) _ _ _ _ _ _ _ n l
  by_cases h0 : t.val % 32 = 0
  · refine Eq.trans (dx_A m c t h0 h0 (by omega) (bA_flat m c t) g n l) ?_
    rw [carried0 m c t h0 g]; exact e
  · refine Eq.trans (dx_B m c t h0 h0 (by omega) (bA_flat m c t) g n l) ?_
    rw [carried m c t h0]; exact e

theorem db_pt (t : Fin cfg0.N) (g : Fin 4) (n : Fin 128) (l : Fin 128) :
    (outsAt0 m c t.val t.isLt).2.1 (ix3 0 n (⟨128 * g.val + l.val, by omega⟩ : Fin 512))
      = gb Upto (ml (rX m c) (dd t) (kk t) (g8 t g)) (mh (rD m c) (dd t) (kk t) (g8 t g)) (mh (rA m c) (dd t) (kk t) (g8 t g)) (ml (rY m c) (dd t) (kk t) (g8 t g)) (mn (rC m c) (dd t) (kk t) (g8 t g)) (rG m c (t.val % 32) (dd t) (g8 t g)) (mT (rA m c) (dd t) (kk t) (g8 t g)) (rowTurn (dd t) n) l := by
  have e : gb (bM m c t) (bX m c t g) (bD m c t g) (bA m c t g) (bY m c t g) (bC m c t g) (rG m c (t.val % 32) (dd t) (g8 t g)) (bT m c t g) n l = gb Upto (ml (rX m c) (dd t) (kk t) (g8 t g)) (mh (rD m c) (dd t) (kk t) (g8 t g)) (mh (rA m c) (dd t) (kk t) (g8 t g)) (ml (rY m c) (dd t) (kk t) (g8 t g)) (mn (rC m c) (dd t) (kk t) (g8 t g)) (rG m c (t.val % 32) (dd t) (g8 t g)) (mT (rA m c) (dd t) (kk t) (g8 t g)) (rowTurn (dd t) n) l := by
    rw [bT_eq, bX_eq, bD_eq, bA_eq, bY_eq, bC_eq]
    exact gb_perm (rowTurn (dd t)) Upto (bM m c t) (bM_iff m c t) _ _ _ _ _ _ _ n l
  by_cases h0 : t.val % 32 = 0
  · refine Eq.trans (db_A m c t h0 h0 (by omega) (bA_flat m c t) g n l) ?_
    rw [carried0 m c t h0 g]; exact e
  · refine Eq.trans (db_B m c t h0 h0 (by omega) (bA_flat m c t) g n l) ?_
    rw [carried m c t h0]; exact e

theorem dc_pt (t : Fin cfg0.N) (g : Fin 4) (n : Fin 128) (l : Fin 128) :
    (outsAt0 m c t.val t.isLt).2.2.1 (ix3 0 n (⟨128 * g.val + l.val, by omega⟩ : Fin 512))
      = gc Upto (ml (rX m c) (dd t) (kk t) (g8 t g)) (mh (rD m c) (dd t) (kk t) (g8 t g)) (mh (rA m c) (dd t) (kk t) (g8 t g)) (ml (rY m c) (dd t) (kk t) (g8 t g)) (mn (rB m c) (dd t) (kk t) (g8 t g)) (mp (rP m c) (dd t) (kk t) (g8 t g)) (rowTurn (dd t) n) l := by
  have e : gc (bM m c t) (bX m c t g) (bD m c t g) (bA m c t g) (bY m c t g) (bB m c t g) (bP m c t g) n l = gc Upto (ml (rX m c) (dd t) (kk t) (g8 t g)) (mh (rD m c) (dd t) (kk t) (g8 t g)) (mh (rA m c) (dd t) (kk t) (g8 t g)) (ml (rY m c) (dd t) (kk t) (g8 t g)) (mn (rB m c) (dd t) (kk t) (g8 t g)) (mp (rP m c) (dd t) (kk t) (g8 t g)) (rowTurn (dd t) n) l := by
    rw [bX_eq, bD_eq, bA_eq, bY_eq, bB_eq, bP_eq]
    exact gc_perm (rowTurn (dd t)) Upto (bM m c t) (bM_iff m c t) _ _ _ _ _ _ n l
  by_cases h0 : t.val % 32 = 0
  · refine Eq.trans (dc_A m c t h0 h0 (by omega) (bA_flat m c t) g n l) ?_
    exact e
  · refine Eq.trans (dc_B m c t h0 h0 (by omega) (bA_flat m c t) g n l) ?_
    exact e

end Cert.SsdKer

end
-- ==== Proof.SsdRun.lean ====
/- The reference's run read trip by trip: its loop's buffers after each trip are `step` iterated from `init`. -/
module

public import proofs.«01_k».proof.Proof.Gen.Reference16Ideal.Run
public import proofs.«01_k».proof.Proof.SsdMath
public import proofs.«01_k».proof.Proof.Gen.Reference16Ideal.Step

@[expose] public section

set_option maxRecDepth 200000

noncomputable section

namespace Cert.SsdRef

open Cert.Reference16Ideal Cert.Reference16Ideal.Gen Cert.Reference16Ideal.Value Cert.Reference16Ideal.Step
open Idealize.ShloMosaic Idealize.ShloMosaic.TcCoe Idealize.SL.Sem Idealize.ShloMosaic.StableHlo

/-- The loop's buffers. -/
def held (V : Valuation τ sig (Elt Ideal)) : State Ideal where
  main_v64_8 := V (Proc.devRef .tc main_v64_8)
  main_v64_9 := V (Proc.devRef .tc main_v64_9)
  main_v64_10 := V (Proc.devRef .tc main_v64_10)
  main_v64_11 := V (Proc.devRef .tc main_v64_11)
  main_v64_0 := V (Proc.devRef .tc main_v64_0)
  main_v64_1 := V (Proc.devRef .tc main_v64_1)
  main_v64_2 := V (Proc.devRef .tc main_v64_2)
  main_v64_3 := V (Proc.devRef .tc main_v64_3)
  main_v64_4 := V (Proc.devRef .tc main_v64_4)
  main_v64_5 := V (Proc.devRef .tc main_v64_5)
  main_v64_6 := V (Proc.devRef .tc main_v64_6)

variable {V : Valuation τ sig (Elt Ideal)} {j : ℕ} (hj : V (Proc.devRef .tc main_v64_7) = constantI S_ 32 (BitVec.ofNat 32 j))

include hj

/-! What a trip computes and uses more than once. -/

theorem run3 : res_main_while0b_v96 V = b3 j (held V) := by
  unfold res_main_while0b_v96; rw [hj]; rfl

theorem run16 : res_main_while0b_v98 V = b16 j (held V) := by
  unfold res_main_while0b_v98; rw [run3 hj]; rfl

theorem run22 : res_main_while0b_v99 V = b22 j (held V) := by
  unfold res_main_while0b_v99; rw [run3 hj]; rfl

theorem run29 : res_main_while0b_v100 V = b29 j (held V) := by
  unfold res_main_while0b_v100; rw [run3 hj]; rfl

theorem run41 : res_main_while0b_v102 V = b41 j (held V) := by
  unfold res_main_while0b_v102; rw [run3 hj]; rfl

theorem run48 : res_main_while0b_v103 V = b48 j (held V) := by
  unfold res_main_while0b_v103; rw [run3 hj]; rfl

theorem run49 : res_main_while0b_v104 V = b49 j (held V) := by
  unfold res_main_while0b_v104; rw [run3 hj]; rfl

theorem run51 : res_main_while0b_v106 V = b51 j (held V) := by
  unfold res_main_while0b_v106; rw [run3 hj, run49 hj]; rfl

theorem run74 : res_main_while0b_v116 V = b74 j (held V) := by
  unfold res_main_while0b_v116; rw [run41 hj]; rfl

theorem run79 : res_main_while0b_v121 V = b79 j (held V) := by
  unfold res_main_while0b_v121; rw [run16 hj, run22 hj, run74 hj]; rfl

theorem run86 : res_main_while0b_v128 V = b86 j (held V) := by
  unfold res_main_while0b_v128; rw [run41 hj]; rfl

theorem run88 : res_main_while0b_v130 V = b88 j (held V) := by
  unfold res_main_while0b_v130; rw [run51 hj, run86 hj]; rfl

theorem run93 : res_main_while0b_v135 V = b93 j (held V) := by
  unfold res_main_while0b_v135; rw [run41 hj]; rfl

theorem run100 : res_main_while0b_v142 V = b100 j (held V) := by
  unfold res_main_while0b_v142; rw [run41 hj]; rfl

theorem run108 : res_main_while0b_v150 V = b108 j (held V) := by
  unfold res_main_while0b_v150; rw [run48 hj, run93 hj]; rfl

theorem run119 : res_main_while0b_v161 V = b119 j (held V) := by
  unfold res_main_while0b_v161; rw [run48 hj]; rfl

theorem run131 : res_main_while0b_v171 V = b131 j (held V) := by
  unfold res_main_while0b_v171; rw [run119 hj, run51 hj, run74 hj]; rfl

/-! What a trip leaves. -/

theorem left8 : Cert.Reference16Ideal.Value.step_main_v64_8 V = b112 j (held V) := by
  unfold Cert.Reference16Ideal.Value.step_main_v64_8; rw [run100 hj, run108 hj, run22 hj]; rfl

theorem left9 : Cert.Reference16Ideal.Value.step_main_v64_9 V = b146 j (held V) := by
  unfold Cert.Reference16Ideal.Value.step_main_v64_9; rw [run16 hj, run86 hj, run119 hj, run79 hj, run49 hj, run3 hj]; rfl

theorem left10 : Cert.Reference16Ideal.Value.step_main_v64_10 V = b152 j (held V) := by
  unfold Cert.Reference16Ideal.Value.step_main_v64_10; rw [run88 hj, run131 hj, run22 hj, run3 hj]; rfl

theorem left11 : Cert.Reference16Ideal.Value.step_main_v64_11 V = b158 j (held V) := by
  unfold Cert.Reference16Ideal.Value.step_main_v64_11; rw [run108 hj, run29 hj, run131 hj, run16 hj, run3 hj]; rfl

theorem left7 : Cert.Reference16Ideal.Value.step_main_v64_7 V = constantI S_ 32 (BitVec.ofNat 32 (j + 1)) := by
  unfold Cert.Reference16Ideal.Value.step_main_v64_7
  rw [hj]
  exact funext fun _ => (BitVec.ofNat_add j 1).symm

theorem held_step : held (STEP V) = step j (held V) := by
  unfold held
  rw [STEP_main_v64_8, STEP_main_v64_9, STEP_main_v64_10, STEP_main_v64_11, STEP_main_v64_0, STEP_main_v64_1, STEP_main_v64_2,
    STEP_main_v64_3, STEP_main_v64_4, STEP_main_v64_5, STEP_main_v64_6, left8 hj, left9 hj, left10 hj, left11 hj]
  rfl

omit hj

variable (m : (ℓ : Loc nD τ sig) → Buf (Elt Ideal) ℓ) (c : Dev nD)

/-- The loop's buffers after `n` trips. -/
def trips : ℕ → State Ideal
  | 0 => init (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
  | n + 1 => step n (trips n)

theorem start8 : entryContents preI m c (Proc.devRef .tc main_v64_8) = (trips m c 0).main_v64_8 := by
  simp only [entryContents, afterL_cons, afterL_nil]
  after_reads_simp
  rfl

theorem start9 : entryContents preI m c (Proc.devRef .tc main_v64_9) = (trips m c 0).main_v64_9 := by
  simp only [entryContents, afterL_cons, afterL_nil]
  after_reads_simp
  rfl

theorem start10 : entryContents preI m c (Proc.devRef .tc main_v64_10) = (trips m c 0).main_v64_10 := by
  simp only [entryContents, afterL_cons, afterL_nil]
  after_reads_simp
  rfl

theorem start11 : entryContents preI m c (Proc.devRef .tc main_v64_11) = (trips m c 0).main_v64_11 := by
  simp only [entryContents, afterL_cons, afterL_nil]
  after_reads_simp
  rfl

theorem start0 : entryContents preI m c (Proc.devRef .tc main_v64_0) = (trips m c 0).main_v64_0 := by
  simp only [entryContents, afterL_cons, afterL_nil]
  after_reads_simp
  rfl

theorem start1 : entryContents preI m c (Proc.devRef .tc main_v64_1) = (trips m c 0).main_v64_1 := by
  simp only [entryContents, afterL_cons, afterL_nil]
  after_reads_simp
  rfl

theorem start2 : entryContents preI m c (Proc.devRef .tc main_v64_2) = (trips m c 0).main_v64_2 := by
  simp only [entryContents, afterL_cons, afterL_nil]
  after_reads_simp
  rfl

theorem start3 : entryContents preI m c (Proc.devRef .tc main_v64_3) = (trips m c 0).main_v64_3 := by
  simp only [entryContents, afterL_cons, afterL_nil]
  after_reads_simp
  rfl

theorem start4 : entryContents preI m c (Proc.devRef .tc main_v64_4) = (trips m c 0).main_v64_4 := by
  simp only [entryContents, afterL_cons, afterL_nil]
  after_reads_simp
  rfl

theorem start5 : entryContents preI m c (Proc.devRef .tc main_v64_5) = (trips m c 0).main_v64_5 := by
  simp only [entryContents, afterL_cons, afterL_nil]
  after_reads_simp
  rfl

theorem start6 : entryContents preI m c (Proc.devRef .tc main_v64_6) = (trips m c 0).main_v64_6 := by
  simp only [entryContents, afterL_cons, afterL_nil]
  after_reads_simp
  rfl

theorem held_entry : held (entryContents preI m c) = trips m c 0 := by
  unfold held
  rw [start8, start9, start10, start11, start0, start1, start2, start3, start4, start5, start6]

theorem held_iter (n : ℕ) : held (STEP^[n] (entryContents preI m c)) = trips m c n
    ∧ (STEP^[n] (entryContents preI m c)) (Proc.devRef .tc main_v64_7) = constantI S_ 32 (BitVec.ofNat 32 n) := by
  induction n with
  | zero => exact ⟨held_entry m c, (ctr_entry m c).trans rfl⟩
  | succ n ih =>
    rw [Function.iterate_succ_apply']
    refine ⟨(held_step ih.2).trans ?_, (STEP_main_v64_7 _).trans (left7 ih.2)⟩
    rw [ih.1]
    rfl

/-! The three results of the contents the last trip leaves. -/

theorem read74 (V : Valuation τ sig (Elt Ideal)) : out_main_v74 V = R_main_v74 (held V) := by
  unfold out_main_v74 R_main_v74
  rfl

theorem out74 : out_main_v74 (STEP^[32] (entryContents preI m c)) = R_main_v74 (trips m c 32) :=
  (read74 _).trans (congrArg R_main_v74 (held_iter m c 32).1)

theorem read84 (V : Valuation τ sig (Elt Ideal)) : out_main_v84 V = R_main_v84 (held V) := by
  unfold out_main_v84 R_main_v84
  rfl

theorem out84 : out_main_v84 (STEP^[32] (entryContents preI m c)) = R_main_v84 (trips m c 32) :=
  (read84 _).trans (congrArg R_main_v84 (held_iter m c 32).1)

theorem read94 (V : Valuation τ sig (Elt Ideal)) : out_main_v94 V = R_main_v94 (held V) := by
  unfold out_main_v94 R_main_v94
  rfl

theorem out94 : out_main_v94 (STEP^[32] (entryContents preI m c)) = R_main_v94 (trips m c 32) :=
  (read94 _).trans (congrArg R_main_v94 (held_iter m c 32).1)

end Cert.SsdRef

end
-- ==== Proof.P16.lean ====
/- The gradient of the scan over the chunks: the kernel's three results are the reference's. -/
module

public import proofs.«01_k».proof.Defs
public import proofs.«01_k».proof.Proof.SsdFlow
public import proofs.«01_k».proof.Proof.SsdRun
public import Idealize.ShloMosaic.Lib.Pipeline.ReadBack

@[expose] public section

set_option maxRecDepth 200000

noncomputable section

namespace Cert.Proof.P16

open Cert.Kernel16Ideal Cert.Kernel16Ideal.Gen Idealize.ShloMosaic Idealize.ShloMosaic.TcCoe Idealize.SL.Sem
open Idealize.ShloMosaic.Pipeline (Dat)
open Cert.SsdKer Cert.SsdMath
open Cert.SsdRef (rowOf Upto back6 back5 back6_at back5_at dx_stack db_stack dc_stack trips out74 out84 out94 R74 R84 R94)
open Cert.Reference16Ideal.Step (State init step)

variable (m : (ℓ : Loc nD τ sig) → Buf (Elt Ideal) ℓ) (c : Dev nD)

/-- The place a row of a block is written to. -/
theorem place (t : Fin cfg0.N) (i : Fin 128) : (⟨nk t.val * 128 + i.val, by have := nk_lt t; omega⟩ : Fin 4096)
    = rowOf (dd t) (kk t) (rowTurn (dd t) i) := Fin.ext (row_val t i).symm

variable (it : ℕ → State Ideal)
  (h0 : it 0 = init (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)))
  (hs : ∀ n, it (n + 1) = step n (it n))

include h0 hs

/-- The gradient of `x` the kernel writes. -/
theorem arr_dx : (dats m 0 c).arrAt 9 cfg0.N = back6 (it 32).main_v64_9 := by
  refine (dats m 0 c).arrAt_eq_of_covers 9 _ (by decide +kernel) fun t _ y => ?_
  have ht := t_lt t
  have hn := nk_lt t
  obtain ⟨z, i, q, rfl⟩ : ∃ (z : Fin 1) (i : Fin 128) (q : Fin 1024), y = ix3 z i q := ⟨y 0, y 1, y 2, eq_ix3 y⟩
  obtain ⟨g, l, hq⟩ : ∃ (g : Fin 4) (l : Fin 256), q = ⟨256 * g.val + l.val, by omega⟩ :=
    ⟨⟨q.val / 256, by omega⟩, ⟨q.val % 256, by omega⟩, Fin.ext (by show q.val = 256 * (q.val / 256) + q.val % 256; omega)⟩
  obtain rfl : z = 0 := Subsingleton.elim _ _
  blk_simp
  rw [after0_9]
  have e : (win0_9.blk t).view.emb (ix3 0 i q)
      = ix3 (dd t) (rowOf (dd t) (kk t) (rowTurn (dd t) i)) (⟨(g8 t g).val * 256 + l.val, by omega⟩ : Fin 2048) := by
    have er := row_val t i
    have hd : (dd t).val = t.val / 64 := rfl
    have hg : (g8 t g).val = t.val / 32 % 2 * 4 + g.val := rfl
    have hq' : q.val = 256 * g.val + l.val := congrArg Fin.val hq
    blk_ext [idx t]
  rw [e, back6_at]
  have e2 := dx_stack _ _ _ _ _ _ _ it h0 hs 32 le_rfl (kk t) (by omega) (dd t) (g8 t g) (rowTurn (dd t) i) l
  have ke : 31 - (kk t).val = t.val % 32 := by show 31 - (31 - t.val % 32) = _; omega
  rw [ke] at e2
  refine Eq.trans ?_ e2.symm
  rw [hq]
  exact dx_pt m c t g i l

/-- The gradient of `b` the kernel writes. -/
theorem arr_db : (dats m 0 c).arrAt 10 cfg0.N = back5 (it 32).main_v64_10 := by
  refine (dats m 0 c).arrAt_eq_of_covers 10 _ (by decide +kernel) fun t _ y => ?_
  have ht := t_lt t
  have hn := nk_lt t
  obtain ⟨z, i, q, rfl⟩ : ∃ (z : Fin 1) (i : Fin 128) (q : Fin 512), y = ix3 z i q := ⟨y 0, y 1, y 2, eq_ix3 y⟩
  obtain ⟨g, l, hq⟩ : ∃ (g : Fin 4) (l : Fin 128), q = ⟨128 * g.val + l.val, by omega⟩ :=
    ⟨⟨q.val / 128, by omega⟩, ⟨q.val % 128, by omega⟩, Fin.ext (by show q.val = 128 * (q.val / 128) + q.val % 128; omega)⟩
  obtain rfl : z = 0 := Subsingleton.elim _ _
  blk_simp
  rw [after0_10]
  have e : (win0_10.blk t).view.emb (ix3 0 i q)
      = ix3 (dd t) (rowOf (dd t) (kk t) (rowTurn (dd t) i)) (⟨(g8 t g).val * 128 + l.val, by omega⟩ : Fin 1024) := by
    have er := row_val t i
    have hd : (dd t).val = t.val / 64 := rfl
    have hg : (g8 t g).val = t.val / 32 % 2 * 4 + g.val := rfl
    have hq' : q.val = 128 * g.val + l.val := congrArg Fin.val hq
    blk_ext [idx t]
  rw [e, back5_at]
  have e2 := db_stack _ _ _ _ _ _ _ it h0 hs 32 le_rfl (kk t) (by omega) (dd t) (g8 t g) (rowTurn (dd t) i) l
  have ke : 31 - (kk t).val = t.val % 32 := by show 31 - (31 - t.val % 32) = _; omega
  rw [ke] at e2
  refine Eq.trans ?_ e2.symm
  rw [hq]
  exact db_pt m c t g i l

/-- The gradient of `c` the kernel writes. -/
theorem arr_dc : (dats m 0 c).arrAt 11 cfg0.N = back5 (it 32).main_v64_11 := by
  refine (dats m 0 c).arrAt_eq_of_covers 11 _ (by decide +kernel) fun t _ y => ?_
  have ht := t_lt t
  have hn := nk_lt t
  obtain ⟨z, i, q, rfl⟩ : ∃ (z : Fin 1) (i : Fin 128) (q : Fin 512), y = ix3 z i q := ⟨y 0, y 1, y 2, eq_ix3 y⟩
  obtain ⟨g, l, hq⟩ : ∃ (g : Fin 4) (l : Fin 128), q = ⟨128 * g.val + l.val, by omega⟩ :=
    ⟨⟨q.val / 128, by omega⟩, ⟨q.val % 128, by omega⟩, Fin.ext (by show q.val = 128 * (q.val / 128) + q.val % 128; omega)⟩
  obtain rfl : z = 0 := Subsingleton.elim _ _
  blk_simp
  rw [after0_11]
  have e : (win0_11.blk t).view.emb (ix3 0 i q)
      = ix3 (dd t) (rowOf (dd t) (kk t) (rowTurn (dd t) i)) (⟨(g8 t g).val * 128 + l.val, by omega⟩ : Fin 1024) := by
    have er := row_val t i
    have hd : (dd t).val = t.val / 64 := rfl
    have hg : (g8 t g).val = t.val / 32 % 2 * 4 + g.val := rfl
    have hq' : q.val = 128 * g.val + l.val := congrArg Fin.val hq
    blk_ext [idx t]
  rw [e, back5_at]
  have e2 := dc_stack _ _ _ _ _ _ _ it h0 hs 32 le_rfl (kk t) (by omega) (dd t) (g8 t g) (rowTurn (dd t) i) l
  refine Eq.trans ?_ e2.symm
  rw [hq]
  exact dc_pt m c t g i l

omit h0 hs

/-- The reference ends and leaves its arguments as they were. -/
theorem frame_ref : Cert.quiescent_Reference16Ideal (hReference16Ideal := Cert.Reference16Ideal.Gen.facts) := by
  intro m g _
  exact (θ_run _ _ _).mono (fun r h => ⟨fun c => (h c).2.2.2, sem_eq_zero_of_no_sems (by decide) _⟩)
    (Cert.Reference16Ideal.Value.run m g)

/-- A run of the reference on the kernel's arguments starts its loop at what these set up. -/
theorem start (m' : (ℓ : Loc Cert.Reference16Ideal.nD Cert.Reference16Ideal.τ Cert.Reference16Ideal.sig) → Buf (Elt Ideal) ℓ)
    (h : m' ((c : Thread nD τ).loc Cert.Reference16Ideal.main_arg0) = m ((c : Thread nD τ).loc main_arg0)
      ∧ m' ((c : Thread nD τ).loc Cert.Reference16Ideal.main_arg1) = m ((c : Thread nD τ).loc main_arg1)
      ∧ m' ((c : Thread nD τ).loc Cert.Reference16Ideal.main_arg2) = m ((c : Thread nD τ).loc main_arg2)
      ∧ m' ((c : Thread nD τ).loc Cert.Reference16Ideal.main_arg3) = m ((c : Thread nD τ).loc main_arg3)
      ∧ m' ((c : Thread nD τ).loc Cert.Reference16Ideal.main_arg4) = m ((c : Thread nD τ).loc main_arg4)
      ∧ m' ((c : Thread nD τ).loc Cert.Reference16Ideal.main_arg5) = m ((c : Thread nD τ).loc main_arg5)
      ∧ m' ((c : Thread nD τ).loc Cert.Reference16Ideal.main_arg6) = m ((c : Thread nD τ).loc main_arg6)) :
    trips m' c 0 = init (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  obtain ⟨e0, e1, e2, e3, e4, e5, e6⟩ := h
  rw [← e0, ← e1, ← e2, ← e3, ← e4, ← e5, ← e6]
  rfl

/-- On the same arguments the kernel and the reference end with the same results. -/
theorem algebraic : Cert.algebraic_Kernel16Ideal_Reference16Ideal (hKernel16Ideal := Cert.Kernel16Ideal.Gen.facts)
    (hReference16Ideal := Cert.Reference16Ideal.Gen.facts) := by
  pair_intro
  · run_from Cert.Kernel16Ideal.Value.run_blocks m g
  · skip
    run_from Cert.Reference16Ideal.Value.run m' g'
    · exact (out74 m' c).trans ((R74 _).trans (arr_dx m c _ (start m c m' (hagree c)) fun _ => rfl).symm)
    · exact (out84 m' c).trans ((R84 _).trans (arr_db m c _ (start m c m' (hagree c)) fun _ => rfl).symm)
    · exact (out94 m' c).trans ((R94 _).trans (arr_dc m c _ (start m c m' (hagree c)) fun _ => rfl).symm)

end Cert.Proof.P16

end
-- ==== Proof.SsfMath.lean ====
/- The mathematics of the scan itself, over the extended reals and in the names of `SsdMath`: one chunk's output and the
   state it hands on.  P is the state entering the chunk. -/
module

public import proofs.«01_k».proof.Proof.SsdMath

@[expose] public section

noncomputable section

namespace Cert.SsdMath

open Idealize.ShloMosaic

/-- One chunk's output: what the entering state gives and what the chunk's own rows give. -/
def fy (M : Fin 128 → Fin 128 → Prop) [∀ i j, Decidable (M i j)] (X D A : Mat) (B C : Sq) (P : Mat) (i : Fin 128) (l : Fin 256) : EReal :=
  (∑ n : Fin 128, C i n * P n l) * Ideal.exp (A i l)
    + ∑ j : Fin 128, score B C i j * decay M A (headOf l) i j * (X j l * D j l)

/-- The state handed on. -/
def fs (X D A : Mat) (B : Sq) (P : Mat) (T : Fin 256 → EReal) (n : Fin 128) (l : Fin 256) : EReal :=
  P n l * Ideal.exp (T l) + ∑ j : Fin 128, B j n * (X j l * D j l * Ideal.exp (T l - A j l))

/-- The rows may be renumbered. -/
theorem fy_perm (e : Fin 128 ≃ Fin 128) (M M' : Fin 128 → Fin 128 → Prop) [∀ i j, Decidable (M i j)] [∀ i j, Decidable (M' i j)]
    (hM : ∀ i j, M' i j ↔ M (e i) (e j)) (X D A : Mat) (B C : Sq) (P : Mat) (i l) :
    fy M' (fun i l => X (e i) l) (fun i l => D (e i) l) (fun i l => A (e i) l) (fun i l => B (e i) l) (fun i l => C (e i) l) P i l
      = fy M X D A B C P (e i) l := by
  simp only [fy, score, decay_perm e M M' hM]
  congr 1
  exact Equiv.sum_comp e (fun j => (∑ n, C (e i) n * B j n) * decay M A (headOf l) (e i) j * (X j l * D j l))

theorem fs_perm (e : Fin 128 ≃ Fin 128) (X D A : Mat) (B : Sq) (P : Mat) (T : Fin 256 → EReal) (n l) :
    fs (fun i l => X (e i) l) (fun i l => D (e i) l) (fun i l => A (e i) l) (fun i l => B (e i) l) P T n l = fs X D A B P T n l := by
  simp only [fs]
  congr 1
  exact Equiv.sum_comp e (fun j => B j n * (X j l * D j l * Ideal.exp (T l - A j l)))

/-- Of four sums each masked to one head's lanes only the lane's own head's is there. -/
theorem four_sums (f : Fin 4 → Fin 128 → EReal) (w : Fin 128 → EReal) (k : Fin 4) (z : EReal) :
    z + (∑ j, f 0 j * (w j * (if k = 0 then 1 else 0))) + (∑ j, f 1 j * (w j * (if k = 1 then 1 else 0)))
      + (∑ j, f 2 j * (w j * (if k = 2 then 1 else 0))) + (∑ j, f 3 j * (w j * (if k = 3 then 1 else 0))) = z + ∑ j, f k j * w j := by
  fin_cases k <;> simp

end Cert.SsdMath

end
-- ==== Proof.SsfKer.lean ====
/- The kernel's arithmetic of the scan on one group of four heads, in one chunk: the stored tiles as functions of the tiles loaded.
   The body writes it four times, once for each group; the four texts are the same function. -/
module

public import proofs.«01_k».proof.Proof.Gen.Kernel17Ideal.Skeleton
public import proofs.«01_k».proof.Proof.SsfMath
public import proofs.«01_k».proof.Proof.SsdKerAt

@[expose] public section

set_option maxRecDepth 200000

noncomputable section

namespace Cert.SsfKer

open Cert.Kernel17Ideal Cert.Kernel17Ideal.Gen Idealize.ShloMosaic Idealize.ShloMosaic.TcCoe Cert.SsdMath
open Cert.SsdKer (m2 m3 tot On Flat one_hot pick small)

/-- The state handed on by the chunk, for one group of heads. -/
def fS (x0 : Vec Ideal S128x256 .f32) (x1 : Vec Ideal S128x128 .f32) (x3 : Vec Ideal S1x128x256 .f32) (x4 : Vec Ideal S1x128x256 .f32) (x5 : Vec Ideal S1x1x256 .f32) (s : Vec Ideal S1x128x256 .f32) : FVec Ideal S1x128x256 .f32 :=
  k0_pay23 (k0_pay21 (k0_pay5 s) x1 (k0_pay8 x4) (k0_pay9 x3 x5) (k0_pay10 x0 x3))

/-- The output of one group. -/
def fY (x0 : Vec Ideal S128x256 .f32) (x1 : Vec Ideal S128x128 .f32) (x2 : Vec Ideal S128x128 .f32) (x3 : Vec Ideal S1x128x256 .f32) (x4 : Vec Ideal S1x128x256 .f32) (x6 : Vec Ideal S1x128x128 .f32) (s : Vec Ideal S1x128x256 .f32) : FVec Ideal S1x128x256 .f32 :=
  k0_pay22 (k0_pay8 x4) (k0_pay10 x0 x3) (k0_pay12 (k0_pay4 x6) k0_pay11) (k0_pay13 x1 x2) k0_pay14 k0_pay15 (k0_pay18 (k0_pay8 x4) (k0_pay10 x0 x3) (k0_pay12 (k0_pay4 x6) k0_pay11) (k0_pay13 x1 x2) k0_pay14 k0_pay15 (k0_pay16 (k0_pay5 s) x2 (k0_pay8 x4)) (k0_pay17 (k0_pay4 x6) (k0_pay8 x4) k0_pay11) (FloatOps.ofBits .f32 0#32)) (k0_pay19 (k0_pay8 x4) (k0_pay12 (k0_pay4 x6) k0_pay11) k0_pay15) k0_pay20

/-! The other three groups. -/

theorem fS_1 (x0 : Vec Ideal S128x256 .f32) (x1 : Vec Ideal S128x128 .f32) (x3 : Vec Ideal S1x128x256 .f32) (x4 : Vec Ideal S1x128x256 .f32) (x5 : Vec Ideal S1x1x256 .f32) (s : Vec Ideal S1x128x256 .f32) :
    k0_pay42 (k0_pay24 s) x1 (k0_pay27 x4) (k0_pay28 x3 x5) (k0_pay29 x0 x3)
      = fS x0 x1 x3 x4 x5 s := rfl

theorem fS_2 (x0 : Vec Ideal S128x256 .f32) (x1 : Vec Ideal S128x128 .f32) (x3 : Vec Ideal S1x128x256 .f32) (x4 : Vec Ideal S1x128x256 .f32) (x5 : Vec Ideal S1x1x256 .f32) (s : Vec Ideal S1x128x256 .f32) :
    k0_pay62 (k0_pay43 s) x1 (k0_pay46 x4) (k0_pay47 x3 x5) (k0_pay48 x0 x3)
      = fS x0 x1 x3 x4 x5 s := rfl

theorem fS_3 (x0 : Vec Ideal S128x256 .f32) (x1 : Vec Ideal S128x128 .f32) (x3 : Vec Ideal S1x128x256 .f32) (x4 : Vec Ideal S1x128x256 .f32) (x5 : Vec Ideal S1x1x256 .f32) (s : Vec Ideal S1x128x256 .f32) :
    k0_pay2 (k0_pay63 s) x1 (k0_pay66 x4) (k0_pay67 x3 x5) (k0_pay68 x0 x3)
      = fS x0 x1 x3 x4 x5 s := rfl

theorem fY_1 (x0 : Vec Ideal S128x256 .f32) (x1 : Vec Ideal S128x128 .f32) (x2 : Vec Ideal S128x128 .f32) (x3 : Vec Ideal S1x128x256 .f32) (x4 : Vec Ideal S1x128x256 .f32) (x6 : Vec Ideal S1x128x128 .f32) (s : Vec Ideal S1x128x256 .f32) :
    k0_pay41 (k0_pay27 x4) (k0_pay29 x0 x3) (k0_pay30 (k0_pay4 x6)) (k0_pay31 x1 x2) (k0_pay33 (iota Kind.tc S1x256 32 [1] iota_S1x256_d1_w32) (64#32) k0_pay32) k0_pay34 (k0_pay38 (k0_pay27 x4) (k0_pay29 x0 x3) (k0_pay30 (k0_pay4 x6)) (k0_pay31 x1 x2) (k0_pay33 (iota Kind.tc S1x256 32 [1] iota_S1x256_d1_w32) (64#32) k0_pay32) k0_pay34 (k0_pay35 (k0_pay24 s) x2 (k0_pay27 x4)) (k0_pay36 (k0_pay27 x4) (k0_pay30 (k0_pay4 x6))) (k0_pay37 (k0_pay29 x0 x3) (iota Kind.tc S1x256 32 [1] iota_S1x256_d1_w32) (64#32) k0_pay32)) (k0_pay39 (k0_pay27 x4) (k0_pay30 (k0_pay4 x6)) (k0_pay31 x1 x2) k0_pay34) (k0_pay40 (k0_pay29 x0 x3) (k0_pay33 (iota Kind.tc S1x256 32 [1] iota_S1x256_d1_w32) (64#32) k0_pay32)) (constant S128x256 .f32 0#32)
      = fY x0 x1 x2 x3 x4 x6 s := rfl

theorem fY_2 (x0 : Vec Ideal S128x256 .f32) (x1 : Vec Ideal S128x128 .f32) (x2 : Vec Ideal S128x128 .f32) (x3 : Vec Ideal S1x128x256 .f32) (x4 : Vec Ideal S1x128x256 .f32) (x6 : Vec Ideal S1x128x128 .f32) (s : Vec Ideal S1x128x256 .f32) :
    k0_pay61 (k0_pay48 x0 x3) (k0_pay49 (k0_pay4 x6)) (k0_pay50 x1 x2) (k0_pay53 (iota Kind.tc S1x256 32 [1] iota_S1x256_d1_w32) (64#32) k0_pay51 k0_pay52) (k0_pay58 (k0_pay46 x4) (k0_pay48 x0 x3) (k0_pay49 (k0_pay4 x6)) (k0_pay50 x1 x2) (k0_pay53 (iota Kind.tc S1x256 32 [1] iota_S1x256_d1_w32) (64#32) k0_pay51 k0_pay52) k0_pay54 (k0_pay55 (k0_pay43 s) x2 (k0_pay46 x4) (k0_pay48 x0 x3) (k0_pay49 (k0_pay4 x6)) (k0_pay50 x1 x2) (iota Kind.tc S1x256 32 [1] iota_S1x256_d1_w32) (64#32) k0_pay51 k0_pay52) (k0_pay56 (k0_pay46 x4)) (k0_pay57 (k0_pay46 x4))) (k0_pay59 (k0_pay46 x4) k0_pay54) (k0_pay60 (k0_pay46 x4) k0_pay54)
      = fY x0 x1 x2 x3 x4 x6 s := rfl

theorem fY_3 (x0 : Vec Ideal S128x256 .f32) (x1 : Vec Ideal S128x128 .f32) (x2 : Vec Ideal S128x128 .f32) (x3 : Vec Ideal S1x128x256 .f32) (x4 : Vec Ideal S1x128x256 .f32) (x6 : Vec Ideal S1x128x128 .f32) (s : Vec Ideal S1x128x256 .f32) :
    k0_pay1 (k0_pay68 x0 x3) (k0_pay70 x1 x2) (k0_pay73 (iota Kind.tc S1x256 32 [1] iota_S1x256_d1_w32) (64#32) k0_pay71 k0_pay72) (k0_pay77 (k0_pay66 x4) (k0_pay68 x0 x3) (k0_pay69 (k0_pay4 x6)) (k0_pay70 x1 x2) (k0_pay73 (iota Kind.tc S1x256 32 [1] iota_S1x256_d1_w32) (64#32) k0_pay71 k0_pay72) k0_pay74 (k0_pay75 (k0_pay63 s) x2 (k0_pay66 x4) (k0_pay68 x0 x3) (k0_pay69 (k0_pay4 x6)) (k0_pay70 x1 x2) (iota Kind.tc S1x256 32 [1] iota_S1x256_d1_w32) (64#32) k0_pay71 k0_pay72) (k0_pay76 (k0_pay66 x4) (k0_pay69 (k0_pay4 x6)))) (k0_pay78 (k0_pay66 x4) (k0_pay69 (k0_pay4 x6)) k0_pay74) 3#32
      = fY x0 x1 x2 x3 x4 x6 s := rfl

/-! The output, in steps. -/

/-- Which lanes belong to the head of number `w`. -/
def lanesOf (w : BitVec 32) : FVec Ideal S1x256 .f32 := sitofp .f32 (extui 32 (cmpi .eq k0_pay14 (broadcast S1x256 w)) natLt_1_32)

/-- A head's decays of its exponents, one per row along the columns. -/
def fades (x6 : Vec Ideal S1x128x128 .f32) (u : FVec Ideal S128x128 .f32) : FVec Ideal S128x128 .f32 :=
  select (k0_pay12 (k0_pay4 x6) k0_pay11)
    (exp (select (k0_pay12 (k0_pay4 x6) k0_pay11) (subf u (transpose S128x128 [1, 0] u transposes_S128x128_p1_0_S128x128))
      (broadcast S128x128 (Scalar.ofBits .f32 0x00000000#32)))) (broadcast S128x128 (Scalar.ofBits .f32 0x00000000#32))

/-- The left half of the columns kept, the right half from the other side. -/
def left (v : FVec Ideal S128x128 .f32) : FVec Ideal S128x128 .f32 :=
  select (broadcastTo S128x128 (shapeCast S1x128 k0_pay15 shapeCasts_S1x128_S1x128) broadcasts_S1x128_S128x128) v
    (dynamicRotate 1 64#32 none v rotates_S128x128_d1)

/-- The right half of the columns kept, the left half from the other side. -/
def right (v : FVec Ideal S128x128 .f32) : FVec Ideal S128x128 .f32 :=
  select (broadcastTo S128x128 (shapeCast S1x128 k0_pay15 shapeCasts_S1x128_S1x128) broadcasts_S1x128_S128x128)
    (dynamicRotate 1 64#32 none v rotates_S128x128_d1) v

/-- One head's share of the output. -/
def share (sc : FVec Ideal S128x128 .f32) (xd : FVec Ideal S128x256 .f32) (dec : FVec Ideal S128x128 .f32) (w : BitVec 32) : FVec Ideal S128x256 .f32 :=
  matmul dot_S128x128_S128x256_S128x256_1_0_0_1_n_n none (truncf .bf16 (mulf sc dec) bitsLt_bf16_f32)
    (truncf .bf16 (mulf xd (broadcastTo S128x256 (lanesOf w) broadcasts_S1x256_S128x256)) bitsLt_bf16_f32) (constant S128x256 .f32 0x00000000#32)

/-- The two heads in the left half of the lanes, and the two in the right half. -/
def lo (x4 : Vec Ideal S1x128x256 .f32) : FVec Ideal S128x128 .f32 := extractStridedSlice S128x128 ![0, 0] (k0_pay8 x4) slices_S128x256_o0_0_S128x128
def hi (x4 : Vec Ideal S1x128x256 .f32) : FVec Ideal S128x128 .f32 := extractStridedSlice S128x128 ![0, 128] (k0_pay8 x4) slices_S128x256_o0_128_S128x128

section

variable (x0 : Vec Ideal S128x256 .f32) (x1 x2 : Vec Ideal S128x128 .f32) (x3 x4 : Vec Ideal S1x128x256 .f32)
  (x5 : Vec Ideal S1x1x256 .f32) (x6 : Vec Ideal S1x128x128 .f32) (s : Vec Ideal S1x128x256 .f32)

theorem fY_steps : fY x0 x1 x2 x3 x4 x6 s = shapeCast S1x128x256
    (addf (addf (addf (addf (k0_pay16 (k0_pay5 s) x2 (k0_pay8 x4))
      (share (k0_pay13 x1 x2) (k0_pay10 x0 x3) (fades x6 (left (lo x4))) 0#32))
      (share (k0_pay13 x1 x2) (k0_pay10 x0 x3) (fades x6 (right (lo x4))) 1#32))
      (share (k0_pay13 x1 x2) (k0_pay10 x0 x3) (fades x6 (left (hi x4))) 2#32))
      (share (k0_pay13 x1 x2) (k0_pay10 x0 x3) (fades x6 (right (hi x4))) 3#32)) shapeCasts_S128x256_S1x128x256 := rfl

theorem heads_at : ∀ (z : Fin 1) (l : Fin 256), k0_pay14 (ix2 z l) = BitVec.ofNat 32 (headOf l).val := by decide +kernel

theorem lanesOf_at (h : Fin 4) (z : Fin 1) (l : Fin 256) : lanesOf (BitVec.ofNat 32 h.val) (ix2 z l) = if headOf l = h then 1 else 0 := by
  pointwise [lanesOf]
  rw [heads_at]
  exact one_hot (headOf l) h

theorem left_lo (hA : Flat (m3 x4)) (i j : Fin 128) : left (lo x4) (ix2 i j) = m3 x4 i (lane0 0) := by
  pointwise [left, lo, k0_pay15, k0_pay8]
  rw [pick _ (hA i) 0] <;> simp only [ne_eq, small] <;> intro _ <;> (apply Fin.ext; simp only [headOf]; omega)

theorem right_lo (hA : Flat (m3 x4)) (i j : Fin 128) : right (lo x4) (ix2 i j) = m3 x4 i (lane0 1) := by
  pointwise [right, lo, k0_pay15, k0_pay8]
  rw [pick _ (hA i) 1] <;> simp only [ne_eq, small] <;> intro _ <;> (apply Fin.ext; simp only [headOf]; omega)

theorem left_hi (hA : Flat (m3 x4)) (i j : Fin 128) : left (hi x4) (ix2 i j) = m3 x4 i (lane0 2) := by
  pointwise [left, hi, k0_pay15, k0_pay8]
  rw [pick _ (hA i) 2] <;> simp only [ne_eq, small] <;> intro _ <;> (apply Fin.ext; simp only [headOf]; omega)

theorem right_hi (hA : Flat (m3 x4)) (i j : Fin 128) : right (hi x4) (ix2 i j) = m3 x4 i (lane0 3) := by
  pointwise [right, hi, k0_pay15, k0_pay8]
  rw [pick _ (hA i) 3] <;> simp only [ne_eq, small] <;> intro _ <;> (apply Fin.ext; simp only [headOf]; omega)

theorem fades_at (u : FVec Ideal S128x128 .f32) (A : Mat) (h : Fin 4) (hu : ∀ i j, u (ix2 i j) = A i (lane0 h)) (i j : Fin 128) :
    fades x6 u (ix2 i j) = decay (On x6) A h i j := by
  pointwise [fades, k0_pay12, k0_pay11, k0_pay4]
  by_cases hm : 0 < x6 (ix3 0 i j)
  · simp only [hm, if_true, decay, hu]
  · simp only [hm, if_false, decay]

theorem share_at (sc : FVec Ideal S128x128 .f32) (xd : FVec Ideal S128x256 .f32) (dec : FVec Ideal S128x128 .f32) (h : Fin 4) (i : Fin 128) (l : Fin 256) :
    share sc xd dec (BitVec.ofNat 32 h.val) (ix2 i l)
      = ∑ j : Fin 128, sc (ix2 i j) * dec (ix2 i j) * (xd (ix2 j l) * (if headOf l = h then 1 else 0)) := by
  pointwise [share]
  simp only [lanesOf_at]

theorem tot_at (l : Fin 256) : k0_pay9 x3 x5 (ix2 0 l) = tot x3 x5 l := by
  pointwise [k0_pay9, k0_pay7, tot]

/-! The tiles. -/

theorem fS_at (n : Fin 128) (l : Fin 256) : fS x0 x1 x3 x4 x5 s (ix3 0 n l)
    = fs (m2 x0) (m3 x3) (m3 x4) (m2 x1) (m3 s) (tot x3 x5) n l := by
  pointwise [fS, k0_pay23, k0_pay21, k0_pay5, k0_pay8, k0_pay10, k0_pay7, tot_at, fs]

theorem fY_at (hA : Flat (m3 x4)) (i : Fin 128) (l : Fin 256) : fY x0 x1 x2 x3 x4 x6 s (ix3 0 i l)
    = fy (On x6) (m2 x0) (m3 x3) (m3 x4) (m2 x1) (m2 x2) (m3 s) i l := by
  rw [fY_steps]
  have e0 : share (k0_pay13 x1 x2) (k0_pay10 x0 x3) (fades x6 (left (lo x4))) 0#32 (ix2 i l) = _ := share_at (k0_pay13 x1 x2) (k0_pay10 x0 x3) (fades x6 (left (lo x4))) 0 i l
  have e1 : share (k0_pay13 x1 x2) (k0_pay10 x0 x3) (fades x6 (right (lo x4))) 1#32 (ix2 i l) = _ := share_at (k0_pay13 x1 x2) (k0_pay10 x0 x3) (fades x6 (right (lo x4))) 1 i l
  have e2 : share (k0_pay13 x1 x2) (k0_pay10 x0 x3) (fades x6 (left (hi x4))) 2#32 (ix2 i l) = _ := share_at (k0_pay13 x1 x2) (k0_pay10 x0 x3) (fades x6 (left (hi x4))) 2 i l
  have e3 : share (k0_pay13 x1 x2) (k0_pay10 x0 x3) (fades x6 (right (hi x4))) 3#32 (ix2 i l) = _ := share_at (k0_pay13 x1 x2) (k0_pay10 x0 x3) (fades x6 (right (hi x4))) 3 i l
  simp only [fades_at x6 _ _ _ (left_lo x4 hA), fades_at x6 _ _ _ (right_lo x4 hA), fades_at x6 _ _ _ (left_hi x4 hA), fades_at x6 _ _ _ (right_hi x4 hA)] at e0 e1 e2 e3
  generalize share (k0_pay13 x1 x2) (k0_pay10 x0 x3) (fades x6 (left (lo x4))) 0#32 = w0 at e0 ⊢
  generalize share (k0_pay13 x1 x2) (k0_pay10 x0 x3) (fades x6 (right (lo x4))) 1#32 = w1 at e1 ⊢
  generalize share (k0_pay13 x1 x2) (k0_pay10 x0 x3) (fades x6 (left (hi x4))) 2#32 = w2 at e2 ⊢
  generalize share (k0_pay13 x1 x2) (k0_pay10 x0 x3) (fades x6 (right (hi x4))) 3#32 = w3 at e3 ⊢
  pointwise [k0_pay16, k0_pay5, k0_pay8]
  have f0 : w0 (ix2 i l) = _ := e0
  have f1 : w1 (ix2 i l) = _ := e1
  have f2 : w2 (ix2 i l) = _ := e2
  have f3 : w3 (ix2 i l) = _ := e3
  rw [f0, f1, f2, f3]
  rw [four_sums (fun h j => k0_pay13 x1 x2 (ix2 i j) * decay (On x6) (m3 x4) h i j) (fun j => k0_pay10 x0 x3 (ix2 j l)) (headOf l)]
  pointwise [k0_pay13, k0_pay10, k0_pay7, fy, score]

end

end Cert.SsfKer

end
-- ==== Proof.SsfPoint.lean ====
/- What one grid point of the scan stores: for each of its four groups of heads the chunk of `SsfMath` over the point's blocks and
   the state the point before left in the carried array, and that state itself. -/
module

public import proofs.«01_k».proof.Proof.Gen.Kernel17Ideal.Value
public import proofs.«01_k».proof.Proof.SsfKer
public import proofs.«01_k».proof.Proof.SsdPoint
public import Idealize.ShloMosaic.Lib.Pipeline.ReadBack
public import Idealize.ShloMosaic.Lib.Claim

@[expose] public section

set_option maxRecDepth 200000

noncomputable section

namespace Cert.SsfKer

open Cert.Kernel17Ideal Cert.Kernel17Ideal.Gen Idealize.ShloMosaic Idealize.ShloMosaic.TcCoe Idealize.SL.Sem Cert.SsdMath
open Idealize.ShloMosaic.Pipeline (Dat)
open Cert.SsdKer (m2 m3 tot On Flat zero_tile emb_at)

/-! The tiles, given what they hold. -/

section tiles

variable (x0 : Vec Ideal S128x256 .f32) (x1 x2 : Vec Ideal S128x128 .f32) (x3 x4 : Vec Ideal S1x128x256 .f32)
  (x5 : Vec Ideal S1x1x256 .f32) (x6 : Vec Ideal S1x128x128 .f32) (s : Vec Ideal S1x128x256 .f32)
  {X D A P : Mat} {B C : Sq} {T : Fin 256 → EReal}

theorem fill_zero : (k0_pay3 : FVec Ideal S4x128x256 .f32) = fun _ => 0 := by
  funext x
  pointwise [k0_pay3]

theorem fS_eq (h0 : m2 x0 = X) (h1 : m2 x1 = B) (h3 : m3 x3 = D) (h4 : m3 x4 = A) (h5 : ∀ l, x5 (ix3 0 0 l) = T l) (hs : m3 s = P)
    (z : Fin 1) (n : Fin 128) (l : Fin 256) :
    fS x0 x1 x3 x4 x5 s (ix3 z n l) = fs X D A B P (fun l => ∑ i, D i l * T l) n l := by
  subst h0 h1 h3 h4 hs
  rw [Subsingleton.elim z 0, fS_at, show tot x3 x5 = fun l => ∑ i, m3 x3 i l * T l from funext fun l => by simp only [tot, h5]]

theorem fY_eq (hA : Flat A) (h0 : m2 x0 = X) (h1 : m2 x1 = B) (h2 : m2 x2 = C) (h3 : m3 x3 = D) (h4 : m3 x4 = A) (hs : m3 s = P)
    (z : Fin 1) (n : Fin 128) (l : Fin 256) :
    fY x0 x1 x2 x3 x4 x6 s (ix3 z n l) = fy (On x6) X D A B C P n l := by
  subst h0 h1 h2 h3 h4 hs
  rw [Subsingleton.elim z 0, fY_at _ _ _ _ _ _ _ hA]

/-- The state as it is written out. -/
theorem put_eq (hs : m3 s = P) (z0 z1 z2 : Fin 1) (n : Fin 128) (l : Fin 256) : k0_pay6 s (ix5 z0 z1 z2 n l) = P n l := by
  subst hs
  pointwise [k0_pay6, k0_pay5]

theorem put_1 : k0_pay25 s = k0_pay6 s := rfl
theorem put_2 : k0_pay44 s = k0_pay6 s := rfl
theorem put_3 : k0_pay64 s = k0_pay6 s := rfl

end tiles

variable (m : (ℓ : Loc nD τ sig) → Buf (Elt Ideal) ℓ) (c : Dev nD)

/-! The blocks of a point, group by group. -/

abbrev bX (t : Fin cfg0.N) (g : Fin 4) : Mat := fun i l => (show FVec Ideal S128x1024 .f32 from iblk m c 0 t) (ix2 i (⟨256 * g.val + l.val, by omega⟩ : Fin 1024))
abbrev bB (t : Fin cfg0.N) (g : Fin 4) : Sq := fun i n => (show FVec Ideal S128x512 .f32 from iblk m c 1 t) (ix2 i (⟨128 * g.val + n.val, by omega⟩ : Fin 512))
abbrev bC (t : Fin cfg0.N) (g : Fin 4) : Sq := fun i n => (show FVec Ideal S128x512 .f32 from iblk m c 2 t) (ix2 i (⟨128 * g.val + n.val, by omega⟩ : Fin 512))
abbrev bD (t : Fin cfg0.N) (g : Fin 4) : Mat := fun i l => (show FVec Ideal S1x128x1024 .f32 from iblk m c 3 t) (ix3 0 i (⟨256 * g.val + l.val, by omega⟩ : Fin 1024))
abbrev bA (t : Fin cfg0.N) (g : Fin 4) : Mat := fun i l => (show FVec Ideal S1x128x1024 .f32 from iblk m c 4 t) (ix3 0 i (⟨256 * g.val + l.val, by omega⟩ : Fin 1024))
abbrev bR (t : Fin cfg0.N) (g : Fin 4) : Fin 256 → EReal := fun l => (show FVec Ideal S1x1x1024 .f32 from iblk m c 5 t) (ix3 0 0 (⟨256 * g.val + l.val, by omega⟩ : Fin 1024))
abbrev bM (t : Fin cfg0.N) (i j : Fin 128) : Prop := 0 < (show FVec Ideal S1x128x128 .f32 from iblk m c 6 t) (ix3 0 i j)
/-- The chunk's total exponent. -/
abbrev bT (t : Fin cfg0.N) (g : Fin 4) : Fin 256 → EReal := fun l => ∑ i, bD m c t g i l * bR m c t g l
/-- The carried array after a point. -/
abbrev carry (n : ℕ) (h : n < cfg0.N) (g : Fin 4) : Mat := fun x l => (show FVec Ideal S4x128x256 .f32 from (outsAt0 m c n h).2.2) (ix3 g x l)

/-- A later point's carried array. -/
theorem carry_B (t : Fin cfg0.N) (h0 : ¬ t.val % 32 = 0) (g : Fin 4) (n : Fin 128) (l : Fin 256) :
    (outsAt0 m c t.val t.isLt).2.2 (ix3 g n l)
      = fs (bX m c t g) (bD m c t g) (bA m c t g) (bB m c t g) (carry m c (t.val - 1) (by omega) g) (bT m c t g) n l := by
  rw [outsAt0_B m c t h0]
  frame_out
  simp only [read_unread_whole]
  canon_tiles x h
  all_goals
    obtain ⟨z, n', l', rfl⟩ : ∃ (z : Fin 1) (n' : Fin 128) (l' : Fin 256), x = ix3 z n' l' := ⟨x 0, x 1, x 2, eq_ix3 x⟩
    obtain rfl : n = n' := Fin.ext h1
  on_goal 4 =>
    have e : g.val = z.val := h0
    obtain rfl : g = 0 := by omega
    obtain rfl : l = l' := Fin.ext h2
    refine fS_eq _ _ _ _ _ _ ?_ ?_ ?_ ?_ ?_ ?_ z n l
  on_goal 3 =>
    have e : g.val = 1 + z.val := h0
    obtain rfl : g = 1 := by omega
    obtain rfl : l = l' := Fin.ext h2
    rw [fS_1]
    refine fS_eq _ _ _ _ _ _ ?_ ?_ ?_ ?_ ?_ ?_ z n l
  on_goal 2 =>
    have e : g.val = 2 + z.val := h0
    obtain rfl : g = 2 := by omega
    obtain rfl : l = l' := Fin.ext h2
    rw [fS_2]
    refine fS_eq _ _ _ _ _ _ ?_ ?_ ?_ ?_ ?_ ?_ z n l
  on_goal 1 =>
    have e : g.val = 3 + z.val := h0
    obtain rfl : g = 3 := by omega
    obtain rfl : l = l' := Fin.ext h2
    rw [fS_3]
    refine fS_eq _ _ _ _ _ _ ?_ ?_ ?_ ?_ ?_ ?_ z n l
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | rfl

/-- A later point's output. -/
theorem y_B (t : Fin cfg0.N) (h0 : ¬ t.val % 32 = 0) (hA : ∀ g, Flat (bA m c t g)) (g : Fin 4) (n : Fin 128) (l : Fin 256) :
    (outsAt0 m c t.val t.isLt).1 (ix3 0 n (⟨256 * g.val + l.val, by omega⟩ : Fin 1024))
      = fy (bM m c t) (bX m c t g) (bD m c t g) (bA m c t g) (bB m c t g) (bC m c t g) (carry m c (t.val - 1) (by omega) g) n l := by
  rw [outsAt0_B m c t h0]
  frame_out
  simp only [read_unread_whole]
  canon_tiles x h
  all_goals
    obtain ⟨z, n', l', rfl⟩ : ∃ (z : Fin 1) (n' : Fin 128) (l' : Fin 256), x = ix3 z n' l' := ⟨x 0, x 1, x 2, eq_ix3 x⟩
    obtain rfl : n = n' := Fin.ext h1
  on_goal 4 =>
    have e : 256 * g.val + l.val = l'.val := h2
    obtain rfl : g = 0 := by omega
    obtain rfl : l = l' := by omega
    refine fY_eq _ _ _ _ _ _ _ (hA _) ?_ ?_ ?_ ?_ ?_ ?_ z n l
  on_goal 3 =>
    have e : 256 * g.val + l.val = 256 + l'.val := h2
    obtain rfl : g = 1 := by omega
    obtain rfl : l = l' := by omega
    rw [fY_1]
    refine fY_eq _ _ _ _ _ _ _ (hA _) ?_ ?_ ?_ ?_ ?_ ?_ z n l
  on_goal 2 =>
    have e : 256 * g.val + l.val = 512 + l'.val := h2
    obtain rfl : g = 2 := by omega
    obtain rfl : l = l' := by omega
    rw [fY_2]
    refine fY_eq _ _ _ _ _ _ _ (hA _) ?_ ?_ ?_ ?_ ?_ ?_ z n l
  on_goal 1 =>
    have e : 256 * g.val + l.val = 768 + l'.val := h2
    obtain rfl : g = 3 := by omega
    obtain rfl : l = l' := by omega
    rw [fY_3]
    refine fY_eq _ _ _ _ _ _ _ (hA _) ?_ ?_ ?_ ?_ ?_ ?_ z n l
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | rfl

/-- The state a later point writes out. -/
theorem st_B (t : Fin cfg0.N) (h0 : ¬ t.val % 32 = 0) (g : Fin 4) (n : Fin 128) (l : Fin 256) :
    (outsAt0 m c t.val t.isLt).2.1 (ix5 0 0 g n l) = carry m c (t.val - 1) (by omega) g n l := by
  rw [outsAt0_B m c t h0]
  frame_out
  simp only [read_unread_whole]
  canon_tiles x h
  all_goals
    obtain ⟨z0, z1, z2, n', l', rfl⟩ : ∃ (z0 z1 z2 : Fin 1) (n' : Fin 128) (l' : Fin 256), x = ix5 z0 z1 z2 n' l' :=
      ⟨x 0, x 1, x 2, x 3, x 4, eq_ix5 x⟩
    obtain rfl : n = n' := Fin.ext h3
    obtain rfl : l = l' := Fin.ext h4
  on_goal 4 =>
    have e : g.val = z2.val := h2
    obtain rfl : g = 0 := by omega
    refine put_eq _ ?_ z0 z1 z2 n l
  on_goal 3 =>
    have e : g.val = 1 + z2.val := h2
    obtain rfl : g = 1 := by omega
    rw [put_1]
    refine put_eq _ ?_ z0 z1 z2 n l
  on_goal 2 =>
    have e : g.val = 2 + z2.val := h2
    obtain rfl : g = 2 := by omega
    rw [put_2]
    refine put_eq _ ?_ z0 z1 z2 n l
  on_goal 1 =>
    have e : g.val = 3 + z2.val := h2
    obtain rfl : g = 3 := by omega
    rw [put_3]
    refine put_eq _ ?_ z0 z1 z2 n l
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | rfl

/-- The carried array after a direction's first point, at an index. -/
def newS (t : Fin cfg0.N) (y : S4x128x256.Idx) : EReal :=
  fs (bX m c t (y 0)) (bD m c t (y 0)) (bA m c t (y 0)) (bB m c t (y 0)) (fun _ _ => 0) (bT m c t (y 0)) (y 1) (y 2)

/-- A direction's first point's carried array. -/
theorem carry_A (t : Fin cfg0.N) (h0 : t.val % 32 = 0) (g : Fin 4) (n : Fin 128) (l : Fin 256) :
    (outsAt0 m c t.val t.isLt).2.2 (ix3 g n l)
      = fs (bX m c t g) (bD m c t g) (bA m c t g) (bB m c t g) (fun _ _ => 0) (bT m c t g) n l := by
  show _ = newS m c t (ix3 g n l)
  rw [outsAt0_A m c t h0]
  frame_out
  refine View.canon_append_of_piecesOf (Val := Elt Ideal) (e := .f32) (newS m c t) [_] [_, _, _, _]
    ⟨fun x => ?_, fun x => ?_, fun x => ?_, fun x => ?_, trivial⟩ (ix3 g n l) (View.cover_of_tiledL _ ![1, 128, 256] (by rfl) (ix3 g n l))
  all_goals obtain ⟨z, n', l', rfl⟩ : ∃ (z : Fin 1) (n' : Fin 128) (l' : Fin 256), x = ix3 z n' l' := ⟨x 0, x 1, x 2, eq_ix3 x⟩
  on_goal 4 => refine Eq.trans ?_ (congrArg (newS m c t) (emb_at ![0, 0, 0] inb_S4x128x256_S1x128x256_0_0_0 0 rfl z n' l').symm)
  on_goal 3 => refine Eq.trans ?_ (congrArg (newS m c t) (emb_at ![1, 0, 0] inb_S4x128x256_S1x128x256_1_0_0 1 rfl z n' l').symm); rw [fS_1]
  on_goal 2 => refine Eq.trans ?_ (congrArg (newS m c t) (emb_at ![2, 0, 0] inb_S4x128x256_S1x128x256_2_0_0 2 rfl z n' l').symm); rw [fS_2]
  on_goal 1 => refine Eq.trans ?_ (congrArg (newS m c t) (emb_at ![3, 0, 0] inb_S4x128x256_S1x128x256_3_0_0 3 rfl z n' l').symm); rw [fS_3]
  all_goals
    refine fS_eq _ _ _ _ _ _ ?_ ?_ ?_ ?_ ?_ ?_ z n' l'
    case refine_6 =>
      refine zero_tile _ ?_
      (repeat rw [View.readCov_skip _ _ _ _ _ (by rfl)])
      rw [View.readCov_fill _ _ _ _ _ (by decide), fill_zero]
      rfl
    all_goals first
      | exact View.ld_unit_apply_of _ _ _ _ _ _ fun a => by fin_cases a <;> simp
      | (intro l; exact View.ld_unit_apply_of _ _ _ _ _ _ fun a => by fin_cases a <;> simp)
      | (funext i n; exact View.ld_unit_apply_of _ _ _ _ _ _ fun a => by fin_cases a <;> simp)
      | rfl

/-- A direction's first point's output. -/
theorem y_A (t : Fin cfg0.N) (h0 : t.val % 32 = 0) (hA : ∀ g, Flat (bA m c t g)) (g : Fin 4) (n : Fin 128) (l : Fin 256) :
    (outsAt0 m c t.val t.isLt).1 (ix3 0 n (⟨256 * g.val + l.val, by omega⟩ : Fin 1024))
      = fy (bM m c t) (bX m c t g) (bD m c t g) (bA m c t g) (bB m c t g) (bC m c t g) (fun _ _ => 0) n l := by
  rw [outsAt0_A m c t h0]
  frame_out
  canon_tiles x h
  all_goals
    obtain ⟨z, n', l', rfl⟩ : ∃ (z : Fin 1) (n' : Fin 128) (l' : Fin 256), x = ix3 z n' l' := ⟨x 0, x 1, x 2, eq_ix3 x⟩
    obtain rfl : n = n' := Fin.ext h1
  on_goal 4 =>
    have e : 256 * g.val + l.val = l'.val := h2
    obtain rfl : g = 0 := by omega
    obtain rfl : l = l' := by omega
    refine fY_eq _ _ _ _ _ _ _ (hA _) ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 3 =>
    have e : 256 * g.val + l.val = 256 + l'.val := h2
    obtain rfl : g = 1 := by omega
    obtain rfl : l = l' := by omega
    rw [fY_1]
    refine fY_eq _ _ _ _ _ _ _ (hA _) ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 2 =>
    have e : 256 * g.val + l.val = 512 + l'.val := h2
    obtain rfl : g = 2 := by omega
    obtain rfl : l = l' := by omega
    rw [fY_2]
    refine fY_eq _ _ _ _ _ _ _ (hA _) ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  on_goal 1 =>
    have e : 256 * g.val + l.val = 768 + l'.val := h2
    obtain rfl : g = 3 := by omega
    obtain rfl : l = l' := by omega
    rw [fY_3]
    refine fY_eq _ _ _ _ _ _ _ (hA _) ?_ ?_ ?_ ?_ ?_ ?_ z n l
    case refine_6 =>
      refine zero_tile _ ?_
      (repeat rw [View.readCov_skip _ _ _ _ _ (by rfl)])
      rw [View.readCov_fill _ _ _ _ _ (by decide), fill_zero]
      rfl
  all_goals first
    | exact View.ld_unit_apply_of _ _ _ _ _ _ fun a => by fin_cases a <;> simp
    | (intro l; exact View.ld_unit_apply_of _ _ _ _ _ _ fun a => by fin_cases a <;> simp)
    | (funext i n; exact View.ld_unit_apply_of _ _ _ _ _ _ fun a => by fin_cases a <;> simp)
    | rfl

/-- The state a direction's first point writes out: nothing. -/
theorem st_A (t : Fin cfg0.N) (h0 : t.val % 32 = 0) (g : Fin 4) (n : Fin 128) (l : Fin 256) :
    (outsAt0 m c t.val t.isLt).2.1 (ix5 0 0 g n l) = (fun _ _ => 0 : Mat) n l := by
  rw [outsAt0_A m c t h0]
  frame_out
  canon_tiles x h
  all_goals
    obtain ⟨z0, z1, z2, n', l', rfl⟩ : ∃ (z0 z1 z2 : Fin 1) (n' : Fin 128) (l' : Fin 256), x = ix5 z0 z1 z2 n' l' :=
      ⟨x 0, x 1, x 2, x 3, x 4, eq_ix5 x⟩
    obtain rfl : n = n' := Fin.ext h3
    obtain rfl : l = l' := Fin.ext h4
  on_goal 4 =>
    have e : g.val = z2.val := h2
    obtain rfl : g = 0 := by omega
    refine put_eq (P := fun _ _ => 0) _ ?_ z0 z1 z2 n l
    refine zero_tile _ ?_
    (repeat rw [View.readCov_skip _ _ _ _ _ (by rfl)])
    rw [View.readCov_fill _ _ _ _ _ (by decide), fill_zero]
    rfl
  on_goal 3 =>
    have e : g.val = 1 + z2.val := h2
    obtain rfl : g = 1 := by omega
    rw [put_1]
    refine put_eq (P := fun _ _ => 0) _ ?_ z0 z1 z2 n l
    refine zero_tile _ ?_
    (repeat rw [View.readCov_skip _ _ _ _ _ (by rfl)])
    rw [View.readCov_fill _ _ _ _ _ (by decide), fill_zero]
    rfl
  on_goal 2 =>
    have e : g.val = 2 + z2.val := h2
    obtain rfl : g = 2 := by omega
    rw [put_2]
    refine put_eq (P := fun _ _ => 0) _ ?_ z0 z1 z2 n l
    refine zero_tile _ ?_
    (repeat rw [View.readCov_skip _ _ _ _ _ (by rfl)])
    rw [View.readCov_fill _ _ _ _ _ (by decide), fill_zero]
    rfl
  on_goal 1 =>
    have e : g.val = 3 + z2.val := h2
    obtain rfl : g = 3 := by omega
    rw [put_3]
    refine put_eq (P := fun _ _ => 0) _ ?_ z0 z1 z2 n l
    refine zero_tile _ ?_
    (repeat rw [View.readCov_skip _ _ _ _ _ (by rfl)])
    rw [View.readCov_fill _ _ _ _ _ (by decide), fill_zero]
    rfl

end Cert.SsfKer

end
-- ==== Proof.SsfRef.lean ====
/- The reference's scan in steps: its inputs and results in the names of `SsdRef`, and one trip of its loop as one chunk of
   `SsfMath`. -/
module

public import proofs.«01_k».proof.Proof.Gen.Reference17Ideal.Step
public import proofs.«01_k».proof.Proof.SsfMath
public import proofs.«01_k».proof.Proof.SsdLoop

@[expose] public section

set_option maxRecDepth 200000

noncomputable section

namespace Cert.SsfRef

open Cert.Reference17Ideal Cert.Reference17Ideal.Gen Cert.Reference17Ideal.Step Idealize.ShloMosaic Idealize.ShloMosaic.TcCoe Cert.SsdMath
open Cert.SsdRef (xs bs cs dts acs back6 sub sub_lane lane0_head ch cn cl cp cT Upto reaches negInf)

/-- The states entering the chunks, the second direction's chunks back in order. -/
def backP (t : FVec Ideal S32x2x8x4x64x128 .f32) : FVec Ideal S2x32x8x128x256 .f32 :=
  concatenate S2x32x8x128x256 0 [⟨S1x32x8x128x256, (broadcastInDim S1x32x8x128x256 ![1, 2, 3, 4] bcast_S32x8x128x256_S1x32x8x128x256_1_2_3_4 (shapeCast _ (extractStridedSlice S1x32x8x128x256 ![0, 0, 0, 0, 0] (shapeCast _ (transpose S2x32x8x128x4x64 [1, 0, 2, 5, 3, 4] t transposes_S32x2x8x4x64x128_S2x32x8x128x4x64_1_0_2_5_3_4) shapeCasts_S2x32x8x128x4x64_S2x32x8x128x256) slices_S2x32x8x128x256_S1x32x8x128x256_0_0_0_0_0) shapeCasts_S1x32x8x128x256_S32x8x128x256))⟩, ⟨S1x32x8x128x256, (broadcastInDim S1x32x8x128x256 ![1, 2, 3, 4] bcast_S32x8x128x256_S1x32x8x128x256_1_2_3_4 (Host.reverse [0] (shapeCast _ (extractStridedSlice S1x32x8x128x256 ![1, 0, 0, 0, 0] (shapeCast _ (transpose S2x32x8x128x4x64 [1, 0, 2, 5, 3, 4] t transposes_S32x2x8x4x64x128_S2x32x8x128x4x64_1_0_2_5_3_4) shapeCasts_S2x32x8x128x4x64_S2x32x8x128x256) slices_S2x32x8x128x256_S1x32x8x128x256_1_0_0_0_0) shapeCasts_S1x32x8x128x256_S32x8x128x256)))⟩] concatenates_S1x32x8x128x256_S1x32x8x128x256_S2x32x8x128x256_d0

section

variable (s : State Ideal) (a0 : FVec Ideal S4096x4096 .f32) (a1 a2 : FVec Ideal S4096x32 .f32) (a3 a4 : FVec Ideal S32 .f32)

theorem R56 : R_main_v56 (F := Ideal) s = back6 s.main_v46_7 := rfl

theorem R66 : R_main_v66 (F := Ideal) s = backP s.main_v46_8 := rfl

theorem A39 : A_main_v39 (F := Ideal) a0 a1 a2 a3 a4 = transpose S32x2x128x8x4x64 [1, 0, 2, 3, 4, 5] (xs a0) transposes_S2x32x128x8x4x64_S32x2x128x8x4x64_1_0_2_3_4_5 := rfl

theorem A40 : A_main_v40 (F := Ideal) a0 a1 a2 a3 a4 = transpose S32x2x128x8x128 [1, 0, 2, 3, 4] (bs a0) transposes_S2x32x128x8x128_S32x2x128x8x128_1_0_2_3_4 := rfl

theorem A41 : A_main_v41 (F := Ideal) a0 a1 a2 a3 a4 = transpose S32x2x128x8x128 [1, 0, 2, 3, 4] (cs a0) transposes_S2x32x128x8x128_S32x2x128x8x128_1_0_2_3_4 := rfl

theorem A42 : A_main_v42 (F := Ideal) a0 a1 a2 a3 a4 = transpose S32x2x128x8x4 [1, 0, 2, 3, 4] (dts a1 a2) transposes_S2x32x128x8x4_S32x2x128x8x4_1_0_2_3_4 := rfl

theorem A43 : A_main_v43 (F := Ideal) a0 a1 a2 a3 a4 = transpose S32x2x128x8x4 [1, 0, 2, 3, 4] (acs a1 a2 a3 a4) transposes_S2x32x128x8x4_S32x2x128x8x4_1_0_2_3_4 := rfl

end

/-- The states with the chunk's number behind the direction's and the lanes in one axis. -/
theorem lanes_last (t : FVec Ideal S32x2x8x4x64x128 .f32) (d : Fin 2) (k : Fin 32) (g : Fin 8) (n : Fin 128) (l : Fin 256) :
    shapeCast S2x32x8x128x256 (transpose S2x32x8x128x4x64 [1, 0, 2, 5, 3, 4] t transposes_S32x2x8x4x64x128_S2x32x8x128x4x64_1_0_2_5_3_4)
      shapeCasts_S2x32x8x128x4x64_S2x32x8x128x256 (ix5 d k g n l) = t (ix6 k d g (headOf l) (sub l) n) := by
  have e2 : (headOf l).val = l.val / 64 := rfl
  have e3 : (sub l).val = l.val % 64 := rfl
  pointwise
  blk_ext <;> omega

theorem backP_at (t : FVec Ideal S32x2x8x4x64x128 .f32) (d : Fin 2) (k : Fin 32) (g : Fin 8) (n : Fin 128) (l : Fin 256) :
    backP t (ix5 d (if d.val < 1 then k else k.rev) g n l) = t (ix6 k d g (headOf l) (sub l) n) := by
  unfold backP
  rw [← lanes_last t d k g n l]
  generalize shapeCast S2x32x8x128x256 (transpose S2x32x8x128x4x64 [1, 0, 2, 5, 3, 4] t transposes_S32x2x8x4x64x128_S2x32x8x128x4x64_1_0_2_5_3_4)
      shapeCasts_S2x32x8x128x4x64_S2x32x8x128x256 = u
  by_cases hd : d.val < 1
  · simp only [hd, if_true]
    pointwise
    simp only [hd, dif_pos]
    blk_ext <;> omega
  · simp only [hd, if_false]
    pointwise
    simp only [hd, dif_neg, not_false_eq_true, List.mem_singleton, reduceIte, Fin.isValue, one_ne_zero, Fin.reduceEq, Fin.rev_rev]
    blk_ext <;> omega

/-! One trip. -/

variable (q : ℕ) (s : State Ideal) (d : Fin 2) (i j n : Fin 128) (g : Fin 8) (h : Fin 4) (p : Fin 64) (l : Fin 256)

theorem decay_at : b56 q s (ix5 d i j g h) = decay Upto (ch (b30 q s) d g) h i j := by
  pointwise [b56, b55, b54, b53, b52, b51, b50, b49, b48, b47, b46, b45, b44, b43, b42, b41, b40, b39, b38, b37, b36, b35, b34, reaches]
  by_cases hij : j.val ≤ i.val
  · simp only [hij, if_true, decay, ch, lane0_head]
    rfl
  · simp only [hij, if_false, decay]
    rw [negInf]
    rfl

theorem score_at : b58 q s (ix4 d i j g) = score (cn (b12 q s) d g) (cn (b18 q s) d g) i j := by
  pointwise [b58, b57, score]
  exact Finset.sum_congr rfl fun x _ => mul_comm _ _

theorem toEnd_at : b67 q s (ix4 d i g h) = Ideal.exp (b30 q s (ix4 d 127 g h) - b30 q s (ix4 d i g h)) := by
  pointwise [b67, b66, b65, b64]

theorem xdt_at : b33 q s (ix5 d i g h p) = b6 q s (ix5 d i g h p) * b24 q s (ix4 d i g h) := by
  pointwise [b33, b32, b31]

theorem y_at : b85 q s (ix5 d i g (headOf l) (sub l))
    = fy Upto (cl (b6 q s) d g) (ch (b24 q s) d g) (ch (b30 q s) d g) (cn (b12 q s) d g) (cn (b18 q s) d g) (cp s.main_v46_6 d g) i l := by
  pointwise [b85, b77, b76, b75, b74, b73, b72, b63, b62, b61, b60, b59, score_at, decay_at, xdt_at, fy]
  rw [add_comm]
  simp only [mul_comm (s.main_v46_6 _), mul_comm (b6 q s _ * b24 q s _)]

theorem state_at : b84 q s (ix5 d g (headOf l) (sub l) n)
    = fs (cl (b6 q s) d g) (ch (b24 q s) d g) (ch (b30 q s) d g) (cn (b12 q s) d g) (cp s.main_v46_6 d g) (cT (b30 q s) d g) n l := by
  pointwise [b84, b83, b82, b81, b80, b79, b78, b71, b70, b69, b68, toEnd_at, xdt_at, fs]
  simp only [mul_comm (b12 q s _)]

end Cert.SsfRef

end
-- ==== Proof.SsfLoop.lean ====
/- The reference's scan over the chunks: what each trip reads, the carried state after each trip, and the stacks of the outputs and
   of the states entering the chunks. -/
module

public import proofs.«01_k».proof.Proof.SsfRef
public import Idealize.ShloMosaic.Lib.DynamicIndex

@[expose] public section

set_option maxRecDepth 200000

noncomputable section

namespace Cert.SsfRef

open Cert.Reference17Ideal Cert.Reference17Ideal.Gen Cert.Reference17Ideal.Step Idealize.ShloMosaic Idealize.ShloMosaic.TcCoe Cert.SsdMath
open Cert.SsdRef (xs bs cs dts acs sub ch cn cl cp cT mh mn ml mT Upto front_l front_n front_h)

/-- The chunk a trip reads. -/
def chunk (j : ℕ) : Fin 32 := ⟨j % 32, by omega⟩

theorem chunk_word (j : ℕ) (hj : j < 32) : (BitVec.ofNat 32 j).toInt = (j : Int) := by
  have : ∀ k : Fin 32, (BitVec.ofNat 32 k.val).toInt = (k.val : Int) := by decide +kernel
  exact this ⟨j, hj⟩

/-- Every start of a trip: the chunk, and zero on the other axes. -/
theorem starts6 (j : ℕ) (hj : j < 32) (a : Fin 6) :
    ((![constantI S_ 32 (BitVec.ofNat 32 j), constantI S_ 32 0#32, constantI S_ 32 0#32, constantI S_ 32 0#32, constantI S_ 32 0#32, constantI S_ 32 0#32] : Fin 6 → IVec S_ 32) a
      (Shape.Idx.first h_S_)).toInt = ((![j, 0, 0, 0, 0, 0] : Fin 6 → ℕ) a : Int) := by
  fin_cases a
  · exact chunk_word j hj
  all_goals rfl

theorem starts5 (j : ℕ) (hj : j < 32) (a : Fin 5) :
    ((![constantI S_ 32 (BitVec.ofNat 32 j), constantI S_ 32 0#32, constantI S_ 32 0#32, constantI S_ 32 0#32, constantI S_ 32 0#32] : Fin 5 → IVec S_ 32) a
      (Shape.Idx.first h_S_)).toInt = ((![j, 0, 0, 0, 0] : Fin 5 → ℕ) a : Int) := by
  fin_cases a
  · exact chunk_word j hj
  all_goals rfl

section reads

variable (j : ℕ) (hj : j < 32) (s : State Ideal) (d : Fin 2) (i n : Fin 128) (g : Fin 8) (r : Fin 4) (p : Fin 64)

include hj

theorem fitsX : S32x2x128x8x4x64.Slices ![j, 0, 0, 0, 0, 0] S1x2x128x8x4x64 :=
  ⟨rfl, fun a => by fin_cases a <;> simp <;> omega⟩

theorem fitsP : S32x2x8x4x64x128.Slices ![j, 0, 0, 0, 0, 0] S1x2x8x4x64x128 :=
  ⟨rfl, fun a => by fin_cases a <;> simp <;> omega⟩

theorem fitsB : S32x2x128x8x128.Slices ![j, 0, 0, 0, 0] S1x2x128x8x128 :=
  ⟨rfl, fun a => by fin_cases a <;> simp <;> omega⟩

theorem fitsD : S32x2x128x8x4.Slices ![j, 0, 0, 0, 0] S1x2x128x8x4 :=
  ⟨rfl, fun a => by fin_cases a <;> simp <;> omega⟩

theorem chunk_val : (chunk j).val = j := Nat.mod_eq_of_lt hj

theorem read0 : b6 j s (ix5 d i g r p) = s.main_v46_0 (ix6 (chunk j) d i g r p) := by
  have e : b5 j s = extractStridedSlice S1x2x128x8x4x64 ![j, 0, 0, 0, 0, 0] s.main_v46_0 (fitsX j hj) :=
    Host.dynamicSlice_eq_extractStridedSlice _ _ _ _ _ (fitsX j hj) (starts6 j hj)
  have ec := chunk_val j hj
  rw [show chunk j = ⟨j, hj⟩ from Fin.ext ec]
  pointwise [b6]
  rw [e]
  pointwise

theorem read1 : b12 j s (ix4 d i g n) = s.main_v46_1 (ix5 (chunk j) d i g n) := by
  have e : b11 j s = extractStridedSlice S1x2x128x8x128 ![j, 0, 0, 0, 0] s.main_v46_1 (fitsB j hj) :=
    Host.dynamicSlice_eq_extractStridedSlice _ _ _ _ _ (fitsB j hj) (starts5 j hj)
  have ec := chunk_val j hj
  rw [show chunk j = ⟨j, hj⟩ from Fin.ext ec]
  pointwise [b12]
  rw [e]
  pointwise

theorem read2 : b18 j s (ix4 d i g n) = s.main_v46_2 (ix5 (chunk j) d i g n) := by
  have e : b17 j s = extractStridedSlice S1x2x128x8x128 ![j, 0, 0, 0, 0] s.main_v46_2 (fitsB j hj) :=
    Host.dynamicSlice_eq_extractStridedSlice _ _ _ _ _ (fitsB j hj) (starts5 j hj)
  have ec := chunk_val j hj
  rw [show chunk j = ⟨j, hj⟩ from Fin.ext ec]
  pointwise [b18]
  rw [e]
  pointwise

theorem read3 : b24 j s (ix4 d i g r) = s.main_v46_3 (ix5 (chunk j) d i g r) := by
  have e : b23 j s = extractStridedSlice S1x2x128x8x4 ![j, 0, 0, 0, 0] s.main_v46_3 (fitsD j hj) :=
    Host.dynamicSlice_eq_extractStridedSlice _ _ _ _ _ (fitsD j hj) (starts5 j hj)
  have ec := chunk_val j hj
  rw [show chunk j = ⟨j, hj⟩ from Fin.ext ec]
  pointwise [b24]
  rw [e]
  pointwise

theorem read4 : b30 j s (ix4 d i g r) = s.main_v46_4 (ix5 (chunk j) d i g r) := by
  have e : b29 j s = extractStridedSlice S1x2x128x8x4 ![j, 0, 0, 0, 0] s.main_v46_4 (fitsD j hj) :=
    Host.dynamicSlice_eq_extractStridedSlice _ _ _ _ _ (fitsD j hj) (starts5 j hj)
  have ec := chunk_val j hj
  rw [show chunk j = ⟨j, hj⟩ from Fin.ext ec]
  pointwise [b30]
  rw [e]
  pointwise

theorem stack7 (k : Fin 32) : (step j s).main_v46_7 (ix6 k d i g r p)
    = if k = chunk j then b85 j s (ix5 d i g r p) else s.main_v46_7 (ix6 k d i g r p) := by
  rw [step_main_v46_7]
  have e : b92 j s = updateSlice s.main_v46_7 (b86 j s) ![j, 0, 0, 0, 0, 0] (fitsX j hj) :=
    Host.dynamicUpdateSlice_eq_updateSlice _ _ _ _ _ (fun a => by
      have h := starts6 j hj a
      have hf := (fitsX j hj).2 a
      refine (congrArg (fun z : Int => (min (max z 0) _).toNat) h).trans ?_
      omega) (fitsX j hj)
  rw [e]
  have ec := chunk_val j hj
  pointwise [b86]
  by_cases hk : k = chunk j
  · have : k.val = j := (congrArg Fin.val hk).trans ec
    rw [if_pos hk, dif_pos ⟨by omega, by omega⟩]
  · have : k.val ≠ j := fun h => hk (Fin.ext (h.trans ec.symm))
    rw [if_neg hk, dif_neg (by omega)]

theorem stack8 (k : Fin 32) : (step j s).main_v46_8 (ix6 k d g r p n)
    = if k = chunk j then s.main_v46_6 (ix5 d g r p n) else s.main_v46_8 (ix6 k d g r p n) := by
  rw [step_main_v46_8]
  have e : b99 j s = updateSlice s.main_v46_8 (b93 j s) ![j, 0, 0, 0, 0, 0] (fitsP j hj) :=
    Host.dynamicUpdateSlice_eq_updateSlice _ _ _ _ _ (fun a => by
      have h := starts6 j hj a
      have hf := (fitsP j hj).2 a
      refine (congrArg (fun z : Int => (min (max z 0) _).toNat) h).trans ?_
      omega) (fitsP j hj)
  rw [e]
  have ec := chunk_val j hj
  pointwise [b93]
  by_cases hk : k = chunk j
  · have : k.val = j := (congrArg Fin.val hk).trans ec
    rw [if_pos hk, dif_pos ⟨by omega, by omega⟩]
  · have : k.val ≠ j := fun h => hk (Fin.ext (h.trans ec.symm))
    rw [if_neg hk, dif_neg (by omega)]

end reads

/-! The scan. -/

/-- The carried state after `n` trips. -/
def flow (x : FVec Ideal S2x32x128x8x4x64 .f32) (dt ac : FVec Ideal S2x32x128x8x4 .f32) (b : FVec Ideal S2x32x128x8x128 .f32) :
    ℕ → Fin 2 → Fin 8 → Mat
  | 0, _, _ => fun _ _ => 0
  | n + 1, d, g => fs (ml x d (chunk n) g) (mh dt d (chunk n) g) (mh ac d (chunk n) g) (mn b d (chunk n) g) (flow x dt ac b n d g) (mT ac d (chunk n) g)

variable (a0 : FVec Ideal S4096x4096 .f32) (a1 a2 : FVec Ideal S4096x32 .f32) (a3 a4 : FVec Ideal S32 .f32)
variable (it : ℕ → State Ideal) (h0 : it 0 = init a0 a1 a2 a3 a4) (hs : ∀ n, it (n + 1) = step n (it n))

include h0 hs

theorem kept0 (n : ℕ) : (it n).main_v46_0 = A_main_v39 a0 a1 a2 a3 a4 := by
  induction n with
  | zero => rw [h0]; rfl
  | succ n ih => rw [hs]; exact ih

theorem kept1 (n : ℕ) : (it n).main_v46_1 = A_main_v40 a0 a1 a2 a3 a4 := by
  induction n with
  | zero => rw [h0]; rfl
  | succ n ih => rw [hs]; exact ih

theorem kept2 (n : ℕ) : (it n).main_v46_2 = A_main_v41 a0 a1 a2 a3 a4 := by
  induction n with
  | zero => rw [h0]; rfl
  | succ n ih => rw [hs]; exact ih

theorem kept3 (n : ℕ) : (it n).main_v46_3 = A_main_v42 a0 a1 a2 a3 a4 := by
  induction n with
  | zero => rw [h0]; rfl
  | succ n ih => rw [hs]; exact ih

theorem kept4 (n : ℕ) : (it n).main_v46_4 = A_main_v43 a0 a1 a2 a3 a4 := by
  induction n with
  | zero => rw [h0]; rfl
  | succ n ih => rw [hs]; exact ih

/-! The chunk a trip reads, as matrices of the whole arrays. -/

theorem mat0 (n : ℕ) (hn : n < 32) (d : Fin 2) (g : Fin 8) : cl (b6 n (it n)) d g = ml (xs a0) d (chunk n) g := by
  funext i l
  refine (read0 n hn (it n) _ _ _ _ _).trans ?_
  rw [kept0 a0 a1 a2 a3 a4 it h0 hs, A39]
  exact front_l _ _ _ _ _ _ _

theorem mat1 (n : ℕ) (hn : n < 32) (d : Fin 2) (g : Fin 8) : cn (b12 n (it n)) d g = mn (bs a0) d (chunk n) g := by
  funext i l
  refine (read1 n hn (it n) _ _ _ _).trans ?_
  rw [kept1 a0 a1 a2 a3 a4 it h0 hs, A40]
  exact front_n _ _ _ _ _ _

theorem mat2 (n : ℕ) (hn : n < 32) (d : Fin 2) (g : Fin 8) : cn (b18 n (it n)) d g = mn (cs a0) d (chunk n) g := by
  funext i l
  refine (read2 n hn (it n) _ _ _ _).trans ?_
  rw [kept2 a0 a1 a2 a3 a4 it h0 hs, A41]
  exact front_n _ _ _ _ _ _

theorem mat3 (n : ℕ) (hn : n < 32) (d : Fin 2) (g : Fin 8) : ch (b24 n (it n)) d g = mh (dts a1 a2) d (chunk n) g := by
  funext i l
  refine (read3 n hn (it n) _ _ _ _).trans ?_
  rw [kept3 a0 a1 a2 a3 a4 it h0 hs, A42]
  exact front_h _ _ _ _ _ _

theorem mat4 (n : ℕ) (hn : n < 32) (d : Fin 2) (g : Fin 8) : ch (b30 n (it n)) d g = mh (acs a1 a2 a3 a4) d (chunk n) g := by
  funext i l
  refine (read4 n hn (it n) _ _ _ _).trans ?_
  rw [kept4 a0 a1 a2 a3 a4 it h0 hs, A43]
  exact front_h _ _ _ _ _ _

theorem matT (n : ℕ) (hn : n < 32) (d : Fin 2) (g : Fin 8) : cT (b30 n (it n)) d g = mT (acs a1 a2 a3 a4) d (chunk n) g :=
  funext fun l => congrFun (congrFun (mat4 a0 a1 a2 a3 a4 it h0 hs n hn d g) 127) l

theorem carried (n : ℕ) (hn : n ≤ 32) (d : Fin 2) (g : Fin 8) :
    cp (it n).main_v46_6 d g = flow (xs a0) (dts a1 a2) (acs a1 a2 a3 a4) (bs a0) n d g := by
  induction n with
  | zero =>
    rw [h0]
    funext x l
    show K_main_v38 (F := Ideal) (ix5 d g (headOf l) (sub l) x) = 0
    pointwise [K_main_v38, K_main_cst]
  | succ n ih =>
    funext x l
    rw [hs]
    refine (state_at n (it n) d x g l).trans ?_
    rw [ih (by omega), mat0 a0 a1 a2 a3 a4 it h0 hs n (by omega), mat1 a0 a1 a2 a3 a4 it h0 hs n (by omega), mat3 a0 a1 a2 a3 a4 it h0 hs n (by omega), mat4 a0 a1 a2 a3 a4 it h0 hs n (by omega), matT a0 a1 a2 a3 a4 it h0 hs n hn]
    simp only [flow]

theorem y_stack (j : ℕ) (hj : j ≤ 32) (k : Fin 32) (hk : k.val < j) (d : Fin 2) (g : Fin 8) (i : Fin 128) (l : Fin 256) :
    (it j).main_v46_7 (ix6 k d i g (headOf l) (sub l)) = fy Upto (ml (xs a0) d k g) (mh (dts a1 a2) d k g) (mh (acs a1 a2 a3 a4) d k g)
      (mn (bs a0) d k g) (mn (cs a0) d k g) (flow (xs a0) (dts a1 a2) (acs a1 a2 a3 a4) (bs a0) k.val d g) i l := by
  induction j with
  | zero => exact absurd hk (by omega)
  | succ j ih =>
    rw [hs, stack7 j (by omega)]
    by_cases h : k = chunk j
    · rw [if_pos h, y_at]
      rw [mat0 a0 a1 a2 a3 a4 it h0 hs j (by omega), mat1 a0 a1 a2 a3 a4 it h0 hs j (by omega), mat2 a0 a1 a2 a3 a4 it h0 hs j (by omega), mat3 a0 a1 a2 a3 a4 it h0 hs j (by omega), mat4 a0 a1 a2 a3 a4 it h0 hs j (by omega), carried a0 a1 a2 a3 a4 it h0 hs j (by omega)]
      have e : k.val = j := (congrArg Fin.val h).trans (chunk_val j (by omega))
      rw [e, h]
    · have : k.val ≠ j := fun e => h (Fin.ext (e.trans (chunk_val j (by omega)).symm))
      rw [if_neg h, ih (by omega) (by omega)]

theorem state_stack (j : ℕ) (hj : j ≤ 32) (k : Fin 32) (hk : k.val < j) (d : Fin 2) (g : Fin 8) (n : Fin 128) (l : Fin 256) :
    (it j).main_v46_8 (ix6 k d g (headOf l) (sub l) n) = flow (xs a0) (dts a1 a2) (acs a1 a2 a3 a4) (bs a0) k.val d g n l := by
  induction j with
  | zero => exact absurd hk (by omega)
  | succ j ih =>
    rw [hs, stack8 j (by omega)]
    by_cases h : k = chunk j
    · rw [if_pos h]
      have e : k.val = j := (congrArg Fin.val h).trans (chunk_val j (by omega))
      rw [e, ← carried a0 a1 a2 a3 a4 it h0 hs j (by omega)]
    · have : k.val ≠ j := fun e => h (Fin.ext (e.trans (chunk_val j (by omega)).symm))
      rw [if_neg h, ih (by omega) (by omega)]

end Cert.SsfRef

end
-- ==== Proof.SsfBlk.lean ====
/- What the blocks of the scan hold at a grid point, as the reference's arrays: point `t` works in direction `t / 64` on the groups of
   half `t / 32 % 2`, and on the chunk that the reference reaches at trip `t % 32`; in the second direction the rows are turned. -/
module

public import proofs.«01_k».proof.Proof.SsdBlk
public import proofs.«01_k».proof.Proof.SsfPoint
public import proofs.«01_k».proof.Proof.SsfLoop

@[expose] public section

set_option maxRecDepth 200000

noncomputable section

namespace Cert.SsfKer

open Cert.Kernel17Ideal Cert.Kernel17Ideal.Gen Idealize.ShloMosaic Idealize.ShloMosaic.TcCoe Idealize.SL.Sem Cert.SsdMath
open Cert.SsdRef (cum xs bs cs dts acs ml mh mn mT rowOf Upto)
open Cert.SsdKer (Flat both both1 tris both_at both1_at tris_at cum_rows_at turned_at rowTurn turn_val)

/-- The chunk of the sequence that point `n` works on. -/
def nk (n : ℕ) : ℕ := if n / 64 < 1 then n % 32 else 31 - n % 32

theorem idx : ∀ t : Fin cfg0.N, win0_0.index t = ![nk t.val, t.val / 32 % 2] ∧ win0_1.index t = ![nk t.val, 4 + t.val / 32 % 2]
    ∧ win0_2.index t = ![nk t.val, 6 + t.val / 32 % 2] ∧ win0_3.index t = ![t.val / 64, nk t.val, t.val / 32 % 2]
    ∧ win0_4.index t = ![t.val / 64, nk t.val, t.val / 32 % 2] ∧ win0_5.index t = ![t.val / 64, 0, t.val / 32 % 2]
    ∧ win0_6.index t = ![t.val / 64, 0, 0] ∧ win0_7.index t = ![t.val / 64, nk t.val, t.val / 32 % 2]
    ∧ win0_8.index t = ![t.val / 64, nk t.val, t.val / 32 % 2, 0, 0] :=
  (by decide +kernel : ∀ t : Fin grid0.N, _)

theorem t_lt (t : Fin cfg0.N) : t.val < 128 := lt_of_lt_of_eq t.isLt N_0

/-- The direction of point `t`. -/
def dd (t : Fin cfg0.N) : Fin 2 := ⟨t.val / 64, by have := t_lt t; omega⟩
/-- The reference's chunk at point `t`. -/
def kk (t : Fin cfg0.N) : Fin 32 := ⟨t.val % 32, by omega⟩
/-- The group that is `g`-th at point `t`. -/
def g8 (t : Fin cfg0.N) (g : Fin 4) : Fin 8 := ⟨t.val / 32 % 2 * 4 + g.val, by omega⟩
theorem row_val (t : Fin cfg0.N) (i : Fin 128) : (rowOf (dd t) (kk t) (rowTurn (dd t) i)).val = nk t.val * 128 + i.val := by
  have ht := t_lt t
  have e := turn_val (dd t) i
  have hd : (dd t).val = t.val / 64 := rfl
  have hk : (kk t).val = t.val % 32 := rfl
  have hi := i.isLt
  unfold rowOf nk
  rw [hd] at e ⊢
  by_cases h : t.val / 64 < 1
  · simp only [h, if_true] at e ⊢; rw [hk, e]
  · simp only [h, if_false] at e ⊢; rw [Fin.val_rev]; simp only [hk, e]; omega

variable (m : (ℓ : Loc nD τ sig) → Buf (Elt Ideal) ℓ) (c : Dev nD)

theorem V_main_v6 : V m c main_v6 = both (m ((c : Thread nD τ).loc main_arg1)) (m ((c : Thread nD τ).loc main_arg2)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

theorem V_main_v36 : V m c main_v36 = both1 (m ((c : Thread nD τ).loc main_arg3)) (m ((c : Thread nD τ).loc main_arg4)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

theorem V_main_v44 : V m c main_v44 = tris := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

theorem V_main_v27 : V m c main_v27 = both (shapeCast S4096x32 (cum (m ((c : Thread nD τ).loc main_arg1)) (m ((c : Thread nD τ).loc main_arg3))) shapeCasts_S32x128x32_S4096x32)
        (Host.reverse [0] (shapeCast S4096x32 (cum (Host.reverse [0] (m ((c : Thread nD τ).loc main_arg2))) (m ((c : Thread nD τ).loc main_arg4)))
          shapeCasts_S32x128x32_S4096x32)) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

theorem bX_eq (t : Fin cfg0.N) (g : Fin 4) : bX m c t g = fun i l => ml (xs (m ((c : Thread nD τ).loc main_arg0))) (dd t) (kk t) (g8 t g) (rowTurn (dd t) i) l := by
  funext i l
  have ht := t_lt t
  have er := row_val t i
  rw [Cert.SsdRef.xs_at]
  have hg : (g8 t g).val = t.val / 32 % 2 * 4 + g.val := rfl
  simp only [bX]
  blk_ext [iblk, V_main_arg0 m c, idx t]

theorem bB_eq (t : Fin cfg0.N) (g : Fin 4) : bB m c t g = fun i n => mn (bs (m ((c : Thread nD τ).loc main_arg0))) (dd t) (kk t) (g8 t g) (rowTurn (dd t) i) n := by
  funext i n
  have ht := t_lt t
  have er := row_val t i
  rw [Cert.SsdRef.bs_at]
  have hg : (g8 t g).val = t.val / 32 % 2 * 4 + g.val := rfl
  simp only [bB]
  blk_ext [iblk, V_main_arg0 m c, idx t]

theorem bC_eq (t : Fin cfg0.N) (g : Fin 4) : bC m c t g = fun i n => mn (cs (m ((c : Thread nD τ).loc main_arg0))) (dd t) (kk t) (g8 t g) (rowTurn (dd t) i) n := by
  funext i n
  have ht := t_lt t
  have er := row_val t i
  rw [Cert.SsdRef.cs_at]
  have hg : (g8 t g).val = t.val / 32 % 2 * 4 + g.val := rfl
  simp only [bC]
  blk_ext [iblk, V_main_arg0 m c, idx t]

/-- The chunk of the sequence in the reference's numbering. -/
theorem nk_eq (t : Fin cfg0.N) : (if (dd t).val < 1 then kk t else (kk t).rev).val = nk t.val := by
  unfold nk; show (if t.val / 64 < 1 then kk t else (kk t).rev).val = _
  split
  · rfl
  · rw [Fin.val_rev]; show 32 - (t.val % 32 + 1) = 31 - t.val % 32; omega

/-- A prepared array over lanes, read at a block's place. -/
theorem lane_col (t : Fin cfg0.N) (g : Fin 4) (l : Fin 256) : (t.val / 32 % 2 * 1024 + (256 * g.val + l.val)) / 64 = (g8 t g).val * 4 + l.val / 64 := by
  show _ = (t.val / 32 % 2 * 4 + g.val) * 4 + l.val / 64
  omega

theorem nk_lt (t : Fin cfg0.N) : nk t.val < 32 := by
  unfold nk; split <;> omega

theorem bD_at (t : Fin cfg0.N) (g : Fin 4) (i : Fin 128) (l : Fin 256) (X : FVec Ideal S2x4096x2048 .f32) (hX : V m c main_v6 = X) :
    bD m c t g i l = X (ix3 (dd t) (rowOf (dd t) (kk t) (rowTurn (dd t) i)) (⟨t.val / 32 % 2 * 1024 + (256 * g.val + l.val), by omega⟩ : Fin 2048)) := by
  subst hX
  have er := row_val t i
  have hd : (dd t).val = t.val / 64 := rfl
  simp only [bD]
  blk_ext [iblk, idx t]

theorem bA_at (t : Fin cfg0.N) (g : Fin 4) (i : Fin 128) (l : Fin 256) (X : FVec Ideal S2x4096x2048 .f32) (hX : V m c main_v27 = X) :
    bA m c t g i l = X (ix3 (dd t) (rowOf (dd t) (kk t) (rowTurn (dd t) i)) (⟨t.val / 32 % 2 * 1024 + (256 * g.val + l.val), by omega⟩ : Fin 2048)) := by
  subst hX
  have er := row_val t i
  have hd : (dd t).val = t.val / 64 := rfl
  simp only [bA]
  blk_ext [iblk, idx t]

theorem bR_at (t : Fin cfg0.N) (g : Fin 4) (l : Fin 256) (X : FVec Ideal S2x1x2048 .f32) (hX : V m c main_v36 = X) :
    bR m c t g l = X (ix3 (dd t) 0 (⟨t.val / 32 % 2 * 1024 + (256 * g.val + l.val), by omega⟩ : Fin 2048)) := by
  subst hX
  have hd : (dd t).val = t.val / 64 := rfl
  simp only [bR]
  blk_ext [iblk, idx t]

theorem bM_at (t : Fin cfg0.N) (i j : Fin 128) (X : FVec Ideal S2x128x128 .f32) (hX : V m c main_v44 = X) :
    bM m c t i j ↔ 0 < X (ix3 (dd t) i j) := by
  subst hX
  have hd : (dd t).val = t.val / 64 := rfl
  refine iff_of_eq (congrArg (0 < ·) ?_)
  blk_ext [iblk, idx t]

theorem bD_eq (t : Fin cfg0.N) (g : Fin 4) : bD m c t g = fun i l => mh (dts (m ((c : Thread nD τ).loc main_arg1)) (m ((c : Thread nD τ).loc main_arg2))) (dd t) (kk t) (g8 t g) (rowTurn (dd t) i) l := by
  funext i l
  rw [bD_at m c t g i l _ (V_main_v6 m c), both_at, Cert.SsdRef.dts_at]
  refine congrArg _ (congrArg _ (Fin.ext (lane_col t g l)))

theorem bA_eq (t : Fin cfg0.N) (g : Fin 4) : bA m c t g = fun i l => mh (acs (m ((c : Thread nD τ).loc main_arg1)) (m ((c : Thread nD τ).loc main_arg2)) (m ((c : Thread nD τ).loc main_arg3)) (m ((c : Thread nD τ).loc main_arg4))) (dd t) (kk t) (g8 t g) (rowTurn (dd t) i) l := by
  funext i l
  rw [bA_at m c t g i l _ (V_main_v27 m c), both_at, Cert.SsdRef.acs_at]
  have e := lane_col t g l
  have er := row_val t i
  have hn := nk_lt t
  have et := turn_val (dd t) i
  have hk : (kk t).val = t.val % 32 := rfl
  have en : nk t.val = if (dd t).val < 1 then t.val % 32 else 31 - t.val % 32 := rfl
  by_cases h : (dd t).val < 1
  · simp only [h, if_true] at et en ⊢
    rw [cum_rows_at]
    congr 1
    refine congr (congr (congrArg ix3 (Fin.ext ?_)) (Fin.ext ?_)) (Fin.ext e)
    · show (rowOf _ _ _).val / 128 = _; omega
    · show (rowOf _ _ _).val % 128 = _; omega
  · simp only [h, if_false] at et en ⊢
    rw [turned_at, cum_rows_at]
    congr 1
    refine congr (congr (congrArg ix3 (Fin.ext ?_)) (Fin.ext ?_)) (Fin.ext e)
    · show (Fin.rev (rowOf _ _ _)).val / 128 = _; rw [Fin.val_rev]; omega
    · show (Fin.rev (rowOf _ _ _)).val % 128 = _; rw [Fin.val_rev]; omega

theorem bR_eq (t : Fin cfg0.N) (g : Fin 4) (l : Fin 256) :
    bR m c t g l = (if (dd t).val < 1 then (m ((c : Thread nD τ).loc main_arg3)) else (m ((c : Thread nD τ).loc main_arg4)) : FVec Ideal S32 .f32) (ix1 (⟨(g8 t g).val * 4 + l.val / 64, by omega⟩ : Fin 32)) := by
  rw [bR_at m c t g l _ (V_main_v36 m c), both1_at]
  refine congrArg _ (congrArg _ (Fin.ext (lane_col t g l)))

theorem bT_eq (t : Fin cfg0.N) (g : Fin 4) : bT m c t g = mT (acs (m ((c : Thread nD τ).loc main_arg1)) (m ((c : Thread nD τ).loc main_arg2)) (m ((c : Thread nD τ).loc main_arg3)) (m ((c : Thread nD τ).loc main_arg4))) (dd t) (kk t) (g8 t g) := by
  funext l
  rw [Cert.SsdRef.total_at, ← Equiv.sum_comp (rowTurn (dd t))]
  refine Finset.sum_congr rfl fun i _ => ?_
  show bD m c t g i l * bR m c t g l = _
  rw [bR_eq, bD_eq]

theorem bM_iff (t : Fin cfg0.N) (i j : Fin 128) : bM m c t i j ↔ Upto (rowTurn (dd t) i) (rowTurn (dd t) j) := by
  rw [bM_at m c t i j _ (V_main_v44 m c), tris_at]
  have hi := turn_val (dd t) i
  have hj := turn_val (dd t) j
  show _ ↔ (rowTurn (dd t) j).val ≤ (rowTurn (dd t) i).val
  rw [hi, hj]
  split <;> omega

theorem bA_flat (t : Fin cfg0.N) (g : Fin 4) : Flat (bA m c t g) := by
  intro i l
  rw [bA_eq]
  refine congrArg (acs (m ((c : Thread nD τ).loc main_arg1)) (m ((c : Thread nD τ).loc main_arg2)) (m ((c : Thread nD τ).loc main_arg3)) (m ((c : Thread nD τ).loc main_arg4))) (congrArg (ix5 _ _ _ _) (Fin.ext ?_))
  simp only [headOf, lane0]
  omega

end Cert.SsfKer

end
-- ==== Proof.SsfFlow.lean ====
/- The state carried from chunk to chunk in the scan's scratch is the reference's, and each grid point writes the reference's rows
   and states. -/
module

public import proofs.«01_k».proof.Proof.SsfBlk

@[expose] public section

set_option maxRecDepth 200000

noncomputable section

namespace Cert.SsfKer

open Cert.Kernel17Ideal Cert.Kernel17Ideal.Gen Idealize.ShloMosaic Idealize.ShloMosaic.TcCoe Idealize.SL.Sem Cert.SsdMath
open Cert.SsdRef (xs bs cs dts acs ml mh mn mT Upto)
open Cert.SsdKer (rowTurn)
open Cert.SsfRef (flow chunk)

variable (m : (ℓ : Loc nD τ sig) → Buf (Elt Ideal) ℓ) (c : Dev nD)

/-- The reference's columns, step sizes and running sums over the launched arrays. -/
abbrev rX := xs (m ((c : Thread nD τ).loc main_arg0))
abbrev rB := bs (m ((c : Thread nD τ).loc main_arg0))
abbrev rC := cs (m ((c : Thread nD τ).loc main_arg0))
abbrev rD := dts (m ((c : Thread nD τ).loc main_arg1)) (m ((c : Thread nD τ).loc main_arg2))
abbrev rA := acs (m ((c : Thread nD τ).loc main_arg1)) (m ((c : Thread nD τ).loc main_arg2)) (m ((c : Thread nD τ).loc main_arg3)) (m ((c : Thread nD τ).loc main_arg4))

/-- The state carried into trip `n` of direction `d`, group `g`. -/
abbrev rS (n : ℕ) (d : Fin 2) (g : Fin 8) : Mat := flow (rX m c) (rD m c) (rA m c) (rB m c) n d g

theorem kk_eq (t : Fin cfg0.N) : kk t = chunk (t.val % 32) := Fin.ext (by show t.val % 32 = t.val % 32 % 32; omega)

/-- One trip at point `t`, on the rows as the kernel meets them. -/
theorem trip (t : Fin cfg0.N) (g : Fin 4) (n : Fin 128) (l : Fin 256) :
    fs (bX m c t g) (bD m c t g) (bA m c t g) (bB m c t g) (rS m c (t.val % 32) (dd t) (g8 t g)) (bT m c t g) n l
      = rS m c (t.val % 32 + 1) (dd t) (g8 t g) n l := by
  rw [bT_eq, bX_eq, bD_eq, bA_eq, bB_eq]
  refine (fs_perm (rowTurn (dd t)) _ _ _ _ _ _ n l).trans ?_
  rw [kk_eq]
  rfl

/-- After point `n` the scratch holds what the reference carries out of the same trip. -/
theorem carry_eq (n : ℕ) : ∀ (h : n < cfg0.N) (g : Fin 4), carry m c n h g = rS m c (n % 32 + 1) (dd ⟨n, h⟩) (g8 ⟨n, h⟩ g) := by
  induction n using Nat.strong_induction_on with
  | _ n ih =>
    intro h g
    funext x l
    let t : Fin cfg0.N := ⟨n, h⟩
    have e := trip m c t g x l
    by_cases h0 : n % 32 = 0
    · refine Eq.trans (carry_A m c t h0 g x l) (Eq.trans ?_ e)
      show _ = fs _ _ _ _ (rS m c (n % 32) _ _) _ x l
      rw [h0]; rfl
    · refine Eq.trans (carry_B m c t h0 g x l) (Eq.trans ?_ e)
      have hp : n - 1 < cfg0.N := by omega
      have hd : dd ⟨n - 1, hp⟩ = dd t := Fin.ext (by show (n - 1) / 64 = n / 64; omega)
      have hg : g8 ⟨n - 1, hp⟩ g = g8 t g := Fin.ext (by show (n - 1) / 32 % 2 * 4 + g.val = n / 32 % 2 * 4 + g.val; omega)
      have hn : (n - 1) % 32 + 1 = n % 32 := by omega
      have := ih (n - 1) (by omega) hp g
      rw [hd, hg, hn] at this
      show fs _ _ _ _ (carry m c (n - 1) _ g) _ x l = fs _ _ _ _ (rS m c (n % 32) _ _) _ x l
      rw [this]

/-- What is carried into a point that starts no scan. -/
theorem carried (t : Fin cfg0.N) (h0 : ¬ t.val % 32 = 0) (h : t.val - 1 < cfg0.N) (g : Fin 4) :
    carry m c (t.val - 1) h g = rS m c (t.val % 32) (dd t) (g8 t g) := by
  have hd : dd ⟨t.val - 1, h⟩ = dd t := Fin.ext (by show (t.val - 1) / 64 = t.val / 64; omega)
  have hg : g8 ⟨t.val - 1, h⟩ g = g8 t g := Fin.ext (by show (t.val - 1) / 32 % 2 * 4 + g.val = t.val / 32 % 2 * 4 + g.val; omega)
  have hn : (t.val - 1) % 32 + 1 = t.val % 32 := by omega
  have := carry_eq m c (t.val - 1) h g
  rw [hd, hg, hn] at this
  exact this

/-- Nothing is carried into the first trip. -/
theorem carried0 (t : Fin cfg0.N) (h0 : t.val % 32 = 0) (g : Fin 4) : (fun _ _ => 0 : Mat) = rS m c (t.val % 32) (dd t) (g8 t g) := by
  rw [h0]; rfl

theorem y_pt (t : Fin cfg0.N) (g : Fin 4) (n : Fin 128) (l : Fin 256) :
    (outsAt0 m c t.val t.isLt).1 (ix3 0 n (⟨256 * g.val + l.val, by omega⟩ : Fin 1024))
      = fy Upto (ml (rX m c) (dd t) (kk t) (g8 t g)) (mh (rD m c) (dd t) (kk t) (g8 t g)) (mh (rA m c) (dd t) (kk t) (g8 t g)) (mn (rB m c) (dd t) (kk t) (g8 t g)) (mn (rC m c) (dd t) (kk t) (g8 t g)) (rS m c (t.val % 32) (dd t) (g8 t g)) (rowTurn (dd t) n) l := by
  have e : fy (bM m c t) (bX m c t g) (bD m c t g) (bA m c t g) (bB m c t g) (bC m c t g) (rS m c (t.val % 32) (dd t) (g8 t g)) n l
      = fy Upto (ml (rX m c) (dd t) (kk t) (g8 t g)) (mh (rD m c) (dd t) (kk t) (g8 t g)) (mh (rA m c) (dd t) (kk t) (g8 t g)) (mn (rB m c) (dd t) (kk t) (g8 t g)) (mn (rC m c) (dd t) (kk t) (g8 t g)) (rS m c (t.val % 32) (dd t) (g8 t g)) (rowTurn (dd t) n) l := by
    rw [bX_eq, bD_eq, bA_eq, bB_eq, bC_eq]
    exact fy_perm (rowTurn (dd t)) Upto (bM m c t) (bM_iff m c t) _ _ _ _ _ _ n l
  by_cases h0 : t.val % 32 = 0
  · refine Eq.trans (y_A m c t h0 (bA_flat m c t) g n l) ?_
    rw [carried0 m c t h0 g]; exact e
  · refine Eq.trans (y_B m c t h0 (bA_flat m c t) g n l) ?_
    rw [carried m c t h0]; exact e

theorem st_pt (t : Fin cfg0.N) (g : Fin 4) (n : Fin 128) (l : Fin 256) :
    (outsAt0 m c t.val t.isLt).2.1 (ix5 0 0 g n l) = rS m c (t.val % 32) (dd t) (g8 t g) n l := by
  by_cases h0 : t.val % 32 = 0
  · rw [← carried0 m c t h0 g]; exact st_A m c t h0 g n l
  · rw [← carried m c t h0 (by omega) g]; exact st_B m c t h0 g n l

end Cert.SsfKer

end
-- ==== Proof.SsfRun.lean ====
/- The reference's run of the scan read trip by trip: its loop's buffers after each trip are `step` iterated from `init`. -/
module

public import proofs.«01_k».proof.Proof.Gen.Reference17Ideal.Run
public import proofs.«01_k».proof.Proof.SsfMath
public import proofs.«01_k».proof.Proof.Gen.Reference17Ideal.Step

@[expose] public section

set_option maxRecDepth 200000

noncomputable section

namespace Cert.SsfRef

open Cert.Reference17Ideal Cert.Reference17Ideal.Gen Cert.Reference17Ideal.Value Cert.Reference17Ideal.Step
open Idealize.ShloMosaic Idealize.ShloMosaic.TcCoe Idealize.SL.Sem Idealize.ShloMosaic.StableHlo

/-- The loop's buffers. -/
def held (V : Valuation τ sig (Elt Ideal)) : State Ideal where
  main_v46_6 := V (Proc.devRef .tc main_v46_6)
  main_v46_7 := V (Proc.devRef .tc main_v46_7)
  main_v46_8 := V (Proc.devRef .tc main_v46_8)
  main_v46_0 := V (Proc.devRef .tc main_v46_0)
  main_v46_1 := V (Proc.devRef .tc main_v46_1)
  main_v46_2 := V (Proc.devRef .tc main_v46_2)
  main_v46_3 := V (Proc.devRef .tc main_v46_3)
  main_v46_4 := V (Proc.devRef .tc main_v46_4)

variable {V : Valuation τ sig (Elt Ideal)} {j : ℕ} (hj : V (Proc.devRef .tc main_v46_5) = constantI S_ 32 (BitVec.ofNat 32 j))

include hj

/-! What a trip computes and uses more than once. -/

theorem run12 : res_main_while0b_v68 V = b12 j (held V) := by
  unfold res_main_while0b_v68; rw [hj]; rfl

theorem run18 : res_main_while0b_v69 V = b18 j (held V) := by
  unfold res_main_while0b_v69; rw [hj]; rfl

theorem run30 : res_main_while0b_v71 V = b30 j (held V) := by
  unfold res_main_while0b_v71; rw [hj]; rfl

theorem run33 : res_main_while0b_v74 V = b33 j (held V) := by
  unfold res_main_while0b_v74; rw [hj]; rfl

/-! What a trip leaves. -/

theorem left6 : Cert.Reference17Ideal.Value.step_main_v46_6 V = b84 j (held V) := by
  unfold Cert.Reference17Ideal.Value.step_main_v46_6; rw [run30 hj, run33 hj, run12 hj]; rfl

theorem left7 : Cert.Reference17Ideal.Value.step_main_v46_7 V = b92 j (held V) := by
  unfold Cert.Reference17Ideal.Value.step_main_v46_7; rw [run30 hj, run33 hj, run12 hj, run18 hj, hj]; rfl

theorem left8 : Cert.Reference17Ideal.Value.step_main_v46_8 V = b99 j (held V) := by
  unfold Cert.Reference17Ideal.Value.step_main_v46_8; rw [hj]; rfl

theorem left5 : Cert.Reference17Ideal.Value.step_main_v46_5 V = constantI S_ 32 (BitVec.ofNat 32 (j + 1)) := by
  unfold Cert.Reference17Ideal.Value.step_main_v46_5
  rw [hj]
  exact funext fun _ => (BitVec.ofNat_add j 1).symm

theorem held_step : held (STEP V) = step j (held V) := by
  unfold held
  rw [STEP_main_v46_6, STEP_main_v46_7, STEP_main_v46_8, STEP_main_v46_0, STEP_main_v46_1, STEP_main_v46_2, STEP_main_v46_3, STEP_main_v46_4, left6 hj, left7 hj, left8 hj]
  rfl

omit hj

variable (m : (ℓ : Loc nD τ sig) → Buf (Elt Ideal) ℓ) (c : Dev nD)

/-- The loop's buffers after `n` trips. -/
def trips : ℕ → State Ideal
  | 0 => init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  | n + 1 => step n (trips n)

theorem start6 : entryContents preI m c (Proc.devRef .tc main_v46_6) = (trips m c 0).main_v46_6 := by
  simp only [entryContents, afterL_cons, afterL_nil]
  after_reads_simp
  rfl

theorem start7 : entryContents preI m c (Proc.devRef .tc main_v46_7) = (trips m c 0).main_v46_7 := by
  simp only [entryContents, afterL_cons, afterL_nil]
  after_reads_simp
  rfl

theorem start8 : entryContents preI m c (Proc.devRef .tc main_v46_8) = (trips m c 0).main_v46_8 := by
  simp only [entryContents, afterL_cons, afterL_nil]
  after_reads_simp
  rfl

theorem start0 : entryContents preI m c (Proc.devRef .tc main_v46_0) = (trips m c 0).main_v46_0 := by
  simp only [entryContents, afterL_cons, afterL_nil]
  after_reads_simp
  rfl

theorem start1 : entryContents preI m c (Proc.devRef .tc main_v46_1) = (trips m c 0).main_v46_1 := by
  simp only [entryContents, afterL_cons, afterL_nil]
  after_reads_simp
  rfl

theorem start2 : entryContents preI m c (Proc.devRef .tc main_v46_2) = (trips m c 0).main_v46_2 := by
  simp only [entryContents, afterL_cons, afterL_nil]
  after_reads_simp
  rfl

theorem start3 : entryContents preI m c (Proc.devRef .tc main_v46_3) = (trips m c 0).main_v46_3 := by
  simp only [entryContents, afterL_cons, afterL_nil]
  after_reads_simp
  rfl

theorem start4 : entryContents preI m c (Proc.devRef .tc main_v46_4) = (trips m c 0).main_v46_4 := by
  simp only [entryContents, afterL_cons, afterL_nil]
  after_reads_simp
  rfl

theorem held_entry : held (entryContents preI m c) = trips m c 0 := by
  unfold held
  rw [start6, start7, start8, start0, start1, start2, start3, start4]

theorem held_iter (n : ℕ) : held (STEP^[n] (entryContents preI m c)) = trips m c n
    ∧ (STEP^[n] (entryContents preI m c)) (Proc.devRef .tc main_v46_5) = constantI S_ 32 (BitVec.ofNat 32 n) := by
  induction n with
  | zero => exact ⟨held_entry m c, (ctr_entry m c).trans rfl⟩
  | succ n ih =>
    rw [Function.iterate_succ_apply']
    refine ⟨(held_step ih.2).trans ?_, (STEP_main_v46_5 _).trans (left5 ih.2)⟩
    rw [ih.1]
    rfl

/-! The two results of the contents the last trip leaves. -/

theorem read56 (V : Valuation τ sig (Elt Ideal)) : out_main_v56 V = R_main_v56 (held V) := by
  unfold out_main_v56 R_main_v56
  rfl

theorem out56 : out_main_v56 (STEP^[32] (entryContents preI m c)) = R_main_v56 (trips m c 32) :=
  (read56 _).trans (congrArg R_main_v56 (held_iter m c 32).1)

theorem read66 (V : Valuation τ sig (Elt Ideal)) : out_main_v66 V = R_main_v66 (held V) := by
  unfold out_main_v66 R_main_v66
  rfl

theorem out66 : out_main_v66 (STEP^[32] (entryContents preI m c)) = R_main_v66 (trips m c 32) :=
  (read66 _).trans (congrArg R_main_v66 (held_iter m c 32).1)

end Cert.SsfRef

end
-- ==== Proof.P17.lean ====
/- The scan over the chunks: the kernel's outputs and states are the reference's. -/
module

public import proofs.«01_k».proof.Defs
public import proofs.«01_k».proof.Proof.SsfFlow
public import proofs.«01_k».proof.Proof.SsfRun
public import Idealize.ShloMosaic.Lib.Pipeline.ReadBack

@[expose] public section

set_option maxRecDepth 200000

noncomputable section

namespace Cert.Proof.P17

open Cert.Kernel17Ideal Cert.Kernel17Ideal.Gen Idealize.ShloMosaic Idealize.ShloMosaic.TcCoe Idealize.SL.Sem
open Idealize.ShloMosaic.Pipeline (Dat)
open Cert.SsfKer Cert.SsdMath
open Cert.SsdKer (rowTurn)
open Cert.SsdRef (rowOf back6 back6_at)
open Cert.SsfRef (backP backP_at y_stack state_stack trips out56 out66 R56 R66)
open Cert.Reference17Ideal.Step (State init step)

variable (m : (ℓ : Loc nD τ sig) → Buf (Elt Ideal) ℓ) (c : Dev nD)

variable (it : ℕ → State Ideal)
  (h0 : it 0 = init (m ((c : Thread nD τ).loc main_arg0)) (m ((c : Thread nD τ).loc main_arg1)) (m ((c : Thread nD τ).loc main_arg2))
    (m ((c : Thread nD τ).loc main_arg3)) (m ((c : Thread nD τ).loc main_arg4)))
  (hs : ∀ n, it (n + 1) = step n (it n))

include h0 hs

/-- The outputs the kernel writes. -/
theorem arr_y : (dats m 0 c).arrAt 7 cfg0.N = back6 (it 32).main_v46_7 := by
  refine (dats m 0 c).arrAt_eq_of_covers 7 _ (by decide +kernel) fun t _ y => ?_
  have ht := t_lt t
  have hn := nk_lt t
  obtain ⟨z, i, q, rfl⟩ : ∃ (z : Fin 1) (i : Fin 128) (q : Fin 1024), y = ix3 z i q := ⟨y 0, y 1, y 2, eq_ix3 y⟩
  obtain ⟨g, l, hq⟩ : ∃ (g : Fin 4) (l : Fin 256), q = ⟨256 * g.val + l.val, by omega⟩ :=
    ⟨⟨q.val / 256, by omega⟩, ⟨q.val % 256, by omega⟩, Fin.ext (by show q.val = 256 * (q.val / 256) + q.val % 256; omega)⟩
  obtain rfl : z = 0 := Subsingleton.elim _ _
  blk_simp
  rw [after0_7]
  have e : (win0_7.blk t).view.emb (ix3 0 i q)
      = ix3 (dd t) (rowOf (dd t) (kk t) (rowTurn (dd t) i)) (⟨(g8 t g).val * 256 + l.val, by omega⟩ : Fin 2048) := by
    have er := row_val t i
    have hd : (dd t).val = t.val / 64 := rfl
    have hg : (g8 t g).val = t.val / 32 % 2 * 4 + g.val := rfl
    have hq' : q.val = 256 * g.val + l.val := congrArg Fin.val hq
    blk_ext [idx t]
  rw [e, back6_at]
  have e2 := y_stack _ _ _ _ _ it h0 hs 32 le_rfl (kk t) (by omega) (dd t) (g8 t g) (rowTurn (dd t) i) l
  refine Eq.trans ?_ e2.symm
  rw [hq]
  exact y_pt m c t g i l

/-- The states the kernel writes. -/
theorem arr_st : (dats m 0 c).arrAt 8 cfg0.N = backP (it 32).main_v46_8 := by
  refine (dats m 0 c).arrAt_eq_of_covers 8 _ (by decide +kernel) fun t _ y => ?_
  have ht := t_lt t
  have hn := nk_lt t
  obtain ⟨z0, z1, g, n, l, rfl⟩ : ∃ (z0 z1 : Fin 1) (g : Fin 4) (n : Fin 128) (l : Fin 256), y = ix5 z0 z1 g n l :=
    ⟨y 0, y 1, y 2, y 3, y 4, eq_ix5 y⟩
  obtain rfl : z0 = 0 := Subsingleton.elim _ _
  obtain rfl : z1 = 0 := Subsingleton.elim _ _
  blk_simp
  rw [after0_8]
  have e : (win0_8.blk t).view.emb (ix5 0 0 g n l)
      = ix5 (dd t) (if (dd t).val < 1 then kk t else (kk t).rev) (g8 t g) n l := by
    have en := nk_eq t
    have hd : (dd t).val = t.val / 64 := rfl
    have hg : (g8 t g).val = t.val / 32 % 2 * 4 + g.val := rfl
    generalize (if (dd t).val < 1 then kk t else (kk t).rev) = k at en ⊢
    blk_ext [idx t]
  rw [e, backP_at]
  have e2 := state_stack _ _ _ _ _ it h0 hs 32 le_rfl (kk t) (by omega) (dd t) (g8 t g) n l
  exact (st_pt m c t g n l).trans e2.symm

omit h0 hs

/-- The reference ends and leaves its arguments as they were. -/
theorem frame_ref : Cert.quiescent_Reference17Ideal (hReference17Ideal := Cert.Reference17Ideal.Gen.facts) := by
  intro m g _
  exact (θ_run _ _ _).mono (fun r h => ⟨fun c => (h c).2.2, sem_eq_zero_of_no_sems (by decide) _⟩)
    (Cert.Reference17Ideal.Value.run m g)

/-- A run of the reference on the kernel's arguments starts its loop at what these set up. -/
theorem start (m' : (ℓ : Loc Cert.Reference17Ideal.nD Cert.Reference17Ideal.τ Cert.Reference17Ideal.sig) → Buf (Elt Ideal) ℓ)
    (h : m' ((c : Thread nD τ).loc Cert.Reference17Ideal.main_arg0) = m ((c : Thread nD τ).loc main_arg0)
      ∧ m' ((c : Thread nD τ).loc Cert.Reference17Ideal.main_arg1) = m ((c : Thread nD τ).loc main_arg1)
      ∧ m' ((c : Thread nD τ).loc Cert.Reference17Ideal.main_arg2) = m ((c : Thread nD τ).loc main_arg2)
      ∧ m' ((c : Thread nD τ).loc Cert.Reference17Ideal.main_arg3) = m ((c : Thread nD τ).loc main_arg3)
      ∧ m' ((c : Thread nD τ).loc Cert.Reference17Ideal.main_arg4) = m ((c : Thread nD τ).loc main_arg4)) :
    trips m' c 0 = init (m ((c : Thread nD τ).loc main_arg0)) (m ((c : Thread nD τ).loc main_arg1))
      (m ((c : Thread nD τ).loc main_arg2)) (m ((c : Thread nD τ).loc main_arg3)) (m ((c : Thread nD τ).loc main_arg4)) := by
  obtain ⟨e0, e1, e2, e3, e4⟩ := h
  rw [← e0, ← e1, ← e2, ← e3, ← e4]
  rfl

/-- On the same arguments the kernel and the reference end with the same results. -/
theorem algebraic : Cert.algebraic_Kernel17Ideal_Reference17Ideal (hKernel17Ideal := Cert.Kernel17Ideal.Gen.facts)
    (hReference17Ideal := Cert.Reference17Ideal.Gen.facts) := by
  pair_intro
  · run_from Cert.Kernel17Ideal.Value.run_blocks m g
  · skip
    run_from Cert.Reference17Ideal.Value.run m' g'
    · exact (out56 m' c).trans ((R56 _).trans (arr_y m c _ (start m c m' (hagree c)) fun _ => rfl).symm)
    · exact (out66 m' c).trans ((R66 _).trans (arr_st m c _ (start m c m' (hagree c)) fun _ => rfl).symm)

end Cert.Proof.P17

end
-- ==== Proof.Adam.lean ====
/- One step of AdamW at one place, with the programs' rounded numbers: the two moments and the step, as the kernels and the
   references write them. -/
module

public import Idealize.ShloMosaic.Lib.Pipeline.ValueKit

@[expose] public section

noncomputable section

namespace Cert.Proof.Adam

open Idealize.ShloMosaic

/-- A constant of the programs. -/
def num (b : BitVec 32) : EReal := (FloatOps.ofBits .f32 b : Ideal .f32)

/-- The new first moment. -/
def mom (m g : EReal) : EReal := num 0x3F666666#32 * m + num 0x3DCCCCCD#32 * g

/-- The new second moment. -/
def vel (v g : EReal) : EReal := num 0x3F7FBE77#32 * v + num 0x3A83126F#32 * (g * g)

/-- The weight's step. -/
def step (w m v g : EReal) : EReal :=
  num 0xBA83126F#32 * (Ideal.div (Ideal.div (mom m g) (num 0x3F26BD02#32))
    (Ideal.sqrt (Ideal.div (vel v g) (num 0x3C231ACC#32)) + num 0x322BCC77#32) + num 0x3C23D70A#32 * w)

/-- Five parts added one by one are the first two and the sum of the others. -/
theorem sum5 (a b : EReal) (f : Fin 3 → EReal) : a + b + f 0 + f 1 + f 2 = a + b + ∑ k : Fin 3, f k := by
  rw [Fin.sum_univ_three, add_assoc (a + b), add_assoc (a + b)]

end Cert.Proof.Adam

end
-- ==== Proof.P18.lean ====
/- The gradient of the modulation weight and its AdamW step: the kernel pads the eight examples to sixteen with zeros, which
   add nothing, and its four results are the reference's. -/
module

public import proofs.«01_k».proof.Defs
public import proofs.«01_k».proof.Proof.Adam
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack
public import Idealize.ShloMosaic.Lib.KernelVsHost
public import Idealize.ShloMosaic.Lib.Claim

@[expose] public section

set_option maxRecDepth 200000

noncomputable section

namespace Cert.Proof.P18

open Cert.Kernel18Ideal Cert.Kernel18Ideal.Gen Idealize.ShloMosaic Idealize.ShloMosaic.TcCoe Idealize.SL.Sem
open Idealize.ShloMosaic.Pipeline (Dat)
open Cert.Reference18Ideal.Read
open Cert.Proof.Adam

/-- The blocks' places: row block `t` of the weight, column block `t` of the conditions. -/
theorem idx : ∀ t : Fin cfg0.N, win0_0.index t = ![0, t.val] ∧ win0_1.index t = ![0, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] :=
  (by decide +kernel : ∀ t : Fin grid0.N, _)

/-- The sigmoid-weighted value. -/
def silu (x : EReal) : EReal := x * Ideal.logistic x

/-- The reference's gradient at one place. -/
def grad (x0 : FVec Ideal S8x4096 .f32) (x1 : FVec Ideal S8x3072 .f32) (r : Fin 4096) (l : Fin 3072) : EReal :=
  ∑ k : Fin 8, silu (x0 (ix2 k r)) * x1 (ix2 k l)

/-- The kernel's gradient at one place of a block. -/
def part (a : FVec Ideal S16x256 .f32) (b : FVec Ideal S16x3072 .f32) (r : Fin 256) (l : Fin 3072) : EReal :=
  ∑ k : Fin 16, silu (a (ix2 k r)) * b (ix2 k l)

theorem pay1 (a : FVec Ideal S16x256 .f32) (b : FVec Ideal S16x3072 .f32) (r : Fin 256) (l : Fin 3072) :
    k0_pay1 (F := Ideal) a b (ix2 r l) = part a b r l := by
  pointwise [k0_pay1, part, silu]

theorem pay2 (a : FVec Ideal S16x256 .f32) (b : FVec Ideal S16x3072 .f32) (x : FVec Ideal S256x3072 .f32) (r : Fin 256) (l : Fin 3072) :
    k0_pay2 (F := Ideal) a b x (ix2 r l) = mom (x (ix2 r l)) (part a b r l) := by
  rw [← pay1]; rfl

theorem pay3 (a : FVec Ideal S16x256 .f32) (b : FVec Ideal S16x3072 .f32) (x : FVec Ideal S256x3072 .f32) (r : Fin 256) (l : Fin 3072) :
    k0_pay3 (F := Ideal) a b x (ix2 r l) = vel (x (ix2 r l)) (part a b r l) := by
  rw [← pay1]; rfl

theorem pay4 (a : FVec Ideal S16x256 .f32) (b : FVec Ideal S16x3072 .f32) (w x y : FVec Ideal S256x3072 .f32) (r : Fin 256) (l : Fin 3072) :
    k0_pay4 (F := Ideal) a b w x y (ix2 r l) = step (w (ix2 r l)) (x (ix2 r l)) (y (ix2 r l)) (part a b r l) := by
  rw [← pay1]; rfl

theorem ref_g (x0 : FVec Ideal S8x4096 .f32) (x1 : FVec Ideal S8x3072 .f32) (r : Fin 4096) (l : Fin 3072) :
    val_main_v3 (F := Ideal) x0 x1 (ix2 r l) = grad x0 x1 r l := by
  pointwise [val_main_call0_v0, val_main_call0_v1, val_main_call0_cst, val_main_call0_v2, val_main_call0_v3, val_main_call0_cst_0,
    val_main_call0_v4, val_main_call0_v5, val_main_v0, val_main_v2, val_main_v3, grad]
  exact Fin.sum_fin_congr fun k => mul_comm _ _

theorem ref_m (x0 : FVec Ideal S8x4096 .f32) (x1 : FVec Ideal S8x3072 .f32) (x3 : FVec Ideal S4096x3072 .f32) (r : Fin 4096) (l : Fin 3072) :
    val_main_v8 (F := Ideal) x0 x1 x3 (ix2 r l) = mom (x3 (ix2 r l)) (grad x0 x1 r l) := by
  rw [← ref_g]; rfl

theorem ref_v (x0 : FVec Ideal S8x4096 .f32) (x1 : FVec Ideal S8x3072 .f32) (x4 : FVec Ideal S4096x3072 .f32) (r : Fin 4096) (l : Fin 3072) :
    val_main_v14 (F := Ideal) x0 x1 x4 (ix2 r l) = vel (x4 (ix2 r l)) (grad x0 x1 r l) := by
  rw [← ref_g]; rfl

theorem ref_d (x0 : FVec Ideal S8x4096 .f32) (x1 : FVec Ideal S8x3072 .f32) (x2 x3 x4 : FVec Ideal S4096x3072 .f32) (r : Fin 4096) (l : Fin 3072) :
    val_main_v27 (F := Ideal) x0 x1 x2 x3 x4 (ix2 r l) = step (x2 (ix2 r l)) (x3 (ix2 r l)) (x4 (ix2 r l)) (grad x0 x1 r l) := by
  rw [← ref_g]; rfl

/-- The number the rows are padded with. -/
def fill : FVec Ideal S_ .f32 := sitofp .f32 (constantI S_ 32 0#32)

theorem fill_at (i : S_.Idx) : fill i = (0 : EReal) := by
  show (((0#32 : BitVec 32).toInt : ℝ) : EReal) = 0
  simp

/-- The eight conditions, padded to sixteen rows. -/
def cond16 (x : FVec Ideal S8x4096 .f32) : FVec Ideal S16x4096 .f32 :=
  pad S16x4096 ![0, 0] ![8, 0] ![0, 0] x fill pads_S8x4096_S16x4096_080_000 h_S_

/-- The eight cotangents, padded to sixteen rows. -/
def dmod16 (x : FVec Ideal S8x3072 .f32) : FVec Ideal S16x3072 .f32 :=
  pad S16x3072 ![0, 0] ![8, 0] ![0, 0] x fill pads_S8x3072_S16x3072_080_000 h_S_

variable (m : (ℓ : Loc nD τ sig) → Buf (Elt Ideal) ℓ) (c : Dev nD)

theorem V_main_v0 : V m c main_v0 = cond16 (m ((c : Thread nD τ).loc main_arg0)) := by
  unfold V
  simp only [hostOps0, hostOps0_1, hostOps0_2, hostOps0_3, List.flatten_cons, List.flatten_nil, List.append_nil, List.cons_append, List.nil_append]
  after_results
  rfl

theorem V_main_v1 : V m c main_v1 = dmod16 (m ((c : Thread nD τ).loc main_arg1)) := by
  unfold V
  simp only [hostOps0, hostOps0_1, hostOps0_2, hostOps0_3, List.flatten_cons, List.flatten_nil, List.append_nil, List.cons_append, List.nil_append]
  after_results
  rfl

theorem cond_in (k : Fin 8) (l : Fin 4096) :
    V m c main_v0 (ix2 (Fin.castAdd 8 k : Fin 16) l) = m ((c : Thread nD τ).loc main_arg0) (ix2 k l) := by
  rw [V_main_v0]
  unfold cond16
  refine pad_apply_of_inside _ _ _ _ _ _ _ _ (ix2 k l) fun a => ?_
  match a with
  | ⟨0, _⟩ => show k.val = 0 + k.val * 1; omega
  | ⟨1, _⟩ => show l.val = 0 + l.val * 1; omega

theorem dmod_in (k : Fin 8) (l : Fin 3072) :
    V m c main_v1 (ix2 (Fin.castAdd 8 k : Fin 16) l) = m ((c : Thread nD τ).loc main_arg1) (ix2 k l) := by
  rw [V_main_v1]
  unfold dmod16
  refine pad_apply_of_inside _ _ _ _ _ _ _ _ (ix2 k l) fun a => ?_
  match a with
  | ⟨0, _⟩ => show k.val = 0 + k.val * 1; omega
  | ⟨1, _⟩ => show l.val = 0 + l.val * 1; omega

theorem dmod_out (k : Fin 8) (l : Fin 3072) :
    V m c main_v1 (ix2 (Fin.natAdd 8 k : Fin 16) l) = (0 : EReal) := by
  rw [V_main_v1]
  unfold dmod16
  refine (pad_apply_of_not_inside _ _ _ _ _ _ _ _ (0 : Fin 2) fun h => ?_).trans (fill_at _)
  have h2 : (8 + k.val - 0) / (0 + 1) < 8 := h.2.2
  omega

/-- A point's gradient is the reference's: the padded rows add nothing. -/
theorem part_eq (t : Fin cfg0.N) (r : Fin 256) (l : Fin 3072) (h : t.val * 256 + r.val < 4096) :
    part (iblk m c 0 t) (iblk m c 1 t) r l
      = grad (V m c main_arg0) (V m c main_arg1) ⟨t.val * 256 + r.val, h⟩ l := by
  have ht : t.val < 16 := lt_of_lt_of_eq t.isLt N_0
  have hr := r.isLt
  have e0 : ∀ k : Fin 16, iblk m c 0 t (ix2 k r) = V m c main_v0 (ix2 k (⟨t.val * 256 + r.val, h⟩ : Fin 4096)) := fun k => by
    blk_point [iblk, idx t]
  have e1 : ∀ k : Fin 16, iblk m c 1 t (ix2 k l) = V m c main_v1 (ix2 k l) := fun k => by
    blk_point [iblk, idx t]
  unfold part grad
  simp only [e0, e1]
  refine (Fin.sum_univ_add (a := 8) (b := 8) _).trans ?_
  rw [Finset.sum_eq_zero (s := (Finset.univ : Finset (Fin 8))) (f := fun k => silu (V m c main_v0 (ix2 (Fin.natAdd 8 k) (⟨t.val * 256 + r.val, h⟩ : Fin 4096))) * V m c main_v1 (ix2 (Fin.natAdd 8 k) l))
    fun k _ => by rw [dmod_out, mul_zero], add_zero]
  exact Fin.sum_fin_congr fun k => by rw [cond_in, dmod_in]; rfl

/-- A block's row of the weight. -/
theorem rows_2 (t : Fin cfg0.N) (r : Fin 256) (l : Fin 3072) (h : t.val * 256 + r.val < 4096) :
    iblk m c 2 t (ix2 r l) = V m c main_arg2 (ix2 (⟨t.val * 256 + r.val, h⟩ : Fin 4096) l) := by
  blk_point [iblk, idx t]

/-- A block's row of the first moment. -/
theorem rows_3 (t : Fin cfg0.N) (r : Fin 256) (l : Fin 3072) (h : t.val * 256 + r.val < 4096) :
    iblk m c 3 t (ix2 r l) = V m c main_arg3 (ix2 (⟨t.val * 256 + r.val, h⟩ : Fin 4096) l) := by
  blk_point [iblk, idx t]

/-- A block's row of the second moment. -/
theorem rows_4 (t : Fin cfg0.N) (r : Fin 256) (l : Fin 3072) (h : t.val * 256 + r.val < 4096) :
    iblk m c 4 t (ix2 r l) = V m c main_arg4 (ix2 (⟨t.val * 256 + r.val, h⟩ : Fin 4096) l) := by
  blk_point [iblk, idx t]

/-- The kernel's gradient is the reference's. -/
theorem arr_g : (dats m 0 c).arrAt 5 cfg0.N = val_main_v3 (F := Ideal) (V m c main_arg0) (V m c main_arg1) := by
  refine (dats m 0 c).arrAt_eq_of_covers 5 _ (by decide +kernel) fun t _ y => ?_
  have ht : t.val < 16 := lt_of_lt_of_eq t.isLt N_0
  obtain ⟨r, l, rfl⟩ : ∃ (r : Fin 256) (l : Fin 3072), y = ix2 r l := ⟨y 0, y 1, eq_ix2 y⟩
  have hr := r.isLt
  blk_simp
  rw [after0_5]
  have e : (win0_5.blk t).view.emb (ix2 r l) = ix2 (⟨t.val * 256 + r.val, by omega⟩ : Fin 4096) l := by
    blk_ext [idx t]
  rw [e, ref_g]
  frame_out
  rw [pay1, part_eq m c t r l (by omega)]

/-- The kernel's step is the reference's. -/
theorem arr_d : (dats m 0 c).arrAt 6 cfg0.N = val_main_v27 (F := Ideal) (V m c main_arg0) (V m c main_arg1) (V m c main_arg2) (V m c main_arg3) (V m c main_arg4) := by
  refine (dats m 0 c).arrAt_eq_of_covers 6 _ (by decide +kernel) fun t _ y => ?_
  have ht : t.val < 16 := lt_of_lt_of_eq t.isLt N_0
  obtain ⟨r, l, rfl⟩ : ∃ (r : Fin 256) (l : Fin 3072), y = ix2 r l := ⟨y 0, y 1, eq_ix2 y⟩
  have hr := r.isLt
  blk_simp
  rw [after0_6]
  have e : (win0_6.blk t).view.emb (ix2 r l) = ix2 (⟨t.val * 256 + r.val, by omega⟩ : Fin 4096) l := by
    blk_ext [idx t]
  rw [e, ref_d]
  frame_out
  rw [pay4, part_eq m c t r l (by omega), rows_2 m c t r l (by omega), rows_3 m c t r l (by omega), rows_4 m c t r l (by omega)]

/-- The kernel's first moment is the reference's. -/
theorem arr_m : (dats m 0 c).arrAt 7 cfg0.N = val_main_v8 (F := Ideal) (V m c main_arg0) (V m c main_arg1) (V m c main_arg3) := by
  refine (dats m 0 c).arrAt_eq_of_covers 7 _ (by decide +kernel) fun t _ y => ?_
  have ht : t.val < 16 := lt_of_lt_of_eq t.isLt N_0
  obtain ⟨r, l, rfl⟩ : ∃ (r : Fin 256) (l : Fin 3072), y = ix2 r l := ⟨y 0, y 1, eq_ix2 y⟩
  have hr := r.isLt
  blk_simp
  rw [after0_7]
  have e : (win0_7.blk t).view.emb (ix2 r l) = ix2 (⟨t.val * 256 + r.val, by omega⟩ : Fin 4096) l := by
    blk_ext [idx t]
  rw [e, ref_m]
  frame_out
  rw [pay2, part_eq m c t r l (by omega), rows_3 m c t r l (by omega)]

/-- The kernel's second moment is the reference's. -/
theorem arr_v : (dats m 0 c).arrAt 8 cfg0.N = val_main_v14 (F := Ideal) (V m c main_arg0) (V m c main_arg1) (V m c main_arg4) := by
  refine (dats m 0 c).arrAt_eq_of_covers 8 _ (by decide +kernel) fun t _ y => ?_
  have ht : t.val < 16 := lt_of_lt_of_eq t.isLt N_0
  obtain ⟨r, l, rfl⟩ : ∃ (r : Fin 256) (l : Fin 3072), y = ix2 r l := ⟨y 0, y 1, eq_ix2 y⟩
  have hr := r.isLt
  blk_simp
  rw [after0_8]
  have e : (win0_8.blk t).view.emb (ix2 r l) = ix2 (⟨t.val * 256 + r.val, by omega⟩ : Fin 4096) l := by
    blk_ext [idx t]
  rw [e, ref_v]
  frame_out
  rw [pay3, part_eq m c t r l (by omega), rows_4 m c t r l (by omega)]

theorem frame_ref : Cert.quiescent_Reference18Ideal (hReference18Ideal := Cert.Reference18Ideal.Gen.facts) := by
  intro m g _
  exact (θ_run _ _ _).mono (fun r h => ⟨fun c => (h c).2.2.2.2, sem_eq_zero_of_no_sems (by decide) _⟩)
    (Cert.Reference18Ideal.Value.run m g)

/-- On the same arguments the kernel and the reference end with the same results. -/
theorem algebraic : Cert.algebraic_Kernel18Ideal_Reference18Ideal (hKernel18Ideal := Cert.Kernel18Ideal.Gen.facts)
    (hReference18Ideal := Cert.Reference18Ideal.Gen.facts) := by
  pair_intro
  · run_from Cert.Kernel18Ideal.Value.run_blocks m g
  · skip
    run_from Cert.Reference18Ideal.Value.run m' g'
    · exact (arr_g m c).symm
    · exact (arr_d m c).symm
    · exact (arr_m m c).symm
    · exact (arr_v m c).symm

end Cert.Proof.P18

end
-- ==== Proof.P19.lean ====
/- The input's gradient through the first modulation, and the sums over the rows that give the gradients of the scale and of
   the shift: sixteen row blocks, the sums running from block to block. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P19

open Cert.Kernel19Ideal Cert.Kernel19Ideal.Gen Idealize.ShloMosaic Idealize.ShloMosaic.TcCoe Idealize.SL.Sem
open Idealize.ShloMosaic.Pipeline (Dat)
open Cert.Reference19Ideal.Read

/-- The blocks' places: row block `t` of the row arrays, the one block of the others. -/
theorem idx : ∀ t : Fin cfg0.N, win0_0.index t = ![t.val, 0] ∧ win0_1.index t = ![t.val, 0]
    ∧ win0_2.index t = ![t.val, 0] ∧ win0_3.index t = ![0, 0] ∧ win0_4.index t = ![t.val, 0]
    ∧ win0_5.index t = ![0, 0] ∧ win0_6.index t = ![0, 0] :=
  (by decide +kernel : ∀ t : Fin grid0.N, _)

/-- What a point stores of the input's gradient. -/
theorem pay1 (d : FVec Ideal S256x4096 .f32) (a : FVec Ideal S256x4096 .bf16) (s : FVec Ideal S1x4096 .f32) (r : Fin 256) (l : Fin 4096) :
    k0_pay1 (F := Ideal) d a s (ix2 r l) = a (ix2 r l) + d (ix2 r l) * (1 + s (ix2 0 l)) := by
  pointwise [k0_pay1]

/-- A block's part of the scale's gradient. -/
def scalePart (d x : FVec Ideal S256x4096 .f32) (y : S1x4096.Idx) : EReal := ∑ k : Fin 256, d (ix2 k (y 1)) * x (ix2 k (y 1))

/-- A block's part of the shift's gradient. -/
def shiftPart (d : FVec Ideal S256x4096 .f32) (y : S1x4096.Idx) : EReal := ∑ k : Fin 256, d (ix2 k (y 1))

theorem pay2 (d x : FVec Ideal S256x4096 .f32) (y : S1x4096.Idx) : k0_pay2 (F := Ideal) d x y = scalePart d x y := by
  obtain ⟨r, l, rfl⟩ : ∃ (r : Fin 1) (l : Fin 4096), y = ix2 r l := ⟨y 0, y 1, eq_ix2 y⟩
  pointwise [k0_pay2, scalePart]

theorem pay3 (d x : FVec Ideal S256x4096 .f32) (acc : FVec Ideal S1x4096 .f32) (y : S1x4096.Idx) :
    k0_pay3 (F := Ideal) d x acc y = acc y + scalePart d x y := by
  rw [← pay2]
  obtain ⟨r, l, rfl⟩ : ∃ (r : Fin 1) (l : Fin 4096), y = ix2 r l := ⟨y 0, y 1, eq_ix2 y⟩
  pointwise [k0_pay3]

theorem pay4 (d : FVec Ideal S256x4096 .f32) (y : S1x4096.Idx) : k0_pay4 (F := Ideal) d y = shiftPart d y := by
  obtain ⟨r, l, rfl⟩ : ∃ (r : Fin 1) (l : Fin 4096), y = ix2 r l := ⟨y 0, y 1, eq_ix2 y⟩
  pointwise [k0_pay4, shiftPart]

theorem pay5 (d : FVec Ideal S256x4096 .f32) (acc : FVec Ideal S1x4096 .f32) (y : S1x4096.Idx) :
    k0_pay5 (F := Ideal) d acc y = acc y + shiftPart d y := by
  rw [← pay4]
  obtain ⟨r, l, rfl⟩ : ∃ (r : Fin 1) (l : Fin 4096), y = ix2 r l := ⟨y 0, y 1, eq_ix2 y⟩
  pointwise [k0_pay5]

/-- A place of the reference's input gradient. -/
theorem ref_x (x0 : FVec Ideal S4096x4096 .bf16) (x1 : FVec Ideal S4096x4096 .f32) (x3 : FVec Ideal S6x4096 .f32) (r l : Fin 4096) :
    val_main_v17 (F := Ideal) x0 x1 x3 (ix2 r l) = x0 (ix2 r l) + x1 (ix2 r l) * (1 + x3 (ix2 1 l)) := by
  pointwise [val_main_v1, val_main_cst, val_main_v2, val_main_v3, val_main_v8, val_main_v14, val_main_v15, val_main_v16, val_main_v17]

/-- A place of the reference's gradient of the scale: a sum over the rows. -/
theorem ref_scale (x1 x2 : FVec Ideal S4096x4096 .f32) (l : Fin 4096) :
    val_main_v13 (F := Ideal) x1 x2 (ix2 0 l) = ∑ k : Fin 4096, x1 (ix2 k l) * x2 (ix2 k l) := by
  pointwise [val_main_v8, val_main_v11, val_main_cst_1, val_main_v12, val_main_v13]
  exact Fin.sum_fin_congr fun k => mul_comm _ _

/-- A place of the reference's gradient of the shift: a sum over the rows. -/
theorem ref_shift (x1 : FVec Ideal S4096x4096 .f32) (l : Fin 4096) :
    val_main_v10 (F := Ideal) x1 (ix2 0 l) = ∑ k : Fin 4096, x1 (ix2 k l) := by
  pointwise [val_main_cst_0, val_main_v9, val_main_v10]

/-- A row of a block of the gradient through the residual is a row of that array. -/
theorem rows_1 (m : (ℓ : Loc nD τ sig) → Buf (Elt Ideal) ℓ) (c : Dev nD) (t : Fin cfg0.N) (r : Fin 256) (l : Fin 4096)
    (h : t.val * 256 + r.val < 4096) :
    iblk m c 1 t (ix2 r l) = V m c main_arg1 (ix2 (⟨t.val * 256 + r.val, h⟩ : Fin 4096) l) := by
  blk_point [iblk, idx t]

/-- A row of a block of the first gradient is a row of that array. -/
theorem rows_0 (m : (ℓ : Loc nD τ sig) → Buf (Elt Ideal) ℓ) (c : Dev nD) (t : Fin cfg0.N) (r : Fin 256) (l : Fin 4096)
    (h : t.val * 256 + r.val < 4096) :
    iblk m c 0 t (ix2 r l) = V m c main_arg0 (ix2 (⟨t.val * 256 + r.val, h⟩ : Fin 4096) l) := by
  blk_point [iblk, idx t]

/-- The scale a step loads is the second row of the modulation. -/
theorem scale_row (m : (ℓ : Loc nD τ sig) → Buf (Elt Ideal) ℓ) (c : Dev nD) (t : Fin cfg0.N) (l : Fin 4096) :
    View.ld (iblk m c 3 t) (Rect.unit ![1, 0] ![1, 4096] inb_S6x4096_S1x4096_1_0) (ix2 (0 : Fin 1) l)
      = V m c main_arg3 (ix2 (1 : Fin 6) l) := by
  blk_point [iblk, idx t]

variable (m : (ℓ : Loc nD τ sig) → Buf (Elt Ideal) ℓ) (c : Dev nD)

/-- The input's gradient is the reference's. -/
theorem arr_x : (dats m 0 c).arrAt 4 cfg0.N = val_main_v17 (F := Ideal) (V m c main_arg0) (V m c main_arg1) (V m c main_arg3) := by
  refine (dats m 0 c).arrAt_eq_of_covers 4 _ (by decide +kernel) fun t _ y => ?_
  have ht : t.val < 16 := lt_of_lt_of_eq t.isLt N_0
  obtain ⟨r, l, rfl⟩ : ∃ (r : Fin 256) (l : Fin 4096), y = ix2 r l := ⟨y 0, y 1, eq_ix2 y⟩
  have hr := r.isLt
  blk_simp
  rw [after0_4]
  have e : (win0_4.blk t).view.emb (ix2 r l) = ix2 (⟨t.val * 256 + r.val, by omega⟩ : Fin 4096) l := by
    blk_ext [idx t]
  rw [e, ref_x]
  by_cases h : t.val % 16 = 0
  · rw [outsAt0_A m c t h (by omega) h (by omega)]
    frame_out
    rw [pay1]
    rw [rows_0 m c t r l (by omega), rows_1 m c t r l (by omega), scale_row m c t l]
  · rw [outsAt0_B m c t h (by omega) h (by omega)]
    frame_out
    rw [pay1]
    rw [rows_0 m c t r l (by omega), rows_1 m c t r l (by omega), scale_row m c t l]

/-- At the last block the running sum of the scale's gradient holds the parts' sum. -/
theorem acc_scale (t : Fin cfg0.N) (ht : t.val % 16 = 16 - 1) (y : S1x4096.Idx) : (outsAt0 m c t.val t.isLt).2.1 y
    = ∑ s : Fin 16, scalePart (iblk m c 1 ⟨16 * (t.val / 16) + s.val, Pipeline.run_point_lt_of_flush t ht s⟩)
        (iblk m c 2 ⟨16 * (t.val / 16) + s.val, Pipeline.run_point_lt_of_flush t ht s⟩) y := by
  refine (Pipeline.eq_sum_fin_of_reset_step_apply_of_flush (M := EReal) (fun n h => (outsAt0 m c n h).2.1) 16 (fun _ => 0)
    (fun t => scalePart (iblk m c 1 t) (iblk m c 2 t)) (fun t h y => ?_) (fun t h y => ?_) t ht y).trans (zero_add _)
  · have hN : t.val < 16 := lt_of_lt_of_eq t.isLt N_0
    rw [outsAt0_A m c t h (by omega) h (by omega)]
    frame_out
    rw [pay2, zero_add]
  · rw [outsAt0_B m c t h (by omega) h (by omega)]
    frame_out
    rw [pay3]
    try rw [read_unread_whole]

/-- At the last block the running sum of the shift's gradient holds the parts' sum. -/
theorem acc_shift (t : Fin cfg0.N) (ht : t.val % 16 = 16 - 1) (y : S1x4096.Idx) : (outsAt0 m c t.val t.isLt).2.2 y
    = ∑ s : Fin 16, shiftPart (iblk m c 1 ⟨16 * (t.val / 16) + s.val, Pipeline.run_point_lt_of_flush t ht s⟩) y := by
  refine (Pipeline.eq_sum_fin_of_reset_step_apply_of_flush (M := EReal) (fun n h => (outsAt0 m c n h).2.2) 16 (fun _ => 0)
    (fun t => shiftPart (iblk m c 1 t)) (fun t h y => ?_) (fun t h y => ?_) t ht y).trans (zero_add _)
  · have hN : t.val < 16 := lt_of_lt_of_eq t.isLt N_0
    rw [outsAt0_A m c t h (by omega) h (by omega)]
    frame_out
    rw [pay4, zero_add]
  · rw [outsAt0_B m c t h (by omega) h (by omega)]
    frame_out
    rw [pay5]
    try rw [read_unread_whole]

/-- The scale's gradient is the reference's. -/
theorem arr_scale : (dats m 0 c).arrAt 5 cfg0.N = val_main_v13 (F := Ideal) (V m c main_arg1) (V m c main_arg2) := by
  refine (dats m 0 c).arrAt_eq_of_covers 5 _ (by decide +kernel) fun t hf y => ?_
  have ht : t.val < 16 := lt_of_lt_of_eq t.isLt N_0
  have h1 : t.val % 16 = 16 - 1 := (flush0_5 t).mp hf
  obtain ⟨r, l, rfl⟩ : ∃ (r : Fin 1) (l : Fin 4096), y = ix2 r l := ⟨y 0, y 1, eq_ix2 y⟩
  obtain rfl : r = 0 := Subsingleton.elim _ _
  blk_simp
  rw [after0_5]
  have e : (win0_5.blk t).view.emb (ix2 0 l) = ix2 (0 : Fin 1) l := by
    blk_ext [idx t]
  rw [e, ref_scale, acc_scale m c t h1]
  refine Fin.sum_mul_add_congr fun s k hk => ?_
  blk_point [iblk, V, idx ⟨_, Pipeline.run_point_lt_of_flush t h1 s⟩]

/-- The shift's gradient is the reference's. -/
theorem arr_shift : (dats m 0 c).arrAt 6 cfg0.N = val_main_v10 (F := Ideal) (V m c main_arg1) := by
  refine (dats m 0 c).arrAt_eq_of_covers 6 _ (by decide +kernel) fun t hf y => ?_
  have ht : t.val < 16 := lt_of_lt_of_eq t.isLt N_0
  have h1 : t.val % 16 = 16 - 1 := (flush0_6 t).mp hf
  obtain ⟨r, l, rfl⟩ : ∃ (r : Fin 1) (l : Fin 4096), y = ix2 r l := ⟨y 0, y 1, eq_ix2 y⟩
  obtain rfl : r = 0 := Subsingleton.elim _ _
  blk_simp
  rw [after0_6]
  have e : (win0_6.blk t).view.emb (ix2 0 l) = ix2 (0 : Fin 1) l := by
    blk_ext [idx t]
  rw [e, ref_shift, acc_shift m c t h1]
  refine Fin.sum_mul_add_congr fun s k hk => ?_
  blk_point [iblk, V, idx ⟨_, Pipeline.run_point_lt_of_flush t h1 s⟩]

/-- The reference ends, keeps its arguments and signals nothing. -/
theorem frame_ref : Cert.quiescent_Reference19Ideal (hReference19Ideal := Cert.Reference19Ideal.Gen.facts) := by
  intro m g _
  exact (θ_run _ _ _).mono (fun r h => ⟨fun c => (h c).2.2.2, sem_eq_zero_of_no_sems (by decide) _⟩)
    (Cert.Reference19Ideal.Value.run m g)

/-- On the same arguments the kernel and the reference end with the same results. -/
theorem algebraic : Cert.algebraic_Kernel19Ideal_Reference19Ideal (hKernel19Ideal := Cert.Kernel19Ideal.Gen.facts)
    (hReference19Ideal := Cert.Reference19Ideal.Gen.facts) := by
  pair_intro
  · run_from Cert.Kernel19Ideal.Value.run_blocks m g
  · refine Idealize.ShloMosaic.θ_run_mono (Cert.Reference19Ideal.Value.run m' g') fun r hr c => ?_
    obtain ⟨h0, h1, h2, hargs⟩ := hr c
    obtain ⟨a0, a1, a2, a3⟩ := hagree c
    rw [a0, a1, a3] at h0
    rw [a1, a2] at h1
    rw [a1] at h2
    exact ⟨h0.trans ((val_main_v17_eq (F := Ideal) _ _ _).trans (arr_x m c).symm),
      h1.trans ((val_main_v13_eq (F := Ideal) _ _).trans (arr_scale m c).symm),
      h2.trans ((val_main_v10_eq (F := Ideal) _).trans (arr_shift m c).symm), hargs⟩

end Cert.Proof.P19

end
-- ==== Proof.P20.lean ====
/- The small weights' step: eight devices' gradients are summed row by row, and the packed weights and moments take their AdamW
   step, in ten blocks of columns. -/
module

public import proofs.«01_k».proof.Defs
public import proofs.«01_k».proof.Proof.Adam
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P20

open Cert.Kernel20Ideal Cert.Kernel20Ideal.Gen Idealize.ShloMosaic Idealize.ShloMosaic.TcCoe Idealize.SL.Sem
open Idealize.ShloMosaic.Pipeline (Dat)
open Cert.Reference20Ideal.Read
open Cert.Proof.Adam

/-- The blocks' places: column block `t` of every array. -/
theorem idx : ∀ t : Fin cfg0.N, win0_0.index t = ![0, t.val] ∧ win0_1.index t = ![0, t.val]
    ∧ win0_2.index t = ![0, t.val] ∧ win0_3.index t = ![0, t.val] ∧ win0_4.index t = ![0, t.val]
    ∧ win0_5.index t = ![0, t.val] ∧ win0_6.index t = ![0, t.val] ∧ win0_7.index t = ![0, t.val] :=
  (by decide +kernel : ∀ t : Fin grid0.N, _)

/-- A row of a block, as the body loads it. -/
abbrev Row : Type := FVec Ideal S1x8192 .f32

/-- The sum of the eight rows a point loads. -/
theorem pay2 (a b c d e f g h : Row) (l : Fin 8192) :
    k0_pay2 (F := Ideal) a b c d e f g h (ix2 0 l) = a (ix2 0 l) + b (ix2 0 l) + c (ix2 0 l) + d (ix2 0 l)
      + e (ix2 0 l) + f (ix2 0 l) + g (ix2 0 l) + h (ix2 0 l) := by
  pointwise [k0_pay2]

theorem pay3 (a b c d e f g h x : Row) (l : Fin 8192) :
    k0_pay3 (F := Ideal) a b c d e f g h x (ix2 0 l) = mom (x (ix2 0 l)) (k0_pay2 (F := Ideal) a b c d e f g h (ix2 0 l)) := rfl

theorem pay4 (a b c d e f g h x : Row) (l : Fin 8192) :
    k0_pay4 (F := Ideal) a b c d e f g h x (ix2 0 l) = vel (x (ix2 0 l)) (k0_pay2 (F := Ideal) a b c d e f g h (ix2 0 l)) := rfl

theorem pay1 (a b c d e f g h w x y : Row) (l : Fin 8192) :
    k0_pay1 (F := Ideal) w (k0_pay4 (F := Ideal) a b c d e f g h y) (k0_pay5 (F := Ideal) a b c d e f g h x)
        (Scalar.ofBits (F := Ideal) .f32 0x3C231ACC#32) (ix2 0 l)
      = step (w (ix2 0 l)) (x (ix2 0 l)) (y (ix2 0 l)) (k0_pay2 (F := Ideal) a b c d e f g h (ix2 0 l)) := rfl

/-- The reference's gradient: the sum over the devices. -/
theorem ref_g (x0 : FVec Ideal S8x81920 .f32) (l : Fin 81920) :
    val_main_v1 (F := Ideal) x0 (ix2 0 l) = ∑ k : Fin 8, x0 (ix2 k l) := by
  pointwise [val_main_cst, val_main_v0, val_main_v1]

theorem ref_m (x0 : FVec Ideal S8x81920 .f32) (x2 : FVec Ideal S1x81920 .f32) (l : Fin 81920) :
    val_main_v6 (F := Ideal) x0 x2 (ix2 0 l) = mom (x2 (ix2 0 l)) (val_main_v1 (F := Ideal) x0 (ix2 0 l)) := rfl

theorem ref_v (x0 : FVec Ideal S8x81920 .f32) (x3 : FVec Ideal S1x81920 .f32) (l : Fin 81920) :
    val_main_v12 (F := Ideal) x0 x3 (ix2 0 l) = vel (x3 (ix2 0 l)) (val_main_v1 (F := Ideal) x0 (ix2 0 l)) := rfl

theorem ref_d (x0 : FVec Ideal S8x81920 .f32) (x1 x2 x3 : FVec Ideal S1x81920 .f32) (l : Fin 81920) :
    val_main_v25 (F := Ideal) x0 x1 x2 x3 (ix2 0 l)
      = step (x1 (ix2 0 l)) (x2 (ix2 0 l)) (x3 (ix2 0 l)) (val_main_v1 (F := Ideal) x0 (ix2 0 l)) := rfl

variable (m : (ℓ : Loc nD τ sig) → Buf (Elt Ideal) ℓ) (c : Dev nD)

/-- A point's gradient is the reference's. -/
theorem sum_eq (t : Fin cfg0.N) (l : Fin 8192) (h : t.val * 8192 + l.val < 81920) :
    k0_pay2 (F := Ideal) (View.ld (iblk m c 0 t) r0_0) (View.ld (iblk m c 0 t) r0_1) (View.ld (iblk m c 0 t) r0_2)
        (View.ld (iblk m c 0 t) r0_3) (View.ld (iblk m c 0 t) r0_4) (View.ld (iblk m c 0 t) r0_5)
        (View.ld (iblk m c 0 t) r0_6) (View.ld (iblk m c 0 t) r0_7) (ix2 0 l)
      = val_main_v1 (F := Ideal) (V m c main_arg0) (ix2 0 ⟨t.val * 8192 + l.val, h⟩) := by
  have e0 : View.ld (iblk m c 0 t) r0_0 (ix2 (0 : Fin 1) l) = V m c main_arg0 (ix2 (0 : Fin 8) (⟨t.val * 8192 + l.val, h⟩ : Fin 81920)) := by
    blk_point [iblk, idx t]
  have e1 : View.ld (iblk m c 0 t) r0_1 (ix2 (0 : Fin 1) l) = V m c main_arg0 (ix2 (1 : Fin 8) (⟨t.val * 8192 + l.val, h⟩ : Fin 81920)) := by
    blk_point [iblk, idx t]
  have e2 : View.ld (iblk m c 0 t) r0_2 (ix2 (0 : Fin 1) l) = V m c main_arg0 (ix2 (2 : Fin 8) (⟨t.val * 8192 + l.val, h⟩ : Fin 81920)) := by
    blk_point [iblk, idx t]
  have e3 : View.ld (iblk m c 0 t) r0_3 (ix2 (0 : Fin 1) l) = V m c main_arg0 (ix2 (3 : Fin 8) (⟨t.val * 8192 + l.val, h⟩ : Fin 81920)) := by
    blk_point [iblk, idx t]
  have e4 : View.ld (iblk m c 0 t) r0_4 (ix2 (0 : Fin 1) l) = V m c main_arg0 (ix2 (4 : Fin 8) (⟨t.val * 8192 + l.val, h⟩ : Fin 81920)) := by
    blk_point [iblk, idx t]
  have e5 : View.ld (iblk m c 0 t) r0_5 (ix2 (0 : Fin 1) l) = V m c main_arg0 (ix2 (5 : Fin 8) (⟨t.val * 8192 + l.val, h⟩ : Fin 81920)) := by
    blk_point [iblk, idx t]
  have e6 : View.ld (iblk m c 0 t) r0_6 (ix2 (0 : Fin 1) l) = V m c main_arg0 (ix2 (6 : Fin 8) (⟨t.val * 8192 + l.val, h⟩ : Fin 81920)) := by
    blk_point [iblk, idx t]
  have e7 : View.ld (iblk m c 0 t) r0_7 (ix2 (0 : Fin 1) l) = V m c main_arg0 (ix2 (7 : Fin 8) (⟨t.val * 8192 + l.val, h⟩ : Fin 81920)) := by
    blk_point [iblk, idx t]
  rw [pay2, e0, e1, e2, e3, e4, e5, e6, e7, ref_g]
  exact (Fin.sum_univ_eight (M := EReal) (fun k : Fin 8 => V m c main_arg0 (ix2 k (⟨t.val * 8192 + l.val, h⟩ : Fin 81920)))).symm

/-- A block's place of the weights. -/
theorem cols_1 (t : Fin cfg0.N) (l : Fin 8192) (h : t.val * 8192 + l.val < 81920) :
    iblk m c 1 t (ix2 (0 : Fin 1) l) = V m c main_arg1 (ix2 (0 : Fin 1) (⟨t.val * 8192 + l.val, h⟩ : Fin 81920)) := by
  blk_point [iblk, idx t]

/-- A block's place of the first moments. -/
theorem cols_2 (t : Fin cfg0.N) (l : Fin 8192) (h : t.val * 8192 + l.val < 81920) :
    iblk m c 2 t (ix2 (0 : Fin 1) l) = V m c main_arg2 (ix2 (0 : Fin 1) (⟨t.val * 8192 + l.val, h⟩ : Fin 81920)) := by
  blk_point [iblk, idx t]

/-- A block's place of the second moments. -/
theorem cols_3 (t : Fin cfg0.N) (l : Fin 8192) (h : t.val * 8192 + l.val < 81920) :
    iblk m c 3 t (ix2 (0 : Fin 1) l) = V m c main_arg3 (ix2 (0 : Fin 1) (⟨t.val * 8192 + l.val, h⟩ : Fin 81920)) := by
  blk_point [iblk, idx t]

/-- The kernel's gradient is the reference's. -/
theorem arr_g : (dats m 0 c).arrAt 4 cfg0.N = val_main_v1 (F := Ideal) (V m c main_arg0) := by
  refine (dats m 0 c).arrAt_eq_of_covers 4 _ (by decide +kernel) fun t _ y => ?_
  have ht : t.val < 10 := lt_of_lt_of_eq t.isLt N_0
  obtain ⟨r, l, rfl⟩ : ∃ (r : Fin 1) (l : Fin 8192), y = ix2 r l := ⟨y 0, y 1, eq_ix2 y⟩
  obtain rfl : r = 0 := Subsingleton.elim _ _
  have hl := l.isLt
  blk_simp
  rw [after0_4]
  have e : (win0_4.blk t).view.emb (ix2 0 l) = ix2 (0 : Fin 1) (⟨t.val * 8192 + l.val, by omega⟩ : Fin 81920) := by
    blk_ext [idx t]
  rw [e]
  frame_out
  exact sum_eq m c t l (by omega)

/-- The kernel's step is the reference's. -/
theorem arr_d : (dats m 0 c).arrAt 5 cfg0.N = val_main_v25 (F := Ideal) (V m c main_arg0) (V m c main_arg1) (V m c main_arg2) (V m c main_arg3) := by
  refine (dats m 0 c).arrAt_eq_of_covers 5 _ (by decide +kernel) fun t _ y => ?_
  have ht : t.val < 10 := lt_of_lt_of_eq t.isLt N_0
  obtain ⟨r, l, rfl⟩ : ∃ (r : Fin 1) (l : Fin 8192), y = ix2 r l := ⟨y 0, y 1, eq_ix2 y⟩
  obtain rfl : r = 0 := Subsingleton.elim _ _
  have hl := l.isLt
  blk_simp
  rw [after0_5]
  have e : (win0_5.blk t).view.emb (ix2 0 l) = ix2 (0 : Fin 1) (⟨t.val * 8192 + l.val, by omega⟩ : Fin 81920) := by
    blk_ext [idx t]
  rw [e, ref_d, ← sum_eq m c t l (by omega), ← cols_1 m c t l (by omega), ← cols_2 m c t l (by omega), ← cols_3 m c t l (by omega)]
  frame_out [k0_pay6]
  exact pay1 _ _ _ _ _ _ _ _ _ _ _ l

/-- The kernel's first moment is the reference's. -/
theorem arr_m : (dats m 0 c).arrAt 6 cfg0.N = val_main_v6 (F := Ideal) (V m c main_arg0) (V m c main_arg2) := by
  refine (dats m 0 c).arrAt_eq_of_covers 6 _ (by decide +kernel) fun t _ y => ?_
  have ht : t.val < 10 := lt_of_lt_of_eq t.isLt N_0
  obtain ⟨r, l, rfl⟩ : ∃ (r : Fin 1) (l : Fin 8192), y = ix2 r l := ⟨y 0, y 1, eq_ix2 y⟩
  obtain rfl : r = 0 := Subsingleton.elim _ _
  have hl := l.isLt
  blk_simp
  rw [after0_6]
  have e : (win0_6.blk t).view.emb (ix2 0 l) = ix2 (0 : Fin 1) (⟨t.val * 8192 + l.val, by omega⟩ : Fin 81920) := by
    blk_ext [idx t]
  rw [e, ref_m, ← sum_eq m c t l (by omega), ← cols_2 m c t l (by omega)]
  frame_out
  exact pay3 _ _ _ _ _ _ _ _ _ l

/-- The kernel's second moment is the reference's. -/
theorem arr_v : (dats m 0 c).arrAt 7 cfg0.N = val_main_v12 (F := Ideal) (V m c main_arg0) (V m c main_arg3) := by
  refine (dats m 0 c).arrAt_eq_of_covers 7 _ (by decide +kernel) fun t _ y => ?_
  have ht : t.val < 10 := lt_of_lt_of_eq t.isLt N_0
  obtain ⟨r, l, rfl⟩ : ∃ (r : Fin 1) (l : Fin 8192), y = ix2 r l := ⟨y 0, y 1, eq_ix2 y⟩
  obtain rfl : r = 0 := Subsingleton.elim _ _
  have hl := l.isLt
  blk_simp
  rw [after0_7]
  have e : (win0_7.blk t).view.emb (ix2 0 l) = ix2 (0 : Fin 1) (⟨t.val * 8192 + l.val, by omega⟩ : Fin 81920) := by
    blk_ext [idx t]
  rw [e, ref_v, ← sum_eq m c t l (by omega), ← cols_3 m c t l (by omega)]
  frame_out [k0_pay6]
  exact pay4 _ _ _ _ _ _ _ _ _ l

theorem frame_ref : Cert.quiescent_Reference20Ideal (hReference20Ideal := Cert.Reference20Ideal.Gen.facts) := by
  intro m g _
  exact (θ_run _ _ _).mono (fun r h => ⟨fun c => (h c).2.2.2.2, sem_eq_zero_of_no_sems (by decide) _⟩)
    (Cert.Reference20Ideal.Value.run m g)

/-- On the same arguments the kernel and the reference end with the same results. -/
theorem algebraic : Cert.algebraic_Kernel20Ideal_Reference20Ideal (hKernel20Ideal := Cert.Kernel20Ideal.Gen.facts)
    (hReference20Ideal := Cert.Reference20Ideal.Gen.facts) := by
  pair_intro
  · run_from Cert.Kernel20Ideal.Value.run_blocks m g
  · refine Idealize.ShloMosaic.θ_run_mono (Cert.Reference20Ideal.Value.run m' g') fun r hr c => ?_
    obtain ⟨h0, h1, h2, h3, hargs⟩ := hr c
    obtain ⟨a0, a1, a2, a3⟩ := hagree c
    rw [a0] at h0
    rw [a0, a1, a2, a3] at h1
    rw [a0, a2] at h2
    rw [a0, a3] at h3
    exact ⟨h0.trans ((val_main_v1_eq (F := Ideal) _).trans (arr_g m c).symm),
      h1.trans ((val_main_v25_eq (F := Ideal) _ _ _ _).trans (arr_d m c).symm),
      h2.trans ((val_main_v6_eq (F := Ideal) _ _).trans (arr_m m c).symm),
      h3.trans ((val_main_v12_eq (F := Ideal) _ _).trans (arr_v m c).symm), hargs⟩

end Cert.Proof.P20

end
-- ==== Proof.P21.lean ====
/- The first modulation, `x (1 + scale) + shift`, block of rows by block of rows. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pipeline.ReadBack
public import Idealize.ShloMosaic.Lib.KernelVsHost
public import Idealize.ShloMosaic.Lib.Claim

@[expose] public section

set_option maxRecDepth 200000

noncomputable section

namespace Cert.Proof.P21

open Cert.Kernel21Ideal Cert.Kernel21Ideal.Gen Idealize.ShloMosaic Idealize.ShloMosaic.TcCoe Idealize.SL.Sem
open Idealize.ShloMosaic.Pipeline (Dat)
open Cert.Reference21Ideal.Read

/-- The blocks' places: row block `t`, and the whole modulation. -/
theorem idx : ∀ t : Fin cfg0.N, win0_0.index t = ![t.val, 0] ∧ win0_1.index t = ![0, 0] ∧ win0_2.index t = ![t.val, 0] :=
  (by decide +kernel : ∀ t : Fin grid0.N, _)

theorem pay1 (x : FVec Ideal S256x4096 .f32) (s b : FVec Ideal S1x4096 .f32) (r : Fin 256) (l : Fin 4096) :
    k0_pay1 (F := Ideal) x s b (ix2 r l) = x (ix2 r l) * (1 + s (ix2 0 l)) + b (ix2 0 l) := by
  pointwise [k0_pay1]

theorem ref_at (x0 : FVec Ideal S4096x4096 .f32) (x1 : FVec Ideal S6x4096 .f32) (r l : Fin 4096) :
    val_main_v8 (F := Ideal) x0 x1 (ix2 r l) = x0 (ix2 r l) * (1 + x1 (ix2 1 l)) + x1 (ix2 0 l) := by
  pointwise [val_main_v0, val_main_v1, val_main_cst, val_main_v2, val_main_v3, val_main_v4, val_main_v5, val_main_v6, val_main_v7,
    val_main_v8]

variable (m : (ℓ : Loc nD τ sig) → Buf (Elt Ideal) ℓ) (c : Dev nD)

/-- A row of a block of the input is a row of that array. -/
theorem rows_0 (t : Fin cfg0.N) (r : Fin 256) (l : Fin 4096) (h : t.val * 256 + r.val < 4096) :
    iblk m c 0 t (ix2 r l) = V m c main_arg0 (ix2 (⟨t.val * 256 + r.val, h⟩ : Fin 4096) l) := by
  blk_point [iblk, idx t]

/-- The scale a step loads is the second row of the modulation. -/
theorem scale_row (t : Fin cfg0.N) (l : Fin 4096) :
    View.ld (iblk m c 1 t) (Rect.unit ![1, 0] ![1, 4096] inb_S6x4096_S1x4096_1_0) (ix2 (0 : Fin 1) l)
      = V m c main_arg1 (ix2 (1 : Fin 6) l) := by
  blk_point [iblk, idx t]

/-- The shift a step loads is the first row of the modulation. -/
theorem shift_row (t : Fin cfg0.N) (l : Fin 4096) :
    View.ld (iblk m c 1 t) (Rect.unit ![0, 0] ![1, 4096] inb_S6x4096_S1x4096_0_0) (ix2 (0 : Fin 1) l)
      = V m c main_arg1 (ix2 (0 : Fin 6) l) := by
  blk_point [iblk, idx t]

/-- The kernel's result is the reference's. -/
theorem arr : (dats m 0 c).arrAt 2 cfg0.N = val_main_v8 (F := Ideal) (V m c main_arg0) (V m c main_arg1) := by
  refine (dats m 0 c).arrAt_eq_of_covers 2 _ (by decide +kernel) fun t _ y => ?_
  have ht : t.val < 16 := lt_of_lt_of_eq t.isLt N_0
  obtain ⟨r, l, rfl⟩ : ∃ (r : Fin 256) (l : Fin 4096), y = ix2 r l := ⟨y 0, y 1, eq_ix2 y⟩
  have hr := r.isLt
  blk_simp
  rw [after0_2]
  have e : (win0_2.blk t).view.emb (ix2 r l) = ix2 (⟨t.val * 256 + r.val, by omega⟩ : Fin 4096) l := by
    blk_ext [idx t]
  rw [e, ref_at]
  frame_out
  rw [pay1]
  rw [rows_0 m c t r l (by omega), scale_row m c t l, shift_row m c t l]

/-- The reference ends, keeps its arguments and signals nothing. -/
theorem frame_ref : Cert.quiescent_Reference21Ideal (hReference21Ideal := Cert.Reference21Ideal.Gen.facts) := by
  intro m g _
  exact (θ_run _ _ _).mono (fun r h => ⟨fun c => (h c).2, sem_eq_zero_of_no_sems (by decide) _⟩)
    (Cert.Reference21Ideal.Value.run m g)

/-- On the same arguments the kernel and the reference end with the same results. -/
theorem algebraic : Cert.algebraic_Kernel21Ideal_Reference21Ideal (hKernel21Ideal := Cert.Kernel21Ideal.Gen.facts)
    (hReference21Ideal := Cert.Reference21Ideal.Gen.facts) := by
  pair_intro
  · run_from Cert.Kernel21Ideal.Value.run_blocks m g
  · refine Idealize.ShloMosaic.θ_run_mono (Cert.Reference21Ideal.Value.run m' g') fun r hr c => ?_
    obtain ⟨h0, hargs⟩ := hr c
    obtain ⟨a0, a1⟩ := hagree c
    rw [a0, a1] at h0
    exact ⟨h0.trans ((val_main_v8_eq (F := Ideal) _ _).trans (arr m c).symm), hargs⟩

end Cert.Proof.P21

end
-- ==== Proof.P22.lean ====
/- The modulation, `silu(c) W`, block of columns by block of columns. -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ReadBack
public import Idealize.ShloMosaic.Lib.KernelVsHost
public import Idealize.ShloMosaic.Lib.Claim

@[expose] public section

set_option maxRecDepth 200000

noncomputable section

namespace Cert.Proof.P22

open Cert.Kernel22Ideal Cert.Kernel22Ideal.Gen Idealize.ShloMosaic Idealize.ShloMosaic.TcCoe Idealize.SL.Sem
open Idealize.ShloMosaic.Pipeline (Dat)
open Cert.Reference22Ideal.Read

/-- The blocks' places: the whole of the conditions, and column block `t`. -/
theorem idx : ∀ t : Fin cfg0.N, win0_0.index t = ![0, 0] ∧ win0_1.index t = ![0, t.val] ∧ win0_2.index t = ![0, t.val] :=
  (by decide +kernel : ∀ t : Fin grid0.N, _)

/-- The sigmoid-weighted value. -/
def silu (x : EReal) : EReal := x * Ideal.logistic x

theorem pay1 (a : FVec Ideal S16x4096 .f32) (b : FVec Ideal S4096x512 .f32) (r : Fin 16) (l : Fin 512) :
    k0_pay1 (F := Ideal) a b (ix2 r l) = ∑ k : Fin 4096, silu (a (ix2 r k)) * b (ix2 k l) := by
  pointwise [k0_pay1, silu]

theorem ref_at (x0 : FVec Ideal S16x4096 .f32) (x1 : FVec Ideal S4096x3072 .f32) (r : Fin 16) (l : Fin 3072) :
    val_main_v1 (F := Ideal) x0 x1 (ix2 r l) = ∑ k : Fin 4096, silu (x0 (ix2 r k)) * x1 (ix2 k l) := by
  pointwise [val_main_call0_v0, val_main_call0_v1, val_main_call0_cst, val_main_call0_v2, val_main_call0_v3, val_main_call0_cst_0,
    val_main_call0_v4, val_main_call0_v5, val_main_v0, val_main_v1, silu]
  rfl

variable (m : (ℓ : Loc nD τ sig) → Buf (Elt Ideal) ℓ) (c : Dev nD)

/-- The kernel's result is the reference's. -/
theorem arr : (dats m 0 c).arrAt 2 cfg0.N = val_main_v1 (F := Ideal) (V m c main_arg0) (V m c main_arg1) := by
  refine (dats m 0 c).arrAt_eq_of_covers 2 _ (by decide +kernel) fun t _ y => ?_
  have ht : t.val < 6 := lt_of_lt_of_eq t.isLt N_0
  obtain ⟨r, l, rfl⟩ : ∃ (r : Fin 16) (l : Fin 512), y = ix2 r l := ⟨y 0, y 1, eq_ix2 y⟩
  have hl := l.isLt
  blk_simp
  rw [after0_2]
  have e : (win0_2.blk t).view.emb (ix2 r l) = ix2 r (⟨t.val * 512 + l.val, by omega⟩ : Fin 3072) := by
    blk_ext [idx t]
  have e0 : ∀ k : Fin 4096, iblk m c 0 t (ix2 r k) = V m c main_arg0 (ix2 r k) := fun k => by
    blk_point [iblk, idx t]
  have e1 : ∀ k : Fin 4096, iblk m c 1 t (ix2 k l) = V m c main_arg1 (ix2 k (⟨t.val * 512 + l.val, by omega⟩ : Fin 3072)) :=
    fun k => by blk_point [iblk, idx t]
  rw [e, ref_at]
  frame_out
  rw [pay1]
  simp only [e0, e1]

/-- The reference ends, keeps its arguments and signals nothing. -/
theorem frame_ref : Cert.quiescent_Reference22Ideal (hReference22Ideal := Cert.Reference22Ideal.Gen.facts) := by
  intro m g _
  exact (θ_run _ _ _).mono (fun r h => ⟨fun c => (h c).2, sem_eq_zero_of_no_sems (by decide) _⟩)
    (Cert.Reference22Ideal.Value.run m g)

/-- On the same arguments the kernel and the reference end with the same results. -/
theorem algebraic : Cert.algebraic_Kernel22Ideal_Reference22Ideal (hKernel22Ideal := Cert.Kernel22Ideal.Gen.facts)
    (hReference22Ideal := Cert.Reference22Ideal.Gen.facts) := by
  pair_intro
  · run_from Cert.Kernel22Ideal.Value.run_blocks m g
  · refine Idealize.ShloMosaic.θ_run_mono (Cert.Reference22Ideal.Value.run m' g') fun r hr c => ?_
    obtain ⟨h0, hargs⟩ := hr c
    obtain ⟨a0, a1⟩ := hagree c
    rw [a0, a1] at h0
    exact ⟨h0.trans ((val_main_v1_eq (F := Ideal) _ _).trans (arr m c).symm), hargs⟩

end Cert.Proof.P22

end
-- ==== Proof.P23.lean ====
/- The first layer norm: the residual sum is normalised along its rows, scaled and shifted, and modulated for the feed-forward
   layer, block of rows by block of rows. -/
module

public import proofs.«01_k».proof.Defs
public import proofs.«01_k».proof.Proof.Adam
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pipeline.ReadBack
public import Idealize.ShloMosaic.Lib.KernelVsHost
public import Idealize.ShloMosaic.Lib.Claim

@[expose] public section

set_option maxRecDepth 200000

noncomputable section

namespace Cert.Proof.P23

open Cert.Kernel23Ideal Cert.Kernel23Ideal.Gen Idealize.ShloMosaic Idealize.ShloMosaic.TcCoe Idealize.SL.Sem
open Idealize.ShloMosaic.Pipeline (Dat)
open Cert.Reference23Ideal.Read
open Cert.Proof.Adam (num)

/-- The blocks' places: row block `t`, and the whole of the modulation, the scale and the shift. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The residual sum at one place. -/
def resid (x s y : EReal) : EReal := num 0x3F9837F0#32 * x + (1 + s) * y

/-- The mean of a row. -/
def mean (f : Fin 4096 → EReal) : EReal := Ideal.div (∑ k : Fin 4096, f k) (num 0x45800000#32)

/-- A row normalised, at one place. -/
def norm (f : Fin 4096 → EReal) (l : Fin 4096) : EReal :=
  (f l - mean f) * Ideal.rsqrt (mean (fun k => (f k - mean f) * (f k - mean f)) + num 0x3727C5AC#32)

theorem pay2 (x : FVec Ideal S256x4096 .f32) (s : FVec Ideal S1x4096 .f32) (y : FVec Ideal S256x4096 .f32) (g b : FVec Ideal S1x4096 .f32)
    (r : Fin 256) (l : Fin 4096) : k0_pay2 (F := Ideal) x s y g b (ix2 r l)
      = norm (fun k => resid (x (ix2 r k)) (s (ix2 0 k)) (y (ix2 r k))) l * g (ix2 0 l) + b (ix2 0 l) := by
  pointwise [k0_pay2, norm, mean, resid, num]

theorem pay1 (z : FVec Ideal S256x4096 .f32) (s b : FVec Ideal S1x4096 .f32) (r : Fin 256) (l : Fin 4096) :
    k0_pay1 (F := Ideal) z (k0_pay3 (F := Ideal) s) b (ix2 r l) = z (ix2 r l) * (1 + s (ix2 0 l)) + b (ix2 0 l) := by
  pointwise [k0_pay1, k0_pay3]

section Ref

variable (x0 x1 : FVec Ideal S4096x4096 .f32) (x2 : FVec Ideal S6x4096 .f32) (x3 x4 : FVec Ideal S1x4096 .f32) (r l : Fin 4096)

/-- The one the gate is added to. -/
theorem cst_one : val_main_cst_0 (F := Ideal) ix0 = (1 : EReal) := by
  pointwise [val_main_cst_0]

theorem ref_x1 : val_main_v31 (F := Ideal) x0 x1 x2 x3 x4 (ix2 r l)
    = norm (fun k => resid (x0 (ix2 r k)) (x2 (ix2 2 k)) (x1 (ix2 r k))) l * x3 (ix2 0 l) + x4 (ix2 0 l) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31,
    val_main_cst, val_main_cst_1, val_main_cst_2, val_main_cst_3, val_main_cst_4, val_main_cst_5, norm, mean, resid, num]
  simp only [cst_one]

theorem ref_h2 : val_main_v38 (F := Ideal) x0 x1 x2 x3 x4 (ix2 r l)
    = val_main_v31 (F := Ideal) x0 x1 x2 x3 x4 (ix2 r l) * (1 + x2 (ix2 4 l)) + x2 (ix2 3 l) := by
  pointwise [val_main_v1, val_main_v2, val_main_cst_6, val_main_v32, val_main_v33, val_main_v34, val_main_v35, val_main_v36,
    val_main_v37, val_main_v38]

end Ref

variable (m : (ℓ : Loc nD τ sig) → Buf (Elt Ideal) ℓ) (c : Dev nD)

/-- A row of a block of the input is a row of that array. -/
theorem rows_0 (t : Fin cfg0.N) (r : Fin 256) (l : Fin 4096) (h : t.val * 256 + r.val < 4096) :
    iblk m c 0 t (ix2 r l) = V m c main_arg0 (ix2 (⟨t.val * 256 + r.val, h⟩ : Fin 4096) l) := by
  blk_point [iblk, idx t]

/-- A row of a block of the mixer's output is a row of that array. -/
theorem rows_1 (t : Fin cfg0.N) (r : Fin 256) (l : Fin 4096) (h : t.val * 256 + r.val < 4096) :
    iblk m c 1 t (ix2 r l) = V m c main_arg1 (ix2 (⟨t.val * 256 + r.val, h⟩ : Fin 4096) l) := by
  blk_point [iblk, idx t]

/-- The gate a step loads is the third row of the modulation. -/
theorem gate_row (t : Fin cfg0.N) (l : Fin 4096) :
    View.ld (iblk m c 2 t) (Rect.unit ![2, 0] ![1, 4096] inb_S6x4096_S1x4096_2_0) (ix2 (0 : Fin 1) l)
      = V m c main_arg2 (ix2 (2 : Fin 6) l) := by
  blk_point [iblk, idx t]

/-- The shift a step loads is the fourth row of the modulation. -/
theorem shift_row (t : Fin cfg0.N) (l : Fin 4096) :
    View.ld (iblk m c 2 t) (Rect.unit ![3, 0] ![1, 4096] inb_S6x4096_S1x4096_3_0) (ix2 (0 : Fin 1) l)
      = V m c main_arg2 (ix2 (3 : Fin 6) l) := by
  blk_point [iblk, idx t]

/-- The scale a step loads is the fifth row of the modulation. -/
theorem scale_row (t : Fin cfg0.N) (l : Fin 4096) :
    View.ld (iblk m c 2 t) (Rect.unit ![4, 0] ![1, 4096] inb_S6x4096_S1x4096_4_0) (ix2 (0 : Fin 1) l)
      = V m c main_arg2 (ix2 (4 : Fin 6) l) := by
  blk_point [iblk, idx t]

/-- The norm's scale. -/
theorem row_3 (t : Fin cfg0.N) (l : Fin 4096) : iblk m c 3 t (ix2 (0 : Fin 1) l) = V m c main_arg3 (ix2 (0 : Fin 1) l) := by
  blk_point [iblk, idx t]

/-- The norm's shift. -/
theorem row_4 (t : Fin cfg0.N) (l : Fin 4096) : iblk m c 4 t (ix2 (0 : Fin 1) l) = V m c main_arg4 (ix2 (0 : Fin 1) l) := by
  blk_point [iblk, idx t]

/-- The normalised row of a point is the reference's. -/
theorem x1_eq (t : Fin cfg0.N) (r : Fin 256) (l : Fin 4096) (h : t.val * 256 + r.val < 4096) :
    k0_pay2 (F := Ideal) (iblk m c 0 t) (View.ld (iblk m c 2 t) (Rect.unit ![2, 0] ![1, 4096] inb_S6x4096_S1x4096_2_0)) (iblk m c 1 t)
        (iblk m c 3 t) (iblk m c 4 t) (ix2 r l)
      = val_main_v31 (F := Ideal) (V m c main_arg0) (V m c main_arg1) (V m c main_arg2) (V m c main_arg3) (V m c main_arg4)
          (ix2 (⟨t.val * 256 + r.val, h⟩ : Fin 4096) l) := by
  rw [pay2, ref_x1, row_3 m c t l, row_4 m c t l]
  simp only [fun k => rows_0 m c t r k h, fun k => rows_1 m c t r k h, fun k => gate_row m c t k]

/-- The normalised residual sum is the reference's. -/
theorem arr_x1 : (dats m 0 c).arrAt 5 cfg0.N
    = val_main_v31 (F := Ideal) (V m c main_arg0) (V m c main_arg1) (V m c main_arg2) (V m c main_arg3) (V m c main_arg4) := by
  refine (dats m 0 c).arrAt_eq_of_covers 5 _ (by decide +kernel) fun t _ y => ?_
  have ht : t.val < 16 := lt_of_lt_of_eq t.isLt N_0
  obtain ⟨r, l, rfl⟩ : ∃ (r : Fin 256) (l : Fin 4096), y = ix2 r l := ⟨y 0, y 1, eq_ix2 y⟩
  have hr := r.isLt
  blk_simp
  rw [after0_5]
  have e : (win0_5.blk t).view.emb (ix2 r l) = ix2 (⟨t.val * 256 + r.val, by omega⟩ : Fin 4096) l := by
    blk_ext [idx t]
  rw [e]
  frame_out
  exact x1_eq m c t r l (by omega)

/-- The modulated result is the reference's. -/
theorem arr_h2 : (dats m 0 c).arrAt 6 cfg0.N
    = val_main_v38 (F := Ideal) (V m c main_arg0) (V m c main_arg1) (V m c main_arg2) (V m c main_arg3) (V m c main_arg4) := by
  refine (dats m 0 c).arrAt_eq_of_covers 6 _ (by decide +kernel) fun t _ y => ?_
  have ht : t.val < 16 := lt_of_lt_of_eq t.isLt N_0
  obtain ⟨r, l, rfl⟩ : ∃ (r : Fin 256) (l : Fin 4096), y = ix2 r l := ⟨y 0, y 1, eq_ix2 y⟩
  have hr := r.isLt
  blk_simp
  rw [after0_6]
  have e : (win0_6.blk t).view.emb (ix2 r l) = ix2 (⟨t.val * 256 + r.val, by omega⟩ : Fin 4096) l := by
    blk_ext [idx t]
  rw [e, ref_h2, ← x1_eq m c t r l (by omega), ← scale_row m c t l, ← shift_row m c t l]
  frame_out
  exact pay1 _ _ _ r l

/-- The reference ends, keeps its arguments and signals nothing. -/
theorem frame_ref : Cert.quiescent_Reference23Ideal (hReference23Ideal := Cert.Reference23Ideal.Gen.facts) := by
  intro m g _
  exact (θ_run _ _ _).mono (fun r h => ⟨fun c => (h c).2.2, sem_eq_zero_of_no_sems (by decide) _⟩)
    (Cert.Reference23Ideal.Value.run m g)

/-- On the same arguments the kernel and the reference end with the same results. -/
theorem algebraic : Cert.algebraic_Kernel23Ideal_Reference23Ideal (hKernel23Ideal := Cert.Kernel23Ideal.Gen.facts)
    (hReference23Ideal := Cert.Reference23Ideal.Gen.facts) := by
  pair_intro
  · run_from Cert.Kernel23Ideal.Value.run_blocks m g
  · refine Idealize.ShloMosaic.θ_run_mono (Cert.Reference23Ideal.Value.run m' g') fun r hr c => ?_
    obtain ⟨h0, h1, hargs⟩ := hr c
    obtain ⟨a0, a1, a2, a3, a4⟩ := hagree c
    rw [val_main_v31_eq, a0, a1, a2, a3, a4] at h0
    rw [val_main_v38_eq, a0, a1, a2, a3, a4] at h1
    exact ⟨h0.trans (arr_x1 m c).symm, h1.trans (arr_h2 m c).symm, hargs⟩

end Cert.Proof.P23

end
-- ==== Proof.P24.lean ====
/- The step of the input projection: a device's own gradient, its neighbour's and the three other pairs' sums are added, and the
   weight and its moments take their AdamW step, block of rows by block of rows. -/
module

public import proofs.«01_k».proof.Defs
public import proofs.«01_k».proof.Proof.Adam
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P24

open Cert.Kernel24Ideal Cert.Kernel24Ideal.Gen Idealize.ShloMosaic Idealize.ShloMosaic.TcCoe Idealize.SL.Sem
open Idealize.ShloMosaic.Pipeline (Dat)
open Cert.Reference24Ideal.Read
open Cert.Proof.Adam

/-- The blocks' places: row block `t`, of the first part of the two gathered gradients and of each of the three others. -/
theorem idx : ∀ t : Fin cfg0.N, win0_0.index t = ![0, t.val, 0] ∧ win0_1.index t = ![0, t.val, 0]
    ∧ win0_2.index t = ![0, t.val, 0] ∧ win0_3.index t = ![1, t.val, 0] ∧ win0_4.index t = ![2, t.val, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

/-- A block of a gradient, as the body loads it. -/
abbrev Part : Type := FVec Ideal S1x256x1544 .bf16

/-- A block of the weight or of a moment. -/
abbrev Rows : Type := FVec Ideal S256x1544 .f32

/-- The sum of the five parts a point loads. -/
theorem pay2 (a b d e f : Part) (r : Fin 256) (l : Fin 1544) :
    k0_pay2 (F := Ideal) a b d e f (ix2 r l) = a (ix3 0 r l) + b (ix3 0 r l) + d (ix3 0 r l) + e (ix3 0 r l) + f (ix3 0 r l) := by
  pointwise [k0_pay2]

theorem pay3 (a b d e f : Part) (x : Rows) (r : Fin 256) (l : Fin 1544) :
    k0_pay3 (F := Ideal) a b d e f x (ix2 r l) = mom (x (ix2 r l)) (k0_pay2 (F := Ideal) a b d e f (ix2 r l)) := rfl

theorem pay4 (a b d e f : Part) (x : Rows) (r : Fin 256) (l : Fin 1544) :
    k0_pay4 (F := Ideal) a b d e f x (ix2 r l) = vel (x (ix2 r l)) (k0_pay2 (F := Ideal) a b d e f (ix2 r l)) := rfl

theorem pay1 (a b d e f : Part) (w x y : Rows) (r : Fin 256) (l : Fin 1544) :
    k0_pay1 (F := Ideal) w (k0_pay3 (F := Ideal) a b d e f x) (k0_pay4 (F := Ideal) a b d e f y)
        (Scalar.ofBits (F := Ideal) .f32 0x3F26BD02#32) (ix2 r l)
      = step (w (ix2 r l)) (x (ix2 r l)) (y (ix2 r l)) (k0_pay2 (F := Ideal) a b d e f (ix2 r l)) := rfl

section Ref

variable (x0 : FVec Ideal S8x4096x1544 .bf16) (x1 : FVec Ideal S4x4096x1544 .bf16) (x2 : FVec Ideal S3x4096x1544 .bf16)
  (x3 x4 x5 : FVec Ideal S4096x1544 .f32) (r : Fin 4096) (l : Fin 1544)

/-- The reference's gradient: the sum of the parts. -/
theorem ref_g : val_main_v9 (F := Ideal) x0 x1 x2 (ix2 r l) = x0 (ix3 0 r l) + x1 (ix3 0 r l) + ∑ k : Fin 3, x2 (ix3 k r l) := by
  pointwise [val_main_v0, val_main_v1, val_main_v2, val_main_v3, val_main_v4, val_main_v5, val_main_v6, val_main_v7, val_main_cst,
    val_main_v8, val_main_v9]

theorem ref_m : val_main_v14 (F := Ideal) x0 x1 x2 x4 (ix2 r l)
    = mom (x4 (ix2 r l)) (val_main_v9 (F := Ideal) x0 x1 x2 (ix2 r l)) := rfl

theorem ref_v : val_main_v20 (F := Ideal) x0 x1 x2 x5 (ix2 r l)
    = vel (x5 (ix2 r l)) (val_main_v9 (F := Ideal) x0 x1 x2 (ix2 r l)) := rfl

theorem ref_d : val_main_v33 (F := Ideal) x0 x1 x2 x3 x4 x5 (ix2 r l)
    = step (x3 (ix2 r l)) (x4 (ix2 r l)) (x5 (ix2 r l)) (val_main_v9 (F := Ideal) x0 x1 x2 (ix2 r l)) := rfl

end Ref

variable (m : (ℓ : Loc nD τ sig) → Buf (Elt Ideal) ℓ) (c : Dev nD)

/-- A point's gradient is the reference's. -/
theorem sum_eq (t : Fin cfg0.N) (r : Fin 256) (l : Fin 1544) (h : t.val * 256 + r.val < 4096) :
    k0_pay2 (F := Ideal) (iblk m c 0 t) (iblk m c 1 t) (iblk m c 2 t) (iblk m c 3 t) (iblk m c 4 t) (ix2 r l)
      = val_main_v9 (F := Ideal) (V m c main_arg0) (V m c main_arg1) (V m c main_arg2) (ix2 ⟨t.val * 256 + r.val, h⟩ l) := by
  have e0 : iblk m c 0 t (ix3 (0 : Fin 1) r l) = V m c main_arg0 (ix3 (0 : Fin 8) (⟨t.val * 256 + r.val, h⟩ : Fin 4096) l) := by
    blk_point [iblk, idx t]
  have e1 : iblk m c 1 t (ix3 (0 : Fin 1) r l) = V m c main_arg1 (ix3 (0 : Fin 4) (⟨t.val * 256 + r.val, h⟩ : Fin 4096) l) := by
    blk_point [iblk, idx t]
  have e2 : iblk m c 2 t (ix3 (0 : Fin 1) r l) = V m c main_arg2 (ix3 (0 : Fin 3) (⟨t.val * 256 + r.val, h⟩ : Fin 4096) l) := by
    blk_point [iblk, idx t]
  have e3 : iblk m c 3 t (ix3 (0 : Fin 1) r l) = V m c main_arg2 (ix3 (1 : Fin 3) (⟨t.val * 256 + r.val, h⟩ : Fin 4096) l) := by
    blk_point [iblk, idx t]
  have e4 : iblk m c 4 t (ix3 (0 : Fin 1) r l) = V m c main_arg2 (ix3 (2 : Fin 3) (⟨t.val * 256 + r.val, h⟩ : Fin 4096) l) := by
    blk_point [iblk, idx t]
  rw [pay2, e0, e1, e2, e3, e4, ref_g]
  exact sum5 _ _ (fun k : Fin 3 => V m c main_arg2 (ix3 k (⟨t.val * 256 + r.val, h⟩ : Fin 4096) l))

/-- A block's place of the weight. -/
theorem rows_5 (t : Fin cfg0.N) (r : Fin 256) (l : Fin 1544) (h : t.val * 256 + r.val < 4096) :
    iblk m c 5 t (ix2 r l) = V m c main_arg3 (ix2 (⟨t.val * 256 + r.val, h⟩ : Fin 4096) l) := by
  blk_point [iblk, idx t]

/-- A block's place of the first moment. -/
theorem rows_6 (t : Fin cfg0.N) (r : Fin 256) (l : Fin 1544) (h : t.val * 256 + r.val < 4096) :
    iblk m c 6 t (ix2 r l) = V m c main_arg4 (ix2 (⟨t.val * 256 + r.val, h⟩ : Fin 4096) l) := by
  blk_point [iblk, idx t]

/-- A block's place of the second moment. -/
theorem rows_7 (t : Fin cfg0.N) (r : Fin 256) (l : Fin 1544) (h : t.val * 256 + r.val < 4096) :
    iblk m c 7 t (ix2 r l) = V m c main_arg5 (ix2 (⟨t.val * 256 + r.val, h⟩ : Fin 4096) l) := by
  blk_point [iblk, idx t]

/-- The place of a block's entry in each of the four results. -/
theorem emb (t : Fin cfg0.N) (r : Fin 256) (l : Fin 1544) (h : t.val * 256 + r.val < 4096) :
    (win0_8.blk t).view.emb (ix2 r l) = ix2 (⟨t.val * 256 + r.val, h⟩ : Fin 4096) l
    ∧ (win0_9.blk t).view.emb (ix2 r l) = ix2 (⟨t.val * 256 + r.val, h⟩ : Fin 4096) l
    ∧ (win0_10.blk t).view.emb (ix2 r l) = ix2 (⟨t.val * 256 + r.val, h⟩ : Fin 4096) l
    ∧ (win0_11.blk t).view.emb (ix2 r l) = ix2 (⟨t.val * 256 + r.val, h⟩ : Fin 4096) l := by
  refine ⟨?_, ?_, ?_, ?_⟩ <;> blk_ext [idx t]

/-- The kernel's gradient is the reference's. -/
theorem arr_g : (dats m 0 c).arrAt 8 cfg0.N = val_main_v9 (F := Ideal) (V m c main_arg0) (V m c main_arg1) (V m c main_arg2) := by
  refine (dats m 0 c).arrAt_eq_of_covers 8 _ (by decide +kernel) fun t _ y => ?_
  have ht : t.val < 16 := lt_of_lt_of_eq t.isLt N_0
  obtain ⟨r, l, rfl⟩ : ∃ (r : Fin 256) (l : Fin 1544), y = ix2 r l := ⟨y 0, y 1, eq_ix2 y⟩
  have hr := r.isLt
  blk_simp
  rw [after0_8]
  rw [(emb t r l (by omega)).1]
  frame_out
  exact sum_eq m c t r l (by omega)

/-- The kernel's step is the reference's. -/
theorem arr_d : (dats m 0 c).arrAt 9 cfg0.N
    = val_main_v33 (F := Ideal) (V m c main_arg0) (V m c main_arg1) (V m c main_arg2) (V m c main_arg3) (V m c main_arg4) (V m c main_arg5) := by
  refine (dats m 0 c).arrAt_eq_of_covers 9 _ (by decide +kernel) fun t _ y => ?_
  have ht : t.val < 16 := lt_of_lt_of_eq t.isLt N_0
  obtain ⟨r, l, rfl⟩ : ∃ (r : Fin 256) (l : Fin 1544), y = ix2 r l := ⟨y 0, y 1, eq_ix2 y⟩
  have hr := r.isLt
  blk_simp
  rw [after0_9]
  rw [(emb t r l (by omega)).2.1, ref_d, ← sum_eq m c t r l (by omega), ← rows_5 m c t r l (by omega), ← rows_6 m c t r l (by omega), ← rows_7 m c t r l (by omega)]
  frame_out [k0_pay5, k0_pay6]
  exact pay1 _ _ _ _ _ _ _ _ r l

/-- The kernel's first moment is the reference's. -/
theorem arr_m : (dats m 0 c).arrAt 10 cfg0.N
    = val_main_v14 (F := Ideal) (V m c main_arg0) (V m c main_arg1) (V m c main_arg2) (V m c main_arg4) := by
  refine (dats m 0 c).arrAt_eq_of_covers 10 _ (by decide +kernel) fun t _ y => ?_
  have ht : t.val < 16 := lt_of_lt_of_eq t.isLt N_0
  obtain ⟨r, l, rfl⟩ : ∃ (r : Fin 256) (l : Fin 1544), y = ix2 r l := ⟨y 0, y 1, eq_ix2 y⟩
  have hr := r.isLt
  blk_simp
  rw [after0_10]
  rw [(emb t r l (by omega)).2.2.1, ref_m, ← sum_eq m c t r l (by omega), ← rows_6 m c t r l (by omega)]
  frame_out [k0_pay5]
  exact pay3 _ _ _ _ _ _ r l

/-- The kernel's second moment is the reference's. -/
theorem arr_v : (dats m 0 c).arrAt 11 cfg0.N
    = val_main_v20 (F := Ideal) (V m c main_arg0) (V m c main_arg1) (V m c main_arg2) (V m c main_arg5) := by
  refine (dats m 0 c).arrAt_eq_of_covers 11 _ (by decide +kernel) fun t _ y => ?_
  have ht : t.val < 16 := lt_of_lt_of_eq t.isLt N_0
  obtain ⟨r, l, rfl⟩ : ∃ (r : Fin 256) (l : Fin 1544), y = ix2 r l := ⟨y 0, y 1, eq_ix2 y⟩
  have hr := r.isLt
  blk_simp
  rw [after0_11]
  rw [(emb t r l (by omega)).2.2.2, ref_v, ← sum_eq m c t r l (by omega), ← rows_7 m c t r l (by omega)]
  frame_out [k0_pay6]
  exact pay4 _ _ _ _ _ _ r l

/-- The reference ends, keeps its arguments and signals nothing. -/
theorem frame_ref : Cert.quiescent_Reference24Ideal (hReference24Ideal := Cert.Reference24Ideal.Gen.facts) := by
  intro m g _
  exact (θ_run _ _ _).mono (fun r h => ⟨fun c => (h c).2.2.2.2, sem_eq_zero_of_no_sems (by decide) _⟩)
    (Cert.Reference24Ideal.Value.run m g)

/-- On the same arguments the kernel and the reference end with the same results. -/
theorem algebraic : Cert.algebraic_Kernel24Ideal_Reference24Ideal (hKernel24Ideal := Cert.Kernel24Ideal.Gen.facts)
    (hReference24Ideal := Cert.Reference24Ideal.Gen.facts) := by
  pair_intro
  · run_from Cert.Kernel24Ideal.Value.run_blocks m g
  · refine Idealize.ShloMosaic.θ_run_mono (Cert.Reference24Ideal.Value.run m' g') fun r hr c => ?_
    obtain ⟨h0, h1, h2, h3, hargs⟩ := hr c
    obtain ⟨a0, a1, a2, a3, a4, a5⟩ := hagree c
    rw [a0, a1, a2] at h0
    rw [a0, a1, a2, a3, a4, a5] at h1
    rw [a0, a1, a2, a4] at h2
    rw [a0, a1, a2, a5] at h3
    exact ⟨h0.trans ((val_main_v9_eq (F := Ideal) _ _ _).trans (arr_g m c).symm),
      h1.trans ((val_main_v33_eq (F := Ideal) _ _ _ _ _ _).trans (arr_d m c).symm),
      h2.trans ((val_main_v14_eq (F := Ideal) _ _ _ _).trans (arr_m m c).symm),
      h3.trans ((val_main_v20_eq (F := Ideal) _ _ _ _).trans (arr_v m c).symm), hargs⟩

end Cert.Proof.P24

end
-- ==== Proof.P25.lean ====
/- The step of the output projection: a device's own gradient, its neighbour's and the three other pairs' sums are added, and the
   weight and its moments take their AdamW step, block of rows by block of rows. -/
module

public import proofs.«01_k».proof.Defs
public import proofs.«01_k».proof.Proof.Adam
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P25

open Cert.Kernel25Ideal Cert.Kernel25Ideal.Gen Idealize.ShloMosaic Idealize.ShloMosaic.TcCoe Idealize.SL.Sem
open Idealize.ShloMosaic.Pipeline (Dat)
open Cert.Reference25Ideal.Read
open Cert.Proof.Adam

/-- The blocks' places: row block `t`, of the first part of the two gathered gradients and of each of the three others. -/
theorem idx : ∀ t : Fin cfg0.N, win0_0.index t = ![0, t.val, 0] ∧ win0_1.index t = ![0, t.val, 0]
    ∧ win0_2.index t = ![0, t.val, 0] ∧ win0_3.index t = ![1, t.val, 0] ∧ win0_4.index t = ![2, t.val, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

/-- A block of a gradient, as the body loads it. -/
abbrev Part : Type := FVec Ideal S1x128x4096 .bf16

/-- A block of the weight or of a moment. -/
abbrev Rows : Type := FVec Ideal S128x4096 .f32

/-- The sum of the five parts a point loads. -/
theorem pay2 (a b d e f : Part) (r : Fin 128) (l : Fin 4096) :
    k0_pay2 (F := Ideal) a b d e f (ix2 r l) = a (ix3 0 r l) + b (ix3 0 r l) + d (ix3 0 r l) + e (ix3 0 r l) + f (ix3 0 r l) := by
  pointwise [k0_pay2]

theorem pay3 (a b d e f : Part) (x : Rows) (r : Fin 128) (l : Fin 4096) :
    k0_pay3 (F := Ideal) a b d e f x (ix2 r l) = mom (x (ix2 r l)) (k0_pay2 (F := Ideal) a b d e f (ix2 r l)) := rfl

theorem pay4 (a b d e f : Part) (x : Rows) (r : Fin 128) (l : Fin 4096) :
    k0_pay4 (F := Ideal) a b d e f x (ix2 r l) = vel (x (ix2 r l)) (k0_pay2 (F := Ideal) a b d e f (ix2 r l)) := rfl

theorem pay1 (a b d e f : Part) (w x y : Rows) (r : Fin 128) (l : Fin 4096) :
    k0_pay1 (F := Ideal) w (k0_pay3 (F := Ideal) a b d e f x) (k0_pay4 (F := Ideal) a b d e f y)
        (Scalar.ofBits (F := Ideal) .f32 0x3F26BD02#32) (ix2 r l)
      = step (w (ix2 r l)) (x (ix2 r l)) (y (ix2 r l)) (k0_pay2 (F := Ideal) a b d e f (ix2 r l)) := rfl

section Ref

variable (x0 : FVec Ideal S8x512x4096 .bf16) (x1 : FVec Ideal S4x512x4096 .bf16) (x2 : FVec Ideal S3x512x4096 .bf16)
  (x3 x4 x5 : FVec Ideal S512x4096 .f32) (r : Fin 512) (l : Fin 4096)

/-- The reference's gradient: the sum of the parts. -/
theorem ref_g : val_main_v9 (F := Ideal) x0 x1 x2 (ix2 r l) = x0 (ix3 0 r l) + x1 (ix3 0 r l) + ∑ k : Fin 3, x2 (ix3 k r l) := by
  pointwise [val_main_v0, val_main_v1, val_main_v2, val_main_v3, val_main_v4, val_main_v5, val_main_v6, val_main_v7, val_main_cst,
    val_main_v8, val_main_v9]

theorem ref_m : val_main_v14 (F := Ideal) x0 x1 x2 x4 (ix2 r l)
    = mom (x4 (ix2 r l)) (val_main_v9 (F := Ideal) x0 x1 x2 (ix2 r l)) := rfl

theorem ref_v : val_main_v20 (F := Ideal) x0 x1 x2 x5 (ix2 r l)
    = vel (x5 (ix2 r l)) (val_main_v9 (F := Ideal) x0 x1 x2 (ix2 r l)) := rfl

theorem ref_d : val_main_v33 (F := Ideal) x0 x1 x2 x3 x4 x5 (ix2 r l)
    = step (x3 (ix2 r l)) (x4 (ix2 r l)) (x5 (ix2 r l)) (val_main_v9 (F := Ideal) x0 x1 x2 (ix2 r l)) := rfl

end Ref

variable (m : (ℓ : Loc nD τ sig) → Buf (Elt Ideal) ℓ) (c : Dev nD)

/-- A point's gradient is the reference's. -/
theorem sum_eq (t : Fin cfg0.N) (r : Fin 128) (l : Fin 4096) (h : t.val * 128 + r.val < 512) :
    k0_pay2 (F := Ideal) (iblk m c 0 t) (iblk m c 1 t) (iblk m c 2 t) (iblk m c 3 t) (iblk m c 4 t) (ix2 r l)
      = val_main_v9 (F := Ideal) (V m c main_arg0) (V m c main_arg1) (V m c main_arg2) (ix2 ⟨t.val * 128 + r.val, h⟩ l) := by
  have e0 : iblk m c 0 t (ix3 (0 : Fin 1) r l) = V m c main_arg0 (ix3 (0 : Fin 8) (⟨t.val * 128 + r.val, h⟩ : Fin 512) l) := by
    blk_point [iblk, idx t]
  have e1 : iblk m c 1 t (ix3 (0 : Fin 1) r l) = V m c main_arg1 (ix3 (0 : Fin 4) (⟨t.val * 128 + r.val, h⟩ : Fin 512) l) := by
    blk_point [iblk, idx t]
  have e2 : iblk m c 2 t (ix3 (0 : Fin 1) r l) = V m c main_arg2 (ix3 (0 : Fin 3) (⟨t.val * 128 + r.val, h⟩ : Fin 512) l) := by
    blk_point [iblk, idx t]
  have e3 : iblk m c 3 t (ix3 (0 : Fin 1) r l) = V m c main_arg2 (ix3 (1 : Fin 3) (⟨t.val * 128 + r.val, h⟩ : Fin 512) l) := by
    blk_point [iblk, idx t]
  have e4 : iblk m c 4 t (ix3 (0 : Fin 1) r l) = V m c main_arg2 (ix3 (2 : Fin 3) (⟨t.val * 128 + r.val, h⟩ : Fin 512) l) := by
    blk_point [iblk, idx t]
  rw [pay2, e0, e1, e2, e3, e4, ref_g]
  exact sum5 _ _ (fun k : Fin 3 => V m c main_arg2 (ix3 k (⟨t.val * 128 + r.val, h⟩ : Fin 512) l))

/-- A block's place of the weight. -/
theorem rows_5 (t : Fin cfg0.N) (r : Fin 128) (l : Fin 4096) (h : t.val * 128 + r.val < 512) :
    iblk m c 5 t (ix2 r l) = V m c main_arg3 (ix2 (⟨t.val * 128 + r.val, h⟩ : Fin 512) l) := by
  blk_point [iblk, idx t]

/-- A block's place of the first moment. -/
theorem rows_6 (t : Fin cfg0.N) (r : Fin 128) (l : Fin 4096) (h : t.val * 128 + r.val < 512) :
    iblk m c 6 t (ix2 r l) = V m c main_arg4 (ix2 (⟨t.val * 128 + r.val, h⟩ : Fin 512) l) := by
  blk_point [iblk, idx t]

/-- A block's place of the second moment. -/
theorem rows_7 (t : Fin cfg0.N) (r : Fin 128) (l : Fin 4096) (h : t.val * 128 + r.val < 512) :
    iblk m c 7 t (ix2 r l) = V m c main_arg5 (ix2 (⟨t.val * 128 + r.val, h⟩ : Fin 512) l) := by
  blk_point [iblk, idx t]

/-- The place of a block's entry in each of the four results. -/
theorem emb (t : Fin cfg0.N) (r : Fin 128) (l : Fin 4096) (h : t.val * 128 + r.val < 512) :
    (win0_8.blk t).view.emb (ix2 r l) = ix2 (⟨t.val * 128 + r.val, h⟩ : Fin 512) l
    ∧ (win0_9.blk t).view.emb (ix2 r l) = ix2 (⟨t.val * 128 + r.val, h⟩ : Fin 512) l
    ∧ (win0_10.blk t).view.emb (ix2 r l) = ix2 (⟨t.val * 128 + r.val, h⟩ : Fin 512) l
    ∧ (win0_11.blk t).view.emb (ix2 r l) = ix2 (⟨t.val * 128 + r.val, h⟩ : Fin 512) l := by
  refine ⟨?_, ?_, ?_, ?_⟩ <;> blk_ext [idx t]

/-- The kernel's gradient is the reference's. -/
theorem arr_g : (dats m 0 c).arrAt 8 cfg0.N = val_main_v9 (F := Ideal) (V m c main_arg0) (V m c main_arg1) (V m c main_arg2) := by
  refine (dats m 0 c).arrAt_eq_of_covers 8 _ (by decide +kernel) fun t _ y => ?_
  have ht : t.val < 4 := lt_of_lt_of_eq t.isLt N_0
  obtain ⟨r, l, rfl⟩ : ∃ (r : Fin 128) (l : Fin 4096), y = ix2 r l := ⟨y 0, y 1, eq_ix2 y⟩
  have hr := r.isLt
  blk_simp
  rw [after0_8]
  rw [(emb t r l (by omega)).1]
  frame_out
  exact sum_eq m c t r l (by omega)

/-- The kernel's step is the reference's. -/
theorem arr_d : (dats m 0 c).arrAt 9 cfg0.N
    = val_main_v33 (F := Ideal) (V m c main_arg0) (V m c main_arg1) (V m c main_arg2) (V m c main_arg3) (V m c main_arg4) (V m c main_arg5) := by
  refine (dats m 0 c).arrAt_eq_of_covers 9 _ (by decide +kernel) fun t _ y => ?_
  have ht : t.val < 4 := lt_of_lt_of_eq t.isLt N_0
  obtain ⟨r, l, rfl⟩ : ∃ (r : Fin 128) (l : Fin 4096), y = ix2 r l := ⟨y 0, y 1, eq_ix2 y⟩
  have hr := r.isLt
  blk_simp
  rw [after0_9]
  rw [(emb t r l (by omega)).2.1, ref_d, ← sum_eq m c t r l (by omega), ← rows_5 m c t r l (by omega), ← rows_6 m c t r l (by omega), ← rows_7 m c t r l (by omega)]
  frame_out [k0_pay5, k0_pay6]
  exact pay1 _ _ _ _ _ _ _ _ r l

/-- The kernel's first moment is the reference's. -/
theorem arr_m : (dats m 0 c).arrAt 10 cfg0.N
    = val_main_v14 (F := Ideal) (V m c main_arg0) (V m c main_arg1) (V m c main_arg2) (V m c main_arg4) := by
  refine (dats m 0 c).arrAt_eq_of_covers 10 _ (by decide +kernel) fun t _ y => ?_
  have ht : t.val < 4 := lt_of_lt_of_eq t.isLt N_0
  obtain ⟨r, l, rfl⟩ : ∃ (r : Fin 128) (l : Fin 4096), y = ix2 r l := ⟨y 0, y 1, eq_ix2 y⟩
  have hr := r.isLt
  blk_simp
  rw [after0_10]
  rw [(emb t r l (by omega)).2.2.1, ref_m, ← sum_eq m c t r l (by omega), ← rows_6 m c t r l (by omega)]
  frame_out [k0_pay5]
  exact pay3 _ _ _ _ _ _ r l

/-- The kernel's second moment is the reference's. -/
theorem arr_v : (dats m 0 c).arrAt 11 cfg0.N
    = val_main_v20 (F := Ideal) (V m c main_arg0) (V m c main_arg1) (V m c main_arg2) (V m c main_arg5) := by
  refine (dats m 0 c).arrAt_eq_of_covers 11 _ (by decide +kernel) fun t _ y => ?_
  have ht : t.val < 4 := lt_of_lt_of_eq t.isLt N_0
  obtain ⟨r, l, rfl⟩ : ∃ (r : Fin 128) (l : Fin 4096), y = ix2 r l := ⟨y 0, y 1, eq_ix2 y⟩
  have hr := r.isLt
  blk_simp
  rw [after0_11]
  rw [(emb t r l (by omega)).2.2.2, ref_v, ← sum_eq m c t r l (by omega), ← rows_7 m c t r l (by omega)]
  frame_out [k0_pay6]
  exact pay4 _ _ _ _ _ _ r l

/-- The reference ends, keeps its arguments and signals nothing. -/
theorem frame_ref : Cert.quiescent_Reference25Ideal (hReference25Ideal := Cert.Reference25Ideal.Gen.facts) := by
  intro m g _
  exact (θ_run _ _ _).mono (fun r h => ⟨fun c => (h c).2.2.2.2, sem_eq_zero_of_no_sems (by decide) _⟩)
    (Cert.Reference25Ideal.Value.run m g)

/-- On the same arguments the kernel and the reference end with the same results. -/
theorem algebraic : Cert.algebraic_Kernel25Ideal_Reference25Ideal (hKernel25Ideal := Cert.Kernel25Ideal.Gen.facts)
    (hReference25Ideal := Cert.Reference25Ideal.Gen.facts) := by
  pair_intro
  · run_from Cert.Kernel25Ideal.Value.run_blocks m g
  · refine Idealize.ShloMosaic.θ_run_mono (Cert.Reference25Ideal.Value.run m' g') fun r hr c => ?_
    obtain ⟨h0, h1, h2, h3, hargs⟩ := hr c
    obtain ⟨a0, a1, a2, a3, a4, a5⟩ := hagree c
    rw [a0, a1, a2] at h0
    rw [a0, a1, a2, a3, a4, a5] at h1
    rw [a0, a1, a2, a4] at h2
    rw [a0, a1, a2, a5] at h3
    exact ⟨h0.trans ((val_main_v9_eq (F := Ideal) _ _ _).trans (arr_g m c).symm),
      h1.trans ((val_main_v33_eq (F := Ideal) _ _ _ _ _ _).trans (arr_d m c).symm),
      h2.trans ((val_main_v14_eq (F := Ideal) _ _ _ _).trans (arr_m m c).symm),
      h3.trans ((val_main_v20_eq (F := Ideal) _ _ _ _).trans (arr_v m c).symm), hargs⟩

end Cert.Proof.P25

end
-- ==== Proof.P26.lean ====
/- The step of the upward weight: a device's own gradient, its neighbour's, a second pair's part and the relayed sum are added,
   and the weight and its moments take their AdamW step, block of rows by block of rows. -/
module

public import proofs.«01_k».proof.Defs
public import proofs.«01_k».proof.Proof.Adam
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P26

open Cert.Kernel26Ideal Cert.Kernel26Ideal.Gen Idealize.ShloMosaic Idealize.ShloMosaic.TcCoe Idealize.SL.Sem
open Idealize.ShloMosaic.Pipeline (Dat)
open Cert.Reference26Ideal.Read
open Cert.Proof.Adam

/-- The blocks' places: row block `t`, of the first part of two gathered gradients, the second of the third, and of the fourth. -/
theorem idx : ∀ t : Fin cfg0.N, win0_0.index t = ![0, t.val, 0] ∧ win0_1.index t = ![0, t.val, 0]
    ∧ win0_2.index t = ![1, t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] :=
  (by decide +kernel : ∀ t : Fin grid0.N, _)

/-- A block of a gradient, as the body loads it. -/
abbrev Part : Type := FVec Ideal S1x256x2048 .bf16

/-- A block of the weight or of a moment. -/
abbrev Rows : Type := FVec Ideal S256x2048 .f32

/-- A block of the relayed sum. -/
abbrev Sum4 : Type := FVec Ideal S256x2048 .bf16

/-- The sum of the four parts a point loads. -/
theorem pay2 (a b d : Part) (e : Sum4) (r : Fin 256) (l : Fin 2048) :
    k0_pay2 (F := Ideal) a b d e (ix2 r l) = a (ix3 0 r l) + b (ix3 0 r l) + d (ix3 0 r l) + e (ix2 r l) := by
  pointwise [k0_pay2]

theorem pay3 (a b d : Part) (e : Sum4) (x : Rows) (r : Fin 256) (l : Fin 2048) :
    k0_pay3 (F := Ideal) a b d e x (ix2 r l) = mom (x (ix2 r l)) (k0_pay2 (F := Ideal) a b d e (ix2 r l)) := rfl

theorem pay4 (a b d : Part) (e : Sum4) (x : Rows) (r : Fin 256) (l : Fin 2048) :
    k0_pay4 (F := Ideal) a b d e x (ix2 r l) = vel (x (ix2 r l)) (k0_pay2 (F := Ideal) a b d e (ix2 r l)) := rfl

theorem pay1 (a b d : Part) (e : Sum4) (w x y : Rows) (r : Fin 256) (l : Fin 2048) :
    k0_pay1 (F := Ideal) w (k0_pay5 (F := Ideal) a b d e x) (k0_pay6 (F := Ideal) a b d e y) (ix2 r l)
      = step (w (ix2 r l)) (x (ix2 r l)) (y (ix2 r l)) (k0_pay2 (F := Ideal) a b d e (ix2 r l)) := rfl

section Ref

variable (x0 : FVec Ideal S8x4096x2048 .bf16) (x1 : FVec Ideal S4x4096x2048 .bf16) (x2 : FVec Ideal S2x4096x2048 .bf16)
  (x3 : FVec Ideal S4096x2048 .bf16) (x4 x5 x6 : FVec Ideal S4096x2048 .f32) (r : Fin 4096) (l : Fin 2048)

/-- The reference's gradient: the sum of the parts. -/
theorem ref_g : val_main_v12 (F := Ideal) x0 x1 x2 x3 (ix2 r l)
    = x0 (ix3 0 r l) + x1 (ix3 0 r l) + x2 (ix3 1 r l) + x3 (ix2 r l) := by
  pointwise [val_main_v0, val_main_v1, val_main_v2, val_main_v3, val_main_v4, val_main_v5, val_main_v6, val_main_v7, val_main_v8,
    val_main_v9, val_main_v10, val_main_v11, val_main_v12]

theorem ref_m : val_main_v17 (F := Ideal) x0 x1 x2 x3 x5 (ix2 r l)
    = mom (x5 (ix2 r l)) (val_main_v12 (F := Ideal) x0 x1 x2 x3 (ix2 r l)) := rfl

theorem ref_v : val_main_v23 (F := Ideal) x0 x1 x2 x3 x6 (ix2 r l)
    = vel (x6 (ix2 r l)) (val_main_v12 (F := Ideal) x0 x1 x2 x3 (ix2 r l)) := rfl

theorem ref_d : val_main_v36 (F := Ideal) x0 x1 x2 x3 x4 x5 x6 (ix2 r l)
    = step (x4 (ix2 r l)) (x5 (ix2 r l)) (x6 (ix2 r l)) (val_main_v12 (F := Ideal) x0 x1 x2 x3 (ix2 r l)) := rfl

end Ref

variable (m : (ℓ : Loc nD τ sig) → Buf (Elt Ideal) ℓ) (c : Dev nD)

/-- A point's gradient is the reference's. -/
theorem sum_eq (t : Fin cfg0.N) (r : Fin 256) (l : Fin 2048) (h : t.val * 256 + r.val < 4096) :
    k0_pay2 (F := Ideal) (iblk m c 0 t) (iblk m c 1 t) (iblk m c 2 t) (iblk m c 3 t) (ix2 r l)
      = val_main_v12 (F := Ideal) (V m c main_arg0) (V m c main_arg1) (V m c main_arg2) (V m c main_arg3)
          (ix2 ⟨t.val * 256 + r.val, h⟩ l) := by
  have e0 : iblk m c 0 t (ix3 (0 : Fin 1) r l) = V m c main_arg0 (ix3 (0 : Fin 8) (⟨t.val * 256 + r.val, h⟩ : Fin 4096) l) := by
    blk_point [iblk, idx t]
  have e1 : iblk m c 1 t (ix3 (0 : Fin 1) r l) = V m c main_arg1 (ix3 (0 : Fin 4) (⟨t.val * 256 + r.val, h⟩ : Fin 4096) l) := by
    blk_point [iblk, idx t]
  have e2 : iblk m c 2 t (ix3 (0 : Fin 1) r l) = V m c main_arg2 (ix3 (1 : Fin 2) (⟨t.val * 256 + r.val, h⟩ : Fin 4096) l) := by
    blk_point [iblk, idx t]
  have e3 : iblk m c 3 t (ix2 r l) = V m c main_arg3 (ix2 (⟨t.val * 256 + r.val, h⟩ : Fin 4096) l) := by
    blk_point [iblk, idx t]
  rw [pay2, e0, e1, e2, e3, ref_g]

/-- A block's place of the weight. -/
theorem rows_4 (t : Fin cfg0.N) (r : Fin 256) (l : Fin 2048) (h : t.val * 256 + r.val < 4096) :
    iblk m c 4 t (ix2 r l) = V m c main_arg4 (ix2 (⟨t.val * 256 + r.val, h⟩ : Fin 4096) l) := by
  blk_point [iblk, idx t]

/-- A block's place of the first moment. -/
theorem rows_5 (t : Fin cfg0.N) (r : Fin 256) (l : Fin 2048) (h : t.val * 256 + r.val < 4096) :
    iblk m c 5 t (ix2 r l) = V m c main_arg5 (ix2 (⟨t.val * 256 + r.val, h⟩ : Fin 4096) l) := by
  blk_point [iblk, idx t]

/-- A block's place of the second moment. -/
theorem rows_6 (t : Fin cfg0.N) (r : Fin 256) (l : Fin 2048) (h : t.val * 256 + r.val < 4096) :
    iblk m c 6 t (ix2 r l) = V m c main_arg6 (ix2 (⟨t.val * 256 + r.val, h⟩ : Fin 4096) l) := by
  blk_point [iblk, idx t]

/-- The place of a block's entry in each of the four results. -/
theorem emb (t : Fin cfg0.N) (r : Fin 256) (l : Fin 2048) (h : t.val * 256 + r.val < 4096) :
    (win0_7.blk t).view.emb (ix2 r l) = ix2 (⟨t.val * 256 + r.val, h⟩ : Fin 4096) l
    ∧ (win0_8.blk t).view.emb (ix2 r l) = ix2 (⟨t.val * 256 + r.val, h⟩ : Fin 4096) l
    ∧ (win0_9.blk t).view.emb (ix2 r l) = ix2 (⟨t.val * 256 + r.val, h⟩ : Fin 4096) l
    ∧ (win0_10.blk t).view.emb (ix2 r l) = ix2 (⟨t.val * 256 + r.val, h⟩ : Fin 4096) l := by
  refine ⟨?_, ?_, ?_, ?_⟩ <;> blk_ext [idx t]

/-- The kernel's gradient is the reference's. -/
theorem arr_g : (dats m 0 c).arrAt 7 cfg0.N = val_main_v12 (F := Ideal) (V m c main_arg0) (V m c main_arg1) (V m c main_arg2) (V m c main_arg3) := by
  refine (dats m 0 c).arrAt_eq_of_covers 7 _ (by decide +kernel) fun t _ y => ?_
  have ht : t.val < 16 := lt_of_lt_of_eq t.isLt N_0
  obtain ⟨r, l, rfl⟩ : ∃ (r : Fin 256) (l : Fin 2048), y = ix2 r l := ⟨y 0, y 1, eq_ix2 y⟩
  have hr := r.isLt
  blk_simp
  rw [after0_7]
  rw [(emb t r l (by omega)).1]
  frame_out
  exact sum_eq m c t r l (by omega)

/-- The kernel's step is the reference's. -/
theorem arr_d : (dats m 0 c).arrAt 8 cfg0.N
    = val_main_v36 (F := Ideal) (V m c main_arg0) (V m c main_arg1) (V m c main_arg2) (V m c main_arg3) (V m c main_arg4) (V m c main_arg5) (V m c main_arg6) := by
  refine (dats m 0 c).arrAt_eq_of_covers 8 _ (by decide +kernel) fun t _ y => ?_
  have ht : t.val < 16 := lt_of_lt_of_eq t.isLt N_0
  obtain ⟨r, l, rfl⟩ : ∃ (r : Fin 256) (l : Fin 2048), y = ix2 r l := ⟨y 0, y 1, eq_ix2 y⟩
  have hr := r.isLt
  blk_simp
  rw [after0_8]
  rw [(emb t r l (by omega)).2.1, ref_d, ← sum_eq m c t r l (by omega), ← rows_4 m c t r l (by omega), ← rows_5 m c t r l (by omega), ← rows_6 m c t r l (by omega)]
  frame_out
  exact pay1 _ _ _ _ _ _ _ r l

/-- The kernel's first moment is the reference's. -/
theorem arr_m : (dats m 0 c).arrAt 9 cfg0.N
    = val_main_v17 (F := Ideal) (V m c main_arg0) (V m c main_arg1) (V m c main_arg2) (V m c main_arg3) (V m c main_arg5) := by
  refine (dats m 0 c).arrAt_eq_of_covers 9 _ (by decide +kernel) fun t _ y => ?_
  have ht : t.val < 16 := lt_of_lt_of_eq t.isLt N_0
  obtain ⟨r, l, rfl⟩ : ∃ (r : Fin 256) (l : Fin 2048), y = ix2 r l := ⟨y 0, y 1, eq_ix2 y⟩
  have hr := r.isLt
  blk_simp
  rw [after0_9]
  rw [(emb t r l (by omega)).2.2.1, ref_m, ← sum_eq m c t r l (by omega), ← rows_5 m c t r l (by omega)]
  frame_out
  exact pay3 _ _ _ _ _ r l

/-- The kernel's second moment is the reference's. -/
theorem arr_v : (dats m 0 c).arrAt 10 cfg0.N
    = val_main_v23 (F := Ideal) (V m c main_arg0) (V m c main_arg1) (V m c main_arg2) (V m c main_arg3) (V m c main_arg6) := by
  refine (dats m 0 c).arrAt_eq_of_covers 10 _ (by decide +kernel) fun t _ y => ?_
  have ht : t.val < 16 := lt_of_lt_of_eq t.isLt N_0
  obtain ⟨r, l, rfl⟩ : ∃ (r : Fin 256) (l : Fin 2048), y = ix2 r l := ⟨y 0, y 1, eq_ix2 y⟩
  have hr := r.isLt
  blk_simp
  rw [after0_10]
  rw [(emb t r l (by omega)).2.2.2, ref_v, ← sum_eq m c t r l (by omega), ← rows_6 m c t r l (by omega)]
  frame_out
  exact pay4 _ _ _ _ _ r l

/-- The reference ends, keeps its arguments and signals nothing. -/
theorem frame_ref : Cert.quiescent_Reference26Ideal (hReference26Ideal := Cert.Reference26Ideal.Gen.facts) := by
  intro m g _
  exact (θ_run _ _ _).mono (fun r h => ⟨fun c => (h c).2.2.2.2, sem_eq_zero_of_no_sems (by decide) _⟩)
    (Cert.Reference26Ideal.Value.run m g)

/-- On the same arguments the kernel and the reference end with the same results. -/
theorem algebraic : Cert.algebraic_Kernel26Ideal_Reference26Ideal (hKernel26Ideal := Cert.Kernel26Ideal.Gen.facts)
    (hReference26Ideal := Cert.Reference26Ideal.Gen.facts) := by
  pair_intro
  · run_from Cert.Kernel26Ideal.Value.run_blocks m g
  · refine Idealize.ShloMosaic.θ_run_mono (Cert.Reference26Ideal.Value.run m' g') fun r hr c => ?_
    obtain ⟨h0, h1, h2, h3, hargs⟩ := hr c
    obtain ⟨a0, a1, a2, a3, a4, a5, a6⟩ := hagree c
    rw [a0, a1, a2, a3] at h0
    rw [a0, a1, a2, a3, a4, a5, a6] at h1
    rw [a0, a1, a2, a3, a5] at h2
    rw [a0, a1, a2, a3, a6] at h3
    exact ⟨h0.trans ((val_main_v12_eq (F := Ideal) _ _ _ _).trans (arr_g m c).symm),
      h1.trans ((val_main_v36_eq (F := Ideal) _ _ _ _ _ _ _).trans (arr_d m c).symm),
      h2.trans ((val_main_v17_eq (F := Ideal) _ _ _ _ _).trans (arr_m m c).symm),
      h3.trans ((val_main_v23_eq (F := Ideal) _ _ _ _ _).trans (arr_v m c).symm), hargs⟩

end Cert.Proof.P26

end
-- ==== Proof.P27.lean ====
/- The step of the downward weight: a device's own gradient, its neighbour's, a second pair's part and the relayed sum are added,
   and the weight and its moments take their AdamW step, block of rows by block of rows. -/
module

public import proofs.«01_k».proof.Defs
public import proofs.«01_k».proof.Proof.Adam
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit
public import Idealize.ShloMosaic.Lib.Pipeline.ReadBack
public import Idealize.ShloMosaic.Lib.Claim

@[expose] public section

set_option maxRecDepth 200000

noncomputable section

namespace Cert.Proof.P27

open Cert.Kernel27Ideal Cert.Kernel27Ideal.Gen Idealize.ShloMosaic Idealize.ShloMosaic.TcCoe Idealize.SL.Sem
open Idealize.ShloMosaic.Pipeline (Dat)
open Cert.Reference27Ideal.Read
open Cert.Proof.Adam

/-- The blocks' places: row block `t`, of the first part of two gathered gradients, the second of the third, and of the fourth. -/
theorem idx : ∀ t : Fin cfg0.N, win0_0.index t = ![0, t.val, 0] ∧ win0_1.index t = ![0, t.val, 0]
    ∧ win0_2.index t = ![1, t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] :=
  (by decide +kernel : ∀ t : Fin grid0.N, _)

/-- A block of a gradient, as the body loads it. -/
abbrev Part : Type := FVec Ideal S1x128x4096 .bf16

/-- A block of the weight or of a moment. -/
abbrev Rows : Type := FVec Ideal S128x4096 .f32

/-- A block of the relayed sum. -/
abbrev Sum4 : Type := FVec Ideal S128x4096 .bf16

/-- The sum of the four parts a point loads. -/
theorem pay2 (a b d : Part) (e : Sum4) (r : Fin 128) (l : Fin 4096) :
    k0_pay2 (F := Ideal) a b d e (ix2 r l) = a (ix3 0 r l) + b (ix3 0 r l) + d (ix3 0 r l) + e (ix2 r l) := by
  pointwise [k0_pay2]

theorem pay3 (a b d : Part) (e : Sum4) (x : Rows) (r : Fin 128) (l : Fin 4096) :
    k0_pay3 (F := Ideal) a b d e x (ix2 r l) = mom (x (ix2 r l)) (k0_pay2 (F := Ideal) a b d e (ix2 r l)) := rfl

theorem pay4 (a b d : Part) (e : Sum4) (x : Rows) (r : Fin 128) (l : Fin 4096) :
    k0_pay4 (F := Ideal) a b d e x (ix2 r l) = vel (x (ix2 r l)) (k0_pay2 (F := Ideal) a b d e (ix2 r l)) := rfl

theorem pay1 (a b d : Part) (e : Sum4) (w x y : Rows) (r : Fin 128) (l : Fin 4096) :
    k0_pay1 (F := Ideal) w (k0_pay5 (F := Ideal) a b d e x) (k0_pay6 (F := Ideal) a b d e y) (ix2 r l)
      = step (w (ix2 r l)) (x (ix2 r l)) (y (ix2 r l)) (k0_pay2 (F := Ideal) a b d e (ix2 r l)) := rfl

section Ref

variable (x0 : FVec Ideal S8x2048x4096 .bf16) (x1 : FVec Ideal S4x2048x4096 .bf16) (x2 : FVec Ideal S2x2048x4096 .bf16)
  (x3 : FVec Ideal S2048x4096 .bf16) (x4 x5 x6 : FVec Ideal S2048x4096 .f32) (r : Fin 2048) (l : Fin 4096)

/-- The reference's gradient: the sum of the parts. -/
theorem ref_g : val_main_v12 (F := Ideal) x0 x1 x2 x3 (ix2 r l)
    = x0 (ix3 0 r l) + x1 (ix3 0 r l) + x2 (ix3 1 r l) + x3 (ix2 r l) := by
  pointwise [val_main_v0, val_main_v1, val_main_v2, val_main_v3, val_main_v4, val_main_v5, val_main_v6, val_main_v7, val_main_v8,
    val_main_v9, val_main_v10, val_main_v11, val_main_v12]

theorem ref_m : val_main_v17 (F := Ideal) x0 x1 x2 x3 x5 (ix2 r l)
    = mom (x5 (ix2 r l)) (val_main_v12 (F := Ideal) x0 x1 x2 x3 (ix2 r l)) := rfl

theorem ref_v : val_main_v23 (F := Ideal) x0 x1 x2 x3 x6 (ix2 r l)
    = vel (x6 (ix2 r l)) (val_main_v12 (F := Ideal) x0 x1 x2 x3 (ix2 r l)) := rfl

theorem ref_d : val_main_v36 (F := Ideal) x0 x1 x2 x3 x4 x5 x6 (ix2 r l)
    = step (x4 (ix2 r l)) (x5 (ix2 r l)) (x6 (ix2 r l)) (val_main_v12 (F := Ideal) x0 x1 x2 x3 (ix2 r l)) := rfl

end Ref

variable (m : (ℓ : Loc nD τ sig) → Buf (Elt Ideal) ℓ) (c : Dev nD)

/-- A point's gradient is the reference's. -/
theorem sum_eq (t : Fin cfg0.N) (r : Fin 128) (l : Fin 4096) (h : t.val * 128 + r.val < 2048) :
    k0_pay2 (F := Ideal) (iblk m c 0 t) (iblk m c 1 t) (iblk m c 2 t) (iblk m c 3 t) (ix2 r l)
      = val_main_v12 (F := Ideal) (V m c main_arg0) (V m c main_arg1) (V m c main_arg2) (V m c main_arg3)
          (ix2 ⟨t.val * 128 + r.val, h⟩ l) := by
  have e0 : iblk m c 0 t (ix3 (0 : Fin 1) r l) = V m c main_arg0 (ix3 (0 : Fin 8) (⟨t.val * 128 + r.val, h⟩ : Fin 2048) l) := by
    blk_point [iblk, idx t]
  have e1 : iblk m c 1 t (ix3 (0 : Fin 1) r l) = V m c main_arg1 (ix3 (0 : Fin 4) (⟨t.val * 128 + r.val, h⟩ : Fin 2048) l) := by
    blk_point [iblk, idx t]
  have e2 : iblk m c 2 t (ix3 (0 : Fin 1) r l) = V m c main_arg2 (ix3 (1 : Fin 2) (⟨t.val * 128 + r.val, h⟩ : Fin 2048) l) := by
    blk_point [iblk, idx t]
  have e3 : iblk m c 3 t (ix2 r l) = V m c main_arg3 (ix2 (⟨t.val * 128 + r.val, h⟩ : Fin 2048) l) := by
    blk_point [iblk, idx t]
  rw [pay2, e0, e1, e2, e3, ref_g]

/-- A block's place of the weight. -/
theorem rows_4 (t : Fin cfg0.N) (r : Fin 128) (l : Fin 4096) (h : t.val * 128 + r.val < 2048) :
    iblk m c 4 t (ix2 r l) = V m c main_arg4 (ix2 (⟨t.val * 128 + r.val, h⟩ : Fin 2048) l) := by
  blk_point [iblk, idx t]

/-- A block's place of the first moment. -/
theorem rows_5 (t : Fin cfg0.N) (r : Fin 128) (l : Fin 4096) (h : t.val * 128 + r.val < 2048) :
    iblk m c 5 t (ix2 r l) = V m c main_arg5 (ix2 (⟨t.val * 128 + r.val, h⟩ : Fin 2048) l) := by
  blk_point [iblk, idx t]

/-- A block's place of the second moment. -/
theorem rows_6 (t : Fin cfg0.N) (r : Fin 128) (l : Fin 4096) (h : t.val * 128 + r.val < 2048) :
    iblk m c 6 t (ix2 r l) = V m c main_arg6 (ix2 (⟨t.val * 128 + r.val, h⟩ : Fin 2048) l) := by
  blk_point [iblk, idx t]

/-- The place of a block's entry in each of the four results. -/
theorem emb (t : Fin cfg0.N) (r : Fin 128) (l : Fin 4096) (h : t.val * 128 + r.val < 2048) :
    (win0_7.blk t).view.emb (ix2 r l) = ix2 (⟨t.val * 128 + r.val, h⟩ : Fin 2048) l
    ∧ (win0_8.blk t).view.emb (ix2 r l) = ix2 (⟨t.val * 128 + r.val, h⟩ : Fin 2048) l
    ∧ (win0_9.blk t).view.emb (ix2 r l) = ix2 (⟨t.val * 128 + r.val, h⟩ : Fin 2048) l
    ∧ (win0_10.blk t).view.emb (ix2 r l) = ix2 (⟨t.val * 128 + r.val, h⟩ : Fin 2048) l := by
  refine ⟨?_, ?_, ?_, ?_⟩ <;> blk_ext [idx t]

/-- The kernel's gradient is the reference's. -/
theorem arr_g : (dats m 0 c).arrAt 7 cfg0.N = val_main_v12 (F := Ideal) (V m c main_arg0) (V m c main_arg1) (V m c main_arg2) (V m c main_arg3) := by
  refine (dats m 0 c).arrAt_eq_of_covers 7 _ (by decide +kernel) fun t _ y => ?_
  have ht : t.val < 16 := lt_of_lt_of_eq t.isLt N_0
  obtain ⟨r, l, rfl⟩ : ∃ (r : Fin 128) (l : Fin 4096), y = ix2 r l := ⟨y 0, y 1, eq_ix2 y⟩
  have hr := r.isLt
  blk_simp
  rw [after0_7]
  rw [(emb t r l (by omega)).1]
  frame_out
  exact sum_eq m c t r l (by omega)

/-- The kernel's step is the reference's. -/
theorem arr_d : (dats m 0 c).arrAt 8 cfg0.N
    = val_main_v36 (F := Ideal) (V m c main_arg0) (V m c main_arg1) (V m c main_arg2) (V m c main_arg3) (V m c main_arg4) (V m c main_arg5) (V m c main_arg6) := by
  refine (dats m 0 c).arrAt_eq_of_covers 8 _ (by decide +kernel) fun t _ y => ?_
  have ht : t.val < 16 := lt_of_lt_of_eq t.isLt N_0
  obtain ⟨r, l, rfl⟩ : ∃ (r : Fin 128) (l : Fin 4096), y = ix2 r l := ⟨y 0, y 1, eq_ix2 y⟩
  have hr := r.isLt
  blk_simp
  rw [after0_8]
  rw [(emb t r l (by omega)).2.1, ref_d, ← sum_eq m c t r l (by omega), ← rows_4 m c t r l (by omega), ← rows_5 m c t r l (by omega), ← rows_6 m c t r l (by omega)]
  frame_out
  exact pay1 _ _ _ _ _ _ _ r l

/-- The kernel's first moment is the reference's. -/
theorem arr_m : (dats m 0 c).arrAt 9 cfg0.N
    = val_main_v17 (F := Ideal) (V m c main_arg0) (V m c main_arg1) (V m c main_arg2) (V m c main_arg3) (V m c main_arg5) := by
  refine (dats m 0 c).arrAt_eq_of_covers 9 _ (by decide +kernel) fun t _ y => ?_
  have ht : t.val < 16 := lt_of_lt_of_eq t.isLt N_0
  obtain ⟨r, l, rfl⟩ : ∃ (r : Fin 128) (l : Fin 4096), y = ix2 r l := ⟨y 0, y 1, eq_ix2 y⟩
  have hr := r.isLt
  blk_simp
  rw [after0_9]
  rw [(emb t r l (by omega)).2.2.1, ref_m, ← sum_eq m c t r l (by omega), ← rows_5 m c t r l (by omega)]
  frame_out
  exact pay3 _ _ _ _ _ r l

/-- The kernel's second moment is the reference's. -/
theorem arr_v : (dats m 0 c).arrAt 10 cfg0.N
    = val_main_v23 (F := Ideal) (V m c main_arg0) (V m c main_arg1) (V m c main_arg2) (V m c main_arg3) (V m c main_arg6) := by
  refine (dats m 0 c).arrAt_eq_of_covers 10 _ (by decide +kernel) fun t _ y => ?_
  have ht : t.val < 16 := lt_of_lt_of_eq t.isLt N_0
  obtain ⟨r, l, rfl⟩ : ∃ (r : Fin 128) (l : Fin 4096), y = ix2 r l := ⟨y 0, y 1, eq_ix2 y⟩
  have hr := r.isLt
  blk_simp
  rw [after0_10]
  rw [(emb t r l (by omega)).2.2.2, ref_v, ← sum_eq m c t r l (by omega), ← rows_6 m c t r l (by omega)]
  frame_out
  exact pay4 _ _ _ _ _ r l

/-- The reference ends, keeps its arguments and signals nothing. -/
theorem frame_ref : Cert.quiescent_Reference27Ideal (hReference27Ideal := Cert.Reference27Ideal.Gen.facts) := by
  intro m g _
  exact (θ_run _ _ _).mono (fun r h => ⟨fun c => (h c).2.2.2.2, sem_eq_zero_of_no_sems (by decide) _⟩)
    (Cert.Reference27Ideal.Value.run m g)

/-- On the same arguments the kernel and the reference end with the same results. -/
theorem algebraic : Cert.algebraic_Kernel27Ideal_Reference27Ideal (hKernel27Ideal := Cert.Kernel27Ideal.Gen.facts)
    (hReference27Ideal := Cert.Reference27Ideal.Gen.facts) := by
  pair_intro
  · run_from Cert.Kernel27Ideal.Value.run_blocks m g
  · refine Idealize.ShloMosaic.θ_run_mono (Cert.Reference27Ideal.Value.run m' g') fun r hr c => ?_
    obtain ⟨h0, h1, h2, h3, hargs⟩ := hr c
    obtain ⟨a0, a1, a2, a3, a4, a5, a6⟩ := hagree c
    rw [a0, a1, a2, a3] at h0
    rw [a0, a1, a2, a3, a4, a5, a6] at h1
    rw [a0, a1, a2, a3, a5] at h2
    rw [a0, a1, a2, a3, a6] at h3
    exact ⟨h0.trans ((val_main_v12_eq (F := Ideal) _ _ _ _).trans (arr_g m c).symm),
      h1.trans ((val_main_v36_eq (F := Ideal) _ _ _ _ _ _ _).trans (arr_d m c).symm),
      h2.trans ((val_main_v17_eq (F := Ideal) _ _ _ _ _).trans (arr_m m c).symm),
      h3.trans ((val_main_v23_eq (F := Ideal) _ _ _ _ _).trans (arr_v m c).symm), hargs⟩

end Cert.Proof.P27

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Step
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Step
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.ScClaim
public import proofs.«01_k».proof.Proof.P2
public import proofs.«01_k».proof.Proof.P3
public import proofs.«01_k».proof.Proof.P4
public import proofs.«01_k».proof.Proof.P5
public import proofs.«01_k».proof.Proof.P6
public import proofs.«01_k».proof.Proof.P7
public import proofs.«01_k».proof.Proof.P8
public import proofs.«01_k».proof.Proof.P9
public import proofs.«01_k».proof.Proof.P10
public import proofs.«01_k».proof.Proof.P11
public import proofs.«01_k».proof.Proof.P12
public import proofs.«01_k».proof.Proof.P13
public import proofs.«01_k».proof.Proof.P14
public import proofs.«01_k».proof.Proof.P15
public import proofs.«01_k».proof.Proof.P16
public import proofs.«01_k».proof.Proof.P17
public import proofs.«01_k».proof.Proof.P18
public import proofs.«01_k».proof.Proof.P19
public import proofs.«01_k».proof.Proof.P20
public import proofs.«01_k».proof.Proof.P21
public import proofs.«01_k».proof.Proof.P22
public import proofs.«01_k».proof.Proof.P23
public import proofs.«01_k».proof.Proof.P24
public import proofs.«01_k».proof.Proof.P25
public import proofs.«01_k».proof.Proof.P26
public import proofs.«01_k».proof.Proof.P27
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  fun m ρ _ => Cert.Kernel.Gen.frame m ρ, fun m ρ _ => Cert.KernelIdeal.Gen.frame m ρ, Sc.frame_ref,
  fun m ρ _ => Cert.Kernel2.Gen.frame m ρ, fun m ρ _ => Cert.Kernel2Ideal.Gen.frame m ρ, P2.frame_ref,
  fun m ρ _ => Cert.Kernel3.Gen.frame m ρ, fun m ρ _ => Cert.Kernel3Ideal.Gen.frame m ρ, P3.frame_ref,
  fun m ρ _ => Cert.Kernel4.Gen.frame m ρ, fun m ρ _ => Cert.Kernel4Ideal.Gen.frame m ρ, P4.frame_ref,
  fun m ρ _ => Cert.Kernel5.Gen.frame m ρ, fun m ρ _ => Cert.Kernel5Ideal.Gen.frame m ρ, P5.frame_ref,
  fun m ρ _ => Cert.Kernel6.Gen.frame m ρ, fun m ρ _ => Cert.Kernel6Ideal.Gen.frame m ρ, P6.frame_ref,
  fun m ρ _ => Cert.Kernel7.Gen.frame m ρ, fun m ρ _ => Cert.Kernel7Ideal.Gen.frame m ρ, P7.frame_ref,
  fun m ρ _ => Cert.Kernel8.Gen.frame m ρ, fun m ρ _ => Cert.Kernel8Ideal.Gen.frame m ρ, P8.frame_ref,
  fun m ρ _ => Cert.Kernel9.Gen.frame m ρ, fun m ρ _ => Cert.Kernel9Ideal.Gen.frame m ρ, P9.frame_ref,
  fun m ρ _ => Cert.Kernel10.Gen.frame m ρ, fun m ρ _ => Cert.Kernel10Ideal.Gen.frame m ρ, P10.frame_ref,
  fun m ρ _ => Cert.Kernel11.Gen.frame m ρ, fun m ρ _ => Cert.Kernel11Ideal.Gen.frame m ρ, P11.frame_ref,
  fun m ρ _ => Cert.Kernel12.Gen.frame m ρ, fun m ρ _ => Cert.Kernel12Ideal.Gen.frame m ρ, P12.frame_ref,
  fun m ρ _ => Cert.Kernel13.Gen.frame m ρ, fun m ρ _ => Cert.Kernel13Ideal.Gen.frame m ρ, P13.frame_ref,
  fun m ρ _ => Cert.Kernel14.Gen.frame m ρ, fun m ρ _ => Cert.Kernel14Ideal.Gen.frame m ρ, P14.frame_ref,
  fun m ρ _ => Cert.Kernel15.Gen.frame m ρ, fun m ρ _ => Cert.Kernel15Ideal.Gen.frame m ρ, P15.frame_ref,
  fun m ρ _ => Cert.Kernel16.Gen.frame m ρ, fun m ρ _ => Cert.Kernel16Ideal.Gen.frame m ρ, P16.frame_ref,
  fun m ρ _ => Cert.Kernel17.Gen.frame m ρ, fun m ρ _ => Cert.Kernel17Ideal.Gen.frame m ρ, P17.frame_ref,
  fun m ρ _ => Cert.Kernel18.Gen.frame m ρ, fun m ρ _ => Cert.Kernel18Ideal.Gen.frame m ρ, P18.frame_ref,
  fun m ρ _ => Cert.Kernel19.Gen.frame m ρ, fun m ρ _ => Cert.Kernel19Ideal.Gen.frame m ρ, P19.frame_ref,
  fun m ρ _ => Cert.Kernel20.Gen.frame m ρ, fun m ρ _ => Cert.Kernel20Ideal.Gen.frame m ρ, P20.frame_ref,
  fun m ρ _ => Cert.Kernel21.Gen.frame m ρ, fun m ρ _ => Cert.Kernel21Ideal.Gen.frame m ρ, P21.frame_ref,
  fun m ρ _ => Cert.Kernel22.Gen.frame m ρ, fun m ρ _ => Cert.Kernel22Ideal.Gen.frame m ρ, P22.frame_ref,
  fun m ρ _ => Cert.Kernel23.Gen.frame m ρ, fun m ρ _ => Cert.Kernel23Ideal.Gen.frame m ρ, P23.frame_ref,
  fun m ρ _ => Cert.Kernel24.Gen.frame m ρ, fun m ρ _ => Cert.Kernel24Ideal.Gen.frame m ρ, P24.frame_ref,
  fun m ρ _ => Cert.Kernel25.Gen.frame m ρ, fun m ρ _ => Cert.Kernel25Ideal.Gen.frame m ρ, P25.frame_ref,
  fun m ρ _ => Cert.Kernel26.Gen.frame m ρ, fun m ρ _ => Cert.Kernel26Ideal.Gen.frame m ρ, P26.frame_ref,
  fun m ρ _ => Cert.Kernel27.Gen.frame m ρ, fun m ρ _ => Cert.Kernel27Ideal.Gen.frame m ρ, P27.frame_ref,
  trivial, Sc.algebraic,
  trivial, P2.algebraic,
  trivial, P3.algebraic,
  trivial, P4.algebraic,
  trivial, P5.algebraic,
  trivial, P6.algebraic,
  trivial, P7.algebraic,
  trivial, P8.algebraic,
  trivial, P9.algebraic,
  trivial, P10.algebraic,
  trivial, P11.algebraic,
  trivial, P12.algebraic,
  trivial, P13.algebraic,
  trivial, P14.algebraic,
  trivial, P15.algebraic,
  trivial, P16.algebraic,
  trivial, P17.algebraic,
  trivial, P18.algebraic,
  trivial, P19.algebraic,
  trivial, P20.algebraic,
  trivial, P21.algebraic,
  trivial, P22.algebraic,
  trivial, P23.algebraic,
  trivial, P24.algebraic,
  trivial, P25.algebraic,
  trivial, P26.algebraic,
  trivial, P27.algebraic⟩

end Cert.Proof

end
